-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_mod [hPre_finite_mod : Cert.Pre_finite_mod.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_mod.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).1 = (fun _ => 1#1)
    ∧ (Cert.Pre_finite_mod.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_mod [hPre_finite_mod : Cert.Pre_finite_mod.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_mod.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).1 = (fun _ => 1#1)
    ∧ (Cert.Pre_finite_mod.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite_mix [hPre_finite_mix : Cert.Pre_finite_mix.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite_mix.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).1 = (fun _ => 1#1)
    ∧ (Cert.Pre_finite_mix.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.1 = (fun _ => 1#1)
    ∧ (Cert.Pre_finite_mix.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.2.1 = (fun _ => 1#1)
    ∧ (Cert.Pre_finite_mix.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.2.2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite_mix [hPre_finite_mix : Cert.Pre_finite_mix.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite_mix.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).1 = (fun _ => 1#1)
    ∧ (Cert.Pre_finite_mix.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.1 = (fun _ => 1#1)
    ∧ (Cert.Pre_finite_mix.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.2.1 = (fun _ => 1#1)
    ∧ (Cert.Pre_finite_mix.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.2.2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite_ffn [hPre_finite_ffn : Cert.Pre_finite_ffn.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite_ffn.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6))).1 = (fun _ => 1#1)
    ∧ (Cert.Pre_finite_ffn.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6))).2.1 = (fun _ => 1#1)
    ∧ (Cert.Pre_finite_ffn.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6))).2.2.1 = (fun _ => 1#1)
    ∧ (Cert.Pre_finite_ffn.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6))).2.2.2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite_ffn [hPre_finite_ffn : Cert.Pre_finite_ffn.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite_ffn.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6))).1 = (fun _ => 1#1)
    ∧ (Cert.Pre_finite_ffn.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6))).2.1 = (fun _ => 1#1)
    ∧ (Cert.Pre_finite_ffn.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6))).2.2.1 = (fun _ => 1#1)
    ∧ (Cert.Pre_finite_ffn.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6))).2.2.2 = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_finite_mod [hKernel21Ideal : Cert.Kernel21Ideal.Facts] [hPre_finite_mod : Cert.Pre_finite_mod.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_mod m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_finite_mod [hReference21Ideal : Cert.Reference21Ideal.Facts] [hPre_finite_mod : Cert.Pre_finite_mod.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_mod m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11)
      ∧ r.2.mem ((c.tc : Thread Cert.Kernel23.nD Cert.Kernel23.τ).loc Cert.Kernel23.main_arg12) = m ((c.tc : Thread Cert.Kernel23.nD Cert.Kernel23.τ).loc Cert.Kernel23.main_arg12)
      ∧ r.2.mem ((c.tc : Thread Cert.Kernel23.nD Cert.Kernel23.τ).loc Cert.Kernel23.main_arg13) = m ((c.tc : Thread Cert.Kernel23.nD Cert.Kernel23.τ).loc Cert.Kernel23.main_arg13)
      ∧ r.2.mem ((c.tc : Thread Cert.Kernel23.nD Cert.Kernel23.τ).loc Cert.Kernel23.main_arg14) = m ((c.tc : Thread Cert.Kernel23.nD Cert.Kernel23.τ).loc Cert.Kernel23.main_arg14)
      ∧ r.2.mem ((c.tc : Thread Cert.Kernel23.nD Cert.Kernel23.τ).loc Cert.Kernel23.main_arg15) = m ((c.tc : Thread Cert.Kernel23.nD Cert.Kernel23.τ).loc Cert.Kernel23.main_arg15)
      ∧ r.2.mem ((c.tc : Thread Cert.Kernel23.nD Cert.Kernel23.τ).loc Cert.Kernel23.main_arg16) = m ((c.tc : Thread Cert.Kernel23.nD Cert.Kernel23.τ).loc Cert.Kernel23.main_arg16)
      ∧ r.2.mem ((c.tc : Thread Cert.Kernel23.nD Cert.Kernel23.τ).loc Cert.Kernel23.main_arg17) = m ((c.tc : Thread Cert.Kernel23.nD Cert.Kernel23.τ).loc Cert.Kernel23.main_arg17)
      ∧ r.2.mem ((c.tc : Thread Cert.Kernel23.nD Cert.Kernel23.τ).loc Cert.Kernel23.main_arg18) = m ((c.tc : Thread Cert.Kernel23.nD Cert.Kernel23.τ).loc Cert.Kernel23.main_arg18)
      ∧ r.2.mem ((c.tc : Thread Cert.Kernel23.nD Cert.Kernel23.τ).loc Cert.Kernel23.main_arg19) = m ((c.tc : Thread Cert.Kernel23.nD Cert.Kernel23.τ).loc Cert.Kernel23.main_arg19)
      ∧ r.2.mem ((c.tc : Thread Cert.Kernel23.nD Cert.Kernel23.τ).loc Cert.Kernel23.main_arg20) = m ((c.tc : Thread Cert.Kernel23.nD Cert.Kernel23.τ).loc Cert.Kernel23.main_arg20)
      ∧ r.2.mem ((c.tc : Thread Cert.Kernel23.nD Cert.Kernel23.τ).loc Cert.Kernel23.main_arg21) = m ((c.tc : Thread Cert.Kernel23.nD Cert.Kernel23.τ).loc Cert.Kernel23.main_arg21)
      ∧ r.2.mem ((c.tc : Thread Cert.Kernel23.nD Cert.Kernel23.τ).loc Cert.Kernel23.main_arg22) = m ((c.tc : Thread Cert.Kernel23.nD Cert.Kernel23.τ).loc Cert.Kernel23.main_arg22)
      ∧ r.2.mem ((c.tc : Thread Cert.Kernel23.nD Cert.Kernel23.τ).loc Cert.Kernel23.main_arg23) = m ((c.tc : Thread Cert.Kernel23.nD Cert.Kernel23.τ).loc Cert.Kernel23.main_arg23)
      ∧ r.2.mem ((c.tc : Thread Cert.Kernel23.nD Cert.Kernel23.τ).loc Cert.Kernel23.main_arg24) = m ((c.tc : Thread Cert.Kernel23.nD Cert.Kernel23.τ).loc Cert.Kernel23.main_arg24))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
      ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
      ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
      ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
      ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
      ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
      ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
      ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
      ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
      ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
      ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
      ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
      ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
      ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11)
      ∧ r.2.mem ((c.tc : Thread Cert.Reference23Ideal.nD Cert.Reference23Ideal.τ).loc Cert.Reference23Ideal.main_arg12) = m ((c.tc : Thread Cert.Reference23Ideal.nD Cert.Reference23Ideal.τ).loc Cert.Reference23Ideal.main_arg12)
      ∧ r.2.mem ((c.tc : Thread Cert.Reference23Ideal.nD Cert.Reference23Ideal.τ).loc Cert.Reference23Ideal.main_arg13) = m ((c.tc : Thread Cert.Reference23Ideal.nD Cert.Reference23Ideal.τ).loc Cert.Reference23Ideal.main_arg13)
      ∧ r.2.mem ((c.tc : Thread Cert.Reference23Ideal.nD Cert.Reference23Ideal.τ).loc Cert.Reference23Ideal.main_arg14) = m ((c.tc : Thread Cert.Reference23Ideal.nD Cert.Reference23Ideal.τ).loc Cert.Reference23Ideal.main_arg14)
      ∧ r.2.mem ((c.tc : Thread Cert.Reference23Ideal.nD Cert.Reference23Ideal.τ).loc Cert.Reference23Ideal.main_arg15) = m ((c.tc : Thread Cert.Reference23Ideal.nD Cert.Reference23Ideal.τ).loc Cert.Reference23Ideal.main_arg15)
      ∧ r.2.mem ((c.tc : Thread Cert.Reference23Ideal.nD Cert.Reference23Ideal.τ).loc Cert.Reference23Ideal.main_arg16) = m ((c.tc : Thread Cert.Reference23Ideal.nD Cert.Reference23Ideal.τ).loc Cert.Reference23Ideal.main_arg16)
      ∧ r.2.mem ((c.tc : Thread Cert.Reference23Ideal.nD Cert.Reference23Ideal.τ).loc Cert.Reference23Ideal.main_arg17) = m ((c.tc : Thread Cert.Reference23Ideal.nD Cert.Reference23Ideal.τ).loc Cert.Reference23Ideal.main_arg17)
      ∧ r.2.mem ((c.tc : Thread Cert.Reference23Ideal.nD Cert.Reference23Ideal.τ).loc Cert.Reference23Ideal.main_arg18) = m ((c.tc : Thread Cert.Reference23Ideal.nD Cert.Reference23Ideal.τ).loc Cert.Reference23Ideal.main_arg18)
      ∧ r.2.mem ((c.tc : Thread Cert.Reference23Ideal.nD Cert.Reference23Ideal.τ).loc Cert.Reference23Ideal.main_arg19) = m ((c.tc : Thread Cert.Reference23Ideal.nD Cert.Reference23Ideal.τ).loc Cert.Reference23Ideal.main_arg19)
      ∧ r.2.mem ((c.tc : Thread Cert.Reference23Ideal.nD Cert.Reference23Ideal.τ).loc Cert.Reference23Ideal.main_arg20) = m ((c.tc : Thread Cert.Reference23Ideal.nD Cert.Reference23Ideal.τ).loc Cert.Reference23Ideal.main_arg20)
      ∧ r.2.mem ((c.tc : Thread Cert.Reference23Ideal.nD Cert.Reference23Ideal.τ).loc Cert.Reference23Ideal.main_arg21) = m ((c.tc : Thread Cert.Reference23Ideal.nD Cert.Reference23Ideal.τ).loc Cert.Reference23Ideal.main_arg21)
      ∧ r.2.mem ((c.tc : Thread Cert.Reference23Ideal.nD Cert.Reference23Ideal.τ).loc Cert.Reference23Ideal.main_arg22) = m ((c.tc : Thread Cert.Reference23Ideal.nD Cert.Reference23Ideal.τ).loc Cert.Reference23Ideal.main_arg22)
      ∧ r.2.mem ((c.tc : Thread Cert.Reference23Ideal.nD Cert.Reference23Ideal.τ).loc Cert.Reference23Ideal.main_arg23) = m ((c.tc : Thread Cert.Reference23Ideal.nD Cert.Reference23Ideal.τ).loc Cert.Reference23Ideal.main_arg23)
      ∧ r.2.mem ((c.tc : Thread Cert.Reference23Ideal.nD Cert.Reference23Ideal.τ).loc Cert.Reference23Ideal.main_arg24) = m ((c.tc : Thread Cert.Reference23Ideal.nD Cert.Reference23Ideal.τ).loc Cert.Reference23Ideal.main_arg24))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Kernel24Ideal_pre_finite_mix [hKernel24Ideal : Cert.Kernel24Ideal.Facts] [hPre_finite_mix : Cert.Pre_finite_mix.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite_mix m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Reference24Ideal_pre_finite_mix [hReference24Ideal : Cert.Reference24Ideal.Facts] [hPre_finite_mix : Cert.Pre_finite_mix.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite_mix m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Kernel25Ideal_pre_finite_ffn [hKernel25Ideal : Cert.Kernel25Ideal.Facts] [hPre_finite_ffn : Cert.Pre_finite_ffn.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite_ffn m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Reference25Ideal_pre_finite_ffn [hReference25Ideal : Cert.Reference25Ideal.Facts] [hPre_finite_ffn : Cert.Pre_finite_ffn.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite_ffn m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v30) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v6_0)) (v1 : (c : Dev Cert.Kernel15Ideal.nD) → Buf (Elt Ideal) ((c.tc : Thread Cert.Kernel15Ideal.nD Cert.Kernel15Ideal.τ).loc Cert.Kernel15Ideal.main_v6_1)) (v2 : (c : Dev Cert.Kernel15Ideal.nD) → Buf (Elt Ideal) ((c.tc : Thread Cert.Kernel15Ideal.nD Cert.Kernel15Ideal.τ).loc Cert.Kernel15Ideal.main_v6_2)) (v3 : (c : Dev Cert.Kernel15Ideal.nD) → Buf (Elt Ideal) ((c.tc : Thread Cert.Kernel15Ideal.nD Cert.Kernel15Ideal.τ).loc Cert.Kernel15Ideal.main_v6_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_0) = v0 c
          ∧ r.2.mem ((c.tc : Thread Cert.Kernel15Ideal.nD Cert.Kernel15Ideal.τ).loc Cert.Kernel15Ideal.main_v6_1) = v1 c
          ∧ r.2.mem ((c.tc : Thread Cert.Kernel15Ideal.nD Cert.Kernel15Ideal.τ).loc Cert.Kernel15Ideal.main_v6_2) = v2 c
          ∧ r.2.mem ((c.tc : Thread Cert.Kernel15Ideal.nD Cert.Kernel15Ideal.τ).loc Cert.Kernel15Ideal.main_v6_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_v31) = v1 c
          ∧ r.2.mem ((c.tc : Thread Cert.Reference15Ideal.nD Cert.Reference15Ideal.τ).loc Cert.Reference15Ideal.main_v33) = v2 c
          ∧ r.2.mem ((c.tc : Thread Cert.Reference15Ideal.nD Cert.Reference15Ideal.τ).loc Cert.Reference15Ideal.main_v35) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v29) = v2 c
          ∧ r.2.mem ((c.tc : Thread Cert.Reference16Ideal.nD Cert.Reference16Ideal.τ).loc Cert.Reference16Ideal.main_v30) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v6_0)) (v1 : (c : Dev Cert.Kernel17Ideal.nD) → Buf (Elt Ideal) ((c.tc : Thread Cert.Kernel17Ideal.nD Cert.Kernel17Ideal.τ).loc Cert.Kernel17Ideal.main_v6_1)) (v2 : (c : Dev Cert.Kernel17Ideal.nD) → Buf (Elt Ideal) ((c.tc : Thread Cert.Kernel17Ideal.nD Cert.Kernel17Ideal.τ).loc Cert.Kernel17Ideal.main_v6_2)) (v3 : (c : Dev Cert.Kernel17Ideal.nD) → Buf (Elt Ideal) ((c.tc : Thread Cert.Kernel17Ideal.nD Cert.Kernel17Ideal.τ).loc Cert.Kernel17Ideal.main_v6_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6_0) = v0 c
          ∧ r.2.mem ((c.tc : Thread Cert.Kernel17Ideal.nD Cert.Kernel17Ideal.τ).loc Cert.Kernel17Ideal.main_v6_1) = v1 c
          ∧ r.2.mem ((c.tc : Thread Cert.Kernel17Ideal.nD Cert.Kernel17Ideal.τ).loc Cert.Kernel17Ideal.main_v6_2) = v2 c
          ∧ r.2.mem ((c.tc : Thread Cert.Kernel17Ideal.nD Cert.Kernel17Ideal.τ).loc Cert.Kernel17Ideal.main_v6_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v29) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v33) = v2 c
          ∧ r.2.mem ((c.tc : Thread Cert.Reference17Ideal.nD Cert.Reference17Ideal.τ).loc Cert.Reference17Ideal.main_v35) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)) (v3 : (c : Dev Cert.Kernel18Ideal.nD) → Buf (Elt Ideal) ((c.tc : Thread Cert.Kernel18Ideal.nD Cert.Kernel18Ideal.τ).loc Cert.Kernel18Ideal.main_v6_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_v6_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v29) = v0 c
          ∧ r.2.mem ((c.tc : Thread Cert.Reference18Ideal.nD Cert.Reference18Ideal.τ).loc Cert.Reference18Ideal.main_v31) = v1 c
          ∧ r.2.mem ((c.tc : Thread Cert.Reference18Ideal.nD Cert.Reference18Ideal.τ).loc Cert.Reference18Ideal.main_v33) = v2 c
          ∧ r.2.mem ((c.tc : Thread Cert.Reference18Ideal.nD Cert.Reference18Ideal.τ).loc Cert.Reference18Ideal.main_v35) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)) (v3 : (c : Dev Cert.Kernel19Ideal.nD) → Buf (Elt Ideal) ((c.tc : Thread Cert.Kernel19Ideal.nD Cert.Kernel19Ideal.τ).loc Cert.Kernel19Ideal.main_v3_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_v3_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v29) = v2 c
          ∧ r.2.mem ((c.tc : Thread Cert.Reference19Ideal.nD Cert.Reference19Ideal.τ).loc Cert.Reference19Ideal.main_v30) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal_pre_finite_mod [hKernel21Ideal : Cert.Kernel21Ideal.Facts] [hReference21Ideal : Cert.Reference21Ideal.Facts] [hPre_finite_mod : Cert.Pre_finite_mod.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_mod m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v22) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v26) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_v28) = v2 c
          ∧ r.2.mem ((c.tc : Thread Cert.Reference22Ideal.nD Cert.Reference22Ideal.τ).loc Cert.Reference22Ideal.main_v29) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)
      ∧ m' ((c.tc : Thread Cert.Reference23Ideal.nD Cert.Reference23Ideal.τ).loc Cert.Reference23Ideal.main_arg12) = m ((c.tc : Thread Cert.Kernel23Ideal.nD Cert.Kernel23Ideal.τ).loc Cert.Kernel23Ideal.main_arg12)
      ∧ m' ((c.tc : Thread Cert.Reference23Ideal.nD Cert.Reference23Ideal.τ).loc Cert.Reference23Ideal.main_arg13) = m ((c.tc : Thread Cert.Kernel23Ideal.nD Cert.Kernel23Ideal.τ).loc Cert.Kernel23Ideal.main_arg13)
      ∧ m' ((c.tc : Thread Cert.Reference23Ideal.nD Cert.Reference23Ideal.τ).loc Cert.Reference23Ideal.main_arg14) = m ((c.tc : Thread Cert.Kernel23Ideal.nD Cert.Kernel23Ideal.τ).loc Cert.Kernel23Ideal.main_arg14)
      ∧ m' ((c.tc : Thread Cert.Reference23Ideal.nD Cert.Reference23Ideal.τ).loc Cert.Reference23Ideal.main_arg15) = m ((c.tc : Thread Cert.Kernel23Ideal.nD Cert.Kernel23Ideal.τ).loc Cert.Kernel23Ideal.main_arg15)
      ∧ m' ((c.tc : Thread Cert.Reference23Ideal.nD Cert.Reference23Ideal.τ).loc Cert.Reference23Ideal.main_arg16) = m ((c.tc : Thread Cert.Kernel23Ideal.nD Cert.Kernel23Ideal.τ).loc Cert.Kernel23Ideal.main_arg16)
      ∧ m' ((c.tc : Thread Cert.Reference23Ideal.nD Cert.Reference23Ideal.τ).loc Cert.Reference23Ideal.main_arg17) = m ((c.tc : Thread Cert.Kernel23Ideal.nD Cert.Kernel23Ideal.τ).loc Cert.Kernel23Ideal.main_arg17)
      ∧ m' ((c.tc : Thread Cert.Reference23Ideal.nD Cert.Reference23Ideal.τ).loc Cert.Reference23Ideal.main_arg18) = m ((c.tc : Thread Cert.Kernel23Ideal.nD Cert.Kernel23Ideal.τ).loc Cert.Kernel23Ideal.main_arg18)
      ∧ m' ((c.tc : Thread Cert.Reference23Ideal.nD Cert.Reference23Ideal.τ).loc Cert.Reference23Ideal.main_arg19) = m ((c.tc : Thread Cert.Kernel23Ideal.nD Cert.Kernel23Ideal.τ).loc Cert.Kernel23Ideal.main_arg19)
      ∧ m' ((c.tc : Thread Cert.Reference23Ideal.nD Cert.Reference23Ideal.τ).loc Cert.Reference23Ideal.main_arg20) = m ((c.tc : Thread Cert.Kernel23Ideal.nD Cert.Kernel23Ideal.τ).loc Cert.Kernel23Ideal.main_arg20)
      ∧ m' ((c.tc : Thread Cert.Reference23Ideal.nD Cert.Reference23Ideal.τ).loc Cert.Reference23Ideal.main_arg21) = m ((c.tc : Thread Cert.Kernel23Ideal.nD Cert.Kernel23Ideal.τ).loc Cert.Kernel23Ideal.main_arg21)
      ∧ m' ((c.tc : Thread Cert.Reference23Ideal.nD Cert.Reference23Ideal.τ).loc Cert.Reference23Ideal.main_arg22) = m ((c.tc : Thread Cert.Kernel23Ideal.nD Cert.Kernel23Ideal.τ).loc Cert.Kernel23Ideal.main_arg22)
      ∧ m' ((c.tc : Thread Cert.Reference23Ideal.nD Cert.Reference23Ideal.τ).loc Cert.Reference23Ideal.main_arg23) = m ((c.tc : Thread Cert.Kernel23Ideal.nD Cert.Kernel23Ideal.τ).loc Cert.Kernel23Ideal.main_arg23)
      ∧ m' ((c.tc : Thread Cert.Reference23Ideal.nD Cert.Reference23Ideal.τ).loc Cert.Reference23Ideal.main_arg24) = m ((c.tc : Thread Cert.Kernel23Ideal.nD Cert.Kernel23Ideal.τ).loc Cert.Kernel23Ideal.main_arg24)) →
    ∃ (v0 : (c : Dev Cert.Kernel23Ideal.nD) → Buf (Elt Ideal) ((c.tc : Thread Cert.Kernel23Ideal.nD Cert.Kernel23Ideal.τ).loc Cert.Kernel23Ideal.main_v46_0)) (v1 : (c : Dev Cert.Kernel23Ideal.nD) → Buf (Elt Ideal) ((c.tc : Thread Cert.Kernel23Ideal.nD Cert.Kernel23Ideal.τ).loc Cert.Kernel23Ideal.main_v46_1)) (v2 : (c : Dev Cert.Kernel23Ideal.nD) → Buf (Elt Ideal) ((c.tc : Thread Cert.Kernel23Ideal.nD Cert.Kernel23Ideal.τ).loc Cert.Kernel23Ideal.main_v46_2)) (v3 : (c : Dev Cert.Kernel23Ideal.nD) → Buf (Elt Ideal) ((c.tc : Thread Cert.Kernel23Ideal.nD Cert.Kernel23Ideal.τ).loc Cert.Kernel23Ideal.main_v46_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v46_0) = v0 c
          ∧ r.2.mem ((c.tc : Thread Cert.Kernel23Ideal.nD Cert.Kernel23Ideal.τ).loc Cert.Kernel23Ideal.main_v46_1) = v1 c
          ∧ r.2.mem ((c.tc : Thread Cert.Kernel23Ideal.nD Cert.Kernel23Ideal.τ).loc Cert.Kernel23Ideal.main_v46_2) = v2 c
          ∧ r.2.mem ((c.tc : Thread Cert.Kernel23Ideal.nD Cert.Kernel23Ideal.τ).loc Cert.Kernel23Ideal.main_v46_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
          ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
          ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
          ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
          ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
          ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
          ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
          ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
          ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
          ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
          ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
          ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
          ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
          ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v188) = v0 c
          ∧ r.2.mem ((c.tc : Thread Cert.Reference23Ideal.nD Cert.Reference23Ideal.τ).loc Cert.Reference23Ideal.main_v197) = v1 c
          ∧ r.2.mem ((c.tc : Thread Cert.Reference23Ideal.nD Cert.Reference23Ideal.τ).loc Cert.Reference23Ideal.main_v206) = v2 c
          ∧ r.2.mem ((c.tc : Thread Cert.Reference23Ideal.nD Cert.Reference23Ideal.τ).loc Cert.Reference23Ideal.main_v215) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11)
          ∧ r.2.mem ((c.tc : Thread Cert.Reference23Ideal.nD Cert.Reference23Ideal.τ).loc Cert.Reference23Ideal.main_arg12) = m' ((c.tc : Thread Cert.Reference23Ideal.nD Cert.Reference23Ideal.τ).loc Cert.Reference23Ideal.main_arg12)
          ∧ r.2.mem ((c.tc : Thread Cert.Reference23Ideal.nD Cert.Reference23Ideal.τ).loc Cert.Reference23Ideal.main_arg13) = m' ((c.tc : Thread Cert.Reference23Ideal.nD Cert.Reference23Ideal.τ).loc Cert.Reference23Ideal.main_arg13)
          ∧ r.2.mem ((c.tc : Thread Cert.Reference23Ideal.nD Cert.Reference23Ideal.τ).loc Cert.Reference23Ideal.main_arg14) = m' ((c.tc : Thread Cert.Reference23Ideal.nD Cert.Reference23Ideal.τ).loc Cert.Reference23Ideal.main_arg14)
          ∧ r.2.mem ((c.tc : Thread Cert.Reference23Ideal.nD Cert.Reference23Ideal.τ).loc Cert.Reference23Ideal.main_arg15) = m' ((c.tc : Thread Cert.Reference23Ideal.nD Cert.Reference23Ideal.τ).loc Cert.Reference23Ideal.main_arg15)
          ∧ r.2.mem ((c.tc : Thread Cert.Reference23Ideal.nD Cert.Reference23Ideal.τ).loc Cert.Reference23Ideal.main_arg16) = m' ((c.tc : Thread Cert.Reference23Ideal.nD Cert.Reference23Ideal.τ).loc Cert.Reference23Ideal.main_arg16)
          ∧ r.2.mem ((c.tc : Thread Cert.Reference23Ideal.nD Cert.Reference23Ideal.τ).loc Cert.Reference23Ideal.main_arg17) = m' ((c.tc : Thread Cert.Reference23Ideal.nD Cert.Reference23Ideal.τ).loc Cert.Reference23Ideal.main_arg17)
          ∧ r.2.mem ((c.tc : Thread Cert.Reference23Ideal.nD Cert.Reference23Ideal.τ).loc Cert.Reference23Ideal.main_arg18) = m' ((c.tc : Thread Cert.Reference23Ideal.nD Cert.Reference23Ideal.τ).loc Cert.Reference23Ideal.main_arg18)
          ∧ r.2.mem ((c.tc : Thread Cert.Reference23Ideal.nD Cert.Reference23Ideal.τ).loc Cert.Reference23Ideal.main_arg19) = m' ((c.tc : Thread Cert.Reference23Ideal.nD Cert.Reference23Ideal.τ).loc Cert.Reference23Ideal.main_arg19)
          ∧ r.2.mem ((c.tc : Thread Cert.Reference23Ideal.nD Cert.Reference23Ideal.τ).loc Cert.Reference23Ideal.main_arg20) = m' ((c.tc : Thread Cert.Reference23Ideal.nD Cert.Reference23Ideal.τ).loc Cert.Reference23Ideal.main_arg20)
          ∧ r.2.mem ((c.tc : Thread Cert.Reference23Ideal.nD Cert.Reference23Ideal.τ).loc Cert.Reference23Ideal.main_arg21) = m' ((c.tc : Thread Cert.Reference23Ideal.nD Cert.Reference23Ideal.τ).loc Cert.Reference23Ideal.main_arg21)
          ∧ r.2.mem ((c.tc : Thread Cert.Reference23Ideal.nD Cert.Reference23Ideal.τ).loc Cert.Reference23Ideal.main_arg22) = m' ((c.tc : Thread Cert.Reference23Ideal.nD Cert.Reference23Ideal.τ).loc Cert.Reference23Ideal.main_arg22)
          ∧ r.2.mem ((c.tc : Thread Cert.Reference23Ideal.nD Cert.Reference23Ideal.τ).loc Cert.Reference23Ideal.main_arg23) = m' ((c.tc : Thread Cert.Reference23Ideal.nD Cert.Reference23Ideal.τ).loc Cert.Reference23Ideal.main_arg23)
          ∧ r.2.mem ((c.tc : Thread Cert.Reference23Ideal.nD Cert.Reference23Ideal.τ).loc Cert.Reference23Ideal.main_arg24) = m' ((c.tc : Thread Cert.Reference23Ideal.nD Cert.Reference23Ideal.τ).loc Cert.Reference23Ideal.main_arg24))

def preserves_Kernel24_Kernel24Ideal : Prop :=
  True

def algebraic_Kernel24Ideal_Reference24Ideal_pre_finite_mix [hKernel24Ideal : Cert.Kernel24Ideal.Facts] [hReference24Ideal : Cert.Reference24Ideal.Facts] [hPre_finite_mix : Cert.Pre_finite_mix.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite_mix m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v50) = v0 c
          ∧ r.2.mem ((c.tc : Thread Cert.Reference24Ideal.nD Cert.Reference24Ideal.τ).loc Cert.Reference24Ideal.main_v52) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal_pre_finite_ffn [hKernel25Ideal : Cert.Kernel25Ideal.Facts] [hReference25Ideal : Cert.Reference25Ideal.Facts] [hPre_finite_ffn : Cert.Pre_finite_ffn.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite_ffn m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v50) = v0 c
          ∧ r.2.mem ((c.tc : Thread Cert.Reference25Ideal.nD Cert.Reference25Ideal.τ).loc Cert.Reference25Ideal.main_v60) = v1 c
          ∧ r.2.mem ((c.tc : Thread Cert.Reference25Ideal.nD Cert.Reference25Ideal.τ).loc Cert.Reference25Ideal.main_v62) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v52) = v0 c
          ∧ r.2.mem ((c.tc : Thread Cert.Reference26Ideal.nD Cert.Reference26Ideal.τ).loc Cert.Reference26Ideal.main_v81) = v1 c
          ∧ r.2.mem ((c.tc : Thread Cert.Reference26Ideal.nD Cert.Reference26Ideal.τ).loc Cert.Reference26Ideal.main_v84) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite_mod : Cert.Pre_finite_mod.Facts) (hPre_finite_mix : Cert.Pre_finite_mix.Facts) (hPre_finite_ffn : Cert.Pre_finite_ffn.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite_mod (hKernel21Ideal := hKernel21Ideal) (hPre_finite_mod := hPre_finite_mod)
    ∧ quiescent_Reference21Ideal (hReference21Ideal := hReference21Ideal)
    ∧ quiescent_Reference21Ideal_pre_finite_mod (hReference21Ideal := hReference21Ideal) (hPre_finite_mod := hPre_finite_mod)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite_mix (hKernel24Ideal := hKernel24Ideal) (hPre_finite_mix := hPre_finite_mix)
    ∧ quiescent_Reference24Ideal (hReference24Ideal := hReference24Ideal)
    ∧ quiescent_Reference24Ideal_pre_finite_mix (hReference24Ideal := hReference24Ideal) (hPre_finite_mix := hPre_finite_mix)
    ∧ quiescent_Kernel25 (hKernel25 := hKernel25)
    ∧ quiescent_Kernel25Ideal (hKernel25Ideal := hKernel25Ideal)
    ∧ quiescent_Kernel25Ideal_pre_finite_ffn (hKernel25Ideal := hKernel25Ideal) (hPre_finite_ffn := hPre_finite_ffn)
    ∧ quiescent_Reference25Ideal (hReference25Ideal := hReference25Ideal)
    ∧ quiescent_Reference25Ideal_pre_finite_ffn (hReference25Ideal := hReference25Ideal) (hPre_finite_ffn := hPre_finite_ffn)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite_mod (hKernel21Ideal := hKernel21Ideal) (hReference21Ideal := hReference21Ideal) (hPre_finite_mod := hPre_finite_mod)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite_mix (hKernel24Ideal := hKernel24Ideal) (hReference24Ideal := hReference24Ideal) (hPre_finite_mix := hPre_finite_mix)
    ∧ preserves_Kernel25_Kernel25Ideal
    ∧ algebraic_Kernel25Ideal_Reference25Ideal_pre_finite_ffn (hKernel25Ideal := hKernel25Ideal) (hReference25Ideal := hReference25Ideal) (hPre_finite_ffn := hPre_finite_ffn)
    ∧ preserves_Kernel26_Kernel26Ideal
    ∧ algebraic_Kernel26Ideal_Reference26Ideal (hKernel26Ideal := hKernel26Ideal) (hReference26Ideal := hReference26Ideal)
-- ==== Pre_finite.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bitsLt_bf16_f32 : FTy.bits .bf16 < FTy.bits .f32
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S8192x5632 .f32) (main_arg2 : FVec F S5632x2048 .bf16) (main_arg3 : FVec F S8192x2048 .bf16) : IVec S8192x5632 1 × IVec S5632x2048 1 × IVec S8192x2048 1 :=
  let main_v0 : FVec F S8192x5632 .f32 := Host.absf main_arg1
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S5632x2048 .f32 := (extf .f32 · bitsLt_bf16_f32) main_arg2
  let main_v4 : FVec F S5632x2048 .f32 := Host.absf main_v3
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_v7 : FVec F S8192x2048 .f32 := (extf .f32 · bitsLt_bf16_f32) main_arg3
  let main_v8 : FVec F S8192x2048 .f32 := Host.absf main_v7
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  (main_v2, main_v6, main_v10)
-- ==== Pre_finite_ffn.lean ====
abbrev S8192x2048 : Shape := ⟨2, ![8192, 2048]⟩
abbrev S1x2048 : Shape := ⟨2, ![1, 2048]⟩
abbrev S8x2048 : Shape := ⟨2, ![8, 2048]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S1x2048 : S_.BroadcastsInDim S1x2048 (![] : Fin 0 → Fin S1x2048.rank)
  bcast_S_S8x2048 : S_.BroadcastsInDim S8x2048 (![] : Fin 0 → Fin S8x2048.rank)

variable [Facts]

def fn {F : FTy → Type} [FloatOps F] (main_arg0 : FVec F S8192x2048 .f32) (main_arg1 : FVec F S8192x2048 .bf16) (main_arg2 : FVec F S1x2048 .f32) (main_arg3 : FVec F S8x2048 .f32) (main_arg4 : FVec F S8192x2048 .f32) (main_arg5 : FVec F S8192x2048 .bf16) (main_arg6 : FVec F S1x2048 .f32) : IVec S8192x2048 1 × IVec S8192x2048 1 × IVec S1x2048 1 × IVec S8x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := (extf .f32 · bitsLt_bf16_f32) main_arg1
  let main_v4 : FVec F S8192x2048 .f32 := Host.absf main_v3
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  let main_v10 : FVec F S8x2048 .f32 := Host.absf main_arg3
  let main_cst_2 : FVec F S_ .f32 := constant S_ .f32 0x7F800000#32
  let main_v11 : FVec F S8x2048 .f32 := broadcastInDim S8x2048 ![] bcast_S_S8x2048 main_cst_2
  let main_v12 : IVec S8x2048 1 := cmpf .olt main_v10 main_v11
  (main_v2, main_v6, main_v9, main_v12)
-- ==== Pre_finite_mix.lean ====
abbrev S8192x2048 : Shape := ⟨2, ![8192, 2048]⟩
abbrev S1x2048 : Shape := ⟨2, ![1, 2048]⟩
abbrev S8x2048 : Shape := ⟨2, ![8, 2048]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S1x2048 : S_.BroadcastsInDim S1x2048 (![] : Fin 0 → Fin S1x2048.rank)
  bcast_S_S8x2048 : S_.BroadcastsInDim S8x2048 (![] : Fin 0 → Fin S8x2048.rank)

variable [Facts]

def fn {F : FTy → Type} [FloatOps F] (main_arg0 : FVec F S8192x2048 .f32) (main_arg1 : FVec F S8192x2048 .bf16) (main_arg2 : FVec F S1x2048 .f32) (main_arg3 : FVec F S8x2048 .f32) (main_arg4 : FVec F S8192x2048 .f32) : IVec S8192x2048 1 × IVec S8192x2048 1 × IVec S1x2048 1 × IVec S8x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := (extf .f32 · bitsLt_bf16_f32) main_arg1
  let main_v4 : FVec F S8192x2048 .f32 := Host.absf main_v3
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  let main_v10 : FVec F S8x2048 .f32 := Host.absf main_arg3
  let main_cst_2 : FVec F S_ .f32 := constant S_ .f32 0x7F800000#32
  let main_v11 : FVec F S8x2048 .f32 := broadcastInDim S8x2048 ![] bcast_S_S8x2048 main_cst_2
  let main_v12 : IVec S8x2048 1 := cmpf .olt main_v10 main_v11
  (main_v2, main_v6, main_v9, main_v12)
-- ==== Pre_finite_mod.lean ====
abbrev S8x2048 : Shape := ⟨2, ![8, 2048]⟩
abbrev S2048 : Shape := ⟨1, ![2048]⟩
abbrev S1x2048x1536 : Shape := ⟨3, ![1, 2048, 1536]⟩
abbrev S16x1536 : Shape := ⟨2, ![16, 1536]⟩
abbrev S_ : Shape := ⟨0, ![]⟩

class Facts : Prop where
  bcast_S_S1x2048x1536 : S_.BroadcastsInDim S1x2048x1536 (![] : Fin 0 → Fin S1x2048x1536.rank)
  bcast_S_S16x1536 : S_.BroadcastsInDim S16x1536 (![] : Fin 0 → Fin S16x1536.rank)

variable [Facts]

def fn {F : FTy → Type} [FloatOps F] (main_arg0 : FVec F S8x2048 .f32) (main_arg1 : FVec F S2048 .f32) (main_arg2 : FVec F S1x2048x1536 .f32) (main_arg3 : FVec F S16x1536 .f32) : IVec S1x2048x1536 1 × IVec S16x1536 1 :=
  let main_v0 : FVec F S1x2048x1536 .f32 := Host.absf main_arg2
  let main_cst : FVec F S_ .f32 := constant S_ .f32 0x7F800000#32
  let main_v1 : FVec F S1x2048x1536 .f32 := broadcastInDim S1x2048x1536 ![] bcast_S_S1x2048x1536 main_cst
  let main_v2 : IVec S1x2048x1536 1 := cmpf .olt main_v0 main_v1
  let main_v3 : FVec F S16x1536 .f32 := Host.absf main_arg3
  let main_cst_0 : FVec F S_ .f32 := constant S_ .f32 0x7F800000#32
  let main_v4 : FVec F S16x1536 .f32 := broadcastInDim S16x1536 ![] bcast_S_S16x1536 main_cst_0
  let main_v5 : IVec S16x1536 1 := cmpf .olt main_v3 main_v4
  (main_v2, main_v5)
-- ==== Kernel.lean ====
abbrev S8448x4608 : Shape := ⟨2, ![8448, 4608]⟩
abbrev S2x8 : Shape := ⟨2, ![2, 8]⟩
abbrev S8x64x128 : Shape := ⟨3, ![8, 64, 128]⟩
abbrev S16x1x1 : Shape := ⟨3, ![16, 1, 1]⟩
abbrev S16x1x128 : Shape := ⟨3, ![16, 1, 128]⟩
abbrev S256 : Shape := ⟨1, ![256]⟩
abbrev S1x256x1 : Shape := ⟨3, ![1, 256, 1]⟩
abbrev S16 : Shape := ⟨1, ![16]⟩
abbrev S_ : Shape := ⟨0, ![]⟩
abbrev S16x256x1 : Shape := ⟨3, ![16, 256, 1]⟩
abbrev S16x1x256x1 : Shape := ⟨4, ![16, 1, 256, 1]⟩
abbrev S16x2x256x1 : Shape := ⟨4, ![16, 2, 256, 1]⟩
abbrev S16x2x256x128 : Shape := ⟨4, ![16, 2, 256, 128]⟩
abbrev S16x64x128 : Shape := ⟨3, ![16, 64, 128]⟩
abbrev S16x128x128 : Shape := ⟨3, ![16, 128, 128]⟩
abbrev S16x1 : Shape := ⟨2, ![16, 1]⟩
abbrev S16x128 : Shape := ⟨2, ![16, 128]⟩
abbrev S256x512 : Shape := ⟨2, ![256, 512]⟩
abbrev S256x1024 : Shape := ⟨2, ![256, 1024]⟩
abbrev S256x128 : Shape := ⟨2, ![256, 128]⟩
abbrev S1x128x128 : Shape := ⟨3, ![1, 128, 128]⟩
abbrev S128x128 : Shape := ⟨2, ![128, 128]⟩
abbrev S1x1x256x128 : Shape := ⟨4, ![1, 1, 256, 128]⟩
abbrev S1x1x128 : Shape := ⟨3, ![1, 1, 128]⟩
abbrev S1x128 : Shape := ⟨2, ![1, 128]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 71
  | .vmem => 9
  | .smem => 0
  | _ => 0

abbrev bufTy : (tb : Table) → Fin (tcTables nBuf tb) → BufTy
  | .hbm, ⟨0, _⟩ => ⟨S8448x4608, .bf16⟩
  | .hbm, ⟨1, _⟩ => ⟨S2x8, .f32⟩
  | .hbm, ⟨2, _⟩ => ⟨S8x64x128, .f32⟩
  | .hbm, ⟨3, _⟩ => ⟨S8x64x128, .f32⟩
  | .hbm, ⟨4, _⟩ => ⟨S2x8, .f32⟩
  | .hbm, ⟨5, _⟩ => ⟨S16x1x1, .f32⟩
  | .hbm, ⟨6, _⟩ => ⟨S16x1x128, .f32⟩
  | .hbm, ⟨7, _⟩ => ⟨S16x1x1, .f32⟩
  | .hbm, ⟨8, _⟩ => ⟨S16x1x1, .f32⟩
  | .hbm, ⟨9, _⟩ => ⟨S16x1x1, .f32⟩
  | .hbm, ⟨10, _⟩ => ⟨S256, .f32⟩
  | .hbm, ⟨11, _⟩ => ⟨S1x256x1, .f32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S16x1x1, .i1⟩
  | .hbm, ⟨17, _⟩ => ⟨S_, .f32⟩
  | .hbm, ⟨18, _⟩ => ⟨S1x256x1, .f32⟩
  | .hbm, ⟨19, _⟩ => ⟨S1x256x1, .f32⟩
  | .hbm, ⟨20, _⟩ => ⟨S16x256x1, .i1⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x1x256x1, .f32⟩
  | .hbm, ⟨29, _⟩ => ⟨S16x1x256x1, .f32⟩
  | .hbm, ⟨30, _⟩ => ⟨S16x2x256x1, .f32⟩
  | .hbm, ⟨31, _⟩ => ⟨S16x2x256x128, .f32⟩
  | .hbm, ⟨32, _⟩ => ⟨S16x64x128, .f32⟩
  | .hbm, ⟨33, _⟩ => ⟨S_, .f32⟩
  | .hbm, ⟨34, _⟩ => ⟨S16x64x128, .f32⟩
  | .hbm, ⟨35, _⟩ => ⟨S16, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S16, .i32⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S_, .i32⟩
  | .hbm, ⟨48, _⟩ => ⟨S16, .i32⟩
  | .hbm, ⟨49, _⟩ => ⟨S16, .i1⟩
  | .hbm, ⟨50, _⟩ => ⟨S_, .i32⟩
  | .hbm, ⟨51, _⟩ => ⟨S_, .i1⟩
  | .hbm, ⟨52, _⟩ => ⟨S16, .i1⟩
  | .hbm, ⟨53, _⟩ => ⟨S16, .i1⟩
  | .hbm, ⟨54, _⟩ => ⟨S16, .i1⟩
  | .hbm, ⟨55, _⟩ => ⟨S16, .i32⟩
  | .hbm, ⟨56, _⟩ => ⟨S16, .i32⟩
  | .hbm, ⟨57, _⟩ => ⟨S16, .i32⟩
  | .hbm, ⟨58, _⟩ => ⟨S_, .i32⟩
  | .hbm, ⟨59, _⟩ => ⟨S16, .i32⟩
  | .hbm, ⟨60, _⟩ => ⟨S16, .i1⟩
  | .hbm, ⟨61, _⟩ => ⟨S16x1x1, .i1⟩
  | .hbm, ⟨62, _⟩ => ⟨S16x128x128, .f32⟩
  | .hbm, ⟨63, _⟩ => ⟨S16x128x128, .f32⟩
  | .hbm, ⟨64, _⟩ => ⟨S16x128x128, .i1⟩
  | .hbm, ⟨65, _⟩ => ⟨S16x128x128, .f32⟩
  | .hbm, ⟨66, _⟩ => ⟨S16x1, .f32⟩
  | .hbm, ⟨67, _⟩ => ⟨S16x128, .f32⟩
  | .hbm, ⟨68, _⟩ => ⟨S256x512, .f32⟩
  | .hbm, ⟨69, _⟩ => ⟨S256x1024, .f32⟩
  | .hbm, ⟨70, _⟩ => ⟨S16x128, .f32⟩
  | .local _ .vmem, ⟨0, _⟩ => ⟨S256x512, .bf16⟩
  | .local _ .vmem, ⟨1, _⟩ => ⟨S256x1024, .bf16⟩
  | .local _ .vmem, ⟨2, _⟩ => ⟨S16x2x256x128, .f32⟩
  | .local _ .vmem, ⟨3, _⟩ => ⟨S16x128x128, .f32⟩
  | .local _ .vmem, ⟨4, _⟩ => ⟨S16x128, .f32⟩
  | .local _ .vmem, ⟨5, _⟩ => ⟨S16x1x128, .f32⟩
  | .local _ .vmem, ⟨6, _⟩ => ⟨S256x512, .f32⟩
  | .local _ .vmem, ⟨7, _⟩ => ⟨S256x1024, .f32⟩
  | .local _ .vmem, ⟨8, _⟩ => ⟨S16x128, .f32⟩
  | _, _ => ⟨S8448x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v25 : Ref sig .tc := ⟨.hbm, 57, rfl⟩
abbrev main_c_2 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_call2_v0 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34_0 : Ref sig .tc := ⟨.hbm, 68, rfl⟩
abbrev main_v34_1 : Ref sig .tc := ⟨.hbm, 69, rfl⟩
abbrev main_v34_2 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c32_i32 : BitVec 32 := 32#32
  let c1_i32 : BitVec 32 := 1#32
  let c0_i32 : BitVec 32 := 0#32
  ![c32_i32.toNat, c1_i32.toNat]

def cc0_transform_1 (i : grid0.Coords) : Fin 2 → Nat :=
  let arg0 : BitVec 32 := BitVec.ofNat 32 (i 0).val
  let c32_i32 : BitVec 32 := 32#32
  let c1_i32 : BitVec 32 := 1#32
  let c0_i32 : BitVec 32 := 0#32
  ![c32_i32.toNat, c1_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8448x4608 : Shape := ⟨2, ![8448, 4608]⟩
abbrev S2x8 : Shape := ⟨2, ![2, 8]⟩
abbrev S8x64x128 : Shape := ⟨3, ![8, 64, 128]⟩
abbrev S256x4608 : Shape := ⟨2, ![256, 4608]⟩
abbrev S1x256x4608 : Shape := ⟨3, ![1, 256, 4608]⟩
abbrev S1x256x512 : Shape := ⟨3, ![1, 256, 512]⟩
abbrev S1x256x1024 : Shape := ⟨3, ![1, 256, 1024]⟩
abbrev S1x256x256 : Shape := ⟨3, ![1, 256, 256]⟩
abbrev S1x8 : Shape := ⟨2, ![1, 8]⟩
abbrev S8 : Shape := ⟨1, ![8]⟩
abbrev S1x256x8x64 : Shape := ⟨4, ![1, 256, 8, 64]⟩
abbrev S_ : Shape := ⟨0, ![]⟩
abbrev S1x256x8x128 : Shape := ⟨4, ![1, 256, 8, 128]⟩
abbrev S256 : Shape := ⟨1, ![256]⟩
abbrev S256x1 : Shape := ⟨2, ![256, 1]⟩
abbrev S256x8 : Shape := ⟨2, ![256, 8]⟩
abbrev S1x256x8x1 : Shape := ⟨4, ![1, 256, 8, 1]⟩
abbrev S1x8x64x128 : Shape := ⟨4, ![1, 8, 64, 128]⟩
abbrev S1x8x128x256 : Shape := ⟨4, ![1, 8, 128, 256]⟩
abbrev S1x8x64x256 : Shape := ⟨4, ![1, 8, 64, 256]⟩
abbrev S1x256x8 : Shape := ⟨3, ![1, 256, 8]⟩
abbrev S256x512 : Shape := ⟨2, ![256, 512]⟩
abbrev S256x1024 : Shape := ⟨2, ![256, 1024]⟩
abbrev S16x1 : Shape := ⟨2, ![16, 1]⟩
abbrev S16x128 : Shape := ⟨2, ![16, 128]⟩

abbrev nBuf : Space → Nat
  | .hbm => 130
  | .vmem => 0
  | .smem => 0
  | _ => 0

abbrev hbmTy0_0 (i : Nat) : BufTy := match i % 128 with
  | 0 => ⟨S8448x4608, .bf16⟩
  | 1 => ⟨S2x8, .f32⟩
  | 2 => ⟨S8x64x128, .f32⟩
  | 3 => ⟨S8x64x128, .f32⟩
  | 4 => ⟨S2x8, .f32⟩
  | 5 => ⟨S256x4608, .bf16⟩
  | 6 => ⟨S256x4608, .f32⟩
  | 7 => ⟨S1x256x4608, .f32⟩
  | 8 => ⟨S1x256x512, .f32⟩
  | 9 => ⟨S1x256x512, .f32⟩
  | 10 => ⟨S1x256x1024, .f32⟩
  | 11 => ⟨S1x256x1024, .f32⟩
  | 12 => ⟨S1x256x1024, .f32⟩
  | 13 => ⟨S1x256x256, .f32⟩
  | 14 => ⟨S1x256x256, .f32⟩
  | 15 => ⟨S1x8, .f32⟩
  | 16 => ⟨S8, .f32⟩
  | 17 => ⟨S8, .f32⟩
  | 18 => ⟨S8, .f32⟩
  | 19 => ⟨S1x8, .f32⟩
  | 20 => ⟨S8, .f32⟩
  | 21 => ⟨S8, .f32⟩
  | 22 => ⟨S8, .f32⟩
  | 23 => ⟨S1x256x8x64, .f32⟩
  | 24 => ⟨S_, .f32⟩
  | 25 => ⟨S1x256x8x64, .f32⟩
  | 26 => ⟨S1x256x8x64, .f32⟩
  | 27 => ⟨S1x256x8x128, .f32⟩
  | 28 => ⟨S1x8, .f32⟩
  | 29 => ⟨S256, .f32⟩
  | 30 => ⟨S_, .f32⟩
  | 31 => ⟨S256, .f32⟩
  | 32 => ⟨S256, .f32⟩
  | 33 => ⟨S256x1, .f32⟩
  | 34 => ⟨S256x8, .f32⟩
  | 35 => ⟨S256x8, .f32⟩
  | 36 => ⟨S256x8, .f32⟩
  | 37 => ⟨S256x8, .f32⟩
  | 38 => ⟨S1x256x8x1, .f32⟩
  | 39 => ⟨S1x256x8x64, .f32⟩
  | 40 => ⟨S1x256x8x64, .f32⟩
  | 41 => ⟨S1x8x64x128, .f32⟩
  | 42 => ⟨S1x256x8x64, .f32⟩
  | 43 => ⟨S1x256x8x128, .f32⟩
  | 44 => ⟨S1x8, .f32⟩
  | 45 => ⟨S256, .f32⟩
  | 46 => ⟨S_, .f32⟩
  | 47 => ⟨S256, .f32⟩
  | 48 => ⟨S256, .f32⟩
  | 49 => ⟨S256x1, .f32⟩
  | 50 => ⟨S256x8, .f32⟩
  | 51 => ⟨S256x8, .f32⟩
  | 52 => ⟨S256x8, .f32⟩
  | 53 => ⟨S256x8, .f32⟩
  | 54 => ⟨S1x256x8x1, .f32⟩
  | 55 => ⟨S1x256x8x64, .f32⟩
  | 56 => ⟨S1x256x8x64, .f32⟩
  | 57 => ⟨S1x8x64x128, .f32⟩
  | 58 => ⟨S1x8x64x128, .f32⟩
  | 59 => ⟨S1x8x64x128, .f32⟩
  | 60 => ⟨S1x8, .f32⟩
  | 61 => ⟨S8, .f32⟩
  | 62 => ⟨S1x8, .f32⟩
  | 63 => ⟨S8, .f32⟩
  | 64 => ⟨S1x8x128x256, .f32⟩
  | 65 => ⟨S1x256x8x128, .f32⟩
  | 66 => ⟨S1x8x64x256, .f32⟩
  | 67 => ⟨S1x256x8x64, .f32⟩
  | 68 => ⟨S1x256x8x64, .f32⟩
  | 69 => ⟨S_, .f32⟩
  | 70 => ⟨S1x256x8, .f32⟩
  | 71 => ⟨S1x256x8x1, .f32⟩
  | 72 => ⟨S1x256x8x64, .f32⟩
  | 73 => ⟨S1x256x8x64, .f32⟩
  | 74 => ⟨S_, .f32⟩
  | 75 => ⟨S256x8, .f32⟩
  | 76 => ⟨S256x8, .f32⟩
  | 77 => ⟨S256x8, .f32⟩
  | 78 => ⟨S256x8, .f32⟩
  | 79 => ⟨S_, .f32⟩
  | 80 => ⟨S8, .f32⟩
  | 81 => ⟨S1x8, .f32⟩
  | 82 => ⟨S_, .f32⟩
  | 83 => ⟨S8, .f32⟩
  | 84 => ⟨S8, .f32⟩
  | 85 => ⟨S1x256x8x128, .f32⟩
  | 86 => ⟨S1x256x8x64, .f32⟩
  | 87 => ⟨S1x8x128x256, .f32⟩
  | 88 => ⟨S1x256x8x128, .f32⟩
  | 89 => ⟨S1x256x8x128, .f32⟩
  | 90 => ⟨S1x8x64x256, .f32⟩
  | 91 => ⟨S1x256x8x64, .f32⟩
  | 92 => ⟨S1x256x8x64, .f32⟩
  | 93 => ⟨S_, .f32⟩
  | 94 => ⟨S1x256x8, .f32⟩
  | 95 => ⟨S1x256x8x1, .f32⟩
  | 96 => ⟨S1x256x8x64, .f32⟩
  | 97 => ⟨S1x256x8x64, .f32⟩
  | 98 => ⟨S1x256x8x64, .f32⟩
  | 99 => ⟨S_, .f32⟩
  | 100 => ⟨S256x8, .f32⟩
  | 101 => ⟨S256x8, .f32⟩
  | 102 => ⟨S256x8, .f32⟩
  | 103 => ⟨S256x8, .f32⟩
  | 104 => ⟨S_, .f32⟩
  | 105 => ⟨S8, .f32⟩
  | 106 => ⟨S1x8, .f32⟩
  | 107 => ⟨S_, .f32⟩
  | 108 => ⟨S8, .f32⟩
  | 109 => ⟨S8, .f32⟩
  | 110 => ⟨S1x256x1024, .f32⟩
  | 111 => ⟨S_, .f32⟩
  | 112 => ⟨S1x256x8x64, .f32⟩
  | 113 => ⟨S1x256x8x64, .f32⟩
  | 114 => ⟨S1x256x512, .f32⟩
  | 115 => ⟨S8, .f32⟩
  | 116 => ⟨S8, .f32⟩
  | 117 => ⟨S1x8, .f32⟩
  | 118 => ⟨S_, .f32⟩
  | 119 => ⟨S2x8, .f32⟩
  | 120 => ⟨S8, .f32⟩
  | 121 => ⟨S8, .f32⟩
  | 122 => ⟨S1x8, .f32⟩
  | 123 => ⟨S_, .f32⟩
  | 124 => ⟨S2x8, .f32⟩
  | 125 => ⟨S2x8, .f32⟩
  | 126 => ⟨S256x512, .f32⟩
  | 127 => ⟨S256x1024, .f32⟩
  | _ => ⟨S8448x4608, .bf16⟩

abbrev hbmTy0_1 (i : Nat) : BufTy := match i % 128 with
  | 0 => ⟨S16x1, .f32⟩
  | 1 => ⟨S16x128, .f32⟩
  | _ => ⟨S8448x4608, .bf16⟩

abbrev hbmTy (i : Nat) : BufTy := match i / 128 with
  | 0 => hbmTy0_0 i
  | 1 => hbmTy0_1 i
  | _ => ⟨S8448x4608, .bf16⟩

abbrev bufTy : (tb : Table) → Fin (tcTables nBuf tb) → BufTy
  | .hbm, ⟨i, _⟩ => hbmTy i
  | _, _ => ⟨S8448x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_2 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_3 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_4 : Ref sig .tc := ⟨.hbm, 79, rfl⟩
abbrev main_v69 : Ref sig .tc := ⟨.hbm, 80, rfl⟩
abbrev main_v70 : Ref sig .tc := ⟨.hbm, 81, rfl⟩
abbrev main_cst_5 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_6 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_7 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_8 : Ref sig .tc := ⟨.hbm, 104, rfl⟩
abbrev main_v90 : Ref sig .tc := ⟨.hbm, 105, rfl⟩
abbrev main_v91 : Ref sig .tc := ⟨.hbm, 106, rfl⟩
abbrev main_cst_9 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_10 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_11 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_12 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 28
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .bf16⟩
  | .hbm, ⟨3, _⟩ => ⟨S8192x2048, .bf16⟩
  | .hbm, ⟨4, _⟩ => ⟨S_, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .bf16⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .bf16⟩
  | .hbm, ⟨26, _⟩ => ⟨S8192x5632, .bf16⟩
  | .hbm, ⟨27, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .bf16⟩
  | .hbm, ⟨3, _⟩ => ⟨S8192x2048, .bf16⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S5632x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .bf16⟩
  | .hbm, ⟨29, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x2048 : Shape := ⟨2, ![2048, 2048]⟩
abbrev S8192x2048 : Shape := ⟨2, ![8192, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8448x4608 : Shape := ⟨2, ![8448, 4608]⟩
abbrev S8448x2048 : Shape := ⟨2, ![8448, 2048]⟩
abbrev S4608x2048 : Shape := ⟨2, ![4608, 2048]⟩
abbrev S768x2304 : Shape := ⟨2, ![768, 2304]⟩
abbrev S768x2048 : Shape := ⟨2, ![768, 2048]⟩
abbrev S2304x2048 : Shape := ⟨2, ![2304, 2048]⟩
abbrev S768x384 : Shape := ⟨2, ![768, 384]⟩
abbrev S384x2048 : Shape := ⟨2, ![384, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x4608, .bf16⟩
  | .hbm, ⟨1, _⟩ => ⟨S8448x2048, .bf16⟩
  | .hbm, ⟨2, _⟩ => ⟨S4608x2048, .bf16⟩
  | .local _ .vmem, ⟨0, _⟩ => ⟨S768x2304, .bf16⟩
  | .local _ .vmem, ⟨1, _⟩ => ⟨S768x2304, .bf16⟩
  | .local _ .vmem, ⟨2, _⟩ => ⟨S768x2048, .bf16⟩
  | .local _ .vmem, ⟨3, _⟩ => ⟨S768x2048, .bf16⟩
  | .local _ .vmem, ⟨4, _⟩ => ⟨S2304x2048, .bf16⟩
  | .local _ .vmem, ⟨5, _⟩ => ⟨S2304x2048, .bf16⟩
  | .local _ .vmem, ⟨6, _⟩ => ⟨S2304x2048, .f32⟩
  | _, _ => ⟨S8448x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond3 (i : grid0.Coords) : BitVec 1 :=
  let arg2 : BitVec 32 := BitVec.ofNat 32 (i 2).val
  let c10_i32 : BitVec 32 := 10#32
  let v6 : BitVec 1 := Scalar.cmpi .eq arg2 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x4608 : Shape := ⟨2, ![8448, 4608]⟩
abbrev S8448x2048 : Shape := ⟨2, ![8448, 2048]⟩
abbrev S8192x2048 : Shape := ⟨2, ![8192, 2048]⟩
abbrev S256x2048 : Shape := ⟨2, ![256, 2048]⟩
abbrev S_ : Shape := ⟨0, ![]⟩
abbrev S2048x4608 : Shape := ⟨2, ![2048, 4608]⟩
abbrev S8192x4608 : Shape := ⟨2, ![8192, 4608]⟩
abbrev S256x4608 : Shape := ⟨2, ![256, 4608]⟩
abbrev S4608x2048 : Shape := ⟨2, ![4608, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8448x4608, .bf16⟩
  | .hbm, ⟨1, _⟩ => ⟨S8448x2048, .bf16⟩
  | .hbm, ⟨2, _⟩ => ⟨S8448x2048, .f32⟩
  | .hbm, ⟨3, _⟩ => ⟨S8192x2048, .f32⟩
  | .hbm, ⟨4, _⟩ => ⟨S256x2048, .f32⟩
  | .hbm, ⟨5, _⟩ => ⟨S8448x4608, .f32⟩
  | .hbm, ⟨6, _⟩ => ⟨S_, .f32⟩
  | .hbm, ⟨7, _⟩ => ⟨S2048x4608, .f32⟩
  | .hbm, ⟨8, _⟩ => ⟨S8192x4608, .f32⟩
  | .hbm, ⟨9, _⟩ => ⟨S256x4608, .f32⟩
  | .hbm, ⟨10, _⟩ => ⟨S8192x4608, .f32⟩
  | .hbm, ⟨11, _⟩ => ⟨S256x4608, .f32⟩
  | .hbm, ⟨12, _⟩ => ⟨S4608x2048, .f32⟩
  | .hbm, ⟨13, _⟩ => ⟨S2048x4608, .f32⟩
  | .hbm, ⟨14, _⟩ => ⟨S4608x2048, .f32⟩
  | .hbm, ⟨15, _⟩ => ⟨S2048x4608, .f32⟩
  | .hbm, ⟨16, _⟩ => ⟨S2048x4608, .f32⟩
  | .hbm, ⟨17, _⟩ => ⟨S4608x2048, .f32⟩
  | .hbm, ⟨18, _⟩ => ⟨S4608x2048, .bf16⟩
  | _, _ => ⟨S8448x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel8.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩
abbrev S2816x512 : Shape := ⟨2, ![2816, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | .hbm, ⟨5, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x2048 : Shape := ⟨2, ![2048, 2048]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S8192x5632 : Shape := ⟨2, ![8192, 5632]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S5632x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S8192x5632, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S5632x2048, .f32⟩
  | .hbm, ⟨16, _⟩ => ⟨S5632x2048, .bf16⟩
  | .hbm, ⟨17, _⟩ => ⟨S5632x2048, .f32⟩
  | .hbm, ⟨18, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel11.lean ====
abbrev S2048x5632 : Shape := ⟨2, ![2048, 5632]⟩
abbrev S8192x5632 : Shape := ⟨2, ![8192, 5632]⟩
abbrev S5632x2048 : Shape := ⟨2, ![5632, 2048]⟩
abbrev S8192x2048 : Shape := ⟨2, ![8192, 2048]⟩
abbrev S2048x512 : Shape := ⟨2, ![2048, 512]⟩
abbrev S512x2048 : Shape := ⟨2, ![512, 2048]⟩
abbrev S2048x2048 : Shape := ⟨2, ![2048, 2048]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8192x5632, .bf16⟩
  | .hbm, ⟨3, _⟩ => ⟨S8192x5632, .bf16⟩
  | .hbm, ⟨4, _⟩ => ⟨S5632x2048, .bf16⟩
  | .hbm, ⟨5, _⟩ => ⟨S5632x2048, .bf16⟩
  | .hbm, ⟨6, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S2048x2048, .bf16⟩
  | .local _ .vmem, ⟨10, _⟩ => ⟨S2048x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32 : BitVec 32 := 10#32
  let v6 : BitVec 1 := Scalar.cmpi .eq arg2 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference11Ideal.lean ====
abbrev S2048x5632 : Shape := ⟨2, ![2048, 5632]⟩
abbrev S8192x5632 : Shape := ⟨2, ![8192, 5632]⟩
abbrev S_ : Shape := ⟨0, ![]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x2048, .f32⟩
  | .hbm, ⟨8, _⟩ => ⟨S2048x5632, .f32⟩
  | .hbm, ⟨9, _⟩ => ⟨S8192x5632, .f32⟩
  | .hbm, ⟨10, _⟩ => ⟨S2048x5632, .f32⟩
  | .hbm, ⟨11, _⟩ => ⟨S8192x5632, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel12.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S5632x2048, .bf16⟩
  | .hbm, ⟨5, _⟩ => ⟨S8192x5632, .bf16⟩
  | .hbm, ⟨6, _⟩ => ⟨S8192x5632, .bf16⟩
  | .hbm, ⟨7, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference12Ideal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .bf16⟩
  | .hbm, ⟨43, _⟩ => ⟨S8192x5632, .f32⟩
  | .hbm, ⟨44, _⟩ => ⟨S8192x5632, .bf16⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S_, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Kernel13.lean ====
abbrev S2048x4608 : Shape := ⟨2, ![2048, 4608]⟩
abbrev S8448x4608 : Shape := ⟨2, ![8448, 4608]⟩
abbrev S4608x2048 : Shape := ⟨2, ![4608, 2048]⟩
abbrev S8448x2048 : Shape := ⟨2, ![8448, 2048]⟩
abbrev S1408x768 : Shape := ⟨2, ![1408, 768]⟩
abbrev S768x2048 : Shape := ⟨2, ![768, 2048]⟩
abbrev S1408x2048 : Shape := ⟨2, ![1408, 2048]⟩
abbrev S768x512 : Shape := ⟨2, ![768, 512]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x4608, .bf16⟩
  | .hbm, ⟨1, _⟩ => ⟨S8448x4608, .bf16⟩
  | .hbm, ⟨2, _⟩ => ⟨S4608x2048, .bf16⟩
  | .hbm, ⟨3, _⟩ => ⟨S8448x2048, .bf16⟩
  | .local _ .vmem, ⟨0, _⟩ => ⟨S1408x768, .bf16⟩
  | .local _ .vmem, ⟨1, _⟩ => ⟨S1408x768, .bf16⟩
  | .local _ .vmem, ⟨2, _⟩ => ⟨S768x2048, .bf16⟩
  | .local _ .vmem, ⟨3, _⟩ => ⟨S768x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x4608 : Shape := ⟨2, ![2048, 4608]⟩
abbrev S8448x4608 : Shape := ⟨2, ![8448, 4608]⟩
abbrev S_ : Shape := ⟨0, ![]⟩
abbrev S8192x2048 : Shape := ⟨2, ![8192, 2048]⟩
abbrev S256x2048 : Shape := ⟨2, ![256, 2048]⟩
abbrev S8192x4608 : Shape := ⟨2, ![8192, 4608]⟩
abbrev S256x4608 : Shape := ⟨2, ![256, 4608]⟩
abbrev S8448x2048 : Shape := ⟨2, ![8448, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S8448x4608, .bf16⟩
  | .hbm, ⟨2, _⟩ => ⟨S8448x4608, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S256x2048, .f32⟩
  | .hbm, ⟨7, _⟩ => ⟨S2048x4608, .f32⟩
  | .hbm, ⟨8, _⟩ => ⟨S8192x4608, .f32⟩
  | .hbm, ⟨9, _⟩ => ⟨S2048x4608, .f32⟩
  | .hbm, ⟨10, _⟩ => ⟨S256x4608, .f32⟩
  | .hbm, ⟨11, _⟩ => ⟨S8192x4608, .f32⟩
  | .hbm, ⟨12, _⟩ => ⟨S256x4608, .f32⟩
  | .hbm, ⟨13, _⟩ => ⟨S256x2048, .f32⟩
  | .hbm, ⟨14, _⟩ => ⟨S8192x2048, .f32⟩
  | .hbm, ⟨15, _⟩ => ⟨S8448x2048, .f32⟩
  | .hbm, ⟨16, _⟩ => ⟨S8448x2048, .bf16⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel14.lean ====
abbrev S8448x2048 : Shape := ⟨2, ![8448, 2048]⟩
abbrev S2048x4608 : Shape := ⟨2, ![2048, 4608]⟩
abbrev S4608x2048 : Shape := ⟨2, ![4608, 2048]⟩
abbrev S8448x4608 : Shape := ⟨2, ![8448, 4608]⟩
abbrev S1408x2048 : Shape := ⟨2, ![1408, 2048]⟩
abbrev S1536x2048 : Shape := ⟨2, ![1536, 2048]⟩
abbrev S1408x1536 : Shape := ⟨2, ![1408, 1536]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x4608, .bf16⟩
  | .hbm, ⟨2, _⟩ => ⟨S4608x2048, .bf16⟩
  | .hbm, ⟨3, _⟩ => ⟨S8448x4608, .bf16⟩
  | .local _ .vmem, ⟨0, _⟩ => ⟨S1408x2048, .bf16⟩
  | .local _ .vmem, ⟨1, _⟩ => ⟨S1408x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1408x1536, .bf16⟩
  | .local _ .vmem, ⟨5, _⟩ => ⟨S1408x1536, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8448x2048 : Shape := ⟨2, ![8448, 2048]⟩
abbrev S2048x4608 : Shape := ⟨2, ![2048, 4608]⟩
abbrev S8192x2048 : Shape := ⟨2, ![8192, 2048]⟩
abbrev S8192x4608 : Shape := ⟨2, ![8192, 4608]⟩
abbrev S256x2048 : Shape := ⟨2, ![256, 2048]⟩
abbrev S256x4608 : Shape := ⟨2, ![256, 4608]⟩
abbrev S8448x4608 : Shape := ⟨2, ![8448, 4608]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x4608, .bf16⟩
  | .hbm, ⟨2, _⟩ => ⟨S8448x2048, .f32⟩
  | .hbm, ⟨3, _⟩ => ⟨S2048x4608, .f32⟩
  | .hbm, ⟨4, _⟩ => ⟨S8192x2048, .f32⟩
  | .hbm, ⟨5, _⟩ => ⟨S8192x4608, .f32⟩
  | .hbm, ⟨6, _⟩ => ⟨S256x2048, .f32⟩
  | .hbm, ⟨7, _⟩ => ⟨S256x4608, .f32⟩
  | .hbm, ⟨8, _⟩ => ⟨S8448x4608, .f32⟩
  | .hbm, ⟨9, _⟩ => ⟨S8448x4608, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel15.lean ====
abbrev S1x2048x576 : Shape := ⟨3, ![1, 2048, 576]⟩
abbrev S8x576x2048 : Shape := ⟨3, ![8, 576, 2048]⟩
abbrev S2048x576 : Shape := ⟨2, ![2048, 576]⟩
abbrev S576x2048 : Shape := ⟨2, ![576, 2048]⟩
abbrev S192x2048 : Shape := ⟨2, ![192, 2048]⟩
abbrev S8x192x2048 : Shape := ⟨3, ![8, 192, 2048]⟩
abbrev S1x192x2048 : Shape := ⟨3, ![1, 192, 2048]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x576, .f32⟩
  | .hbm, ⟨1, _⟩ => ⟨S1x2048x576, .f32⟩
  | .hbm, ⟨2, _⟩ => ⟨S1x2048x576, .f32⟩
  | .hbm, ⟨3, _⟩ => ⟨S8x576x2048, .bf16⟩
  | .hbm, ⟨4, _⟩ => ⟨S2048x576, .f32⟩
  | .hbm, ⟨5, _⟩ => ⟨S576x2048, .f32⟩
  | .hbm, ⟨6, _⟩ => ⟨S2048x576, .f32⟩
  | .hbm, ⟨7, _⟩ => ⟨S576x2048, .f32⟩
  | .hbm, ⟨8, _⟩ => ⟨S2048x576, .f32⟩
  | .hbm, ⟨9, _⟩ => ⟨S576x2048, .f32⟩
  | .hbm, ⟨10, _⟩ => ⟨S576x2048, .f32⟩
  | .hbm, ⟨11, _⟩ => ⟨S576x2048, .f32⟩
  | .hbm, ⟨12, _⟩ => ⟨S576x2048, .f32⟩
  | .hbm, ⟨13, _⟩ => ⟨S576x2048, .f32⟩
  | .local _ .vmem, ⟨0, _⟩ => ⟨S192x2048, .f32⟩
  | .local _ .vmem, ⟨1, _⟩ => ⟨S192x2048, .f32⟩
  | .local _ .vmem, ⟨2, _⟩ => ⟨S192x2048, .f32⟩
  | .local _ .vmem, ⟨3, _⟩ => ⟨S192x2048, .f32⟩
  | .local _ .vmem, ⟨4, _⟩ => ⟨S192x2048, .f32⟩
  | .local _ .vmem, ⟨5, _⟩ => ⟨S192x2048, .f32⟩
  | .local _ .vmem, ⟨6, _⟩ => ⟨S8x192x2048, .bf16⟩
  | .local _ .vmem, ⟨7, _⟩ => ⟨S8x192x2048, .bf16⟩
  | .local _ .vmem, ⟨8, _⟩ => ⟨S192x2048, .f32⟩
  | .local _ .vmem, ⟨9, _⟩ => ⟨S192x2048, .f32⟩
  | .local _ .vmem, ⟨10, _⟩ => ⟨S192x2048, .f32⟩
  | .local _ .vmem, ⟨11, _⟩ => ⟨S192x2048, .f32⟩
  | .local _ .vmem, ⟨12, _⟩ => ⟨S192x2048, .f32⟩
  | .local _ .vmem, ⟨13, _⟩ => ⟨S192x2048, .f32⟩
  | .local _ .vmem, ⟨14, _⟩ => ⟨S192x2048, .f32⟩
  | .local _ .vmem, ⟨15, _⟩ => ⟨S192x2048, .f32⟩
  | _, _ => ⟨S1x2048x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x192x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1x2048x576 : Shape := ⟨3, ![1, 2048, 576]⟩
abbrev S8x576x2048 : Shape := ⟨3, ![8, 576, 2048]⟩
abbrev S_ : Shape := ⟨0, ![]⟩
abbrev S576x2048 : Shape := ⟨2, ![576, 2048]⟩
abbrev S2048x576 : Shape := ⟨2, ![2048, 576]⟩

abbrev nBuf : Space → Nat
  | .hbm => 50
  | .vmem => 0
  | .smem => 0
  | _ => 0

abbrev bufTy : (tb : Table) → Fin (tcTables nBuf tb) → BufTy
  | .hbm, ⟨0, _⟩ => ⟨S1x2048x576, .f32⟩
  | .hbm, ⟨1, _⟩ => ⟨S1x2048x576, .f32⟩
  | .hbm, ⟨2, _⟩ => ⟨S1x2048x576, .f32⟩
  | .hbm, ⟨3, _⟩ => ⟨S8x576x2048, .bf16⟩
  | .hbm, ⟨4, _⟩ => ⟨S8x576x2048, .f32⟩
  | .hbm, ⟨5, _⟩ => ⟨S_, .f32⟩
  | .hbm, ⟨6, _⟩ => ⟨S576x2048, .f32⟩
  | .hbm, ⟨7, _⟩ => ⟨S2048x576, .f32⟩
  | .hbm, ⟨8, _⟩ => ⟨S1x2048x576, .f32⟩
  | .hbm, ⟨9, _⟩ => ⟨S_, .f32⟩
  | .hbm, ⟨10, _⟩ => ⟨S1x2048x576, .f32⟩
  | .hbm, ⟨11, _⟩ => ⟨S1x2048x576, .f32⟩
  | .hbm, ⟨12, _⟩ => ⟨S_, .f32⟩
  | .hbm, ⟨13, _⟩ => ⟨S1x2048x576, .f32⟩
  | .hbm, ⟨14, _⟩ => ⟨S1x2048x576, .f32⟩
  | .hbm, ⟨15, _⟩ => ⟨S1x2048x576, .f32⟩
  | .hbm, ⟨16, _⟩ => ⟨S_, .f32⟩
  | .hbm, ⟨17, _⟩ => ⟨S1x2048x576, .f32⟩
  | .hbm, ⟨18, _⟩ => ⟨S1x2048x576, .f32⟩
  | .hbm, ⟨19, _⟩ => ⟨S1x2048x576, .f32⟩
  | .hbm, ⟨20, _⟩ => ⟨S_, .f32⟩
  | .hbm, ⟨21, _⟩ => ⟨S1x2048x576, .f32⟩
  | .hbm, ⟨22, _⟩ => ⟨S1x2048x576, .f32⟩
  | .hbm, ⟨23, _⟩ => ⟨S1x2048x576, .f32⟩
  | .hbm, ⟨24, _⟩ => ⟨S_, .f32⟩
  | .hbm, ⟨25, _⟩ => ⟨S1x2048x576, .f32⟩
  | .hbm, ⟨26, _⟩ => ⟨S1x2048x576, .f32⟩
  | .hbm, ⟨27, _⟩ => ⟨S_, .f32⟩
  | .hbm, ⟨28, _⟩ => ⟨S1x2048x576, .f32⟩
  | .hbm, ⟨29, _⟩ => ⟨S1x2048x576, .f32⟩
  | .hbm, ⟨30, _⟩ => ⟨S1x2048x576, .f32⟩
  | .hbm, ⟨31, _⟩ => ⟨S_, .f32⟩
  | .hbm, ⟨32, _⟩ => ⟨S1x2048x576, .f32⟩
  | .hbm, ⟨33, _⟩ => ⟨S1x2048x576, .f32⟩
  | .hbm, ⟨34, _⟩ => ⟨S1x2048x576, .f32⟩
  | .hbm, ⟨35, _⟩ => ⟨S_, .f32⟩
  | .hbm, ⟨36, _⟩ => ⟨S1x2048x576, .f32⟩
  | .hbm, ⟨37, _⟩ => ⟨S1x2048x576, .f32⟩
  | .hbm, ⟨38, _⟩ => ⟨S1x2048x576, .f32⟩
  | .hbm, ⟨39, _⟩ => ⟨S_, .f32⟩
  | .hbm, ⟨40, _⟩ => ⟨S1x2048x576, .f32⟩
  | .hbm, ⟨41, _⟩ => ⟨S1x2048x576, .f32⟩
  | .hbm, ⟨42, _⟩ => ⟨S2048x576, .f32⟩
  | .hbm, ⟨43, _⟩ => ⟨S576x2048, .f32⟩
  | .hbm, ⟨44, _⟩ => ⟨S2048x576, .f32⟩
  | .hbm, ⟨45, _⟩ => ⟨S576x2048, .f32⟩
  | .hbm, ⟨46, _⟩ => ⟨S2048x576, .f32⟩
  | .hbm, ⟨47, _⟩ => ⟨S576x2048, .f32⟩
  | .hbm, ⟨48, _⟩ => ⟨S2048x576, .f32⟩
  | .hbm, ⟨49, _⟩ => ⟨S576x2048, .f32⟩
  | _, _ => ⟨S1x2048x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel16.lean ====
abbrev S1x256x2048 : Shape := ⟨3, ![1, 256, 2048]⟩
abbrev S8x256x2048 : Shape := ⟨3, ![8, 256, 2048]⟩
abbrev S256x2048 : Shape := ⟨2, ![256, 2048]⟩

abbrev nBuf : Space → Nat
  | .hbm => 11
  | .vmem => 8
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S8x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S1x256x2048 : Shape := ⟨3, ![1, 256, 2048]⟩
abbrev S8x256x2048 : Shape := ⟨3, ![8, 256, 2048]⟩
abbrev S_ : Shape := ⟨0, ![]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S8x256x2048, .bf16⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel17.lean ====
abbrev S1x2048x704 : Shape := ⟨3, ![1, 2048, 704]⟩
abbrev S8x704x2048 : Shape := ⟨3, ![8, 704, 2048]⟩
abbrev S2048x704 : Shape := ⟨2, ![2048, 704]⟩
abbrev S704x2048 : Shape := ⟨2, ![704, 2048]⟩
abbrev S176x2048 : Shape := ⟨2, ![176, 2048]⟩
abbrev S8x176x2048 : Shape := ⟨3, ![8, 176, 2048]⟩
abbrev S1x176x2048 : Shape := ⟨3, ![1, 176, 2048]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S8x704x2048, .bf16⟩
  | .hbm, ⟨4, _⟩ => ⟨S2048x704, .f32⟩
  | .hbm, ⟨5, _⟩ => ⟨S704x2048, .f32⟩
  | .hbm, ⟨6, _⟩ => ⟨S2048x704, .f32⟩
  | .hbm, ⟨7, _⟩ => ⟨S704x2048, .f32⟩
  | .hbm, ⟨8, _⟩ => ⟨S2048x704, .f32⟩
  | .hbm, ⟨9, _⟩ => ⟨S704x2048, .f32⟩
  | .hbm, ⟨10, _⟩ => ⟨S704x2048, .f32⟩
  | .hbm, ⟨11, _⟩ => ⟨S704x2048, .f32⟩
  | .hbm, ⟨12, _⟩ => ⟨S704x2048, .f32⟩
  | .hbm, ⟨13, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S8x176x2048, .bf16⟩
  | .local _ .vmem, ⟨7, _⟩ => ⟨S8x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1x2048x704 : Shape := ⟨3, ![1, 2048, 704]⟩
abbrev S8x704x2048 : Shape := ⟨3, ![8, 704, 2048]⟩
abbrev S_ : Shape := ⟨0, ![]⟩
abbrev S704x2048 : Shape := ⟨2, ![704, 2048]⟩
abbrev S2048x704 : Shape := ⟨2, ![2048, 704]⟩

abbrev nBuf : Space → Nat
  | .hbm => 50
  | .vmem => 0
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S8x704x2048, .bf16⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S2048x704, .f32⟩
  | .hbm, ⟨8, _⟩ => ⟨S1x2048x704, .f32⟩
  | .hbm, ⟨9, _⟩ => ⟨S_, .f32⟩
  | .hbm, ⟨10, _⟩ => ⟨S1x2048x704, .f32⟩
  | .hbm, ⟨11, _⟩ => ⟨S1x2048x704, .f32⟩
  | .hbm, ⟨12, _⟩ => ⟨S_, .f32⟩
  | .hbm, ⟨13, _⟩ => ⟨S1x2048x704, .f32⟩
  | .hbm, ⟨14, _⟩ => ⟨S1x2048x704, .f32⟩
  | .hbm, ⟨15, _⟩ => ⟨S1x2048x704, .f32⟩
  | .hbm, ⟨16, _⟩ => ⟨S_, .f32⟩
  | .hbm, ⟨17, _⟩ => ⟨S1x2048x704, .f32⟩
  | .hbm, ⟨18, _⟩ => ⟨S1x2048x704, .f32⟩
  | .hbm, ⟨19, _⟩ => ⟨S1x2048x704, .f32⟩
  | .hbm, ⟨20, _⟩ => ⟨S_, .f32⟩
  | .hbm, ⟨21, _⟩ => ⟨S1x2048x704, .f32⟩
  | .hbm, ⟨22, _⟩ => ⟨S1x2048x704, .f32⟩
  | .hbm, ⟨23, _⟩ => ⟨S1x2048x704, .f32⟩
  | .hbm, ⟨24, _⟩ => ⟨S_, .f32⟩
  | .hbm, ⟨25, _⟩ => ⟨S1x2048x704, .f32⟩
  | .hbm, ⟨26, _⟩ => ⟨S1x2048x704, .f32⟩
  | .hbm, ⟨27, _⟩ => ⟨S_, .f32⟩
  | .hbm, ⟨28, _⟩ => ⟨S1x2048x704, .f32⟩
  | .hbm, ⟨29, _⟩ => ⟨S1x2048x704, .f32⟩
  | .hbm, ⟨30, _⟩ => ⟨S1x2048x704, .f32⟩
  | .hbm, ⟨31, _⟩ => ⟨S_, .f32⟩
  | .hbm, ⟨32, _⟩ => ⟨S1x2048x704, .f32⟩
  | .hbm, ⟨33, _⟩ => ⟨S1x2048x704, .f32⟩
  | .hbm, ⟨34, _⟩ => ⟨S1x2048x704, .f32⟩
  | .hbm, ⟨35, _⟩ => ⟨S_, .f32⟩
  | .hbm, ⟨36, _⟩ => ⟨S1x2048x704, .f32⟩
  | .hbm, ⟨37, _⟩ => ⟨S1x2048x704, .f32⟩
  | .hbm, ⟨38, _⟩ => ⟨S1x2048x704, .f32⟩
  | .hbm, ⟨39, _⟩ => ⟨S_, .f32⟩
  | .hbm, ⟨40, _⟩ => ⟨S1x2048x704, .f32⟩
  | .hbm, ⟨41, _⟩ => ⟨S1x2048x704, .f32⟩
  | .hbm, ⟨42, _⟩ => ⟨S2048x704, .f32⟩
  | .hbm, ⟨43, _⟩ => ⟨S704x2048, .f32⟩
  | .hbm, ⟨44, _⟩ => ⟨S2048x704, .f32⟩
  | .hbm, ⟨45, _⟩ => ⟨S704x2048, .f32⟩
  | .hbm, ⟨46, _⟩ => ⟨S2048x704, .f32⟩
  | .hbm, ⟨47, _⟩ => ⟨S704x2048, .f32⟩
  | .hbm, ⟨48, _⟩ => ⟨S2048x704, .f32⟩
  | .hbm, ⟨49, _⟩ => ⟨S704x2048, .f32⟩
  | _, _ => ⟨S1x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel18.lean ====
abbrev S1x2048x704 : Shape := ⟨3, ![1, 2048, 704]⟩
abbrev S8x704x2048 : Shape := ⟨3, ![8, 704, 2048]⟩
abbrev S2048x704 : Shape := ⟨2, ![2048, 704]⟩
abbrev S704x2048 : Shape := ⟨2, ![704, 2048]⟩
abbrev S176x2048 : Shape := ⟨2, ![176, 2048]⟩
abbrev S8x176x2048 : Shape := ⟨3, ![8, 176, 2048]⟩
abbrev S1x176x2048 : Shape := ⟨3, ![1, 176, 2048]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S8x704x2048, .bf16⟩
  | .hbm, ⟨4, _⟩ => ⟨S2048x704, .f32⟩
  | .hbm, ⟨5, _⟩ => ⟨S704x2048, .f32⟩
  | .hbm, ⟨6, _⟩ => ⟨S2048x704, .f32⟩
  | .hbm, ⟨7, _⟩ => ⟨S704x2048, .f32⟩
  | .hbm, ⟨8, _⟩ => ⟨S2048x704, .f32⟩
  | .hbm, ⟨9, _⟩ => ⟨S704x2048, .f32⟩
  | .hbm, ⟨10, _⟩ => ⟨S704x2048, .f32⟩
  | .hbm, ⟨11, _⟩ => ⟨S704x2048, .f32⟩
  | .hbm, ⟨12, _⟩ => ⟨S704x2048, .f32⟩
  | .hbm, ⟨13, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S8x176x2048, .bf16⟩
  | .local _ .vmem, ⟨7, _⟩ => ⟨S8x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1x2048x704 : Shape := ⟨3, ![1, 2048, 704]⟩
abbrev S8x704x2048 : Shape := ⟨3, ![8, 704, 2048]⟩
abbrev S_ : Shape := ⟨0, ![]⟩
abbrev S704x2048 : Shape := ⟨2, ![704, 2048]⟩
abbrev S2048x704 : Shape := ⟨2, ![2048, 704]⟩

abbrev nBuf : Space → Nat
  | .hbm => 50
  | .vmem => 0
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S8x704x2048, .bf16⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S2048x704, .f32⟩
  | .hbm, ⟨8, _⟩ => ⟨S1x2048x704, .f32⟩
  | .hbm, ⟨9, _⟩ => ⟨S_, .f32⟩
  | .hbm, ⟨10, _⟩ => ⟨S1x2048x704, .f32⟩
  | .hbm, ⟨11, _⟩ => ⟨S1x2048x704, .f32⟩
  | .hbm, ⟨12, _⟩ => ⟨S_, .f32⟩
  | .hbm, ⟨13, _⟩ => ⟨S1x2048x704, .f32⟩
  | .hbm, ⟨14, _⟩ => ⟨S1x2048x704, .f32⟩
  | .hbm, ⟨15, _⟩ => ⟨S1x2048x704, .f32⟩
  | .hbm, ⟨16, _⟩ => ⟨S_, .f32⟩
  | .hbm, ⟨17, _⟩ => ⟨S1x2048x704, .f32⟩
  | .hbm, ⟨18, _⟩ => ⟨S1x2048x704, .f32⟩
  | .hbm, ⟨19, _⟩ => ⟨S1x2048x704, .f32⟩
  | .hbm, ⟨20, _⟩ => ⟨S_, .f32⟩
  | .hbm, ⟨21, _⟩ => ⟨S1x2048x704, .f32⟩
  | .hbm, ⟨22, _⟩ => ⟨S1x2048x704, .f32⟩
  | .hbm, ⟨23, _⟩ => ⟨S1x2048x704, .f32⟩
  | .hbm, ⟨24, _⟩ => ⟨S_, .f32⟩
  | .hbm, ⟨25, _⟩ => ⟨S1x2048x704, .f32⟩
  | .hbm, ⟨26, _⟩ => ⟨S1x2048x704, .f32⟩
  | .hbm, ⟨27, _⟩ => ⟨S_, .f32⟩
  | .hbm, ⟨28, _⟩ => ⟨S1x2048x704, .f32⟩
  | .hbm, ⟨29, _⟩ => ⟨S1x2048x704, .f32⟩
  | .hbm, ⟨30, _⟩ => ⟨S1x2048x704, .f32⟩
  | .hbm, ⟨31, _⟩ => ⟨S_, .f32⟩
  | .hbm, ⟨32, _⟩ => ⟨S1x2048x704, .f32⟩
  | .hbm, ⟨33, _⟩ => ⟨S1x2048x704, .f32⟩
  | .hbm, ⟨34, _⟩ => ⟨S1x2048x704, .f32⟩
  | .hbm, ⟨35, _⟩ => ⟨S_, .f32⟩
  | .hbm, ⟨36, _⟩ => ⟨S1x2048x704, .f32⟩
  | .hbm, ⟨37, _⟩ => ⟨S1x2048x704, .f32⟩
  | .hbm, ⟨38, _⟩ => ⟨S1x2048x704, .f32⟩
  | .hbm, ⟨39, _⟩ => ⟨S_, .f32⟩
  | .hbm, ⟨40, _⟩ => ⟨S1x2048x704, .f32⟩
  | .hbm, ⟨41, _⟩ => ⟨S1x2048x704, .f32⟩
  | .hbm, ⟨42, _⟩ => ⟨S2048x704, .f32⟩
  | .hbm, ⟨43, _⟩ => ⟨S704x2048, .f32⟩
  | .hbm, ⟨44, _⟩ => ⟨S2048x704, .f32⟩
  | .hbm, ⟨45, _⟩ => ⟨S704x2048, .f32⟩
  | .hbm, ⟨46, _⟩ => ⟨S2048x704, .f32⟩
  | .hbm, ⟨47, _⟩ => ⟨S704x2048, .f32⟩
  | .hbm, ⟨48, _⟩ => ⟨S2048x704, .f32⟩
  | .hbm, ⟨49, _⟩ => ⟨S704x2048, .f32⟩
  | _, _ => ⟨S1x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel19.lean ====
abbrev S1x704x2048 : Shape := ⟨3, ![1, 704, 2048]⟩
abbrev S8x704x2048 : Shape := ⟨3, ![8, 704, 2048]⟩
abbrev S704x2048 : Shape := ⟨2, ![704, 2048]⟩
abbrev S176x2048 : Shape := ⟨2, ![176, 2048]⟩
abbrev S8x176x2048 : Shape := ⟨3, ![8, 176, 2048]⟩
abbrev S1x176x2048 : Shape := ⟨3, ![1, 176, 2048]⟩

abbrev nBuf : Space → Nat
  | .hbm => 11
  | .vmem => 16
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S8x704x2048, .bf16⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S8x176x2048, .bf16⟩
  | .local _ .vmem, ⟨7, _⟩ => ⟨S8x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1x704x2048 : Shape := ⟨3, ![1, 704, 2048]⟩
abbrev S8x704x2048 : Shape := ⟨3, ![8, 704, 2048]⟩
abbrev S_ : Shape := ⟨0, ![]⟩
abbrev S704x2048 : Shape := ⟨2, ![704, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S8x704x2048, .bf16⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S1x704x2048, .f32⟩
  | .hbm, ⟨8, _⟩ => ⟨S_, .f32⟩
  | .hbm, ⟨9, _⟩ => ⟨S1x704x2048, .f32⟩
  | .hbm, ⟨10, _⟩ => ⟨S1x704x2048, .f32⟩
  | .hbm, ⟨11, _⟩ => ⟨S_, .f32⟩
  | .hbm, ⟨12, _⟩ => ⟨S1x704x2048, .f32⟩
  | .hbm, ⟨13, _⟩ => ⟨S1x704x2048, .f32⟩
  | .hbm, ⟨14, _⟩ => ⟨S1x704x2048, .f32⟩
  | .hbm, ⟨15, _⟩ => ⟨S_, .f32⟩
  | .hbm, ⟨16, _⟩ => ⟨S1x704x2048, .f32⟩
  | .hbm, ⟨17, _⟩ => ⟨S1x704x2048, .f32⟩
  | .hbm, ⟨18, _⟩ => ⟨S1x704x2048, .f32⟩
  | .hbm, ⟨19, _⟩ => ⟨S_, .f32⟩
  | .hbm, ⟨20, _⟩ => ⟨S1x704x2048, .f32⟩
  | .hbm, ⟨21, _⟩ => ⟨S1x704x2048, .f32⟩
  | .hbm, ⟨22, _⟩ => ⟨S1x704x2048, .f32⟩
  | .hbm, ⟨23, _⟩ => ⟨S_, .f32⟩
  | .hbm, ⟨24, _⟩ => ⟨S1x704x2048, .f32⟩
  | .hbm, ⟨25, _⟩ => ⟨S1x704x2048, .f32⟩
  | .hbm, ⟨26, _⟩ => ⟨S_, .f32⟩
  | .hbm, ⟨27, _⟩ => ⟨S1x704x2048, .f32⟩
  | .hbm, ⟨28, _⟩ => ⟨S1x704x2048, .f32⟩
  | .hbm, ⟨29, _⟩ => ⟨S1x704x2048, .f32⟩
  | .hbm, ⟨30, _⟩ => ⟨S_, .f32⟩
  | .hbm, ⟨31, _⟩ => ⟨S1x704x2048, .f32⟩
  | .hbm, ⟨32, _⟩ => ⟨S1x704x2048, .f32⟩
  | .hbm, ⟨33, _⟩ => ⟨S1x704x2048, .f32⟩
  | .hbm, ⟨34, _⟩ => ⟨S_, .f32⟩
  | .hbm, ⟨35, _⟩ => ⟨S1x704x2048, .f32⟩
  | .hbm, ⟨36, _⟩ => ⟨S1x704x2048, .f32⟩
  | .hbm, ⟨37, _⟩ => ⟨S1x704x2048, .f32⟩
  | .hbm, ⟨38, _⟩ => ⟨S_, .f32⟩
  | .hbm, ⟨39, _⟩ => ⟨S1x704x2048, .f32⟩
  | .hbm, ⟨40, _⟩ => ⟨S1x704x2048, .f32⟩
  | .hbm, ⟨41, _⟩ => ⟨S704x2048, .f32⟩
  | .hbm, ⟨42, _⟩ => ⟨S704x2048, .f32⟩
  | .hbm, ⟨43, _⟩ => ⟨S704x2048, .f32⟩
  | .hbm, ⟨44, _⟩ => ⟨S704x2048, .f32⟩
  | _, _ => ⟨S1x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel20.lean ====
abbrev S1x12288 : Shape := ⟨2, ![1, 12288]⟩
abbrev S8x2x12288 : Shape := ⟨3, ![8, 2, 12288]⟩
abbrev S16x1x12288 : Shape := ⟨3, ![16, 1, 12288]⟩
abbrev S1x1x12288 : Shape := ⟨3, ![1, 1, 12288]⟩

abbrev nBuf : Space → Nat
  | .hbm => 9
  | .vmem => 8
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S8x2x12288, .f32⟩
  | .hbm, ⟨4, _⟩ => ⟨S16x1x12288, .f32⟩
  | .hbm, ⟨5, _⟩ => ⟨S1x12288, .f32⟩
  | .hbm, ⟨6, _⟩ => ⟨S1x12288, .f32⟩
  | .hbm, ⟨7, _⟩ => ⟨S1x12288, .f32⟩
  | .hbm, ⟨8, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S16x1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | .local _ .vmem, ⟨7, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1x12288 : Shape := ⟨2, ![1, 12288]⟩
abbrev S8x2x12288 : Shape := ⟨3, ![8, 2, 12288]⟩
abbrev S_ : Shape := ⟨0, ![]⟩
abbrev S8x12288 : Shape := ⟨2, ![8, 12288]⟩
abbrev S12288 : Shape := ⟨1, ![12288]⟩

abbrev nBuf : Space → Nat
  | .hbm => 42
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S8x2x12288, .f32⟩
  | .hbm, ⟨4, _⟩ => ⟨S_, .f32⟩
  | .hbm, ⟨5, _⟩ => ⟨S8x12288, .f32⟩
  | .hbm, ⟨6, _⟩ => ⟨S_, .f32⟩
  | .hbm, ⟨7, _⟩ => ⟨S12288, .f32⟩
  | .hbm, ⟨8, _⟩ => ⟨S1x12288, .f32⟩
  | .hbm, ⟨9, _⟩ => ⟨S_, .f32⟩
  | .hbm, ⟨10, _⟩ => ⟨S1x12288, .f32⟩
  | .hbm, ⟨11, _⟩ => ⟨S1x12288, .f32⟩
  | .hbm, ⟨12, _⟩ => ⟨S_, .f32⟩
  | .hbm, ⟨13, _⟩ => ⟨S1x12288, .f32⟩
  | .hbm, ⟨14, _⟩ => ⟨S1x12288, .f32⟩
  | .hbm, ⟨15, _⟩ => ⟨S1x12288, .f32⟩
  | .hbm, ⟨16, _⟩ => ⟨S_, .f32⟩
  | .hbm, ⟨17, _⟩ => ⟨S1x12288, .f32⟩
  | .hbm, ⟨18, _⟩ => ⟨S1x12288, .f32⟩
  | .hbm, ⟨19, _⟩ => ⟨S1x12288, .f32⟩
  | .hbm, ⟨20, _⟩ => ⟨S_, .f32⟩
  | .hbm, ⟨21, _⟩ => ⟨S1x12288, .f32⟩
  | .hbm, ⟨22, _⟩ => ⟨S1x12288, .f32⟩
  | .hbm, ⟨23, _⟩ => ⟨S1x12288, .f32⟩
  | .hbm, ⟨24, _⟩ => ⟨S_, .f32⟩
  | .hbm, ⟨25, _⟩ => ⟨S1x12288, .f32⟩
  | .hbm, ⟨26, _⟩ => ⟨S1x12288, .f32⟩
  | .hbm, ⟨27, _⟩ => ⟨S_, .f32⟩
  | .hbm, ⟨28, _⟩ => ⟨S1x12288, .f32⟩
  | .hbm, ⟨29, _⟩ => ⟨S1x12288, .f32⟩
  | .hbm, ⟨30, _⟩ => ⟨S1x12288, .f32⟩
  | .hbm, ⟨31, _⟩ => ⟨S_, .f32⟩
  | .hbm, ⟨32, _⟩ => ⟨S1x12288, .f32⟩
  | .hbm, ⟨33, _⟩ => ⟨S1x12288, .f32⟩
  | .hbm, ⟨34, _⟩ => ⟨S1x12288, .f32⟩
  | .hbm, ⟨35, _⟩ => ⟨S_, .f32⟩
  | .hbm, ⟨36, _⟩ => ⟨S1x12288, .f32⟩
  | .hbm, ⟨37, _⟩ => ⟨S1x12288, .f32⟩
  | .hbm, ⟨38, _⟩ => ⟨S1x12288, .f32⟩
  | .hbm, ⟨39, _⟩ => ⟨S_, .f32⟩
  | .hbm, ⟨40, _⟩ => ⟨S1x12288, .f32⟩
  | .hbm, ⟨41, _⟩ => ⟨S1x12288, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel21.lean ====
abbrev S8x2048 : Shape := ⟨2, ![8, 2048]⟩
abbrev S2048 : Shape := ⟨1, ![2048]⟩
abbrev S1x2048x1536 : Shape := ⟨3, ![1, 2048, 1536]⟩
abbrev S16x1536 : Shape := ⟨2, ![16, 1536]⟩
abbrev S1x2048 : Shape := ⟨2, ![1, 2048]⟩
abbrev S16x2048 : Shape := ⟨2, ![16, 2048]⟩
abbrev S2048x1536 : Shape := ⟨2, ![2048, 1536]⟩
abbrev S16x512 : Shape := ⟨2, ![16, 512]⟩
abbrev S512x1536 : Shape := ⟨2, ![512, 1536]⟩
abbrev S8x512 : Shape := ⟨2, ![8, 512]⟩
abbrev S1x512 : Shape := ⟨2, ![1, 512]⟩
abbrev S512 : Shape := ⟨1, ![512]⟩

abbrev nBuf : Space → Nat
  | .hbm => 10
  | .vmem => 9
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S1x2048x1536, .f32⟩
  | .hbm, ⟨3, _⟩ => ⟨S16x1536, .f32⟩
  | .hbm, ⟨4, _⟩ => ⟨S1x2048, .f32⟩
  | .hbm, ⟨5, _⟩ => ⟨S8x2048, .f32⟩
  | .hbm, ⟨6, _⟩ => ⟨S16x2048, .f32⟩
  | .hbm, ⟨7, _⟩ => ⟨S2048x1536, .f32⟩
  | .hbm, ⟨8, _⟩ => ⟨S2048x1536, .f32⟩
  | .hbm, ⟨9, _⟩ => ⟨S8x2048, .f32⟩
  | .local _ .vmem, ⟨0, _⟩ => ⟨S16x512, .f32⟩
  | .local _ .vmem, ⟨1, _⟩ => ⟨S16x512, .f32⟩
  | .local _ .vmem, ⟨2, _⟩ => ⟨S16x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S8x512, .f32⟩
  | .local _ .vmem, ⟨8, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S8x2048 : Shape := ⟨2, ![8, 2048]⟩
abbrev S2048 : Shape := ⟨1, ![2048]⟩
abbrev S1x2048x1536 : Shape := ⟨3, ![1, 2048, 1536]⟩
abbrev S16x1536 : Shape := ⟨2, ![16, 1536]⟩
abbrev S_ : Shape := ⟨0, ![]⟩
abbrev S2048x1536 : Shape := ⟨2, ![2048, 1536]⟩
abbrev S8x1536 : Shape := ⟨2, ![8, 1536]⟩
abbrev S1x2048 : Shape := ⟨2, ![1, 2048]⟩
abbrev S1536x2048 : Shape := ⟨2, ![1536, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S1x2048x1536, .f32⟩
  | .hbm, ⟨3, _⟩ => ⟨S16x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S2048x1536, .f32⟩
  | .hbm, ⟨14, _⟩ => ⟨S8x1536, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S8x2048, .f32⟩
  | .hbm, ⟨30, _⟩ => ⟨S2048x1536, .f32⟩
  | .hbm, ⟨31, _⟩ => ⟨S8x1536, .f32⟩
  | .hbm, ⟨32, _⟩ => ⟨S8x1536, .f32⟩
  | .hbm, ⟨33, _⟩ => ⟨S8x1536, .f32⟩
  | .hbm, ⟨34, _⟩ => ⟨S1536x2048, .f32⟩
  | .hbm, ⟨35, _⟩ => ⟨S2048x1536, .f32⟩
  | .hbm, ⟨36, _⟩ => ⟨S8x2048, .f32⟩
  | .hbm, ⟨37, _⟩ => ⟨S1x2048x1536, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S1536x2048, .f32⟩
  | .hbm, ⟨48, _⟩ => ⟨S2048x1536, .f32⟩
  | .hbm, ⟨49, _⟩ => ⟨S1x2048x1536, .f32⟩
  | .hbm, ⟨50, _⟩ => ⟨S1x2048x1536, .f32⟩
  | .hbm, ⟨51, _⟩ => ⟨S2048x1536, .f32⟩
  | .hbm, ⟨52, _⟩ => ⟨S1x2048, .f32⟩
  | .hbm, ⟨53, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_v3_2 : Ref sig .tc := ⟨.hbm, 22, rfl⟩
abbrev main_call1_cst_1 : Ref sig .tc := ⟨.hbm, 23, rfl⟩
abbrev main_call1_v6 : Ref sig .tc := ⟨.hbm, 24, rfl⟩
abbrev main_call1_v7 : Ref sig .tc := ⟨.hbm, 25, rfl⟩
abbrev main_v3_1 : Ref sig .tc := ⟨.hbm, 26, rfl⟩
abbrev main_v3_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩

abbrev nD : Nat := 1
abbrev τ : Topo := Topo.v7x

variable {F : FTy → Type} [FloatOps F]
-- ==== Kernel22.lean ====
abbrev S1x2048x1536 : Shape := ⟨3, ![1, 2048, 1536]⟩
abbrev S2048x1536 : Shape := ⟨2, ![2048, 1536]⟩
abbrev S256x1536 : Shape := ⟨2, ![256, 1536]⟩

abbrev nBuf : Space → Nat
  | .hbm => 11
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1x2048x1536 : Shape := ⟨3, ![1, 2048, 1536]⟩
abbrev S2048x1536 : Shape := ⟨2, ![2048, 1536]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S2048x1536, .f32⟩
  | .hbm, ⟨4, _⟩ => ⟨S1x2048x1536, .f32⟩
  | .hbm, ⟨5, _⟩ => ⟨S1x2048x1536, .f32⟩
  | .hbm, ⟨6, _⟩ => ⟨S_, .f32⟩
  | .hbm, ⟨7, _⟩ => ⟨S1x2048x1536, .f32⟩
  | .hbm, ⟨8, _⟩ => ⟨S1x2048x1536, .f32⟩
  | .hbm, ⟨9, _⟩ => ⟨S_, .f32⟩
  | .hbm, ⟨10, _⟩ => ⟨S1x2048x1536, .f32⟩
  | .hbm, ⟨11, _⟩ => ⟨S1x2048x1536, .f32⟩
  | .hbm, ⟨12, _⟩ => ⟨S1x2048x1536, .f32⟩
  | .hbm, ⟨13, _⟩ => ⟨S_, .f32⟩
  | .hbm, ⟨14, _⟩ => ⟨S1x2048x1536, .f32⟩
  | .hbm, ⟨15, _⟩ => ⟨S1x2048x1536, .f32⟩
  | .hbm, ⟨16, _⟩ => ⟨S1x2048x1536, .f32⟩
  | .hbm, ⟨17, _⟩ => ⟨S_, .f32⟩
  | .hbm, ⟨18, _⟩ => ⟨S1x2048x1536, .f32⟩
  | .hbm, ⟨19, _⟩ => ⟨S1x2048x1536, .f32⟩
  | .hbm, ⟨20, _⟩ => ⟨S1x2048x1536, .f32⟩
  | .hbm, ⟨21, _⟩ => ⟨S_, .f32⟩
  | .hbm, ⟨22, _⟩ => ⟨S1x2048x1536, .f32⟩
  | .hbm, ⟨23, _⟩ => ⟨S1x2048x1536, .f32⟩
  | .hbm, ⟨24, _⟩ => ⟨S_, .f32⟩
  | .hbm, ⟨25, _⟩ => ⟨S1x2048x1536, .f32⟩
  | .hbm, ⟨26, _⟩ => ⟨S1x2048x1536, .f32⟩
  | .hbm, ⟨27, _⟩ => ⟨S1x2048x1536, .f32⟩
  | .hbm, ⟨28, _⟩ => ⟨S_, .f32⟩
  | .hbm, ⟨29, _⟩ => ⟨S1x2048x1536, .f32⟩
  | .hbm, ⟨30, _⟩ => ⟨S1x2048x1536, .f32⟩
  | .hbm, ⟨31, _⟩ => ⟨S1x2048x1536, .f32⟩
  | .hbm, ⟨32, _⟩ => ⟨S_, .f32⟩
  | .hbm, ⟨33, _⟩ => ⟨S1x2048x1536, .f32⟩
  | .hbm, ⟨34, _⟩ => ⟨S1x2048x1536, .f32⟩
  | .hbm, ⟨35, _⟩ => ⟨S1x2048x1536, .f32⟩
  | .hbm, ⟨36, _⟩ => ⟨S_, .f32⟩
  | .hbm, ⟨37, _⟩ => ⟨S1x2048x1536, .f32⟩
  | .hbm, ⟨38, _⟩ => ⟨S1x2048x1536, .f32⟩
  | .hbm, ⟨39, _⟩ => ⟨S2048x1536, .f32⟩
  | .hbm, ⟨40, _⟩ => ⟨S2048x1536, .f32⟩
  | .hbm, ⟨41, _⟩ => ⟨S2048x1536, .f32⟩
  | .hbm, ⟨42, _⟩ => ⟨S2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel23.lean ====
abbrev S2048 : Shape := ⟨1, ![2048]⟩
abbrev S1x2048 : Shape := ⟨2, ![1, 2048]⟩
abbrev S1x2x8 : Shape := ⟨3, ![1, 2, 8]⟩
abbrev S1x16 : Shape := ⟨2, ![1, 16]⟩
abbrev S8x2048 : Shape := ⟨2, ![8, 2048]⟩
abbrev S8x16 : Shape := ⟨2, ![8, 16]⟩
abbrev S8x128 : Shape := ⟨2, ![8, 128]⟩
abbrev S_ : Shape := ⟨0, ![]⟩
abbrev S1x128 : Shape := ⟨2, ![1, 128]⟩
abbrev S8x112 : Shape := ⟨2, ![8, 112]⟩
abbrev S8x8576 : Shape := ⟨2, ![8, 8576]⟩
abbrev S8x1x8576 : Shape := ⟨3, ![8, 1, 8576]⟩
abbrev S16 : Shape := ⟨1, ![16]⟩
abbrev S16x1 : Shape := ⟨2, ![16, 1]⟩
abbrev S112x1 : Shape := ⟨2, ![112, 1]⟩
abbrev S128x1 : Shape := ⟨2, ![128, 1]⟩
abbrev S1x8576 : Shape := ⟨2, ![1, 8576]⟩
abbrev S1x1x8576 : Shape := ⟨3, ![1, 1, 8576]⟩

abbrev nBuf : Space → Nat
  | .hbm => 84
  | .vmem => 8
  | .smem => 0
  | _ => 0

abbrev bufTy : (tb : Table) → Fin (tcTables nBuf tb) → BufTy
  | .hbm, ⟨0, _⟩ => ⟨S2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S1x2x8, .f32⟩
  | .hbm, ⟨5, _⟩ => ⟨S1x16, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2048, .f32⟩
  | .hbm, ⟨10, _⟩ => ⟨S1x2x8, .f32⟩
  | .hbm, ⟨11, _⟩ => ⟨S1x16, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S2048, .f32⟩
  | .hbm, ⟨16, _⟩ => ⟨S1x2x8, .f32⟩
  | .hbm, ⟨17, _⟩ => ⟨S1x16, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S8x2048, .f32⟩
  | .hbm, ⟨22, _⟩ => ⟨S8x16, .f32⟩
  | .hbm, ⟨23, _⟩ => ⟨S8x16, .f32⟩
  | .hbm, ⟨24, _⟩ => ⟨S8x128, .f32⟩
  | .hbm, ⟨25, _⟩ => ⟨S_, .f32⟩
  | .hbm, ⟨26, _⟩ => ⟨S1x128, .f32⟩
  | .hbm, ⟨27, _⟩ => ⟨S_, .f32⟩
  | .hbm, ⟨28, _⟩ => ⟨S8x112, .f32⟩
  | .hbm, ⟨29, _⟩ => ⟨S8x128, .f32⟩
  | .hbm, ⟨30, _⟩ => ⟨S_, .f32⟩
  | .hbm, ⟨31, _⟩ => ⟨S8x112, .f32⟩
  | .hbm, ⟨32, _⟩ => ⟨S8x128, .f32⟩
  | .hbm, ⟨33, _⟩ => ⟨S8x8576, .f32⟩
  | .hbm, ⟨34, _⟩ => ⟨S8x1x8576, .f32⟩
  | .hbm, ⟨35, _⟩ => ⟨S1x2048, .f32⟩
  | .hbm, ⟨36, _⟩ => ⟨S1x2048, .f32⟩
  | .hbm, ⟨37, _⟩ => ⟨S16, .f32⟩
  | .hbm, ⟨38, _⟩ => ⟨S16x1, .f32⟩
  | .hbm, ⟨39, _⟩ => ⟨S_, .f32⟩
  | .hbm, ⟨40, _⟩ => ⟨S112x1, .f32⟩
  | .hbm, ⟨41, _⟩ => ⟨S128x1, .f32⟩
  | .hbm, ⟨42, _⟩ => ⟨S1x128, .f32⟩
  | .hbm, ⟨43, _⟩ => ⟨S16, .f32⟩
  | .hbm, ⟨44, _⟩ => ⟨S16x1, .f32⟩
  | .hbm, ⟨45, _⟩ => ⟨S_, .f32⟩
  | .hbm, ⟨46, _⟩ => ⟨S112x1, .f32⟩
  | .hbm, ⟨47, _⟩ => ⟨S128x1, .f32⟩
  | .hbm, ⟨48, _⟩ => ⟨S1x128, .f32⟩
  | .hbm, ⟨49, _⟩ => ⟨S1x8576, .f32⟩
  | .hbm, ⟨50, _⟩ => ⟨S1x2048, .f32⟩
  | .hbm, ⟨51, _⟩ => ⟨S1x2048, .f32⟩
  | .hbm, ⟨52, _⟩ => ⟨S16, .f32⟩
  | .hbm, ⟨53, _⟩ => ⟨S16x1, .f32⟩
  | .hbm, ⟨54, _⟩ => ⟨S_, .f32⟩
  | .hbm, ⟨55, _⟩ => ⟨S112x1, .f32⟩
  | .hbm, ⟨56, _⟩ => ⟨S128x1, .f32⟩
  | .hbm, ⟨57, _⟩ => ⟨S1x128, .f32⟩
  | .hbm, ⟨58, _⟩ => ⟨S16, .f32⟩
  | .hbm, ⟨59, _⟩ => ⟨S16x1, .f32⟩
  | .hbm, ⟨60, _⟩ => ⟨S_, .f32⟩
  | .hbm, ⟨61, _⟩ => ⟨S112x1, .f32⟩
  | .hbm, ⟨62, _⟩ => ⟨S128x1, .f32⟩
  | .hbm, ⟨63, _⟩ => ⟨S1x128, .f32⟩
  | .hbm, ⟨64, _⟩ => ⟨S1x8576, .f32⟩
  | .hbm, ⟨65, _⟩ => ⟨S1x2048, .f32⟩
  | .hbm, ⟨66, _⟩ => ⟨S1x2048, .f32⟩
  | .hbm, ⟨67, _⟩ => ⟨S16, .f32⟩
  | .hbm, ⟨68, _⟩ => ⟨S16x1, .f32⟩
  | .hbm, ⟨69, _⟩ => ⟨S_, .f32⟩
  | .hbm, ⟨70, _⟩ => ⟨S112x1, .f32⟩
  | .hbm, ⟨71, _⟩ => ⟨S128x1, .f32⟩
  | .hbm, ⟨72, _⟩ => ⟨S1x128, .f32⟩
  | .hbm, ⟨73, _⟩ => ⟨S16, .f32⟩
  | .hbm, ⟨74, _⟩ => ⟨S16x1, .f32⟩
  | .hbm, ⟨75, _⟩ => ⟨S_, .f32⟩
  | .hbm, ⟨76, _⟩ => ⟨S112x1, .f32⟩
  | .hbm, ⟨77, _⟩ => ⟨S128x1, .f32⟩
  | .hbm, ⟨78, _⟩ => ⟨S1x128, .f32⟩
  | .hbm, ⟨79, _⟩ => ⟨S1x8576, .f32⟩
  | .hbm, ⟨80, _⟩ => ⟨S1x8576, .f32⟩
  | .hbm, ⟨81, _⟩ => ⟨S1x8576, .f32⟩
  | .hbm, ⟨82, _⟩ => ⟨S1x8576, .f32⟩
  | .hbm, ⟨83, _⟩ => ⟨S1x8576, .f32⟩
  | .local _ .vmem, ⟨0, _⟩ => ⟨S1x8576, .f32⟩
  | .local _ .vmem, ⟨1, _⟩ => ⟨S1x8576, .f32⟩
  | .local _ .vmem, ⟨2, _⟩ => ⟨S1x8576, .f32⟩
  | .local _ .vmem, ⟨3, _⟩ => ⟨S8x1x8576, .f32⟩
  | .local _ .vmem, ⟨4, _⟩ => ⟨S1x8576, .f32⟩
  | .local _ .vmem, ⟨5, _⟩ => ⟨S1x8576, .f32⟩
  | .local _ .vmem, ⟨6, _⟩ => ⟨S1x8576, .f32⟩
  | .local _ .vmem, ⟨7, _⟩ => ⟨S1x8576, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_cst_1 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46_0 : Ref sig .tc := ⟨.hbm, 80, rfl⟩
abbrev main_v46_1 : Ref sig .tc := ⟨.hbm, 81, rfl⟩
abbrev main_v46_2 : Ref sig .tc := ⟨.hbm, 82, rfl⟩
abbrev main_v46_3 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x8576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S2048 : Shape := ⟨1, ![2048]⟩
abbrev S1x2048 : Shape := ⟨2, ![1, 2048]⟩
abbrev S1x2x8 : Shape := ⟨3, ![1, 2, 8]⟩
abbrev S1x16 : Shape := ⟨2, ![1, 16]⟩
abbrev S8x2048 : Shape := ⟨2, ![8, 2048]⟩
abbrev S8x16 : Shape := ⟨2, ![8, 16]⟩
abbrev S8x128 : Shape := ⟨2, ![8, 128]⟩
abbrev S_ : Shape := ⟨0, ![]⟩
abbrev S128 : Shape := ⟨1, ![128]⟩
abbrev S16 : Shape := ⟨1, ![16]⟩
abbrev S1x112 : Shape := ⟨2, ![1, 112]⟩
abbrev S1x128 : Shape := ⟨2, ![1, 128]⟩
abbrev S1x8576 : Shape := ⟨2, ![1, 8576]⟩

abbrev nBuf : Space → Nat
  | .hbm => 320
  | .vmem => 0
  | .smem => 0
  | _ => 0

abbrev hbmTy0_0 (i : Nat) : BufTy := match i % 128 with
  | 0 => ⟨S2048, .f32⟩
  | 1 => ⟨S1x2048, .f32⟩
  | 2 => ⟨S1x2048, .f32⟩
  | 3 => ⟨S2048, .f32⟩
  | 4 => ⟨S1x2x8, .f32⟩
  | 5 => ⟨S1x16, .f32⟩
  | 6 => ⟨S2048, .f32⟩
  | 7 => ⟨S1x2048, .f32⟩
  | 8 => ⟨S1x2048, .f32⟩
  | 9 => ⟨S2048, .f32⟩
  | 10 => ⟨S1x2x8, .f32⟩
  | 11 => ⟨S1x16, .f32⟩
  | 12 => ⟨S2048, .f32⟩
  | 13 => ⟨S1x2048, .f32⟩
  | 14 => ⟨S1x2048, .f32⟩
  | 15 => ⟨S2048, .f32⟩
  | 16 => ⟨S1x2x8, .f32⟩
  | 17 => ⟨S1x16, .f32⟩
  | 18 => ⟨S8x2048, .f32⟩
  | 19 => ⟨S8x2048, .f32⟩
  | 20 => ⟨S8x2048, .f32⟩
  | 21 => ⟨S8x2048, .f32⟩
  | 22 => ⟨S8x16, .f32⟩
  | 23 => ⟨S8x16, .f32⟩
  | 24 => ⟨S8x128, .f32⟩
  | 25 => ⟨S_, .f32⟩
  | 26 => ⟨S128, .f32⟩
  | 27 => ⟨S_, .f32⟩
  | 28 => ⟨S2048, .f32⟩
  | 29 => ⟨S_, .f32⟩
  | 30 => ⟨S2048, .f32⟩
  | 31 => ⟨S2048, .f32⟩
  | 32 => ⟨S_, .f32⟩
  | 33 => ⟨S2048, .f32⟩
  | 34 => ⟨S2048, .f32⟩
  | 35 => ⟨S2048, .f32⟩
  | 36 => ⟨S_, .f32⟩
  | 37 => ⟨S2048, .f32⟩
  | 38 => ⟨S2048, .f32⟩
  | 39 => ⟨S2048, .f32⟩
  | 40 => ⟨S_, .f32⟩
  | 41 => ⟨S2048, .f32⟩
  | 42 => ⟨S2048, .f32⟩
  | 43 => ⟨S2048, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S1x2048, .f32⟩
  | 65 => ⟨S_, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S_, .f32⟩
  | 99 => ⟨S2048, .f32⟩
  | 100 => ⟨S1x2048, .f32⟩
  | 101 => ⟨S_, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S_, .f32⟩
  | 120 => ⟨S1x2048, .f32⟩
  | 121 => ⟨S1x2048, .f32⟩
  | 122 => ⟨S1x2048, .f32⟩
  | 123 => ⟨S_, .f32⟩
  | 124 => ⟨S1x2048, .f32⟩
  | 125 => ⟨S1x2048, .f32⟩
  | 126 => ⟨S1x2048, .f32⟩
  | 127 => ⟨S_, .f32⟩
  | _ => ⟨S2048, .f32⟩

abbrev hbmTy0_1 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S_, .f32⟩
  | 7 => ⟨S2048, .f32⟩
  | 8 => ⟨S_, .f32⟩
  | 9 => ⟨S2048, .f32⟩
  | 10 => ⟨S2048, .f32⟩
  | 11 => ⟨S_, .f32⟩
  | 12 => ⟨S2048, .f32⟩
  | 13 => ⟨S2048, .f32⟩
  | 14 => ⟨S2048, .f32⟩
  | 15 => ⟨S_, .f32⟩
  | 16 => ⟨S2048, .f32⟩
  | 17 => ⟨S2048, .f32⟩
  | 18 => ⟨S2048, .f32⟩
  | 19 => ⟨S_, .f32⟩
  | 20 => ⟨S2048, .f32⟩
  | 21 => ⟨S2048, .f32⟩
  | 22 => ⟨S2048, .f32⟩
  | 23 => ⟨S_, .f32⟩
  | 24 => ⟨S2048, .f32⟩
  | 25 => ⟨S2048, .f32⟩
  | 26 => ⟨S_, .f32⟩
  | 27 => ⟨S2048, .f32⟩
  | 28 => ⟨S2048, .f32⟩
  | 29 => ⟨S2048, .f32⟩
  | 30 => ⟨S_, .f32⟩
  | 31 => ⟨S2048, .f32⟩
  | 32 => ⟨S2048, .f32⟩
  | 33 => ⟨S2048, .f32⟩
  | 34 => ⟨S_, .f32⟩
  | 35 => ⟨S2048, .f32⟩
  | 36 => ⟨S2048, .f32⟩
  | 37 => ⟨S2048, .f32⟩
  | 38 => ⟨S_, .f32⟩
  | 39 => ⟨S2048, .f32⟩
  | 40 => ⟨S2048, .f32⟩
  | 41 => ⟨S_, .f32⟩
  | 42 => ⟨S16, .f32⟩
  | 43 => ⟨S1x2x8, .f32⟩
  | 44 => ⟨S_, .f32⟩
  | 45 => ⟨S1x2x8, .f32⟩
  | 46 => ⟨S1x2x8, .f32⟩
  | 47 => ⟨S_, .f32⟩
  | 48 => ⟨S1x2x8, .f32⟩
  | 49 => ⟨S1x2x8, .f32⟩
  | 50 => ⟨S1x2x8, .f32⟩
  | 51 => ⟨S_, .f32⟩
  | 52 => ⟨S1x2x8, .f32⟩
  | 53 => ⟨S1x2x8, .f32⟩
  | 54 => ⟨S1x2x8, .f32⟩
  | 55 => ⟨S_, .f32⟩
  | 56 => ⟨S1x2x8, .f32⟩
  | 57 => ⟨S1x2x8, .f32⟩
  | 58 => ⟨S1x2x8, .f32⟩
  | 59 => ⟨S_, .f32⟩
  | 60 => ⟨S1x2x8, .f32⟩
  | 61 => ⟨S1x2x8, .f32⟩
  | 62 => ⟨S_, .f32⟩
  | 63 => ⟨S1x2x8, .f32⟩
  | 64 => ⟨S1x2x8, .f32⟩
  | 65 => ⟨S1x2x8, .f32⟩
  | 66 => ⟨S_, .f32⟩
  | 67 => ⟨S1x2x8, .f32⟩
  | 68 => ⟨S1x2x8, .f32⟩
  | 69 => ⟨S1x2x8, .f32⟩
  | 70 => ⟨S_, .f32⟩
  | 71 => ⟨S1x2x8, .f32⟩
  | 72 => ⟨S1x2x8, .f32⟩
  | 73 => ⟨S1x2x8, .f32⟩
  | 74 => ⟨S_, .f32⟩
  | 75 => ⟨S1x2x8, .f32⟩
  | 76 => ⟨S1x2x8, .f32⟩
  | 77 => ⟨S_, .f32⟩
  | 78 => ⟨S16, .f32⟩
  | 79 => ⟨S1x16, .f32⟩
  | 80 => ⟨S_, .f32⟩
  | 81 => ⟨S1x16, .f32⟩
  | 82 => ⟨S1x16, .f32⟩
  | 83 => ⟨S_, .f32⟩
  | 84 => ⟨S1x16, .f32⟩
  | 85 => ⟨S1x16, .f32⟩
  | 86 => ⟨S1x16, .f32⟩
  | 87 => ⟨S_, .f32⟩
  | 88 => ⟨S1x16, .f32⟩
  | 89 => ⟨S1x16, .f32⟩
  | 90 => ⟨S1x16, .f32⟩
  | 91 => ⟨S_, .f32⟩
  | 92 => ⟨S1x16, .f32⟩
  | 93 => ⟨S1x16, .f32⟩
  | 94 => ⟨S1x16, .f32⟩
  | 95 => ⟨S_, .f32⟩
  | 96 => ⟨S1x16, .f32⟩
  | 97 => ⟨S1x16, .f32⟩
  | 98 => ⟨S_, .f32⟩
  | 99 => ⟨S1x16, .f32⟩
  | 100 => ⟨S1x16, .f32⟩
  | 101 => ⟨S1x16, .f32⟩
  | 102 => ⟨S_, .f32⟩
  | 103 => ⟨S1x16, .f32⟩
  | 104 => ⟨S1x16, .f32⟩
  | 105 => ⟨S1x16, .f32⟩
  | 106 => ⟨S_, .f32⟩
  | 107 => ⟨S1x16, .f32⟩
  | 108 => ⟨S1x16, .f32⟩
  | 109 => ⟨S1x16, .f32⟩
  | 110 => ⟨S_, .f32⟩
  | 111 => ⟨S1x16, .f32⟩
  | 112 => ⟨S1x16, .f32⟩
  | 113 => ⟨S_, .f32⟩
  | 114 => ⟨S128, .f32⟩
  | 115 => ⟨S_, .f32⟩
  | 116 => ⟨S128, .f32⟩
  | 117 => ⟨S128, .f32⟩
  | 118 => ⟨S_, .f32⟩
  | 119 => ⟨S128, .f32⟩
  | 120 => ⟨S128, .f32⟩
  | 121 => ⟨S128, .f32⟩
  | 122 => ⟨S_, .f32⟩
  | 123 => ⟨S128, .f32⟩
  | 124 => ⟨S128, .f32⟩
  | 125 => ⟨S128, .f32⟩
  | 126 => ⟨S_, .f32⟩
  | 127 => ⟨S128, .f32⟩
  | _ => ⟨S2048, .f32⟩

abbrev hbmTy0_2 (i : Nat) : BufTy := match i % 128 with
  | 0 => ⟨S128, .f32⟩
  | 1 => ⟨S128, .f32⟩
  | 2 => ⟨S_, .f32⟩
  | 3 => ⟨S128, .f32⟩
  | 4 => ⟨S128, .f32⟩
  | 5 => ⟨S_, .f32⟩
  | 6 => ⟨S128, .f32⟩
  | 7 => ⟨S128, .f32⟩
  | 8 => ⟨S128, .f32⟩
  | 9 => ⟨S_, .f32⟩
  | 10 => ⟨S128, .f32⟩
  | 11 => ⟨S128, .f32⟩
  | 12 => ⟨S128, .f32⟩
  | 13 => ⟨S_, .f32⟩
  | 14 => ⟨S128, .f32⟩
  | 15 => ⟨S128, .f32⟩
  | 16 => ⟨S128, .f32⟩
  | 17 => ⟨S_, .f32⟩
  | 18 => ⟨S128, .f32⟩
  | 19 => ⟨S128, .f32⟩
  | 20 => ⟨S1x2048, .f32⟩
  | 21 => ⟨S1x2048, .f32⟩
  | 22 => ⟨S1x16, .f32⟩
  | 23 => ⟨S_, .f32⟩
  | 24 => ⟨S1x112, .f32⟩
  | 25 => ⟨S1x128, .f32⟩
  | 26 => ⟨S_, .f32⟩
  | 27 => ⟨S1x112, .f32⟩
  | 28 => ⟨S1x128, .f32⟩
  | 29 => ⟨S1x128, .f32⟩
  | 30 => ⟨S1x8576, .f32⟩
  | 31 => ⟨S1x2048, .f32⟩
  | 32 => ⟨S1x2048, .f32⟩
  | 33 => ⟨S1x16, .f32⟩
  | 34 => ⟨S_, .f32⟩
  | 35 => ⟨S1x112, .f32⟩
  | 36 => ⟨S1x128, .f32⟩
  | 37 => ⟨S_, .f32⟩
  | 38 => ⟨S1x112, .f32⟩
  | 39 => ⟨S1x128, .f32⟩
  | 40 => ⟨S1x128, .f32⟩
  | 41 => ⟨S1x8576, .f32⟩
  | 42 => ⟨S1x2048, .f32⟩
  | 43 => ⟨S1x2048, .f32⟩
  | 44 => ⟨S1x16, .f32⟩
  | 45 => ⟨S_, .f32⟩
  | 46 => ⟨S1x112, .f32⟩
  | 47 => ⟨S1x128, .f32⟩
  | 48 => ⟨S_, .f32⟩
  | 49 => ⟨S1x112, .f32⟩
  | 50 => ⟨S1x128, .f32⟩
  | 51 => ⟨S1x128, .f32⟩
  | 52 => ⟨S1x8576, .f32⟩
  | 53 => ⟨S1x2048, .f32⟩
  | 54 => ⟨S1x2048, .f32⟩
  | 55 => ⟨S1x16, .f32⟩
  | 56 => ⟨S_, .f32⟩
  | 57 => ⟨S1x112, .f32⟩
  | 58 => ⟨S1x128, .f32⟩
  | 59 => ⟨S_, .f32⟩
  | 60 => ⟨S1x112, .f32⟩
  | 61 => ⟨S1x128, .f32⟩
  | 62 => ⟨S1x128, .f32⟩
  | 63 => ⟨S1x8576, .f32⟩
  | _ => ⟨S2048, .f32⟩

abbrev hbmTy (i : Nat) : BufTy := match i / 128 with
  | 0 => hbmTy0_0 i
  | 1 => hbmTy0_1 i
  | 2 => hbmTy0_2 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_cst_1 : Ref sig .tc := ⟨.hbm, 29, rfl⟩
abbrev main_v2 : Ref sig .tc := ⟨.hbm, 30, rfl⟩
abbrev main_v3 : Ref sig .tc := ⟨.hbm, 31, rfl⟩
abbrev main_cst_2 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_3 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_4 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_5 : Ref sig .tc := ⟨.hbm, 44, rfl⟩
abbrev main_v13 : Ref sig .tc := ⟨.hbm, 45, rfl⟩
abbrev main_v14 : Ref sig .tc := ⟨.hbm, 46, rfl⟩
abbrev main_cst_6 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_7 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_8 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_9 : Ref sig .tc := ⟨.hbm, 59, rfl⟩
abbrev main_v24 : Ref sig .tc := ⟨.hbm, 60, rfl⟩
abbrev main_v25 : Ref sig .tc := ⟨.hbm, 61, rfl⟩
abbrev main_cst_10 : Ref sig .tc := ⟨.hbm, 62, rfl⟩
abbrev main_v26 : Ref sig .tc := ⟨.hbm, 63, rfl⟩
abbrev main_v27 : Ref sig .tc := ⟨.hbm, 64, rfl⟩
abbrev main_cst_11 : Ref sig .tc := ⟨.hbm, 65, rfl⟩
abbrev main_v28 : Ref sig .tc := ⟨.hbm, 66, rfl⟩
abbrev main_v29 : Ref sig .tc := ⟨.hbm, 67, rfl⟩
abbrev main_cst_12 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_13 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_14 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_15 : Ref sig .tc := ⟨.hbm, 80, rfl⟩
abbrev main_v39 : Ref sig .tc := ⟨.hbm, 81, rfl⟩
abbrev main_v40 : Ref sig .tc := ⟨.hbm, 82, rfl⟩
abbrev main_cst_16 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_17 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_18 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_19 : Ref sig .tc := ⟨.hbm, 95, rfl⟩
abbrev main_v50 : Ref sig .tc := ⟨.hbm, 96, rfl⟩
abbrev main_v51 : Ref sig .tc := ⟨.hbm, 97, rfl⟩
abbrev main_cst_20 : Ref sig .tc := ⟨.hbm, 98, rfl⟩
abbrev main_v52 : Ref sig .tc := ⟨.hbm, 99, rfl⟩
abbrev main_v53 : Ref sig .tc := ⟨.hbm, 100, rfl⟩
abbrev main_cst_21 : Ref sig .tc := ⟨.hbm, 101, rfl⟩
abbrev main_v54 : Ref sig .tc := ⟨.hbm, 102, rfl⟩
abbrev main_v55 : Ref sig .tc := ⟨.hbm, 103, rfl⟩
abbrev main_cst_22 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_23 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_24 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_25 : Ref sig .tc := ⟨.hbm, 116, rfl⟩
abbrev main_v65 : Ref sig .tc := ⟨.hbm, 117, rfl⟩
abbrev main_v66 : Ref sig .tc := ⟨.hbm, 118, rfl⟩
abbrev main_cst_26 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_27 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_28 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_29 : Ref sig .tc := ⟨.hbm, 131, rfl⟩
abbrev main_v76 : Ref sig .tc := ⟨.hbm, 132, rfl⟩
abbrev main_v77 : Ref sig .tc := ⟨.hbm, 133, rfl⟩
abbrev main_cst_30 : Ref sig .tc := ⟨.hbm, 134, rfl⟩
abbrev main_v78 : Ref sig .tc := ⟨.hbm, 135, rfl⟩
abbrev main_cst_31 : Ref sig .tc := ⟨.hbm, 136, rfl⟩
abbrev main_v79 : Ref sig .tc := ⟨.hbm, 137, rfl⟩
abbrev main_v80 : Ref sig .tc := ⟨.hbm, 138, rfl⟩
abbrev main_cst_32 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_33 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_34 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_35 : Ref sig .tc := ⟨.hbm, 151, rfl⟩
abbrev main_v90 : Ref sig .tc := ⟨.hbm, 152, rfl⟩
abbrev main_v91 : Ref sig .tc := ⟨.hbm, 153, rfl⟩
abbrev main_cst_36 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_37 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_38 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_39 : Ref sig .tc := ⟨.hbm, 166, rfl⟩
abbrev main_v101 : Ref sig .tc := ⟨.hbm, 167, rfl⟩
abbrev main_v102 : Ref sig .tc := ⟨.hbm, 168, rfl⟩
abbrev main_cst_40 : Ref sig .tc := ⟨.hbm, 169, rfl⟩
abbrev main_v103 : Ref sig .tc := ⟨.hbm, 170, rfl⟩
abbrev main_v104 : Ref sig .tc := ⟨.hbm, 171, rfl⟩
abbrev main_cst_41 : Ref sig .tc := ⟨.hbm, 172, rfl⟩
abbrev main_v105 : Ref sig .tc := ⟨.hbm, 173, rfl⟩
abbrev main_v106 : Ref sig .tc := ⟨.hbm, 174, rfl⟩
abbrev main_cst_42 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_43 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_44 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_45 : Ref sig .tc := ⟨.hbm, 187, rfl⟩
abbrev main_v116 : Ref sig .tc := ⟨.hbm, 188, rfl⟩
abbrev main_v117 : Ref sig .tc := ⟨.hbm, 189, rfl⟩
abbrev main_cst_46 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_47 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_cst_48 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_cst_49 : Ref sig .tc := ⟨.hbm, 202, rfl⟩
abbrev main_v127 : Ref sig .tc := ⟨.hbm, 203, rfl⟩
abbrev main_v128 : Ref sig .tc := ⟨.hbm, 204, rfl⟩
abbrev main_cst_50 : Ref sig .tc := ⟨.hbm, 205, rfl⟩
abbrev main_v129 : Ref sig .tc := ⟨.hbm, 206, rfl⟩
abbrev main_v130 : Ref sig .tc := ⟨.hbm, 207, rfl⟩
abbrev main_cst_51 : Ref sig .tc := ⟨.hbm, 208, rfl⟩
abbrev main_v131 : Ref sig .tc := ⟨.hbm, 209, rfl⟩
abbrev main_v132 : Ref sig .tc := ⟨.hbm, 210, rfl⟩
abbrev main_cst_52 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_53 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_54 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_55 : Ref sig .tc := ⟨.hbm, 223, rfl⟩
abbrev main_v142 : Ref sig .tc := ⟨.hbm, 224, rfl⟩
abbrev main_v143 : Ref sig .tc := ⟨.hbm, 225, rfl⟩
abbrev main_cst_56 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_cst_57 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_cst_58 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_59 : Ref sig .tc := ⟨.hbm, 238, rfl⟩
abbrev main_v153 : Ref sig .tc := ⟨.hbm, 239, rfl⟩
abbrev main_v154 : Ref sig .tc := ⟨.hbm, 240, rfl⟩
abbrev main_cst_60 : Ref sig .tc := ⟨.hbm, 241, rfl⟩
abbrev main_v155 : Ref sig .tc := ⟨.hbm, 242, rfl⟩
abbrev main_cst_61 : Ref sig .tc := ⟨.hbm, 243, rfl⟩
abbrev main_v156 : Ref sig .tc := ⟨.hbm, 244, rfl⟩
abbrev main_v157 : Ref sig .tc := ⟨.hbm, 245, rfl⟩
abbrev main_cst_62 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_cst_63 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_cst_64 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_cst_65 : Ref sig .tc := ⟨.hbm, 258, rfl⟩
abbrev main_v167 : Ref sig .tc := ⟨.hbm, 259, rfl⟩
abbrev main_v168 : Ref sig .tc := ⟨.hbm, 260, rfl⟩
abbrev main_cst_66 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_cst_67 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_cst_68 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_cst_69 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_cst_70 : Ref sig .tc := ⟨.hbm, 279, rfl⟩
abbrev main_v183 : Ref sig .tc := ⟨.hbm, 280, rfl⟩
abbrev main_v184 : Ref sig .tc := ⟨.hbm, 281, rfl⟩
abbrev main_cst_71 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_cst_72 : Ref sig .tc := ⟨.hbm, 290, rfl⟩
abbrev main_v192 : Ref sig .tc := ⟨.hbm, 291, rfl⟩
abbrev main_v193 : Ref sig .tc := ⟨.hbm, 292, rfl⟩
abbrev main_cst_73 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_cst_74 : Ref sig .tc := ⟨.hbm, 301, rfl⟩
abbrev main_v201 : Ref sig .tc := ⟨.hbm, 302, rfl⟩
abbrev main_v202 : Ref sig .tc := ⟨.hbm, 303, rfl⟩
abbrev main_cst_75 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_cst_76 : Ref sig .tc := ⟨.hbm, 312, rfl⟩
abbrev main_v210 : Ref sig .tc := ⟨.hbm, 313, rfl⟩
abbrev main_v211 : Ref sig .tc := ⟨.hbm, 314, rfl⟩
abbrev main_cst_77 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S8x2048 : Shape := ⟨2, ![8, 2048]⟩
abbrev S16x2048 : Shape := ⟨2, ![16, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8x2048, .f32⟩
  | .hbm, ⟨4, _⟩ => ⟨S8192x2048, .f32⟩
  | .hbm, ⟨5, _⟩ => ⟨S8192x2048, .f32⟩
  | .hbm, ⟨6, _⟩ => ⟨S16x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S8x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S16x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S8192x2048 : Shape := ⟨2, ![8192, 2048]⟩
abbrev S1x2048 : Shape := ⟨2, ![1, 2048]⟩
abbrev S8x2048 : Shape := ⟨2, ![8, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S13x2048 : Shape := ⟨2, ![13, 2048]⟩
abbrev S16x2048 : Shape := ⟨2, ![16, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8x2048, .f32⟩
  | .hbm, ⟨4, _⟩ => ⟨S8192x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S13x2048, .f32⟩
  | .hbm, ⟨69, _⟩ => ⟨S16x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S8x2048 : Shape := ⟨2, ![8, 2048]⟩
abbrev S16x2048 : Shape := ⟨2, ![16, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S16x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S8x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S16x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference25Ideal.lean ====
abbrev S8192x2048 : Shape := ⟨2, ![8192, 2048]⟩
abbrev S1x2048 : Shape := ⟨2, ![1, 2048]⟩
abbrev S8x2048 : Shape := ⟨2, ![8, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S3x2048 : Shape := ⟨2, ![3, 2048]⟩
abbrev S9x2048 : Shape := ⟨2, ![9, 2048]⟩
abbrev S16x2048 : Shape := ⟨2, ![16, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S3x2048, .f32⟩
  | .hbm, ⟨80, _⟩ => ⟨S8192x2048, .bf16⟩
  | .hbm, ⟨81, _⟩ => ⟨S_, .f32⟩
  | .hbm, ⟨82, _⟩ => ⟨S9x2048, .f32⟩
  | .hbm, ⟨83, _⟩ => ⟨S16x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S8x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference26Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S4x2048 : Shape := ⟨2, ![4, 2048]⟩
abbrev S8x2048 : Shape := ⟨2, ![8, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S8192x1, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S_, .f32⟩
  | .hbm, ⟨101, _⟩ => ⟨S8192x2048, .f32⟩
  | .hbm, ⟨102, _⟩ => ⟨S8192x2048, .f32⟩
  | .hbm, ⟨103, _⟩ => ⟨S_, .f32⟩
  | .hbm, ⟨104, _⟩ => ⟨S2048, .f32⟩
  | .hbm, ⟨105, _⟩ => ⟨S1x2048, .f32⟩
  | .hbm, ⟨106, _⟩ => ⟨S_, .f32⟩
  | .hbm, ⟨107, _⟩ => ⟨S1x2048, .f32⟩
  | .hbm, ⟨108, _⟩ => ⟨S1x2048, .f32⟩
  | .hbm, ⟨109, _⟩ => ⟨S8192x2048, .bf16⟩
  | .hbm, ⟨110, _⟩ => ⟨S1x2048, .f32⟩
  | .hbm, ⟨111, _⟩ => ⟨S_, .f32⟩
  | .hbm, ⟨112, _⟩ => ⟨S4x2048, .f32⟩
  | .hbm, ⟨113, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_v76 : Ref sig .tc := ⟨.hbm, 102, rfl⟩
abbrev main_cst_20 : Ref sig .tc := ⟨.hbm, 103, rfl⟩
abbrev main_v77 : Ref sig .tc := ⟨.hbm, 104, rfl⟩
abbrev main_v78 : Ref sig .tc := ⟨.hbm, 105, rfl⟩
abbrev main_cst_21 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_22 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== Proof.CtxTiles.lean ====
module

public import proofs.«01_k».proof.Proof.Gen.KernelIdeal.Value
public import Idealize.ShloMosaic.Lib.Pointwise
public import Idealize.ShloMosaic.Lib.Pipeline.ValueKit.Tiles

/-!
The context gradient's three outputs as tiles.

The kernel unrolls its loop over the four head pairs, the two heads of a pair and the two directions of the
retention.  Here one tile of each output is written once, as a function of the pair or head it belongs to, and the
generated lists of stores are read back as these tiles.
-/

@[expose] public section
set_option maxRecDepth 16384
noncomputable section
namespace Cert.KernelIdeal.Body
open Cert.KernelIdeal Cert.KernelIdeal.Gen Idealize.ShloMosaic Idealize.ShloMosaic.TcCoe Idealize.SL.Sem Idealize.ShloMosaic.Tactic
variable {F : FTy → Type} [FloatOps F]

/-- Head `2p + a` of the pair `p`. -/
abbrev hd (p : Fin 4) (a : Fin 2) : Fin 8 := ⟨2 * p.val + a.val, by omega⟩
/-- The row of the sixteen tables that holds direction `d` of head `h`. -/
abbrev rw_ (d : Fin 2) (h : Fin 8) : Fin 16 := ⟨8 * d.val + h.val, by omega⟩

/-- The scaled key lanes of a pair of heads. -/
def keyPair (x0 : Vec F S256x512 .bf16) (p : Fin 4) : FVec F S256x128 .f32 :=
  mulf (extf .f32 (show Vec F S256x128 .bf16 from
      View.ld x0 (Rect.unit ![0, 128 * p.val] ![256, 128] (by intro a; fin_cases a <;> simp <;> omega))) bitsLt_bf16_f32)
    (broadcast S256x128 (Scalar.ofBits .f32 0x3E000000#32))

/-- The value lanes of a head. -/
def valHead (x1 : Vec F S256x1024 .bf16) (h : Fin 8) : Vec F S256x128 .bf16 :=
  View.ld x1 (Rect.unit ![0, 128 * h.val] ![256, 128] (by intro a; fin_cases a <;> simp <;> omega))

/-- The state's cotangent of one direction and head, padded to the pair's lanes. -/
def stateRow (x3 : Vec F S16x128x128 .f32) (r : Fin 16) : FVec F S128x128 .bf16 :=
  truncf .bf16 (shapeCast S128x128 (show Vec F S1x128x128 .f32 from
      View.ld x3 (Rect.unit ![r.val, 0, 0] ![1, 128, 128] (by intro a; fin_cases a <;> simp <;> omega))) shapeCasts_S1x128x128_S128x128) bitsLt_bf16_f32

/-- The decay table of one direction and head (`s = 0`: the decay, `s = 1`: the decay times its exponent). -/
def decayRow (x2 : Vec F S16x2x256x128 .f32) (r : Fin 16) (s : Fin 2) : FVec F S256x128 .f32 :=
  shapeCast S256x128 (show Vec F S1x1x256x128 .f32 from
      View.ld x2 (Rect.unit ![r.val, s.val, 0, 0] ![1, 1, 256, 128] (by intro a; fin_cases a <;> simp <;> omega))) shapeCasts_S1x1x256x128_S256x128

/-- The key lanes of a pair with those of the other head put to zero. -/
def keyHead (x0 : Vec F S256x512 .bf16) (p : Fin 4) (a : Fin 2) : FVec F S256x128 .f32 :=
  select (cmpi (if a = 0 then .slt else .sge) (iota .tc S256x128 32 [1] iota_S256x128_d1_w32) (broadcast S256x128 64#32))
    (keyPair x0 p) (broadcast S256x128 (Scalar.ofBits .f32 0x00000000#32))

/-- The values against a state's cotangent, contracted over the value lanes. -/
def valState (x1 : Vec F S256x1024 .bf16) (x3 : Vec F S16x128x128 .f32) (h : Fin 8) (r : Fin 16) : FVec F S256x128 .f32 :=
  matmul dot_S256x128_S128x128_S256x128_1_1_0_0_n_n none (valHead x1 h) (stateRow x3 r) (constant S256x128 .f32 0x00000000#32)

/-- The tile of the keys' gradient that belongs to a pair of heads. -/
def dkTile (x1 : Vec F S256x1024 .bf16) (x2 : Vec F S16x2x256x128 .f32) (x3 : Vec F S16x128x128 .f32) (p : Fin 4) : FVec F S256x128 .f32 :=
  mulf (addf (addf (addf (addf (broadcast S256x128 (Scalar.ofBits .f32 0x00000000#32))
      (mulf (valState x1 x3 (hd p 0) (rw_ 0 (hd p 0))) (decayRow x2 (rw_ 0 (hd p 0)) 0)))
      (mulf (valState x1 x3 (hd p 0) (rw_ 1 (hd p 0))) (decayRow x2 (rw_ 1 (hd p 0)) 0)))
      (mulf (valState x1 x3 (hd p 1) (rw_ 0 (hd p 1))) (decayRow x2 (rw_ 0 (hd p 1)) 0)))
      (mulf (valState x1 x3 (hd p 1) (rw_ 1 (hd p 1))) (decayRow x2 (rw_ 1 (hd p 1)) 0)))
    (broadcast S256x128 (Scalar.ofBits .f32 0x3E000000#32))

/-- The decayed keys of a head against a state's cotangent. -/
def keyState (x0 : Vec F S256x512 .bf16) (x2 : Vec F S16x2x256x128 .f32) (x3 : Vec F S16x128x128 .f32) (p : Fin 4) (a : Fin 2) (d : Fin 2) : FVec F S256x128 .f32 :=
  matmul dot_S256x128_S128x128_S256x128_1_0_0_1_n_n none
    (truncf .bf16 (mulf (keyHead x0 p a) (decayRow x2 (rw_ d (hd p a)) 0)) bitsLt_bf16_f32) (stateRow x3 (rw_ d (hd p a))) (constant S256x128 .f32 0x00000000#32)

/-- The tile of the values' gradient that belongs to a head of a pair. -/
def dvTile (x0 : Vec F S256x512 .bf16) (x2 : Vec F S16x2x256x128 .f32) (x3 : Vec F S16x128x128 .f32) (p : Fin 4) (a : Fin 2) : FVec F S256x128 .f32 :=
  addf (addf (broadcast S256x128 (Scalar.ofBits .f32 0x00000000#32)) (keyState x0 x2 x3 p a 0)) (keyState x0 x2 x3 p a 1)

/-- The row of the decay's gradient that belongs to one direction and head. -/
def drTile (x0 : Vec F S256x512 .bf16) (x1 : Vec F S256x1024 .bf16) (x2 : Vec F S16x2x256x128 .f32) (x3 : Vec F S16x128x128 .f32)
    (x4 : Vec F S16x128 .f32) (x5 : Vec F S16x1x128 .f32) (p : Fin 4) (a d : Fin 2) : FVec F S1x128 .f32 :=
  mulf (addf (shapeCast S1x128 (show Vec F S1x128 .f32 from
        View.ld x4 (Rect.unit ![(rw_ d (hd p a)).val, 0] ![1, 128] (by intro a; fin_cases a <;> simp <;> omega))) shapeCasts_S1x128_S1x128)
      (broadcast S1x128 (extractAt ![0, 0, 0] (shapeCast S1x1x1 (multiReduction .add [1, 2] S1
        (shapeCast S1x256x128 (mulf (mulf (keyHead x0 p a) (decayRow x2 (rw_ d (hd p a)) 1)) (valState x1 x3 (hd p a) (rw_ d (hd p a)))) shapeCasts_S256x128_S1x256x128)
        0x00000000#32 reduces_S1x256x128_S1 (.inl rfl) rfl) shapeCasts_S1_S1x1x1) inpos_S1x1x1_p0_0_0)))
    (subf (broadcast S1x128 (Scalar.ofBits .f32 0x00000000#32)) (exp (shapeCast S1x128 (show Vec F S1x1x128 .f32 from
        View.ld x5 (Rect.unit ![(rw_ d (hd p a)).val, 0, 0] ![1, 1, 128] (by intro a; fin_cases a <;> simp <;> omega))) shapeCasts_S1x1x128_S1x128)))

section Ideal

theorem slt64 (j : Fin 128) : IntOp.cmpi CmpIPredicate.slt (BitVec.ofNat 32 j.val) 64#32 = if j.val < 64 then 1#1 else 0#1 := by
  revert j; decide
theorem sge64 (j : Fin 128) : IntOp.cmpi CmpIPredicate.sge (BitVec.ofNat 32 j.val) 64#32 = if 64 ≤ j.val then 1#1 else 0#1 := by
  revert j; decide

theorem keyHead_apply (x0 : Vec Ideal S256x512 .bf16) (p : Fin 4) (a : Fin 2) (l : Fin 256) (j : Fin 128) :
    keyHead x0 p a (ix2 l j) = if j.val / 64 = a.val then x0 (ix2 l ⟨128 * p.val + j.val, by omega⟩) * Ideal.ofBits .f32 0x3E000000#32 else 0 := by
  fin_cases a <;> pointwise [keyHead, keyPair]
  · rw [slt64]
    by_cases h : j.val < 64
    · rw [if_pos h, if_pos (show j.val / 64 = 0 by omega)]; rfl
    · rw [if_neg h, if_neg (show ¬ j.val / 64 = 0 by omega)]; rfl
  · rw [sge64]
    by_cases h : 64 ≤ j.val
    · rw [if_pos h, if_pos (show j.val / 64 = 1 by omega)]; rfl
    · rw [if_neg h, if_neg (show ¬ j.val / 64 = 1 by omega)]; rfl

theorem valState_apply (x1 : Vec Ideal S256x1024 .bf16) (x3 : Vec Ideal S16x128x128 .f32) (h : Fin 8) (r : Fin 16) (l : Fin 256) (j : Fin 128) :
    valState x1 x3 h r (ix2 l j) = ∑ v : Fin 128, x1 (ix2 l ⟨128 * h.val + v.val, by omega⟩) * x3 (ix3 r j v) := by
  pointwise [valState, valHead, stateRow]

theorem keyState_apply (x0 : Vec Ideal S256x512 .bf16) (x2 : Vec Ideal S16x2x256x128 .f32) (x3 : Vec Ideal S16x128x128 .f32) (p : Fin 4) (a d : Fin 2)  (l : Fin 256) (v : Fin 128) :
    keyState x0 x2 x3 p a d (ix2 l v) = ∑ j : Fin 128, keyHead x0 p a (ix2 l j) * x2 (ix4 (rw_ d (hd p a)) 0 l j) * x3 (ix3 (rw_ d (hd p a)) j v) := by
  pointwise [keyState, stateRow, decayRow]

theorem dkTile_apply (x1 : Vec Ideal S256x1024 .bf16) (x2 : Vec Ideal S16x2x256x128 .f32) (x3 : Vec Ideal S16x128x128 .f32) (p : Fin 4) (l : Fin 256) (j : Fin 128) :
    dkTile x1 x2 x3 p (ix2 l j) =
      (valState x1 x3 (hd p 0) (rw_ 0 (hd p 0)) (ix2 l j) * x2 (ix4 (rw_ 0 (hd p 0)) 0 l j)
      + valState x1 x3 (hd p 0) (rw_ 1 (hd p 0)) (ix2 l j) * x2 (ix4 (rw_ 1 (hd p 0)) 0 l j)
      + valState x1 x3 (hd p 1) (rw_ 0 (hd p 1)) (ix2 l j) * x2 (ix4 (rw_ 0 (hd p 1)) 0 l j)
      + valState x1 x3 (hd p 1) (rw_ 1 (hd p 1)) (ix2 l j) * x2 (ix4 (rw_ 1 (hd p 1)) 0 l j)) * Ideal.ofBits .f32 0x3E000000#32 := by
  pointwise [dkTile, decayRow]
  simp [rw_, hd]

theorem drTile_apply (x0 : Vec Ideal S256x512 .bf16) (x1 : Vec Ideal S256x1024 .bf16) (x2 : Vec Ideal S16x2x256x128 .f32) (x3 : Vec Ideal S16x128x128 .f32)
    (x4 : Vec Ideal S16x128 .f32) (x5 : Vec Ideal S16x1x128 .f32) (p : Fin 4) (a d : Fin 2) (j : Fin 128) :
    drTile x0 x1 x2 x3 x4 x5 p a d (ix2 0 j) =
      (x4 (ix2 (rw_ d (hd p a)) j) + ∑ l : Fin 256, ∑ j : Fin 128,
        keyHead x0 p a (ix2 l j) * x2 (ix4 (rw_ d (hd p a)) 1 l j) * valState x1 x3 (hd p a) (rw_ d (hd p a)) (ix2 l j))
      * (0 - Ideal.exp (x5 (ix3 (rw_ d (hd p a)) 0 j))) := by
  pointwise [drTile, decayRow]
end Ideal

/-! ### The stores read back as tiles -/

theorem tileAt_col {e : EltTy} {W : Nat} {n : Nat} (hW : W = 128 * n) (T : Fin n → Vec F S256x128 e) (y : (⟨2, ![256, W]⟩ : Shape).Idx) (k : Fin n) :
    View.TileAt (S := ⟨2, ![256, W]⟩) (Val := Elt F) (e := e) y ![0, 128 * k.val] ![256, 128] (T k)
      (T ⟨(y 1).val / 128, by have := (y 1).isLt; simp at this; omega⟩
        (ix2 ⟨(y 0).val, (y 0).isLt⟩ ⟨(y 1).val % 128, Nat.mod_lt _ (by omega)⟩)) := by
  intro x hx
  have h0 : (y 0).val = 0 + (x 0).val := hx 0
  have h1 : (y 1).val = 128 * k.val + (x 1).val := hx 1
  have l1 : (x 1).val < 128 := (x 1).isLt
  have hk : (⟨(y 1).val / 128, by have := (y 1).isLt; simp at this; omega⟩ : Fin n) = k := Fin.ext (by simp only; omega)
  rw [hk]
  congr 1
  funext a
  apply Fin.ext
  fin_cases a
  · show (x 0).val = (y 0).val; omega
  · show (x 1).val = (y 1).val % 128; omega

theorem tileAt_row {e : EltTy} {n : Nat} (T : Fin n → Vec F S1x128 e) (y : (⟨2, ![n, 128]⟩ : Shape).Idx) (k : Fin n) :
    View.TileAt (S := ⟨2, ![n, 128]⟩) (Val := Elt F) (e := e) y ![k.val, 0] ![1, 128] (T k)
      (T ⟨(y 0).val, (y 0).isLt⟩ (ix2 0 ⟨(y 1).val, (y 1).isLt⟩)) := by
  intro x hx
  have h0 : (y 0).val = k.val + (x 0).val := hx 0
  have h1 : (y 1).val = 0 + (x 1).val := hx 1
  have l0 : (x 0).val < 1 := (x 0).isLt
  have hk : (⟨(y 0).val, (y 0).isLt⟩ : Fin n) = k := Fin.ext (by simp only; omega)
  rw [hk]
  congr 1
  funext a
  apply Fin.ext
  fin_cases a
  · show (x 0).val = 0; omega
  · show (x 1).val = (y 1).val; omega

variable (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S16x2x256x128 .f32) (harg3 : arg3.IsWhole) (arg4 : Memref sig .tc .vmem S16x128x128 .f32) (harg4 : arg4.IsWhole) (arg5 : Memref sig .tc .vmem S16x128 .f32) (harg5 : arg5.IsWhole) (arg6 : Memref sig .tc .vmem S16x1x128 .f32) (harg6 : arg6.IsWhole) (arg7 : Memref sig .tc .vmem S256x512 .f32) (harg7 : arg7.IsWhole) (arg8 : Memref sig .tc .vmem S256x1024 .f32) (harg8 : arg8.IsWhole) (arg9 : Memref sig .tc .vmem S16x128 .f32) (harg9 : arg9.IsWhole)
    (x0 : Vec F S256x512 .bf16) (x1 : Vec F S256x1024 .bf16) (x2 : Vec F S16x2x256x128 .f32) (x3 : Vec F S16x128x128 .f32) (x4 : Vec F S16x128 .f32) (x5 : Vec F S16x1x128 .f32)

/-- The keys' gradient is made of one tile per pair of heads. -/
theorem out6 (y : S256x512.Idx) :
    out0_A_6 c i arg1 harg1 arg2 harg2 arg3 harg3 arg4 harg4 arg5 harg5 arg6 harg6 arg7 harg7 arg8 harg8 arg9 harg9 x0 x1 x2 x3 x4 x5 y
      = dkTile x1 x2 x3 ⟨(y 1).val / 128, by have := (y 1).isLt; simp at this; omega⟩
        (ix2 ⟨(y 0).val, (y 0).isLt⟩ ⟨(y 1).val % 128, Nat.mod_lt _ (by omega)⟩) := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  refine View.canon_eq_of_allAt _ _ _ (cover0_A_6 c i arg1 harg1 arg2 harg2 arg3 harg3 arg4 harg4 arg5 harg5 arg6 harg6 arg7 harg7 arg8 harg8 arg9 harg9 x0 x1 x2 x3 x4 x5 y) ?_
  unfold kernelRun0_A
  dsimp only
  sl_unfold_words
  simp only [View.readAt_eq_ld, harg1.read_unread, harg2.read_unread, harg3.read_unread, harg4.read_unread, harg5.read_unread, harg6.read_unread]
  refine View.allAt_cons_unit _ _ _ _ _ (tileAt_col (e := .f32) (n := 4) rfl (dkTile x1 x2 x3) y 3) ?_
  refine View.allAt_cons_unit _ _ _ _ _ (tileAt_col (e := .f32) (n := 4) rfl (dkTile x1 x2 x3) y 2) ?_
  refine View.allAt_cons_unit _ _ _ _ _ (tileAt_col (e := .f32) (n := 4) rfl (dkTile x1 x2 x3) y 1) ?_
  refine View.allAt_cons_unit _ _ _ _ _ (tileAt_col (e := .f32) (n := 4) rfl (dkTile x1 x2 x3) y 0) ?_
  exact View.allAt_nil _ _

/-- The values' gradient by head. -/
def dvHead (x0 : Vec F S256x512 .bf16) (x2 : Vec F S16x2x256x128 .f32) (x3 : Vec F S16x128x128 .f32) (h : Fin 8) : FVec F S256x128 .f32 :=
  dvTile x0 x2 x3 ⟨h.val / 2, by omega⟩ ⟨h.val % 2, by omega⟩

/-- The decay's gradient by direction and head. -/
def drRow (x0 : Vec F S256x512 .bf16) (x1 : Vec F S256x1024 .bf16) (x2 : Vec F S16x2x256x128 .f32) (x3 : Vec F S16x128x128 .f32)
    (x4 : Vec F S16x128 .f32) (x5 : Vec F S16x1x128 .f32) (r : Fin 16) : FVec F S1x128 .f32 :=
  drTile x0 x1 x2 x3 x4 x5 ⟨r.val % 8 / 2, by omega⟩ ⟨r.val % 2, by omega⟩ ⟨r.val / 8, by omega⟩

/-- The values' gradient is made of one tile per head. -/
theorem out7 (y : S256x1024.Idx) :
    out0_A_7 c i arg1 harg1 arg2 harg2 arg3 harg3 arg4 harg4 arg5 harg5 arg6 harg6 arg7 harg7 arg8 harg8 arg9 harg9 x0 x1 x2 x3 x4 x5 y
      = dvHead x0 x2 x3 ⟨(y 1).val / 128, by have := (y 1).isLt; simp at this; omega⟩
        (ix2 ⟨(y 0).val, (y 0).isLt⟩ ⟨(y 1).val % 128, Nat.mod_lt _ (by omega)⟩) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  refine View.canon_eq_of_allAt _ _ _ (cover0_A_7 c i arg1 harg1 arg2 harg2 arg3 harg3 arg4 harg4 arg5 harg5 arg6 harg6 arg7 harg7 arg8 harg8 arg9 harg9 x0 x1 x2 x3 x4 x5 y) ?_
  unfold kernelRun0_A
  dsimp only
  sl_unfold_words
  simp only [View.readAt_eq_ld, harg1.read_unread, harg2.read_unread, harg3.read_unread, harg4.read_unread, harg5.read_unread, harg6.read_unread]
  refine View.allAt_cons_unit _ _ _ _ _ (tileAt_col (e := .f32) (n := 8) rfl (dvHead x0 x2 x3) y 7) ?_
  refine View.allAt_cons_unit _ _ _ _ _ (tileAt_col (e := .f32) (n := 8) rfl (dvHead x0 x2 x3) y 6) ?_
  refine View.allAt_cons_unit _ _ _ _ _ (tileAt_col (e := .f32) (n := 8) rfl (dvHead x0 x2 x3) y 5) ?_
  refine View.allAt_cons_unit _ _ _ _ _ (tileAt_col (e := .f32) (n := 8) rfl (dvHead x0 x2 x3) y 4) ?_
  refine View.allAt_cons_unit _ _ _ _ _ (tileAt_col (e := .f32) (n := 8) rfl (dvHead x0 x2 x3) y 3) ?_
  refine View.allAt_cons_unit _ _ _ _ _ (tileAt_col (e := .f32) (n := 8) rfl (dvHead x0 x2 x3) y 2) ?_
  refine View.allAt_cons_unit _ _ _ _ _ (tileAt_col (e := .f32) (n := 8) rfl (dvHead x0 x2 x3) y 1) ?_
  refine View.allAt_cons_unit _ _ _ _ _ (tileAt_col (e := .f32) (n := 8) rfl (dvHead x0 x2 x3) y 0) ?_
  exact View.allAt_nil _ _

/-- The decay's gradient is made of one row per direction and head. -/
theorem out8 (y : S16x128.Idx) :
    out0_A_8 c i arg1 harg1 arg2 harg2 arg3 harg3 arg4 harg4 arg5 harg5 arg6 harg6 arg7 harg7 arg8 harg8 arg9 harg9 x0 x1 x2 x3 x4 x5 y
      = drRow x0 x1 x2 x3 x4 x5 ⟨(y 0).val, (y 0).isLt⟩ (ix2 0 ⟨(y 1).val, (y 1).isLt⟩) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5)]
  refine View.canon_eq_of_allAt _ _ _ (cover0_A_8 c i arg1 harg1 arg2 harg2 arg3 harg3 arg4 harg4 arg5 harg5 arg6 harg6 arg7 harg7 arg8 harg8 arg9 harg9 x0 x1 x2 x3 x4 x5 y) ?_
  unfold kernelRun0_A
  dsimp only
  sl_unfold_words
  simp only [View.readAt_eq_ld, harg1.read_unread, harg2.read_unread, harg3.read_unread, harg4.read_unread, harg5.read_unread, harg6.read_unread]
  refine View.allAt_cons_unit _ _ _ _ _ (tileAt_row (e := .f32) (n := 16) (drRow x0 x1 x2 x3 x4 x5) y 15) ?_
  refine View.allAt_cons_unit _ _ _ _ _ (tileAt_row (e := .f32) (n := 16) (drRow x0 x1 x2 x3 x4 x5) y 7) ?_
  refine View.allAt_cons_unit _ _ _ _ _ (tileAt_row (e := .f32) (n := 16) (drRow x0 x1 x2 x3 x4 x5) y 14) ?_
  refine View.allAt_cons_unit _ _ _ _ _ (tileAt_row (e := .f32) (n := 16) (drRow x0 x1 x2 x3 x4 x5) y 6) ?_
  refine View.allAt_cons_unit _ _ _ _ _ (tileAt_row (e := .f32) (n := 16) (drRow x0 x1 x2 x3 x4 x5) y 13) ?_
  refine View.allAt_cons_unit _ _ _ _ _ (tileAt_row (e := .f32) (n := 16) (drRow x0 x1 x2 x3 x4 x5) y 5) ?_
  refine View.allAt_cons_unit _ _ _ _ _ (tileAt_row (e := .f32) (n := 16) (drRow x0 x1 x2 x3 x4 x5) y 12) ?_
  refine View.allAt_cons_unit _ _ _ _ _ (tileAt_row (e := .f32) (n := 16) (drRow x0 x1 x2 x3 x4 x5) y 4) ?_
  refine View.allAt_cons_unit _ _ _ _ _ (tileAt_row (e := .f32) (n := 16) (drRow x0 x1 x2 x3 x4 x5) y 11) ?_
  refine View.allAt_cons_unit _ _ _ _ _ (tileAt_row (e := .f32) (n := 16) (drRow x0 x1 x2 x3 x4 x5) y 3) ?_
  refine View.allAt_cons_unit _ _ _ _ _ (tileAt_row (e := .f32) (n := 16) (drRow x0 x1 x2 x3 x4 x5) y 10) ?_
  refine View.allAt_cons_unit _ _ _ _ _ (tileAt_row (e := .f32) (n := 16) (drRow x0 x1 x2 x3 x4 x5) y 2) ?_
  refine View.allAt_cons_unit _ _ _ _ _ (tileAt_row (e := .f32) (n := 16) (drRow x0 x1 x2 x3 x4 x5) y 9) ?_
  refine View.allAt_cons_unit _ _ _ _ _ (tileAt_row (e := .f32) (n := 16) (drRow x0 x1 x2 x3 x4 x5) y 1) ?_
  refine View.allAt_cons_unit _ _ _ _ _ (tileAt_row (e := .f32) (n := 16) (drRow x0 x1 x2 x3 x4 x5) y 8) ?_
  refine View.allAt_cons_unit _ _ _ _ _ (tileAt_row (e := .f32) (n := 16) (drRow x0 x1 x2 x3 x4 x5) y 0) ?_
  exact View.allAt_nil _ _

end Cert.KernelIdeal.Body
end
-- ==== Proof.CtxSpec.lean ====
module

public import proofs.«01_k».proof.Proof.Gen.KernelIdeal.Value
public import Idealize.ShloMosaic.Lib.Pointwise

/-!
The gradient of the retention's context state, as three formulas over the arguments.

The context's keys and values are the last 256 rows of the projection; row `r` of the sixteen decays is direction
`r / 8` of head `r % 8`; a position's exponent counts down to the end of the context in the forward direction and up
from its start in the backward one.
-/

@[expose] public section
noncomputable section
namespace Ctx
open Idealize.ShloMosaic Cert.KernelIdeal

abbrev Scale : EReal := Ideal.ofBits .f32 0x3E000000#32

/-- The logarithm of a direction's and head's decay. -/
def lg (rd : S2x8.Idx → EReal) (r : Fin 16) : EReal :=
  - Ideal.exp (rd (ix2 ⟨r.val / 8, by omega⟩ ⟨r.val % 8, by omega⟩))

/-- The exponent of the decay at a position of the context. -/
def pos (r : Fin 16) (l : Fin 256) : EReal :=
  if r.val < 8 then ((255 - l.val : ℕ) : ℝ) else ((l.val : ℕ) : ℝ)

/-- The decay at a position of the context. -/
def wt (rd : S2x8.Idx → EReal) (r : Fin 16) (l : Fin 256) : EReal := Ideal.exp (lg rd r * pos r l)

/-- The state's cotangent of direction `r / 8` and head `r % 8`. -/
def ds (dsf dsb : S8x64x128.Idx → EReal) (r : Fin 16) (j : Fin 64) (v : Fin 128) : EReal :=
  if r.val < 8 then dsf (ix3 ⟨r.val % 8, by omega⟩ j v) else dsb (ix3 ⟨r.val % 8, by omega⟩ j v)

/-- The scaled key lanes of a head. -/
def key (P : S8448x4608.Idx → EReal) (l : Fin 256) (h : Fin 8) (j : Fin 64) : EReal :=
  P (ix2 ⟨8192 + l.val, by omega⟩ ⟨512 + (64 * h.val + j.val), by omega⟩) * Scale

/-- The value lanes of a head. -/
def value (P : S8448x4608.Idx → EReal) (l : Fin 256) (h : Fin 8) (v : Fin 128) : EReal :=
  P (ix2 ⟨8192 + l.val, by omega⟩ ⟨1024 + (128 * h.val + v.val), by omega⟩)

/-- The values of a position against a state's cotangent, contracted over the value lanes. -/
def vs (P : S8448x4608.Idx → EReal) (dsf dsb : S8x64x128.Idx → EReal) (r : Fin 16) (l : Fin 256) (j : Fin 64) : EReal :=
  ∑ v : Fin 128, value P l ⟨r.val % 8, by omega⟩ v * ds dsf dsb r j v

/-- The gradient of the context's keys. -/
def dkey (P : S8448x4608.Idx → EReal) (rd : S2x8.Idx → EReal) (dsf dsb : S8x64x128.Idx → EReal) (l : Fin 256) (h : Fin 8) (j : Fin 64) : EReal :=
  (vs P dsf dsb ⟨h.val, by omega⟩ l j * wt rd ⟨h.val, by omega⟩ l
    + vs P dsf dsb ⟨8 + h.val, by omega⟩ l j * wt rd ⟨8 + h.val, by omega⟩ l) * Scale

/-- The gradient of the context's values. -/
def dvalue (P : S8448x4608.Idx → EReal) (rd : S2x8.Idx → EReal) (dsf dsb : S8x64x128.Idx → EReal) (l : Fin 256) (h : Fin 8) (v : Fin 128) : EReal :=
  (∑ j : Fin 64, key P l h j * wt rd ⟨h.val, by omega⟩ l * ds dsf dsb ⟨h.val, by omega⟩ j v)
    + ∑ j : Fin 64, key P l h j * wt rd ⟨8 + h.val, by omega⟩ l * ds dsf dsb ⟨8 + h.val, by omega⟩ j v

/-- The gradient of the decay parameters. -/
def ddecay (P : S8448x4608.Idx → EReal) (rd : S2x8.Idx → EReal) (dsf dsb : S8x64x128.Idx → EReal) (dl : S2x8.Idx → EReal) (r : Fin 16) : EReal :=
  (dl (ix2 ⟨r.val / 8, by omega⟩ ⟨r.val % 8, by omega⟩)
    + ∑ l : Fin 256, ∑ j : Fin 64, key P l ⟨r.val % 8, by omega⟩ j * (wt rd r l * pos r l) * vs P dsf dsb r l j) * lg rd r

end Ctx
end
-- ==== Proof.CtxHost.lean ====
module

public import proofs.«01_k».proof.Proof.CtxSpec
public import Idealize.ShloMosaic.Lib.StableHlo.RunRead

/-!
What the host prepares for the context gradient, read at an index.
-/

@[expose] public section
set_option maxRecDepth 16384
noncomputable section
namespace Cert.KernelIdeal.Body
open Cert.KernelIdeal Cert.KernelIdeal.Gen Idealize.ShloMosaic Idealize.ShloMosaic.TcCoe Idealize.SL.Sem Idealize.ShloMosaic.Tactic
variable (m : (ℓ : Loc nD τ sig) → Buf (Elt Ideal) ℓ) (c : Dev nD)

abbrev aP : S8448x4608.Idx → EReal := m ((c : Thread nD τ).loc main_arg0)
abbrev aRd : S2x8.Idx → EReal := m ((c : Thread nD τ).loc main_arg1)
abbrev aDf : S8x64x128.Idx → EReal := m ((c : Thread nD τ).loc main_arg2)
abbrev aDb : S8x64x128.Idx → EReal := m ((c : Thread nD τ).loc main_arg3)
abbrev aDl : S2x8.Idx → EReal := m ((c : Thread nD τ).loc main_arg4)

theorem host_dlg (r : Fin 16) (j : Fin 128) : (V m c main_v33 : S16x128.Idx → EReal) (ix2 r j)
    = aDl m c (ix2 ⟨r.val / 8, by omega⟩ ⟨r.val % 8, by omega⟩) := by
  unfold_abbrev_sides
  after_reads_simp
  pointwise
theorem host_rd (r : Fin 16) (j : Fin 128) : (V m c main_v1 : S16x1x128.Idx → EReal) (ix3 r 0 j)
    = aRd m c (ix2 ⟨r.val / 8, by omega⟩ ⟨r.val % 8, by omega⟩) := by
  unfold_abbrev_sides
  after_reads_simp
  pointwise
theorem row_lt : ∀ r : Fin 16, IntOp.cmpi CmpIPredicate.slt (BitVec.ofNat 32 r.val) 8#32 = if r.val < 8 then 1#1 else 0#1 := by
  decide +kernel

theorem position (l : Fin 256) : (FloatOps.sitofp FTy.f32 (BitVec.ofNat 32 l.val) : Ideal .f32) = (((l.val : ℕ) : ℝ) : EReal) := by
  have h : (BitVec.ofNat 32 l.val).toInt = (l.val : ℤ) := by revert l; decide +kernel
  show (((BitVec.ofNat 32 l.val).toInt : ℝ) : EReal) = _
  rw [h]; norm_cast

theorem last : Ideal.ofBits FTy.f32 1132396544#32 = ((255 : ℝ) : EReal) := by
  simp [Ideal.ofBits, Ideal.ieee]
  norm_num
  rw [← EReal.coe_mul]
  norm_num

theorem pos_eq (r : Fin 16) (l : Fin 256) : Scalar.select (IntOp.cmpi CmpIPredicate.slt (BitVec.ofNat 32 r.val) 8#32)
              (Ideal.ofBits FTy.f32 1132396544#32 - FloatOps.sitofp FTy.f32 (BitVec.ofNat 32 l.val))
              (FloatOps.sitofp FTy.f32 (BitVec.ofNat 32 l.val)) = Ctx.pos r l := by
  rw [row_lt, position, last]
  by_cases h : r.val < 8
  · rw [if_pos h, Ctx.pos, if_pos h]
    show ((255 : ℝ) : EReal) - _ = _
    rw [Nat.cast_sub (by omega), EReal.coe_sub]; norm_cast
  · rw [if_neg h, Ctx.pos, if_neg h]; rfl

theorem host_decay (r : Fin 16) (s : Fin 2) (l : Fin 256) (j : Fin 128) : (V m c main_v21 : S16x2x256x128.Idx → EReal) (ix4 r s l j)
    = if s.val = 0 then Ctx.wt (aRd m c) r l else Ctx.wt (aRd m c) r l * Ctx.pos r l := by
  unfold_abbrev_sides
  after_reads_simp
  try simp only [StableHlo.TRef.toBuf, StableHlo.TRef.ofBuf, cast_eq, id_eq]
  pointwise
  after_reads_simp
  simp only [StableHlo.TRef.toBuf, StableHlo.TRef.ofBuf, cast_eq, id_eq]
  pointwise
  simp only [pos_eq]
  by_cases h : s.val = 0
  · rw [if_pos h, dif_pos (by omega)]; rfl
  · rw [if_neg h, dif_neg (by omega)]; rfl

theorem even_row : ∀ r : Fin 16, (IntOp.cmpi CmpIPredicate.eq
        (Scalar.select
          (IntOp.andi
            (IntOp.cmpi CmpIPredicate.ne
              (IntOp.cmpi CmpIPredicate.slt
                (IntOp.remsi ArithUnit.host (BitVec.ofNat 32 r.val)
                  (Scalar.select (IntOp.cmpi CmpIPredicate.eq 2#32 0#32) 1#32 2#32))
                0#32)
              (IntOp.cmpi CmpIPredicate.slt (Scalar.select (IntOp.cmpi CmpIPredicate.eq 2#32 0#32) 1#32 2#32) 0#32))
            (IntOp.cmpi CmpIPredicate.ne
              (IntOp.remsi ArithUnit.host (BitVec.ofNat 32 r.val)
                (Scalar.select (IntOp.cmpi CmpIPredicate.eq 2#32 0#32) 1#32 2#32))
              0#32))
          (IntOp.addi
            (IntOp.remsi ArithUnit.host (BitVec.ofNat 32 r.val)
              (Scalar.select (IntOp.cmpi CmpIPredicate.eq 2#32 0#32) 1#32 2#32))
            (Scalar.select (IntOp.cmpi CmpIPredicate.eq 2#32 0#32) 1#32 2#32))
          (IntOp.remsi ArithUnit.host (BitVec.ofNat 32 r.val)
            (Scalar.select (IntOp.cmpi CmpIPredicate.eq 2#32 0#32) 1#32 2#32)))
        0#32) = if r.val % 2 = 0 then 1#1 else 0#1 := by decide +kernel

theorem host_ds (r : Fin 16) (l : Fin 128) (j : Fin 128) : (V m c main_v31 : S16x128x128.Idx → EReal) (ix3 r l j)
    = if l.val / 64 = r.val % 2 then Ctx.ds (aDf m c) (aDb m c) r ⟨l.val % 64, by omega⟩ j else 0 := by
  unfold_abbrev_sides
  after_reads_simp
  simp only [StableHlo.TRef.toBuf, StableHlo.TRef.ofBuf, cast_eq, id_eq]
  pointwise
  after_reads_simp
  pointwise
  rw [even_row]
  have hr : r.val % 2 = 0 ∨ r.val % 2 = 1 := by omega
  have hl : (l.val < 64 ∧ l.val / 64 = 0 ∧ l.val % 64 = l.val) ∨ (¬ l.val < 64 ∧ l.val / 64 = 1 ∧ l.val % 64 = l.val - 64) := by omega
  have h8 : (r.val < 8 ∧ r.val % 8 = r.val) ∨ (¬ r.val < 8 ∧ r.val % 8 = r.val - 8) := by omega
  rcases hr with hr | hr <;> rcases hl with ⟨hl, q, e⟩ | ⟨hl, q, e⟩ <;> rcases h8 with ⟨h8, e8⟩ | ⟨h8, e8⟩ <;>
    simp [hr, hl, h8, q, e, e8, Ctx.ds, Scalar.select] <;> rfl
end Cert.KernelIdeal.Body
end
-- ==== Proof.CtxKernel.lean ====
module

public import proofs.«01_k».proof.Proof.CtxTiles
public import proofs.«01_k».proof.Proof.CtxHost
public import Idealize.ShloMosaic.Lib.Pipeline.ValueKit

/-!
The kernel's three results are the formulas of `CtxSpec`.
-/

@[expose] public section
set_option maxRecDepth 16384
noncomputable section
namespace Cert.KernelIdeal.Body
open Cert.KernelIdeal Cert.KernelIdeal.Gen Idealize.ShloMosaic Idealize.ShloMosaic.TcCoe Idealize.SL.Sem Idealize.ShloMosaic.Tactic
variable (m : (ℓ : Loc nD τ sig) → Buf (Elt Ideal) ℓ) (c : Dev nD)

theorem blk0 (t : Fin cfg0.N) (l : Fin 256) (j : Fin 512) : (iblk m c 0 t : S256x512.Idx → EReal) (ix2 l j) = aP m c (ix2 ⟨8192 + l.val, by omega⟩ ⟨512 + j.val, by omega⟩) := by
  have e : ∀ t : Fin cfg0.N, win0_0.index t = ![32, 1] := (by decide +kernel : ∀ t : Fin grid0.N, _)
  blk_simp [iblk]
  rw [V_main_arg0]
  refine congrArg (aP m c) ?_
  blk_ext [e]

theorem blk1 (t : Fin cfg0.N) (l : Fin 256) (j : Fin 1024) : (X0_1 m c t : S256x1024.Idx → EReal) (ix2 l j) = aP m c (ix2 ⟨8192 + l.val, by omega⟩ ⟨1024 + j.val, by omega⟩) := by
  have e : ∀ t : Fin cfg0.N, win0_1.index t = ![32, 1] := (by decide +kernel : ∀ t : Fin grid0.N, _)
  unfold X0_1 Pipeline.Window.fill
  rw [dif_pos (moved0_1 t _)]
  blk_simp [iblk]
  rw [V_main_arg0]
  refine congrArg (aP m c) ?_
  blk_ext [e]

theorem blk2 (t : Fin cfg0.N) : (iblk m c 2 t : S16x2x256x128.Idx → EReal) = V m c main_v21 := by
  have e : ∀ t : Fin cfg0.N, win0_2.index t = ![0,0,0,0] := (by decide +kernel : ∀ t : Fin grid0.N, _)
  funext y
  blk_simp [iblk]
  refine congrArg (V m c main_v21) ?_
  blk_ext [e]

theorem blk3 (t : Fin cfg0.N) : (iblk m c 3 t : S16x128x128.Idx → EReal) = V m c main_v31 := by
  have e : ∀ t : Fin cfg0.N, win0_3.index t = ![0,0,0] := (by decide +kernel : ∀ t : Fin grid0.N, _)
  funext y
  blk_simp [iblk]
  refine congrArg (V m c main_v31) ?_
  blk_ext [e]

theorem blk4 (t : Fin cfg0.N) : (iblk m c 4 t : S16x128.Idx → EReal) = V m c main_v33 := by
  have e : ∀ t : Fin cfg0.N, win0_4.index t = ![0,0] := (by decide +kernel : ∀ t : Fin grid0.N, _)
  funext y
  blk_simp [iblk]
  refine congrArg (V m c main_v33) ?_
  blk_ext [e]

theorem blk5 (t : Fin cfg0.N) : (iblk m c 5 t : S16x1x128.Idx → EReal) = V m c main_v1 := by
  have e : ∀ t : Fin cfg0.N, win0_5.index t = ![0,0,0] := (by decide +kernel : ∀ t : Fin grid0.N, _)
  funext y
  blk_simp [iblk]
  refine congrArg (V m c main_v1) ?_
  blk_ext [e]

theorem decay_at (t : Fin cfg0.N) (r : Fin 16) (s : Fin 2) (l : Fin 256) (j : Fin 128) : (iblk m c 2 t : S16x2x256x128.Idx → EReal) (ix4 r s l j)
    = if s.val = 0 then Ctx.wt (aRd m c) r l else Ctx.wt (aRd m c) r l * Ctx.pos r l := by
  rw [blk2, host_decay]

theorem ds_at (t : Fin cfg0.N) (r : Fin 16) (l : Fin 128) (j : Fin 128) : (iblk m c 3 t : S16x128x128.Idx → EReal) (ix3 r l j)
    = if l.val / 64 = r.val % 2 then Ctx.ds (aDf m c) (aDb m c) r ⟨l.val % 64, by omega⟩ j else 0 := by
  rw [blk3, host_ds]

/-- A sum over a pair's lanes of which only one head's half counts. -/
theorem half_sum (a : Fin 2) (f : Fin 128 → EReal) (g : Fin 64 → EReal) (h1 : ∀ j : Fin 64, f ⟨64 * a.val + j.val, by omega⟩ = g j)
    (h0 : ∀ j : Fin 128, j.val / 64 ≠ a.val → f j = 0) : ∑ j : Fin 128, f j = ∑ j : Fin 64, g j := by
  rw [show (∑ j : Fin 128, f j) = ∑ j : Fin (64 + 64), f j from rfl, Fin.sum_univ_add]
  fin_cases a
  · rw [show (∑ i : Fin 64, f (Fin.natAdd 64 i)) = 0 from Finset.sum_eq_zero fun i _ => h0 _ (by
      show (64 + i.val) / 64 ≠ 0; omega), add_zero]
    refine Finset.sum_congr rfl fun j _ => ?_
    rw [← h1 j]
    exact congrArg f (Fin.ext (by show j.val = 64 * 0 + j.val; omega))
  · rw [show (∑ i : Fin 64, f (Fin.castAdd 64 i)) = 0 from Finset.sum_eq_zero fun i _ => h0 _ (by
      show i.val / 64 ≠ 1; omega), zero_add]
    refine Finset.sum_congr rfl fun j _ => ?_
    rw [← h1 j]
    exact congrArg f (Fin.ext (by show 64 + j.val = 64 * 1 + j.val; omega))

section Point
variable (t : Fin cfg0.N)

theorem valState_eq (p : Fin 4) (a d : Fin 2) (l : Fin 256) (j : Fin 128) :
    valState (X0_1 m c t) (iblk m c 3 t) (hd p a) (rw_ d (hd p a)) (ix2 l j)
      = if j.val / 64 = a.val then Ctx.vs (aP m c) (aDf m c) (aDb m c) (rw_ d (hd p a)) l ⟨j.val % 64, by omega⟩ else 0 := by
  rw [valState_apply]
  by_cases h : j.val / 64 = a.val
  · rw [if_pos h]
    unfold Ctx.vs Ctx.value
    refine Finset.sum_congr rfl fun v _ => ?_
    rw [blk1, ds_at, if_pos (show j.val / 64 = (8 * d.val + (2 * p.val + a.val)) % 2 by omega)]
    congr 3
    apply Fin.ext
    show 1024 + (128 * (2 * p.val + a.val) + v.val) = 1024 + (128 * ((8 * d.val + (2 * p.val + a.val)) % 8) + v.val)
    omega
  · rw [if_neg h]
    refine Finset.sum_eq_zero fun v _ => ?_
    rw [blk1, ds_at, if_neg (show ¬ j.val / 64 = (8 * d.val + (2 * p.val + a.val)) % 2 by omega), mul_zero]

theorem keyHead_eq (p : Fin 4) (a : Fin 2) (l : Fin 256) (j : Fin 128) :
    keyHead (iblk m c 0 t) p a (ix2 l j) = if j.val / 64 = a.val then Ctx.key (aP m c) l (hd p a) ⟨j.val % 64, by omega⟩ else 0 := by
  rw [keyHead_apply]
  by_cases h : j.val / 64 = a.val
  · rw [if_pos h, if_pos h, blk0]
    unfold Ctx.key
    congr 3
    apply Fin.ext
    show 512 + (128 * p.val + j.val) = 512 + (64 * (2 * p.val + a.val) + j.val % 64)
    omega
  · rw [if_neg h, if_neg h]

theorem dk_eq (p : Fin 4) (l : Fin 256) (j : Fin 128) :
    dkTile (X0_1 m c t) (iblk m c 2 t) (iblk m c 3 t) p (ix2 l j)
      = Ctx.dkey (aP m c) (aRd m c) (aDf m c) (aDb m c) l ⟨2 * p.val + j.val / 64, by omega⟩ ⟨j.val % 64, by omega⟩ := by
  rw [dkTile_apply]
  rw [valState_eq, valState_eq, valState_eq, valState_eq, decay_at, decay_at, decay_at, decay_at]
  have hj : j.val / 64 = 0 ∨ j.val / 64 = 1 := by omega
  unfold Ctx.dkey
  rcases hj with hj | hj <;> simp [hj, rw_, hd]

theorem keyState_eq (p : Fin 4) (a d : Fin 2) (l : Fin 256) (v : Fin 128) :
    keyState (iblk m c 0 t) (iblk m c 2 t) (iblk m c 3 t) p a d (ix2 l v)
      = ∑ j : Fin 64, Ctx.key (aP m c) l (hd p a) j * Ctx.wt (aRd m c) (rw_ d (hd p a)) l * Ctx.ds (aDf m c) (aDb m c) (rw_ d (hd p a)) j v := by
  rw [keyState_apply]
  refine half_sum a _ _ (fun j => ?_) (fun j hj => ?_)
  · rw [keyHead_eq, decay_at, ds_at, if_pos (show (64 * a.val + j.val) / 64 = a.val by omega),
      if_pos (show (64 * a.val + j.val) / 64 = (8 * d.val + (2 * p.val + a.val)) % 2 by omega), if_pos (show (0 : Fin 2).val = 0 from rfl)]
    have e : (⟨(64 * a.val + j.val) % 64, by omega⟩ : Fin 64) = j := Fin.ext (by show (64 * a.val + j.val) % 64 = j.val; omega)
    rw [e]
  · rw [keyHead_eq, if_neg hj, zero_mul, zero_mul]

theorem dv_eq (p : Fin 4) (a : Fin 2) (l : Fin 256) (v : Fin 128) :
    dvTile (iblk m c 0 t) (iblk m c 2 t) (iblk m c 3 t) p a (ix2 l v)
      = Ctx.dvalue (aP m c) (aRd m c) (aDf m c) (aDb m c) l (hd p a) v := by
  pointwise [dvTile]
  rw [keyState_eq, keyState_eq]
  simp [Ctx.dvalue, rw_, hd]

theorem dr_eq (p : Fin 4) (a d : Fin 2) (j : Fin 128) :
    drTile (iblk m c 0 t) (X0_1 m c t) (iblk m c 2 t) (iblk m c 3 t) (iblk m c 4 t) (iblk m c 5 t) p a d (ix2 0 j)
      = Ctx.ddecay (aP m c) (aRd m c) (aDf m c) (aDb m c) (aDl m c) (rw_ d (hd p a)) := by
  rw [drTile_apply, blk4, blk5, host_dlg, host_rd]
  unfold Ctx.ddecay Ctx.lg
  rw [zero_sub]
  congr 2
  refine Finset.sum_congr rfl fun l _ => ?_
  refine half_sum a _ _ (fun j => ?_) (fun j hj => ?_)
  · rw [keyHead_eq, valState_eq, blk2, host_decay, if_pos (show (64 * a.val + j.val) / 64 = a.val by omega),
      if_pos (show (64 * a.val + j.val) / 64 = a.val by omega), if_neg (by decide)]
    have e : (⟨(64 * a.val + j.val) % 64, by omega⟩ : Fin 64) = j := Fin.ext (by show (64 * a.val + j.val) % 64 = j.val; omega)
    have e' : (⟨(rw_ d (hd p a)).val % 8, by omega⟩ : Fin 8) = hd p a := Fin.ext (by show (8 * d.val + (2 * p.val + a.val)) % 8 = 2 * p.val + a.val; omega)
    rw [e, e']
  · rw [keyHead_eq, if_neg hj, zero_mul, zero_mul]
end Point

theorem final6 : (dats m 0 c).arrAt 6 cfg0.N = (fun i : S256x512.Idx =>
    Ctx.dkey (aP m c) (aRd m c) (aDf m c) (aDb m c) ⟨(i 0).val, (i 0).isLt⟩ ⟨(i 1).val / 64, by have := (i 1).isLt; simp at this; omega⟩ ⟨(i 1).val % 64, by omega⟩) := by
  have e : ∀ t : Fin cfg0.N, win0_6.index t = ![0,0] := (by decide +kernel : ∀ t : Fin grid0.N, _)
  refine (dats m 0 c).arrAt_eq_of_covers 6 _ (by decide +kernel) fun t hf y => ?_
  blk_simp
  rw [after0_6]
  unfold outsAt0
  dsimp only
  rw [out6, dk_eq]
  have e0 : win0_6.index t 0 = 0 := congrFun (e t) 0
  have e1 : win0_6.index t 1 = 0 := congrFun (e t) 1
  congr 1 <;> exact Fin.ext (by dsimp only; omega)

theorem final7 : (dats m 0 c).arrAt 7 cfg0.N = (fun i : S256x1024.Idx =>
    Ctx.dvalue (aP m c) (aRd m c) (aDf m c) (aDb m c) ⟨(i 0).val, (i 0).isLt⟩ ⟨(i 1).val / 128, by have := (i 1).isLt; simp at this; omega⟩ ⟨(i 1).val % 128, by omega⟩) := by
  have e : ∀ t : Fin cfg0.N, win0_7.index t = ![0,0] := (by decide +kernel : ∀ t : Fin grid0.N, _)
  refine (dats m 0 c).arrAt_eq_of_covers 7 _ (by decide +kernel) fun t hf y => ?_
  blk_simp
  rw [after0_7]
  unfold outsAt0
  dsimp only
  rw [out7]
  unfold dvHead
  rw [dv_eq]
  have e0 : win0_7.index t 0 = 0 := congrFun (e t) 0
  have e1 : win0_7.index t 1 = 0 := congrFun (e t) 1
  congr 1 <;> exact Fin.ext (by dsimp only; omega)

theorem final8 : (dats m 0 c).arrAt 8 cfg0.N = (fun i : S16x128.Idx =>
    Ctx.ddecay (aP m c) (aRd m c) (aDf m c) (aDb m c) (aDl m c) ⟨(i 0).val, (i 0).isLt⟩) := by
  have e : ∀ t : Fin cfg0.N, win0_8.index t = ![0,0] := (by decide +kernel : ∀ t : Fin grid0.N, _)
  refine (dats m 0 c).arrAt_eq_of_covers 8 _ (by decide +kernel) fun t hf y => ?_
  blk_simp
  rw [after0_8]
  unfold outsAt0
  dsimp only
  rw [out8]
  unfold drRow
  rw [dr_eq]
  have e0 : win0_8.index t 0 = 0 := congrFun (e t) 0
  congr 1
  exact Fin.ext (by dsimp only; omega)
end Cert.KernelIdeal.Body
end
-- ==== Proof.RealLaws.lean ====
module

public import Idealize.ShloMosaic.PureOps.Ideal.Laws
public import Idealize.ShloMosaic.Lib.Pointwise

/-!
Laws of the extended reals for finite nonnegative factors, the exponential of a decay, and a host sum over two axes of
size one.
-/

@[expose] public section
noncomputable section
namespace Reals
open Idealize.ShloMosaic

/-- A factor that is finite and not negative. -/
def Weight (x : EReal) : Prop := 0 ≤ x ∧ x ≠ ⊤

theorem Weight.mul {x y : EReal} (hx : Weight x) (hy : Weight y) : Weight (x * y) := by
  obtain ⟨hx0, hx1⟩ := hx
  obtain ⟨hy0, hy1⟩ := hy
  refine ⟨mul_nonneg hx0 hy0, ?_⟩
  lift x to ℝ using ⟨hx1, fun h => by simp [h] at hx0⟩
  lift y to ℝ using ⟨hy1, fun h => by simp [h] at hy0⟩
  exact EReal.coe_ne_top (x * y)

theorem weight_coe {x : ℝ} (h : 0 ≤ x) : Weight (x : EReal) := ⟨by exact_mod_cast h, EReal.coe_ne_top x⟩

theorem exp_nonneg (x : EReal) : 0 ≤ Ideal.exp x := by
  induction x with
  | bot => simp
  | top => simp
  | coe r => rw [Ideal.exp_coe]; exact_mod_cast (Real.exp_pos r).le

/-- The exponential of what is not positive infinity is a weight. -/
theorem weight_exp {x : EReal} (h : x ≠ ⊤) : Weight (Ideal.exp x) := by
  refine ⟨exp_nonneg x, ?_⟩
  induction x with
  | bot => simp
  | top => exact absurd rfl h
  | coe r => rw [Ideal.exp_coe]; exact EReal.coe_ne_top _

/-- The decay at an exponent that is not negative is a weight. -/
theorem weight_decay (y : EReal) {r : ℝ} (h : 0 ≤ r) : Weight (Ideal.exp (-Ideal.exp y * (r : EReal))) := by
  refine weight_exp ?_
  rw [EReal.neg_mul]
  intro e
  have h1 : 0 ≤ Ideal.exp y * (r : EReal) := mul_nonneg (exp_nonneg y) (by exact_mod_cast h)
  rw [EReal.neg_eq_top_iff] at e
  rw [e] at h1
  simp at h1

theorem Weight.add_mul {w : EReal} (h : Weight w) (x y : EReal) : (x + y) * w = x * w + y * w :=
  EReal.right_distrib_of_nonneg_of_ne_top h.1 h.2 x y

/-- A weight goes into a sum. -/
theorem Weight.sum_mul {ι : Type*} {w : EReal} (h : Weight w) (s : Finset ι) (f : ι → EReal) : (∑ i ∈ s, f i) * w = ∑ i ∈ s, f i * w := by
  classical
  induction s using Finset.induction_on with
  | empty => simp
  | insert a s ha ih => rw [Finset.sum_insert ha, Finset.sum_insert ha, h.add_mul, ih]

theorem Weight.mul_sum {ι : Type*} {w : EReal} (h : Weight w) (s : Finset ι) (f : ι → EReal) : w * (∑ i ∈ s, f i) = ∑ i ∈ s, w * f i := by
  rw [mul_comm, h.sum_mul]
  exact Finset.sum_congr rfl fun i _ => mul_comm _ _

/-- The host's sum over a leading and a trailing axis of size one is the initial value and the one element. -/
theorem sum_unit_axes {n1 n2 : Nat} (h : (⟨4, ![1, n1, n2, 1]⟩ : Shape).ReducesTo [0, 3] ⟨2, ![n1, n2]⟩) (v : (⟨4, ![1, n1, n2, 1]⟩ : Shape).Idx → EReal) (init : EReal)
    (a : Fin n1) (b : Fin n2) : Ideal.hostReduceAdd h v init (ix2 a b) = init + v (ix4 0 a b 0) := by
  refine congrArg (init + ·) ?_
  have hd : ∀ i : (⟨4, ![1, n1, n2, 1]⟩ : Shape).Idx, h.drop i = ix2 a b ↔ i = ix4 0 a b 0 := by
    intro i
    constructor
    · intro e
      funext x
      apply Fin.ext
      match x with
      | ⟨0, _⟩ => have := (i 0).isLt; simp at this; show (i 0).val = 0; omega
      | ⟨1, _⟩ => exact congrArg Fin.val (congrFun e 0)
      | ⟨2, _⟩ => exact congrArg Fin.val (congrFun e 1)
      | ⟨3, _⟩ => have := (i 3).isLt; simp at this; show (i 3).val = 0; omega
    · rintro rfl
      funext x
      apply Fin.ext
      match x with
      | ⟨0, _⟩ => rfl
      | ⟨1, _⟩ => rfl
  simp only [hd, Finset.filter_eq', Finset.mem_univ, if_true, Finset.sum_singleton]

/-- A sum read from its end. -/
theorem sum_rev {n : ℕ} (f : Fin n → EReal) : ∑ i : Fin n, f i.rev = ∑ i : Fin n, f i := Equiv.sum_comp Fin.revPerm f
end Reals
end
-- ==== Proof.CtxReference.lean ====
module

public import proofs.«01_k».proof.Proof.CtxSpec
public import proofs.«01_k».proof.Proof.RealLaws
public import proofs.«01_k».proof.Proof.Gen.ReferenceIdeal.Read

/-!
What the reference computes for the context gradient: the same three formulas.
-/

@[expose] public section
set_option maxRecDepth 16384
noncomputable section
namespace Cert.ReferenceIdeal.Body
open Cert.ReferenceIdeal Cert.ReferenceIdeal.Read Cert.ReferenceIdeal.Gen Idealize.ShloMosaic Idealize.ShloMosaic.TcCoe Idealize.SL.Sem Idealize.ShloMosaic.Tactic Reals
variable (P : S8448x4608.Idx → EReal) (rd : S2x8.Idx → EReal) (f b : S8x64x128.Idx → EReal) (dl : S2x8.Idx → EReal)

theorem countdown (l : Fin 256) : Ideal.ofBits FTy.f32 1132396544#32 - FloatOps.sitofp FTy.f32 (BitVec.ofNat 32 l.val) = (((255 - l.val : ℕ) : ℝ) : EReal) := by
  have h : (BitVec.ofNat 32 l.val).toInt = (l.val : ℤ) := by revert l; decide +kernel
  have h1 : (FloatOps.sitofp FTy.f32 (BitVec.ofNat 32 l.val) : Ideal .f32) = (((l.val : ℕ) : ℝ) : EReal) := by
    show (((BitVec.ofNat 32 l.val).toInt : ℝ) : EReal) = _
    rw [h]; norm_cast
  have h2 : Ideal.ofBits FTy.f32 1132396544#32 = ((255 : ℝ) : EReal) := by
    simp [Ideal.ofBits, Ideal.ieee]
    norm_num
    rw [← EReal.coe_mul]
    norm_num
  rw [h1, h2, Nat.cast_sub (by omega), EReal.coe_sub]; norm_cast

theorem zero_bits : Ideal.ofBits FTy.f32 0#32 = 0 := by simp [Ideal.ofBits, Ideal.ieee]

/-! ### Keys, values, cotangents, decays -/

theorem key_f (l : Fin 256) (h : Fin 8) (j : Fin 64) : (val_main_v20 (F := Ideal) P : S1x256x8x64.Idx → EReal) (ix4 0 l h j) = Ctx.key P l h j := by
  pointwise [val_main_v20, val_main_v19, val_main_v18, val_main_v4, val_main_v2, val_main_v1, val_main_v0, val_main_cst]
  unfold Ctx.key
  congr 3
  exact Fin.ext (by show 512 + (h.val * 64 + j.val) = 512 + (64 * h.val + j.val); omega)
theorem value_f (l : Fin 256) (h : Fin 8) (v : Fin 128) : (val_main_v21 (F := Ideal) P : S1x256x8x128.Idx → EReal) (ix4 0 l h v) = Ctx.value P l h v := by
  pointwise [val_main_v21, val_main_v5, val_main_v2, val_main_v1, val_main_v0]
  unfold Ctx.value
  congr 2
  exact Fin.ext (by show 1024 + (h.val * 128 + v.val) = 1024 + (128 * h.val + v.val); omega)
theorem key_b (l : Fin 256) (h : Fin 8) (j : Fin 64) : (val_main_v35 (F := Ideal) P : S1x256x8x64.Idx → EReal) (ix4 0 l h j) = Ctx.key P l.rev h j := by
  pointwise [val_main_v35]
  exact key_f P l.rev h j
theorem value_b (l : Fin 256) (h : Fin 8) (v : Fin 128) : (val_main_v36 (F := Ideal) P : S1x256x8x128.Idx → EReal) (ix4 0 l h v) = Ctx.value P l.rev h v := by
  pointwise [val_main_v36]
  exact value_f P l.rev h v
theorem ds_f (h : Fin 8) (j : Fin 64) (v : Fin 128) : (val_main_v50 (F := Ideal) f : S1x8x64x128.Idx → EReal) (ix4 0 h j v) = Ctx.ds f b ⟨h.val, by omega⟩ j v := by
  pointwise [val_main_v50]
  unfold Ctx.ds
  rw [if_pos (by show h.val < 8; omega)]
  congr 2
  exact Fin.ext (by show h.val = h.val % 8; omega)
theorem ds_b (h : Fin 8) (j : Fin 64) (v : Fin 128) : (val_main_v51 (F := Ideal) b : S1x8x64x128.Idx → EReal) (ix4 0 h j v) = Ctx.ds f b ⟨8 + h.val, by omega⟩ j v := by
  pointwise [val_main_v51]
  unfold Ctx.ds
  rw [if_neg (by show ¬ 8 + h.val < 8; omega)]
  congr 2
  exact Fin.ext (by show h.val = (8 + h.val) % 8; omega)
theorem pos_f (l : Fin 256) (h : Fin 8) : Ctx.pos ⟨h.val, by omega⟩ l = (((255 - l.val : ℕ) : ℝ) : EReal) := by
  unfold Ctx.pos; rw [if_pos (by show h.val < 8; omega)]
theorem pos_b (l : Fin 256) (h : Fin 8) : Ctx.pos ⟨8 + h.val, by omega⟩ l.rev = (((255 - l.val : ℕ) : ℝ) : EReal) := by
  unfold Ctx.pos; rw [if_neg (by show ¬ 8 + h.val < 8; omega), Fin.val_rev]
  have e : 256 - (l.val + 1) = 255 - l.val := by omega
  rw [e]
theorem lg_f (h : Fin 8) : (val_main_v13 (F := Ideal) rd : S8.Idx → EReal) (ix1 h) = Ctx.lg rd ⟨h.val, by omega⟩ := by
  pointwise [val_main_v13, val_main_v12, val_main_v11, val_main_v10]
  unfold Ctx.lg
  congr 3
  have e : (⟨h.val / 8, by omega⟩ : Fin 2) = 0 := Fin.ext (by show h.val / 8 = 0; omega)
  have e' : (⟨h.val % 8, by omega⟩ : Fin 8) = h := Fin.ext (by show h.val % 8 = h.val; omega)
  rw [e, e']
theorem lg_b (h : Fin 8) : (val_main_v17 (F := Ideal) rd : S8.Idx → EReal) (ix1 h) = Ctx.lg rd ⟨8 + h.val, by omega⟩ := by
  pointwise [val_main_v17, val_main_v16, val_main_v15, val_main_v14]
  unfold Ctx.lg
  congr 3
  have e : (⟨(8 + h.val) / 8, by omega⟩ : Fin 2) = 1 := Fin.ext (by show (8 + h.val) / 8 = 1; omega)
  have e' : (⟨(8 + h.val) % 8, by omega⟩ : Fin 8) = h := Fin.ext (by show (8 + h.val) % 8 = h.val; omega)
  rw [e, e']
theorem wt_f (l : Fin 256) (h : Fin 8) : (val_main_v30 (F := Ideal) rd : S256x8.Idx → EReal) (ix2 l h) = Ctx.wt rd ⟨h.val, by omega⟩ l := by
  pointwise [val_main_v30, val_main_v29, val_main_v28, val_main_v27, val_main_v26, val_main_v25, val_main_v24, val_main_v23, val_main_v22, val_main_cst_0]
  rw [lg_f, countdown]
  unfold Ctx.wt
  rw [pos_f]
theorem wt_b (l : Fin 256) (h : Fin 8) : (val_main_v45 (F := Ideal) rd : S256x8.Idx → EReal) (ix2 l h) = Ctx.wt rd ⟨8 + h.val, by omega⟩ l.rev := by
  pointwise [val_main_v45, val_main_v44, val_main_v43, val_main_v42, val_main_v41, val_main_v40, val_main_v39, val_main_v38, val_main_v37, val_main_cst_1]
  rw [lg_b, countdown]
  unfold Ctx.wt
  rw [pos_b]

/-! ### Values against a state's cotangent -/

theorem vs_f (l : Fin 256) (h : Fin 8) (j : Fin 64) : (val_main_v79 (F := Ideal) P f : S1x256x8x64.Idx → EReal) (ix4 0 l h j) = Ctx.vs P f b ⟨h.val, by omega⟩ l j := by
  pointwise [val_main_v79, val_main_v78]
  refine Finset.sum_congr rfl fun v _ => ?_
  rw [ds_f f b, value_f, mul_comm]
  congr 2
  exact Fin.ext (by show h.val = h.val % 8; omega)
theorem vs_b (l : Fin 256) (h : Fin 8) (j : Fin 64) : (val_main_v59 (F := Ideal) P b : S1x256x8x64.Idx → EReal) (ix4 0 l h j) = Ctx.vs P f b ⟨8 + h.val, by omega⟩ l.rev j := by
  pointwise [val_main_v59, val_main_v58]
  refine Finset.sum_congr rfl fun v _ => ?_
  rw [ds_b f b, value_b, mul_comm]
  congr 2
  exact Fin.ext (by show h.val = (8 + h.val) % 8; omega)

/-! ### The three results -/

theorem result_key (l : Fin 256) (h : Fin 8) (j : Fin 64) : (val_main_v96 (F := Ideal) P rd f b : S1x256x8x64.Idx → EReal) (ix4 0 l h j) = Ctx.dkey P rd f b l h j := by
  pointwise [val_main_v96, val_main_v95, val_main_v85, val_main_v84, val_main_v83, val_main_v74, val_main_v64, val_main_v63, val_main_v46, val_main_v31, val_main_cst_10]
  have e := vs_b P f b l.rev h j
  have e' := wt_b rd l.rev h
  rw [Fin.rev_rev] at e e'
  rw [vs_f P f b, wt_f]
  unfold Ctx.dkey
  congr 1
  rw [add_comm]
  congr 1
  exact congrArg₂ (· * ·) e e'
theorem state_b (l : Fin 256) (h : Fin 8) (v : Fin 128) : (val_main_v57 (F := Ideal) P rd b : S1x256x8x128.Idx → EReal) (ix4 0 l h v)
    = ∑ j : Fin 64, Ctx.key P l.rev h j * Ctx.wt rd ⟨8 + h.val, by omega⟩ l.rev * Ctx.ds f b ⟨8 + h.val, by omega⟩ j v := by
  pointwise [val_main_v57, val_main_v56, val_main_v48, val_main_v47, val_main_v46]
  refine Finset.sum_congr rfl fun j _ => ?_
  rw [ds_b f b, key_b, wt_b, mul_comm]
theorem result_value (l : Fin 256) (h : Fin 8) (v : Fin 128) : (val_main_v77 (F := Ideal) P rd f b : S1x256x8x128.Idx → EReal) (ix4 0 l h v) = Ctx.dvalue P rd f b l h v := by
  pointwise [val_main_v77, val_main_v76, val_main_v75, val_main_v73, val_main_v33, val_main_v32, val_main_v31]
  have e := state_b P rd f b l.rev h v
  rw [Fin.rev_rev] at e
  unfold Ctx.dvalue
  rw [add_comm]
  congr 1
  refine Finset.sum_congr rfl fun j _ => ?_
  rw [ds_f f b, key_f, wt_f, mul_comm]

/-- A decay times its exponent is a weight. -/
theorem weight_wt (r : Fin 16) (l : Fin 256) : Weight (Ctx.wt rd r l * Ctx.pos r l) := by
  have h : ∃ x : ℝ, 0 ≤ x ∧ Ctx.pos r l = (x : EReal) := by
    unfold Ctx.pos
    split
    · exact ⟨_, Nat.cast_nonneg _, rfl⟩
    · exact ⟨_, Nat.cast_nonneg _, rfl⟩
  obtain ⟨x, hx, e⟩ := h
  unfold Ctx.wt Ctx.lg
  rw [e]
  exact (weight_decay _ hx).mul (weight_coe hx)

/-- A position's part of the decay's gradient. -/
def part (r : Fin 16) (l : Fin 256) : EReal :=
  ∑ j : Fin 64, Ctx.key P l ⟨r.val % 8, by omega⟩ j * (Ctx.wt rd r l * Ctx.pos r l) * Ctx.vs P f b r l j

theorem part_eq (r : Fin 16) (l : Fin 256) : ((∑ j : Fin 64, Ctx.key P l ⟨r.val % 8, by omega⟩ j * Ctx.vs P f b r l j) * Ctx.wt rd r l) * Ctx.pos r l = part P rd f b r l := by
  rw [mul_assoc, (weight_wt rd r l).sum_mul]
  refine Finset.sum_congr rfl fun j _ => ?_
  rw [mul_assoc, mul_comm (Ctx.vs P f b r l j), ← mul_assoc]

theorem decay_f (h : Fin 8) : (val_main_v93 (F := Ideal) P rd f dl : S8.Idx → EReal) (ix1 h)
    = dl (ix2 0 h) + ∑ l : Fin 256, part P rd f b ⟨h.val, by omega⟩ l := by
  pointwise [val_main_v93, val_main_v92, val_main_v91, val_main_v90, val_main_v89, val_main_v88, val_main_v87, val_main_v86, val_main_v53, val_main_v52, val_main_cst_9, val_main_cst_8, val_main_cst_7,
    val_main_v26, val_main_v25, val_main_v24, val_main_v23, val_main_cst_0]
  simp only [zero_add, Finset.univ_unique, Finset.sum_singleton]
  congr 1
  refine Finset.sum_congr rfl fun l _ => ?_
  rw [sum_unit_axes, wt_f, countdown, ← pos_f l h, ← part_eq]
  congr 2
  pointwise [val_main_v82, val_main_v81, val_main_v80, val_main_cst_6]
  refine Finset.sum_congr rfl fun j _ => ?_
  rw [key_f, vs_f P f b]
  congr 2
  exact Fin.ext (by show h.val = h.val % 8; omega)
theorem decay_b (h : Fin 8) : (val_main_v72 (F := Ideal) P rd b dl : S8.Idx → EReal) (ix1 h)
    = dl (ix2 1 h) + ∑ l : Fin 256, part P rd f b ⟨8 + h.val, by omega⟩ l := by
  pointwise [val_main_v72, val_main_v71, val_main_v70, val_main_v69, val_main_v68, val_main_v67, val_main_v66, val_main_v65, val_main_v55, val_main_v54, val_main_cst_5, val_main_cst_4, val_main_cst_3,
    val_main_v41, val_main_v40, val_main_v39, val_main_v38, val_main_cst_1]
  simp only [zero_add, Finset.univ_unique, Finset.sum_singleton]
  congr 1
  rw [← sum_rev (fun l => part P rd f b ⟨8 + h.val, by omega⟩ l)]
  refine Finset.sum_congr rfl fun l _ => ?_
  rw [sum_unit_axes, wt_b, countdown, ← pos_b l h, ← part_eq]
  congr 2
  pointwise [val_main_v62, val_main_v61, val_main_v60, val_main_cst_2]
  refine Finset.sum_congr rfl fun j _ => ?_
  rw [key_b, vs_b P f b]
  congr 2
  exact Fin.ext (by show h.val = (8 + h.val) % 8; omega)

theorem ddecay_f (h : Fin 8) : -(val_main_v93 (F := Ideal) P rd f dl : S8.Idx → EReal) (ix1 h) * (val_main_v12 (F := Ideal) rd : S8.Idx → EReal) (ix1 h)
    = Ctx.ddecay P rd f b dl ⟨h.val, by omega⟩ := by
  have e : (⟨h.val / 8, by omega⟩ : Fin 2) = 0 := Fin.ext (by show h.val / 8 = 0; omega)
  have e' : (⟨h.val % 8, by omega⟩ : Fin 8) = h := Fin.ext (by show h.val % 8 = h.val; omega)
  have el : -(val_main_v12 (F := Ideal) rd : S8.Idx → EReal) (ix1 h) = Ctx.lg rd ⟨h.val, by omega⟩ := lg_f rd h
  rw [decay_f P rd f b, EReal.neg_mul, ← mul_neg, el]
  unfold Ctx.ddecay part
  dsimp only
  rw [e, e']
theorem ddecay_b (h : Fin 8) : -(val_main_v72 (F := Ideal) P rd b dl : S8.Idx → EReal) (ix1 h) * (val_main_v16 (F := Ideal) rd : S8.Idx → EReal) (ix1 h)
    = Ctx.ddecay P rd f b dl ⟨8 + h.val, by omega⟩ := by
  have e : (⟨(8 + h.val) / 8, by omega⟩ : Fin 2) = 1 := Fin.ext (by show (8 + h.val) / 8 = 1; omega)
  have e' : (⟨(8 + h.val) % 8, by omega⟩ : Fin 8) = h := Fin.ext (by show (8 + h.val) % 8 = h.val; omega)
  have el : -(val_main_v16 (F := Ideal) rd : S8.Idx → EReal) (ix1 h) = Ctx.lg rd ⟨8 + h.val, by omega⟩ := lg_b rd h
  rw [decay_b P rd f b, EReal.neg_mul, ← mul_neg, el]
  unfold Ctx.ddecay part
  dsimp only
  rw [e, e']

theorem cases_row (r : Fin 16) (X : (1 ≤ r.val / 8 ∧ r.val / 8 - 1 < 1) ∧ r.val % 8 < 8 → EReal) (Y : r.val / 8 < 1 ∧ r.val % 8 < 8 → EReal) (Z : EReal)
    (hX : 8 ≤ r.val → ∀ h, X h = Z) (hY : r.val < 8 → ∀ h, Y h = Z) :
    ((if h : (1 ≤ r.val / 8 ∧ r.val / 8 - 1 < 1) ∧ r.val % 8 < 8 then X h else 0) + (if h : r.val / 8 < 1 ∧ r.val % 8 < 8 then Y h else 0)) = Z := by
  rcases Nat.lt_or_ge r.val 8 with h | h
  · have c1 : ¬ ((1 ≤ r.val / 8 ∧ r.val / 8 - 1 < 1) ∧ r.val % 8 < 8) := by omega
    have c2 : r.val / 8 < 1 ∧ r.val % 8 < 8 := by omega
    rw [dif_neg c1, dif_pos c2, zero_add, hY h c2]
  · have c1 : (1 ≤ r.val / 8 ∧ r.val / 8 - 1 < 1) ∧ r.val % 8 < 8 := by omega
    have c2 : ¬ (r.val / 8 < 1 ∧ r.val % 8 < 8) := by omega
    rw [dif_pos c1, dif_neg c2, add_zero, hX h c1]

theorem result_decay (r : Fin 16) (x : Fin 128) : (val_main_v110 (F := Ideal) P rd f b dl : S16x128.Idx → EReal) (ix2 r x) = Ctx.ddecay P rd f b dl r := by
  pointwise [val_main_v110, val_main_v109, val_main_v106, val_main_v105, val_main_v104, val_main_v103, val_main_v102, val_main_v101, val_main_v100, val_main_v99, val_main_v98,
    val_main_cst_11, val_main_cst_12]
  refine cases_row r _ _ _ (fun h c => ?_) (fun h c => ?_)
  · refine (ddecay_b P rd f b dl _).trans (congrArg (Ctx.ddecay P rd f b dl) (Fin.ext ?_))
    show 8 + r.val % 8 = r.val
    omega
  · refine (ddecay_f P rd f b dl _).trans (congrArg (Ctx.ddecay P rd f b dl) (Fin.ext ?_))
    show r.val % 8 = r.val
    omega

theorem whole_key : (val_main_v107 (F := Ideal) P rd f b : S256x512.Idx → EReal) = fun i =>
    Ctx.dkey P rd f b ⟨(i 0).val, (i 0).isLt⟩ ⟨(i 1).val / 64, by have := (i 1).isLt; simp at this; omega⟩ ⟨(i 1).val % 64, by omega⟩ := by
  funext i
  obtain ⟨l, j, rfl⟩ : ∃ (l : Fin 256) (j : Fin 512), i = ix2 l j := ⟨i 0, i 1, eq_ix2 i⟩
  pointwise [val_main_v107, val_main_v97]
  exact result_key P rd f b l _ _
theorem whole_value : (val_main_v108 (F := Ideal) P rd f b : S256x1024.Idx → EReal) = fun i =>
    Ctx.dvalue P rd f b ⟨(i 0).val, (i 0).isLt⟩ ⟨(i 1).val / 128, by have := (i 1).isLt; simp at this; omega⟩ ⟨(i 1).val % 128, by omega⟩ := by
  funext i
  obtain ⟨l, j, rfl⟩ : ∃ (l : Fin 256) (j : Fin 1024), i = ix2 l j := ⟨i 0, i 1, eq_ix2 i⟩
  pointwise [val_main_v108, val_main_v94]
  exact result_value P rd f b l _ _
theorem whole_decay : (val_main_v110 (F := Ideal) P rd f b dl : S16x128.Idx → EReal) = fun i => Ctx.ddecay P rd f b dl ⟨(i 0).val, (i 0).isLt⟩ := by
  funext i
  obtain ⟨r, j, rfl⟩ : ∃ (r : Fin 16) (j : Fin 128), i = ix2 r j := ⟨i 0, i 1, eq_ix2 i⟩
  exact result_decay P rd f b dl r j
end Cert.ReferenceIdeal.Body
end
-- ==== Proof.BlockSums.lean ====
module

public import Mathlib.Algebra.BigOperators.Fin
public import Mathlib.Algebra.BigOperators.Intervals
public import Mathlib.Data.EReal.Basic

/-!
A product of matrices whose contraction is taken block by block.

The kernels for the large products keep an accumulator and add one block of the contraction per grid point.  Matrices
are read here at plain numbers, with zero outside, so that blocks and the whole range are compared without bounds in
the terms.
-/

@[expose] public section
namespace Blocks
open Finset

/-- A matrix at two numbers: its entry inside, zero outside. -/
noncomputable def at2 {n m : ℕ} (f : Fin n → Fin m → EReal) (a b : ℕ) : EReal :=
  if h : a < n ∧ b < m then f ⟨a, h.1⟩ ⟨b, h.2⟩ else 0

theorem at2_of_lt {n m : ℕ} (f : Fin n → Fin m → EReal) {a b : ℕ} (ha : a < n) (hb : b < m) : at2 f a b = f ⟨a, ha⟩ ⟨b, hb⟩ :=
  dif_pos ⟨ha, hb⟩

theorem at2_fin {n m : ℕ} (f : Fin n → Fin m → EReal) (a : Fin n) (b : Fin m) : at2 f a.val b.val = f a b :=
  at2_of_lt f a.isLt b.isLt

/-- `J` blocks of `B` terms, added one block after the other, are the first `J * B` terms. -/
theorem sum_range (g : ℕ → EReal) (B J : ℕ) : ∑ k ∈ range J, ∑ x : Fin B, g (B * k + x.val) = ∑ k ∈ range (J * B), g k := by
  induction J with
  | zero => simp
  | succ J ih =>
    rw [sum_range_succ, ih, Nat.succ_mul, sum_range_add, ← Finset.sum_range (fun x => g (B * J + x)), Nat.mul_comm J B]

/-- The same, ending in a sum over `n = J * B` places. -/
theorem sum_fin (g : ℕ → EReal) (B J n : ℕ) (h : J * B = n) :
    ∑ k ∈ range J, ∑ x : Fin B, g (B * k + x.val) = ∑ k : Fin n, g k.val := by
  rw [sum_range, h, Finset.sum_range]

end Blocks
-- ==== Proof.Panels.lean ====
module

public import Idealize.ShloMosaic.Lib.Pointwise
public import Idealize.ShloMosaic.Lib.Pipeline.ValueKit
public import Idealize.ShloMosaic.Lib.Pipeline.ValueKit.Tiles

/-!
Stores of panels of a matrix: a few full rows or a few full columns of it.
-/

@[expose] public section
namespace Blocks
open Idealize.ShloMosaic

variable {n k : ℕ}

/-- A panel of `s` rows from row `o`, where each of its places has the value of a matrix `G` there. -/
theorem rows_at (a : Fin n) (b : Fin k) (o s : ℕ) (w : (⟨2, ![s, k]⟩ : Shape).Idx → EReal) (G : Fin n → Fin k → EReal)
    (h : ∀ (p : Fin s) (hp : o + p.val < n) (q : Fin k), w (ix2 p q) = G ⟨o + p.val, hp⟩ q) :
    View.TileAt (Val := Elt Ideal) (e := .f32) (S := ⟨2, ![n, k]⟩) (ix2 a b) ![o, 0] ![s, k] w (G a b) := by
  intro x hx
  obtain ⟨p, q, rfl⟩ : ∃ p q, x = ix2 p q := ⟨x 0, x 1, eq_ix2 x⟩
  have h0 : a.val = o + p.val := hx 0
  have h1 : b.val = 0 + q.val := hx 1
  rw [h p (h0 ▸ a.isLt) q]
  exact congrArg₂ G (Fin.ext h0.symm) (Fin.ext (by omega))

/-- A panel of `s` columns from column `o`, likewise. -/
theorem columns_at (a : Fin n) (b : Fin k) (o s : ℕ) (w : (⟨2, ![n, s]⟩ : Shape).Idx → EReal) (G : Fin n → Fin k → EReal)
    (h : ∀ (p : Fin n) (q : Fin s) (hq : o + q.val < k), w (ix2 p q) = G p ⟨o + q.val, hq⟩) :
    View.TileAt (Val := Elt Ideal) (e := .f32) (S := ⟨2, ![n, k]⟩) (ix2 a b) ![0, o] ![n, s] w (G a b) := by
  intro x hx
  obtain ⟨p, q, rfl⟩ : ∃ p q, x = ix2 p q := ⟨x 0, x 1, eq_ix2 x⟩
  have h0 : a.val = 0 + p.val := hx 0
  have h1 : b.val = o + q.val := hx 1
  rw [h p q (h1 ▸ b.isLt)]
  exact congrArg₂ G (Fin.ext (by omega)) (Fin.ext h1.symm)

end Blocks
-- ==== Proof.Swish.lean ====
module

public import Idealize.ShloMosaic.PureOps.Ideal.Laws
public import Mathlib.Analysis.SpecialFunctions.Trigonometric.Basic
public import Mathlib.Analysis.Complex.Trigonometric

/-!
The gate `x * logistic x` and its derivative over the extended reals.

The kernel takes the logistic from a hyperbolic tangent of half the argument, the reference from an exponential.
-/

@[expose] public section
namespace Swish
open Idealize.ShloMosaic

/-- The logistic, as the reference takes it. -/
noncomputable def logistic (g : EReal) : EReal := Ideal.div 1 (1 + Ideal.exp (-g))

theorem half : Ideal.ofBits .f32 1056964608#32 = ((1 / 2 : ℝ) : EReal) := by
  simp [Ideal.ofBits, Ideal.ieee]
  rw [← EReal.coe_mul]
  norm_num

theorem logistic_coe (r : ℝ) : logistic (r : EReal) = ((1 + Real.exp (-r))⁻¹ : ℝ) := by
  have hp : 0 < 1 + Real.exp (-r) := by positivity
  have hs : (1 : EReal) + Ideal.exp (-(r : EReal)) = ((1 + Real.exp (-r) : ℝ) : EReal) := by
    rw [← EReal.coe_neg, EReal.coe_add]; rfl
  rw [logistic, hs, Ideal.div, if_neg (by exact_mod_cast hp.ne'), one_mul, EReal.coe_inv]

theorem logistic_top : logistic ⊤ = 1 := by
  have : (1 : EReal) + Ideal.exp (-⊤) = 1 := by rw [EReal.neg_top]; exact add_zero _
  rw [logistic, this, Ideal.div, if_neg one_ne_zero]
  simp

theorem logistic_bot : logistic ⊥ = 0 := by
  have : (1 : EReal) + Ideal.exp (-⊥) = ⊤ := by rw [EReal.neg_bot]; rfl
  rw [logistic, this, Ideal.div, if_neg EReal.top_ne_zero]
  simp

theorem tanh_half (r : ℝ) : 1 / 2 * Real.tanh (1 / 2 * r) + 1 / 2 = (1 + Real.exp (-r))⁻¹ := by
  have he : Real.exp (-r) = Real.exp (-(1 / 2 * r)) * Real.exp (-(1 / 2 * r)) := by rw [← Real.exp_add]; congr 1; ring
  have hi : Real.exp (1 / 2 * r) * Real.exp (-(1 / 2 * r)) = 1 := by rw [← Real.exp_add]; simp
  have h1 := Real.exp_pos (1 / 2 * r)
  have h2 := Real.exp_pos (-(1 / 2 * r))
  rw [Real.tanh_eq_sinh_div_cosh, Real.sinh_eq, Real.cosh_eq, he]
  generalize Real.exp (1 / 2 * r) = p at *
  generalize Real.exp (-(1 / 2 * r)) = q at *
  have : p + q ≠ 0 := by positivity
  have : 1 + q * q ≠ 0 := by positivity
  field_simp
  linear_combination (2 * q) * hi

/-- The kernel's form of the logistic, at every extended real. -/
theorem tanh_form (g : EReal) :
    Ideal.ofBits .f32 1056964608#32 * Ideal.tanh (Ideal.ofBits .f32 1056964608#32 * g) + Ideal.ofBits .f32 1056964608#32 = logistic g := by
  rw [half]
  induction g using EReal.rec with
  | bot =>
    rw [logistic_bot, EReal.coe_mul_bot_of_pos (by norm_num), Ideal.tanh_bot]
    have : ((1 / 2 : ℝ) : EReal) * -1 + ((1 / 2 : ℝ) : EReal) = ((1 / 2 * -1 + 1 / 2 : ℝ) : EReal) := by push_cast; rfl
    rw [this]; norm_num
  | top =>
    rw [logistic_top, EReal.coe_mul_top_of_pos (by norm_num), Ideal.tanh_top]
    have : ((1 / 2 : ℝ) : EReal) * 1 + ((1 / 2 : ℝ) : EReal) = ((1 / 2 * 1 + 1 / 2 : ℝ) : EReal) := by push_cast; rfl
    rw [this]; norm_num
  | coe r =>
    rw [logistic_coe, ← EReal.coe_mul, Ideal.tanh_coe, ← EReal.coe_mul, ← EReal.coe_add, tanh_half]

/-- The gate's derivative: the kernel multiplies it out around the logistic, the reference adds the two terms of the product rule. -/
theorem gradient (a u : ℝ) (g : EReal) :
    (a : EReal) * ((u : EReal) * (logistic g * (1 + g * (1 - logistic g))))
      = (a : EReal) * u * logistic g + g * ((a : EReal) * u) * (logistic g * (1 - logistic g)) := by
  induction g using EReal.rec with
  | bot => simp [logistic_bot]
  | top =>
    have h : (1 : EReal) - 1 = 0 := by rw [← EReal.coe_one, ← EReal.coe_sub]; simp
    simp [logistic_top, h]
  | coe r =>
    rw [logistic_coe]
    generalize (1 + Real.exp (-r))⁻¹ = s
    norm_cast
    ring

/-- A value whose absolute value is below infinity is a real number. -/
theorem real_of_bound (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    rw [Ideal.cmp] at h
    simp [hn] at h
  rw [max_lt_iff] at hlt
  induction x using EReal.rec with
  | bot => simp at hlt
  | top => simp at hlt
  | coe r => exact ⟨r, rfl⟩

/-- A finite sum of products of reals is a real. -/
theorem sum_real {ι : Type} [Fintype ι] (f g : ι → EReal) (hf : ∀ i, ∃ r : ℝ, f i = r) (hg : ∀ i, ∃ r : ℝ, g i = r) :
    ∃ r : ℝ, ∑ i, f i * g i = r := by
  refine Finset.sum_induction (fun i => f i * g i) (fun x => ∃ r : ℝ, x = (r : EReal)) (fun x y hx hy => ?_) ⟨0, rfl⟩ fun i _ => ?_
  · obtain ⟨⟨p, rfl⟩, ⟨q, rfl⟩⟩ := And.intro hx hy
    exact ⟨p + q, (EReal.coe_add p q).symm⟩
  · obtain ⟨⟨p, hp⟩, ⟨q, hq⟩⟩ := And.intro (hf i) (hg i)
    exact ⟨p * q, by rw [hp, hq, EReal.coe_mul]⟩

end Swish
-- ==== Proof.GateDown.lean ====
module

public import proofs.«01_k».proof.Proof.Gen.Kernel3Ideal.Value
public import proofs.«01_k».proof.Proof.BlockSums
public import proofs.«01_k».proof.Proof.Panels
public import proofs.«01_k».proof.Proof.Swish
public import Idealize.ShloMosaic.Lib.Pointwise
public import Idealize.ShloMosaic.Lib.Pipeline.ValueKit
public import Idealize.ShloMosaic.Lib.StableHlo.RunRead

/-!
The values of the call that takes the gradient through the down projection and the gate: at every entry the product of the
incoming gradient with the weight's row, times what the forward call saved of the gate.
-/

@[expose] public section
set_option maxRecDepth 16384
noncomputable section
namespace Cert.Kernel3Ideal.Body
open Cert.Kernel3Ideal Cert.Kernel3Ideal.Gen Idealize.ShloMosaic Idealize.ShloMosaic.TcCoe Idealize.SL.Sem Idealize.ShloMosaic.Tactic
variable (m : (ℓ : Loc nD τ sig) → Buf (Elt Ideal) ℓ) (c : Dev nD)

/-- The gate, the up half, the weight and the incoming gradient. -/
abbrev argG : S8192x5632.Idx → EReal := m ((c : Thread nD τ).loc main_arg0)
abbrev argU : S8192x5632.Idx → EReal := m ((c : Thread nD τ).loc main_arg1)
abbrev argW : S5632x2048.Idx → EReal := m ((c : Thread nD τ).loc main_arg2)
abbrev argD : S8192x2048.Idx → EReal := m ((c : Thread nD τ).loc main_arg3)

/-- The gradient of the feed-forward block's hidden array. -/
def acc (i j : ℕ) : EReal := ∑ k : Fin 2048, Blocks.at2 (fun a b => argD m c (ix2 a b)) i k.val * Blocks.at2 (fun a b => argW m c (ix2 a b)) j k.val

def gateEntry (i j : ℕ) : EReal :=
  acc m c i j * (Blocks.at2 (fun a b => argU m c (ix2 a b)) i j * (Swish.logistic (Blocks.at2 (fun a b => argG m c (ix2 a b)) i j)
    * (1 + Blocks.at2 (fun a b => argG m c (ix2 a b)) i j * (1 - Swish.logistic (Blocks.at2 (fun a b => argG m c (ix2 a b)) i j)))))

def upEntry (i j : ℕ) : EReal :=
  acc m c i j * (Blocks.at2 (fun a b => argG m c (ix2 a b)) i j * Swish.logistic (Blocks.at2 (fun a b => argG m c (ix2 a b)) i j))

theorem gate_block (x0 : Vec Ideal S2048x2048 .bf16) (x1 : Vec Ideal S512x2048 .bf16) (x2 x3 : Vec Ideal S2048x512 .bf16) (a : Fin 2048) (b : Fin 512) :
    out0_4 x0 x1 x2 x3 (ix2 a b) = (∑ k : Fin 2048, x0 (ix2 a k) * x1 (ix2 b k)) * x2 (ix2 a b) := by
  frame_out
  refine View.canon_eq_of_allAt _ _ _ (View.cover_of_tiled_head _ _ _ rfl _) ?_
  iterate 2
    refine View.allAt_cons_unit _ _ _ _ _ (Blocks.rows_at a b _ _ _ (fun a b => (∑ k : Fin 2048, x0 (ix2 a k) * x1 (ix2 b k)) * x2 (ix2 a b)) fun p hp q => ?_) ?_
    · pointwise [k0_pay5, k0_pay4, k0_pay2, k0_pay1, r0_0, r0_2, r0_3, r0_4]
  exact View.allAt_nil _ _

theorem up_block (x0 : Vec Ideal S2048x2048 .bf16) (x1 : Vec Ideal S512x2048 .bf16) (x2 x3 : Vec Ideal S2048x512 .bf16) (a : Fin 2048) (b : Fin 512) :
    out0_5 x0 x1 x2 x3 (ix2 a b) = (∑ k : Fin 2048, x0 (ix2 a k) * x1 (ix2 b k)) * x3 (ix2 a b) := by
  frame_out
  refine View.canon_eq_of_allAt _ _ _ (View.cover_of_tiled_head _ _ _ rfl _) ?_
  iterate 2
    refine View.allAt_cons_unit _ _ _ _ _ (Blocks.rows_at a b _ _ _ (fun a b => (∑ k : Fin 2048, x0 (ix2 a k) * x1 (ix2 b k)) * x3 (ix2 a b)) fun p hp q => ?_) ?_
    · pointwise [k0_pay6, k0_pay4, k0_pay3, k0_pay1, r0_0, r0_2, r0_3, r0_4]
  exact View.allAt_nil _ _

/-- What the forward call saved for the up half. -/
theorem saved_act (a : Fin 8192) (b : Fin 5632) : (V m c main_v8 : S8192x5632.Idx → EReal) (ix2 a b) = (argG m c (ix2 a b) * Swish.logistic (argG m c (ix2 a b)) : EReal) := by
  rw [← Swish.tanh_form]
  unfold_abbrev_sides
  after_reads_simp
  pointwise
  rfl

/-- What it saved for the gate. -/
theorem saved_dact (a : Fin 8192) (b : Fin 5632) : (V m c main_v16 : S8192x5632.Idx → EReal) (ix2 a b)
    = (argU m c (ix2 a b) * (Swish.logistic (argG m c (ix2 a b)) * (1 + argG m c (ix2 a b) * (1 - Swish.logistic (argG m c (ix2 a b))))) : EReal) := by
  rw [← Swish.tanh_form]
  unfold_abbrev_sides
  after_reads_simp
  pointwise
  rfl

theorem index0 : ∀ t : Fin cfg0.N, win0_0.index t = ![t.val / 11, 0] := (by decide +kernel : ∀ t : Fin grid0.N, _)
theorem index1 : ∀ t : Fin cfg0.N, win0_1.index t = ![t.val % 11, 0] := (by decide +kernel : ∀ t : Fin grid0.N, _)
theorem index2 : ∀ t : Fin cfg0.N, win0_2.index t = ![t.val / 11, t.val % 11] := (by decide +kernel : ∀ t : Fin grid0.N, _)
theorem index3 : ∀ t : Fin cfg0.N, win0_3.index t = ![t.val / 11, t.val % 11] := (by decide +kernel : ∀ t : Fin grid0.N, _)
theorem index4 : ∀ t : Fin cfg0.N, win0_4.index t = ![t.val / 11, t.val % 11] := (by decide +kernel : ∀ t : Fin grid0.N, _)
theorem index5 : ∀ t : Fin cfg0.N, win0_5.index t = ![t.val / 11, t.val % 11] := (by decide +kernel : ∀ t : Fin grid0.N, _)
theorem point_lt (t : Fin cfg0.N) : t.val < 44 := lt_of_lt_of_eq t.isLt N_0

abbrev blkD (t : Fin cfg0.N) : S2048x2048.Idx → EReal := iblk m c 0 t
abbrev blkW (t : Fin cfg0.N) : S512x2048.Idx → EReal := iblk m c 1 t
abbrev blkU (t : Fin cfg0.N) : S2048x512.Idx → EReal := iblk m c 2 t
abbrev blkG (t : Fin cfg0.N) : S2048x512.Idx → EReal := iblk m c 3 t

theorem block_acc (t : Fin cfg0.N) (a : Fin 2048) (b : Fin 512) :
    ∑ k : Fin 2048, blkD m c t (ix2 a k) * blkW m c t (ix2 b k) = acc m c (2048 * (t.val / 11) + a.val) (512 * (t.val % 11) + b.val) := by
  have ht := point_lt t
  unfold acc
  refine Finset.sum_congr rfl fun k _ => ?_
  rw [Blocks.at2_of_lt _ (by omega) (by omega), Blocks.at2_of_lt _ (by omega) (by omega)]
  congr 1
  · unfold blkD
    blk_simp [iblk]
    rw [V_main_arg3]
    refine congrArg (argD m c) ?_
    blk_ext [index0]
  · unfold blkW
    blk_simp [iblk]
    rw [V_main_arg2]
    refine congrArg (argW m c) ?_
    blk_ext [index1]

theorem block_act (t : Fin cfg0.N) (a : Fin 2048) (b : Fin 512) (ha : 2048 * (t.val / 11) + a.val < 8192) (hb : 512 * (t.val % 11) + b.val < 5632) :
    blkG m c t (ix2 a b) = (V m c main_v8 : S8192x5632.Idx → EReal) (ix2 ⟨2048 * (t.val / 11) + a.val, ha⟩ ⟨512 * (t.val % 11) + b.val, hb⟩) := by
  unfold blkG
  blk_simp [iblk]
  refine congrArg (V m c main_v8 : S8192x5632.Idx → EReal) ?_
  blk_ext [index3]

theorem block_dact (t : Fin cfg0.N) (a : Fin 2048) (b : Fin 512) (ha : 2048 * (t.val / 11) + a.val < 8192) (hb : 512 * (t.val % 11) + b.val < 5632) :
    blkU m c t (ix2 a b) = (V m c main_v16 : S8192x5632.Idx → EReal) (ix2 ⟨2048 * (t.val / 11) + a.val, ha⟩ ⟨512 * (t.val % 11) + b.val, hb⟩) := by
  unfold blkU
  blk_simp [iblk]
  refine congrArg (V m c main_v16 : S8192x5632.Idx → EReal) ?_
  blk_ext [index2]

theorem final_gate : (dats m 0 c).arrAt 4 cfg0.N = (fun i : S8192x5632.Idx => gateEntry m c (i 0).val (i 1).val) := by
  refine (dats m 0 c).arrAt_eq_of_covers 4 _ (by decide +kernel) fun t _ y => ?_
  obtain ⟨a, b, rfl⟩ : ∃ a b, y = ix2 a b := ⟨y 0, y 1, eq_ix2 y⟩
  have ht := point_lt t
  blk_simp
  rw [after0_4]
  refine (gate_block _ _ _ _ a b).trans ?_
  have q0 : win0_4.index t 0 = t.val / 11 := congrFun (index4 t) 0
  have q1 : win0_4.index t 1 = t.val % 11 := congrFun (index4 t) 1
  refine Eq.trans ?_ (congrArg₂ (gateEntry m c) (show 2048 * (t.val / 11) + a.val = _ by dsimp only; omega) (show 512 * (t.val % 11) + b.val = _ by dsimp only; omega))
  refine congrArg₂ (· * ·) (block_acc m c t a b) ?_
  rw [Blocks.at2_of_lt _ (by omega) (by omega), Blocks.at2_of_lt _ (by omega) (by omega)]
  exact (block_dact m c t a b (by omega) (by omega)).trans (saved_dact m c _ _)

theorem final_up : (dats m 0 c).arrAt 5 cfg0.N = (fun i : S8192x5632.Idx => upEntry m c (i 0).val (i 1).val) := by
  refine (dats m 0 c).arrAt_eq_of_covers 5 _ (by decide +kernel) fun t _ y => ?_
  obtain ⟨a, b, rfl⟩ : ∃ a b, y = ix2 a b := ⟨y 0, y 1, eq_ix2 y⟩
  have ht := point_lt t
  blk_simp
  rw [after0_5]
  refine (up_block _ _ _ _ a b).trans ?_
  have q0 : win0_5.index t 0 = t.val / 11 := congrFun (index5 t) 0
  have q1 : win0_5.index t 1 = t.val % 11 := congrFun (index5 t) 1
  refine Eq.trans ?_ (congrArg₂ (upEntry m c) (show 2048 * (t.val / 11) + a.val = _ by dsimp only; omega) (show 512 * (t.val % 11) + b.val = _ by dsimp only; omega))
  refine congrArg₂ (· * ·) (block_acc m c t a b) ?_
  rw [Blocks.at2_of_lt _ (by omega) (by omega)]
  exact (block_act m c t a b (by omega) (by omega)).trans (saved_act m c _ _)

end Cert.Kernel3Ideal.Body
end
-- ==== Proof.Ref3.lean ====
module

public import proofs.«01_k».proof.Proof.Gen.Reference3Ideal.Read
public import proofs.«01_k».proof.Proof.BlockSums
public import proofs.«01_k».proof.Proof.Swish
public import Idealize.ShloMosaic.Lib.Pointwise

@[expose] public section

noncomputable section

namespace Cert.Reference3Ideal.Body

open Cert.Reference3Ideal Cert.Reference3Ideal.Read Cert.Reference3Ideal.Gen Idealize.ShloMosaic Idealize.ShloMosaic.TcCoe Idealize.SL.Sem Idealize.ShloMosaic.Tactic

variable (x0 x1 : (⟨S8192x5632, .f32⟩ : BufTy).Contents (Elt Ideal)) (x2 : (⟨S5632x2048, .bf16⟩ : BufTy).Contents (Elt Ideal)) (x3 : (⟨S8192x2048, .bf16⟩ : BufTy).Contents (Elt Ideal))

/-- The gradient of the hidden array. -/
def acc (i j : ℕ) : EReal := ∑ k : Fin 2048, Blocks.at2 (fun a b => x3 (ix2 a b)) i k.val * Blocks.at2 (fun a b => x2 (ix2 a b)) j k.val

theorem acc_fin (a : Fin 8192) (b : Fin 5632) : ∑ k : Fin 2048, x3 (ix2 a k) * x2 (ix2 b k) = acc x2 x3 a.val b.val := by
  unfold acc
  refine Finset.sum_congr rfl fun k _ => ?_
  exact congrArg₂ (· * ·) (Blocks.at2_fin (fun a b => x3 (ix2 a b)) a k).symm (Blocks.at2_fin (fun a b => x2 (ix2 a b)) b k).symm

/-- The gradient of the gate, of finite factors. -/
def gateEntry (i j : ℕ) : EReal :=
  acc x2 x3 i j * (Blocks.at2 (fun a b => x1 (ix2 a b)) i j * (Swish.logistic (Blocks.at2 (fun a b => x0 (ix2 a b)) i j)
    * (1 + Blocks.at2 (fun a b => x0 (ix2 a b)) i j * (1 - Swish.logistic (Blocks.at2 (fun a b => x0 (ix2 a b)) i j)))))

def upEntry (i j : ℕ) : EReal :=
  acc x2 x3 i j * (Blocks.at2 (fun a b => x0 (ix2 a b)) i j * Swish.logistic (Blocks.at2 (fun a b => x0 (ix2 a b)) i j))

theorem whole_gate (h1 : ∀ a b, ∃ r : ℝ, x1 (ix2 a b) = (r : EReal)) (h2 : ∀ a b, ∃ r : ℝ, x2 (ix2 a b) = (r : EReal)) (h3 : ∀ a b, ∃ r : ℝ, x3 (ix2 a b) = (r : EReal)) :
    val_main_v9 (F := Ideal) x0 x1 x2 x3 = fun i => gateEntry x0 x1 x2 x3 (i 0).val (i 1).val := by
  funext i
  obtain ⟨a, b, rfl⟩ : ∃ a b, i = ix2 a b := ⟨i 0, i 1, eq_ix2 i⟩
  pointwise [val_main_v9, val_main_v8, val_main_v7, val_main_v5, val_main_v4, val_main_v2, val_main_call1_v0, val_main_call1_v1, val_main_call1_v2, val_main_v0_0, val_main_v0_1, val_main_v0_2, val_main_call0_v0, val_main_call0_v1, val_main_call0_v2, val_main_call0_v3, val_main_call0_v4, val_main_call0_v6, val_main_call0_v7, val_main_call0_cst, val_main_call0_cst_0, val_main_call0_cst_1]
  obtain ⟨s, hs⟩ := Swish.sum_real (fun k : Fin 2048 => x3 (ix2 a k)) (fun k => x2 (ix2 b k)) (fun k => h3 a k) (fun k => h2 b k)
  obtain ⟨u, hu⟩ := h1 a b
  have e0 : Blocks.at2 (fun a b => x0 (ix2 a b)) a.val b.val = x0 (ix2 a b) := Blocks.at2_fin (fun a b => x0 (ix2 a b)) a b
  have e1 : Blocks.at2 (fun a b => x1 (ix2 a b)) a.val b.val = x1 (ix2 a b) := Blocks.at2_fin (fun a b => x1 (ix2 a b)) a b
  refine Eq.trans ?_ (show _ = gateEntry x0 x1 x2 x3 a.val b.val from congrArg₂ (· * ·) (acc_fin x2 x3 a b) (by rw [e0, e1]))
  rw [hs, hu]
  exact (Swish.gradient s u (x0 (ix2 a b))).symm

theorem whole_up : val_main_v10 (F := Ideal) x0 x2 x3 = fun i => upEntry x0 x2 x3 (i 0).val (i 1).val := by
  funext i
  obtain ⟨a, b, rfl⟩ : ∃ a b, i = ix2 a b := ⟨i 0, i 1, eq_ix2 i⟩
  pointwise [val_main_v10, val_main_v6, val_main_v5, val_main_v4, val_main_v2, val_main_v0_0, val_main_v0_2, val_main_call0_v0, val_main_call0_v1, val_main_call0_v2, val_main_call0_v3, val_main_call0_v4, val_main_call0_v6, val_main_call0_v7, val_main_call0_cst, val_main_call0_cst_0, val_main_call0_cst_1]
  have e0 : Blocks.at2 (fun a b => x0 (ix2 a b)) a.val b.val = x0 (ix2 a b) := Blocks.at2_fin (fun a b => x0 (ix2 a b)) a b
  rw [mul_comm]
  exact congrArg₂ (· * ·) (acc_fin x2 x3 a b) (by rw [e0]; rfl)

end Cert.Reference3Ideal.Body

end
-- ==== Proof.GwDown.lean ====
module

public import proofs.«01_k».proof.Proof.BlockSums
public import proofs.«01_k».proof.Proof.Gen.Kernel4Ideal.Value
public import Idealize.ShloMosaic.Lib.Pointwise
public import Idealize.ShloMosaic.Lib.Pipeline.ValueKit
public import Idealize.ShloMosaic.Lib.Pipeline.ValueKit.Acc

/-!
The gradient of the down projection: what the accumulating kernel leaves in its result.
-/

@[expose] public section
set_option maxRecDepth 16384
noncomputable section
namespace Cert.Kernel4Ideal.Body
open Cert.Kernel4Ideal Cert.Kernel4Ideal.Gen Idealize.ShloMosaic Idealize.ShloMosaic.TcCoe Idealize.SL.Sem Idealize.ShloMosaic.Tactic
variable (m : (ℓ : Loc nD τ sig) → Buf (Elt Ideal) ℓ) (c : Dev nD)

/-- The hidden activations and the cotangent of the branch's output. -/
abbrev argA : S8192x5632.Idx → EReal := m ((c : Thread nD τ).loc main_arg0)
abbrev argB : S8192x2048.Idx → EReal := m ((c : Thread nD τ).loc main_arg1)
abbrev blkA (t : Fin cfg0.N) : S1024x1408.Idx → EReal := iblk m c 0 t
abbrev blkB (t : Fin cfg0.N) : S1024x2048.Idx → EReal := iblk m c 1 t

/-- One term of the contraction over tokens, for row `i` and column `j` of the result. -/
def term (i j k : ℕ) : EReal := Blocks.at2 (fun a b => argA m c (ix2 a b)) k i * Blocks.at2 (fun a b => argB m c (ix2 a b)) k j

theorem point_lt (t : Fin cfg0.N) : t.val < 32 := lt_of_lt_of_eq t.isLt N_0

/-- What one grid point adds: its block of tokens, for its rows of the result. -/
theorem addend (t : Fin cfg0.N) (a : Fin 1408) (b : Fin 2048) :
    ∑ x : Fin 1024, blkA m c t (ix2 x a) * blkB m c t (ix2 x b)
      = ∑ x : Fin 1024, term m c (1408 * (t.val / 8) + a.val) b.val (1024 * (t.val % 8) + x.val) := by
  refine Finset.sum_congr rfl fun x _ => ?_
  have e0 : ∀ t : Fin cfg0.N, win0_0.index t = ![t.val % 8, t.val / 8] := (by decide +kernel : ∀ t : Fin grid0.N, _)
  have e1 : ∀ t : Fin cfg0.N, win0_1.index t = ![t.val % 8, 0] := (by decide +kernel : ∀ t : Fin grid0.N, _)
  have ht := point_lt t
  unfold term
  rw [Blocks.at2_of_lt _ (by omega) (by omega), Blocks.at2_of_lt _ (by omega) (by omega)]
  congr 1
  · blk_simp [iblk]
    rw [V_main_arg0]
    refine congrArg (argA m c) ?_
    blk_ext [e0]
  · blk_simp [iblk]
    rw [V_main_arg1]
    refine congrArg (argB m c) ?_
    blk_ext [e1]

/-- What a run of eight points has added by its point `t`. -/
theorem partial_sum (t : Fin cfg0.N) (y : S1408x2048.Idx) :
    ((outsAt0 m c t.val t.isLt).2 : S1408x2048.Idx → EReal) y = 0 + ∑ k ∈ Finset.range (t.val % 8 + 1),
      ∑ x : Fin 1024, term m c (1408 * (t.val / 8) + (y 0).val) (y 1).val (1024 * k + x.val) := by
  refine Pipeline.eq_sum_of_reset_step_apply_divmod (M := EReal) (fun n h => ((outsAt0 m c n h).2 : S1408x2048.Idx → EReal)) 8 (fun _ => 0)
    (fun q k y => ∑ x : Fin 1024, term m c (1408 * q + (y 0).val) (y 1).val (1024 * k + x.val)) (fun t h y => ?_) (fun t h y => ?_) t y
  · obtain ⟨a, b, rfl⟩ : ∃ a b, y = ix2 a b := ⟨y 0, y 1, eq_ix2 y⟩
    dsimp only
    rw [outsAt0_A m c t h (by omega) (by omega)]
    frame_out
    pointwise [k0_pay1]
    exact addend m c t a b
  · obtain ⟨a, b, rfl⟩ : ∃ a b, y = ix2 a b := ⟨y 0, y 1, eq_ix2 y⟩
    dsimp only
    by_cases h7 : t.val % 8 = 7
    · rw [outsAt0_C m c t h (by omega) h7]
      frame_out
      pointwise [k0_pay2]
      rw [(Memref.isWhole_whole _).read_unread]
      exact congrArg _ (addend m c t a b)
    · rw [outsAt0_B m c t h (by omega) h7]
      frame_out
      pointwise [k0_pay2]
      rw [(Memref.isWhole_whole _).read_unread]
      exact congrArg _ (addend m c t a b)

/-- At a run's last point the result's block is the accumulator. -/
theorem out_last (t : Fin cfg0.N) (h7 : t.val % 8 = 7) (y : S1408x2048.Idx) :
    ((outsAt0 m c t.val t.isLt).1 : S1408x2048.Idx → EReal) y = ((outsAt0 m c t.val t.isLt).2 : S1408x2048.Idx → EReal) y := by
  obtain ⟨a, b, rfl⟩ : ∃ a b, y = ix2 a b := ⟨y 0, y 1, eq_ix2 y⟩
  rw [outsAt0_C m c t (by omega) (by omega) h7]
  frame_out
  pointwise [k0_pay3, k0_pay2]

/-- An entry of the result. -/
def entry (i j : ℕ) : EReal := ∑ k : Fin 8192, term m c i j k.val

theorem final : (dats m 0 c).arrAt 2 cfg0.N = (fun i : S5632x2048.Idx => entry m c (i 0).val (i 1).val) := by
  refine (dats m 0 c).arrAt_eq_of_covers 2 _ (by decide +kernel) fun t hf y => ?_
  have e2 : ∀ t : Fin cfg0.N, win0_2.index t = ![t.val / 8, 0] := (by decide +kernel : ∀ t : Fin grid0.N, _)
  have h7 : t.val % 8 = 7 := (flush0_2 t).mp hf
  blk_simp
  rw [after0_2, out_last m c t h7, partial_sum, h7, zero_add, Blocks.sum_fin _ 1024 8 8192 rfl]
  have q0 : win0_2.index t 0 = t.val / 8 := congrFun (e2 t) 0
  have q1 : win0_2.index t 1 = 0 := congrFun (e2 t) 1
  exact congrArg₂ (entry m c) (by dsimp only; omega) (by dsimp only; omega)
end Cert.Kernel4Ideal.Body
end
-- ==== Proof.Ref4.lean ====
module

public import proofs.«01_k».proof.Proof.Gen.Reference4Ideal.Read
public import proofs.«01_k».proof.Proof.BlockSums
public import Idealize.ShloMosaic.Lib.Pointwise

@[expose] public section

noncomputable section

namespace Cert.Reference4Ideal.Body

open Cert.Reference4Ideal Cert.Reference4Ideal.Read Cert.Reference4Ideal.Gen Idealize.ShloMosaic Idealize.ShloMosaic.TcCoe Idealize.SL.Sem Idealize.ShloMosaic.Tactic

variable (x0 : (⟨S8192x5632, .bf16⟩ : BufTy).Contents (Elt Ideal)) (x1 : (⟨S8192x2048, .bf16⟩ : BufTy).Contents (Elt Ideal))

/-- An entry of the gradient of the down projection's weight. -/
def entry (i j : ℕ) : EReal :=
  ∑ k : Fin 8192, Blocks.at2 (fun a b => x0 (ix2 a b)) k.val i * Blocks.at2 (fun a b => x1 (ix2 a b)) k.val j

theorem whole : val_main_v6 (F := Ideal) x0 x1 = fun i => entry x0 x1 (i 0).val (i 1).val := by
  funext i
  obtain ⟨a, b, rfl⟩ : ∃ a b, i = ix2 a b := ⟨i 0, i 1, eq_ix2 i⟩
  pointwise [val_main_v6, val_main_v5, val_main_v4, val_main_v3, val_main_v1]
  unfold entry
  refine Finset.sum_congr rfl fun k _ => ?_
  rw [mul_comm]
  exact congrArg₂ (· * ·) (Blocks.at2_fin (fun a b => x0 (ix2 a b)) k a).symm (Blocks.at2_fin (fun a b => x1 (ix2 a b)) k b).symm

end Cert.Reference4Ideal.Body

end
-- ==== Proof.DOut.lean ====
module

public import proofs.«01_k».proof.Proof.BlockSums
public import proofs.«01_k».proof.Proof.Gen.Kernel5Ideal.Value
public import Idealize.ShloMosaic.Lib.Pointwise
public import Idealize.ShloMosaic.Lib.Pipeline.ValueKit
public import Idealize.ShloMosaic.Lib.Pipeline.ValueKit.Acc

/-!
The gradient of the output projection with respect to its input.
-/

@[expose] public section
set_option maxRecDepth 16384
noncomputable section
namespace Cert.Kernel5Ideal.Body
open Cert.Kernel5Ideal Cert.Kernel5Ideal.Gen Idealize.ShloMosaic Idealize.ShloMosaic.TcCoe Idealize.SL.Sem Idealize.ShloMosaic.Tactic
variable (m : (ℓ : Loc nD τ sig) → Buf (Elt Ideal) ℓ) (c : Dev nD)

/-- The two factors. -/
abbrev argA : S8192x2048.Idx → EReal := m ((c : Thread nD τ).loc main_arg1)
abbrev argB : S2048x2048.Idx → EReal := m ((c : Thread nD τ).loc main_arg0)

/-- An entry of the result. -/
def entry (i j : ℕ) : EReal :=
  ∑ k : Fin 2048, Blocks.at2 (fun a b => argA m c (ix2 a b)) i k.val * Blocks.at2 (fun a b => argB m c (ix2 a b)) j k.val

/-- One grid point's block is the product of its two blocks. -/
theorem block (x0 : Vec Ideal S1024x2048 .bf16) (x1 : Vec Ideal S2048x2048 .bf16) (a : Fin 1024) (b : Fin 2048) :
    out0_2 x0 x1 (ix2 a b) = ∑ k : Fin 2048, x0 (ix2 a k) * x1 (ix2 b k) := by
  frame_out
  pointwise [k0_pay1]

theorem final : (dats m 0 c).arrAt 2 cfg0.N = (fun i : S8192x2048.Idx => entry m c (i 0).val (i 1).val) := by
  refine (dats m 0 c).arrAt_eq_of_covers 2 _ (by decide +kernel) fun t _ y => ?_
  obtain ⟨a, b, rfl⟩ : ∃ a b, y = ix2 a b := ⟨y 0, y 1, eq_ix2 y⟩
  have e0 : ∀ t : Fin cfg0.N, win0_0.index t = ![t.val, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![t.val, 0] := (by decide +kernel : ∀ t : Fin grid0.N, _)
  have ht : t.val < 8 := lt_of_lt_of_eq t.isLt N_0
  blk_simp
  rw [after0_2]
  refine (block _ _ a b).trans ?_
  have q0 : win0_2.index t 0 = t.val := congrFun (e2 t) 0
  have q1 : win0_2.index t 1 = 0 := congrFun (e2 t) 1
  refine Eq.trans ?_ (congrArg₂ (entry m c) (show 1024 * t.val + a.val = _ by dsimp only; omega) (show b.val = _ by omega))
  unfold entry
  refine Finset.sum_congr rfl fun k _ => ?_
  rw [Blocks.at2_of_lt _ (by omega) (by omega), Blocks.at2_of_lt _ (by omega) (by omega)]
  congr 1
  · blk_simp [iblk]
    rw [V_main_arg1]
    refine congrArg (argA m c) ?_
    blk_ext [e0]
  · blk_simp [iblk]
    rw [V_main_arg0]
    refine congrArg (argB m c) ?_
    blk_ext [e1]

end Cert.Kernel5Ideal.Body
end
-- ==== Proof.Ref5.lean ====
module

public import proofs.«01_k».proof.Proof.Gen.Reference5Ideal.Read
public import proofs.«01_k».proof.Proof.BlockSums
public import Idealize.ShloMosaic.Lib.Pointwise

@[expose] public section

noncomputable section

namespace Cert.Reference5Ideal.Body

open Cert.Reference5Ideal Cert.Reference5Ideal.Read Cert.Reference5Ideal.Gen Idealize.ShloMosaic Idealize.ShloMosaic.TcCoe Idealize.SL.Sem Idealize.ShloMosaic.Tactic

variable (x0 : (⟨S2048x2048, .bf16⟩ : BufTy).Contents (Elt Ideal)) (x1 : (⟨S8192x2048, .bf16⟩ : BufTy).Contents (Elt Ideal))

/-- An entry of the gradient through the output weight. -/
def entry (i j : ℕ) : EReal :=
  ∑ k : Fin 2048, Blocks.at2 (fun a b => x1 (ix2 a b)) i k.val * Blocks.at2 (fun a b => x0 (ix2 a b)) j k.val

/-- The two mixers' shares side by side are the product they were cut from. -/
theorem joined (a : Fin 8192) (b : Fin 2048) : val_main_v8 (F := Ideal) x0 x1 (ix2 a b) = val_main_v5 (F := Ideal) x0 x1 (ix2 a b) := by
  pointwise [val_main_v8, val_main_v7, val_main_v6]
  split
  · rfl
  · exact congrArg (val_main_v5 (F := Ideal) x0 x1) (congrArg (ix2 a) (Fin.ext (by dsimp only; omega)))

theorem whole : val_main_v9 (F := Ideal) x0 x1 = fun i => entry x0 x1 (i 0).val (i 1).val := by
  funext i
  obtain ⟨a, b, rfl⟩ : ∃ a b, i = ix2 a b := ⟨i 0, i 1, eq_ix2 i⟩
  pointwise [val_main_v9]
  rw [joined]
  pointwise [val_main_v5, val_main_v4, val_main_v2]
  unfold entry
  refine Finset.sum_congr rfl fun k _ => ?_
  exact congrArg₂ (· * ·) (Blocks.at2_fin (fun a b => x1 (ix2 a b)) a k).symm (Blocks.at2_fin (fun a b => x0 (ix2 a b)) b k).symm

end Cert.Reference5Ideal.Body

end
-- ==== Proof.GwOut.lean ====
module

public import proofs.«01_k».proof.Proof.BlockSums
public import proofs.«01_k».proof.Proof.Gen.Kernel6Ideal.Value
public import proofs.«01_k».proof.Proof.Panels
public import Idealize.ShloMosaic.Lib.Pointwise
public import Idealize.ShloMosaic.Lib.Pipeline.ValueKit
public import Idealize.ShloMosaic.Lib.Pipeline.ValueKit.Acc

/-!
The gradient of the down projection: what the accumulating kernel leaves in its result.
-/

@[expose] public section
set_option maxRecDepth 16384
noncomputable section
namespace Cert.Kernel6Ideal.Body
open Cert.Kernel6Ideal Cert.Kernel6Ideal.Gen Idealize.ShloMosaic Idealize.ShloMosaic.TcCoe Idealize.SL.Sem Idealize.ShloMosaic.Tactic
variable (m : (ℓ : Loc nD τ sig) → Buf (Elt Ideal) ℓ) (c : Dev nD)

/-- The hidden activations and the cotangent of the branch's output. -/
abbrev argA : S8192x2048.Idx → EReal := m ((c : Thread nD τ).loc main_arg0)
abbrev argB : S8192x2048.Idx → EReal := m ((c : Thread nD τ).loc main_arg1)
abbrev blkA (t : Fin cfg0.N) : S2048x1024.Idx → EReal := iblk m c 0 t
abbrev blkB (t : Fin cfg0.N) : S2048x2048.Idx → EReal := iblk m c 1 t

/-- One term of the contraction over tokens, for row `i` and column `j` of the result. -/
def term (i j k : ℕ) : EReal := Blocks.at2 (fun a b => argA m c (ix2 a b)) k i * Blocks.at2 (fun a b => argB m c (ix2 a b)) k j

theorem point_lt (t : Fin cfg0.N) : t.val < 8 := lt_of_lt_of_eq t.isLt N_0

/-- What one grid point adds to an entry of its block of rows. -/
def added (t : Fin cfg0.N) (a b : ℕ) : EReal := ∑ x : Fin 2048, term m c (1024 * (t.val / 4) + a) b (2048 * (t.val % 4) + x.val)

/-- What one grid point adds: its block of tokens, for its rows of the result. -/
theorem addend (t : Fin cfg0.N) (a : Fin 1024) (b : Fin 2048) :
    ∑ x : Fin 2048, blkA m c t (ix2 x a) * blkB m c t (ix2 x b)
      = added m c t a.val b.val := by
  refine Finset.sum_congr rfl fun x _ => ?_
  have e0 : ∀ t : Fin cfg0.N, win0_0.index t = ![t.val % 4, t.val / 4] := (by decide +kernel : ∀ t : Fin grid0.N, _)
  have e1 : ∀ t : Fin cfg0.N, win0_1.index t = ![t.val % 4, 0] := (by decide +kernel : ∀ t : Fin grid0.N, _)
  have ht := point_lt t
  unfold term
  rw [Blocks.at2_of_lt _ (by omega) (by omega), Blocks.at2_of_lt _ (by omega) (by omega)]
  congr 1
  · blk_simp [iblk]
    rw [V_main_arg0]
    refine congrArg (argA m c) ?_
    blk_ext [e0]
  · blk_simp [iblk]
    rw [V_main_arg1]
    refine congrArg (argB m c) ?_
    blk_ext [e1]

/-- The first point of a run: the accumulator's two panels of rows are a product. -/
theorem first_panels (x0 : Vec Ideal S2048x1024 .bf16) (x1 : Vec Ideal S2048x2048 .bf16) (a : Fin 1024) (b : Fin 2048) :
    View.canon [(⟨Rect.unit ![512, 0] ![512, 2048] inb_S1024x2048_S512x2048_512_0,
          k0_pay2 (View.ld x0 (Rect.unit ![0, 512] ![2048, 512] inb_S2048x1024_S2048x512_0_512)) x1⟩ : View.Piece (Elt Ideal) S1024x2048 .f32),
        ⟨Rect.unit ![0, 0] ![512, 2048] inb_S1024x2048_S512x2048_0_0,
          k0_pay1 (View.ld x0 (Rect.unit ![0, 0] ![2048, 512] inb_S2048x1024_S2048x512_0_0)) x1⟩] (ix2 a b)
      = ∑ x : Fin 2048, x0 (ix2 x a) * x1 (ix2 x b) := by
  refine View.canon_eq_of_allAt _ _ _ (View.cover_of_tiled_head _ _ _ rfl _) ?_
  iterate 2
    refine View.allAt_cons_unit _ _ _ _ _ (Blocks.rows_at a b _ _ _ (fun a b => ∑ x : Fin 2048, x0 (ix2 x a) * x1 (ix2 x b)) fun p hp q => ?_) ?_
    · pointwise [k0_pay1, k0_pay2]
  exact View.allAt_nil _ _

/-- A later point of a run: the two panels are the accumulator before, plus a product. -/
theorem later_panels (x0 : Vec Ideal S2048x1024 .bf16) (x1 : Vec Ideal S2048x2048 .bf16) (x2 : Vec Ideal S1024x2048 .f32) (a : Fin 1024) (b : Fin 2048) :
    View.canon [(⟨Rect.unit ![512, 0] ![512, 2048] inb_S1024x2048_S512x2048_512_0,
          k0_pay4 (View.ld x0 (Rect.unit ![0, 512] ![2048, 512] inb_S2048x1024_S2048x512_0_512)) x1
            (View.ld x2 (Rect.unit ![512, 0] ![512, 2048] inb_S1024x2048_S512x2048_512_0))⟩ : View.Piece (Elt Ideal) S1024x2048 .f32),
        ⟨Rect.unit ![0, 0] ![512, 2048] inb_S1024x2048_S512x2048_0_0,
          k0_pay3 (View.ld x0 (Rect.unit ![0, 0] ![2048, 512] inb_S2048x1024_S2048x512_0_0)) x1
            (View.ld x2 (Rect.unit ![0, 0] ![512, 2048] inb_S1024x2048_S512x2048_0_0))⟩] (ix2 a b)
      = x2 (ix2 a b) + ∑ x : Fin 2048, x0 (ix2 x a) * x1 (ix2 x b) := by
  refine View.canon_eq_of_allAt _ _ _ (View.cover_of_tiled_head _ _ _ rfl _) ?_
  iterate 2
    refine View.allAt_cons_unit _ _ _ _ _ (Blocks.rows_at a b _ _ _ (fun a b => x2 (ix2 a b) + ∑ x : Fin 2048, x0 (ix2 x a) * x1 (ix2 x b)) fun p hp q => ?_) ?_
    · pointwise [k0_pay3, k0_pay4]
  exact View.allAt_nil _ _

/-- What a run of four points has added by its point `t`. -/
theorem partial_sum (t : Fin cfg0.N) (y : S1024x2048.Idx) :
    ((outsAt0 m c t.val t.isLt).2 : S1024x2048.Idx → EReal) y = 0 + ∑ k ∈ Finset.range (t.val % 4 + 1),
      ∑ x : Fin 2048, term m c (1024 * (t.val / 4) + (y 0).val) (y 1).val (2048 * k + x.val) := by
  refine Pipeline.eq_sum_of_reset_step_apply_divmod (M := EReal) (fun n h => ((outsAt0 m c n h).2 : S1024x2048.Idx → EReal)) 4 (fun _ => 0)
    (fun q k y => ∑ x : Fin 2048, term m c (1024 * q + (y 0).val) (y 1).val (2048 * k + x.val)) (fun t h y => ?_) (fun t h y => ?_) t y
  · obtain ⟨a, b, rfl⟩ : ∃ a b, y = ix2 a b := ⟨y 0, y 1, eq_ix2 y⟩
    refine Eq.trans ?_ (zero_add _).symm
    rw [outsAt0_A m c t h (by omega) (by omega)]
    frame_out
    exact (first_panels _ _ a b).trans (addend m c t a b)
  · obtain ⟨a, b, rfl⟩ : ∃ a b, y = ix2 a b := ⟨y 0, y 1, eq_ix2 y⟩
    by_cases h7 : t.val % 4 = 3
    on_goal 1 => rw [outsAt0_C m c t h (by omega) h7]
    on_goal 2 => rw [outsAt0_B m c t h (by omega) h7]
    all_goals
      frame_out
      rw [(Memref.isWhole_whole _).read_unread]
      exact (later_panels _ _ _ a b).trans (congrArg _ (addend m c t a b))

/-- At a run's last point the result's block is the accumulator. -/
theorem out_last (t : Fin cfg0.N) (h7 : t.val % 4 = 3) (y : S1024x2048.Idx) :
    ((outsAt0 m c t.val t.isLt).1 : S1024x2048.Idx → EReal) y = ((outsAt0 m c t.val t.isLt).2 : S1024x2048.Idx → EReal) y := by
  obtain ⟨a, b, rfl⟩ : ∃ a b, y = ix2 a b := ⟨y 0, y 1, eq_ix2 y⟩
  rw [outsAt0_C m c t (by omega) (by omega) h7]
  frame_out
  pointwise [k0_pay5]
  rw [View.readCov_eq_canon_ld _ _ _ (View.cover_of_tiled_head _ _ _ rfl), View.ld_unit_lit _ _ (by decide)]

/-- An entry of the result. -/
def entry (i j : ℕ) : EReal := ∑ k : Fin 8192, term m c i j k.val

theorem final : (dats m 0 c).arrAt 2 cfg0.N = (fun i : S2048x2048.Idx => entry m c (i 0).val (i 1).val) := by
  refine (dats m 0 c).arrAt_eq_of_covers 2 _ (by decide +kernel) fun t hf y => ?_
  have e2 : ∀ t : Fin cfg0.N, win0_2.index t = ![t.val / 4, 0] := (by decide +kernel : ∀ t : Fin grid0.N, _)
  have h7 : t.val % 4 = 3 := (flush0_2 t).mp hf
  blk_simp
  rw [after0_2, out_last m c t h7, partial_sum, h7, zero_add, Blocks.sum_fin _ 2048 4 8192 rfl]
  have q0 : win0_2.index t 0 = t.val / 4 := congrFun (e2 t) 0
  have q1 : win0_2.index t 1 = 0 := congrFun (e2 t) 1
  exact congrArg₂ (entry m c) (by dsimp only; omega) (by dsimp only; omega)
end Cert.Kernel6Ideal.Body
end
-- ==== Proof.Ref6.lean ====
module

public import proofs.«01_k».proof.Proof.Gen.Reference6Ideal.Read
public import proofs.«01_k».proof.Proof.BlockSums
public import Idealize.ShloMosaic.Lib.Pointwise

@[expose] public section

noncomputable section

namespace Cert.Reference6Ideal.Body

open Cert.Reference6Ideal Cert.Reference6Ideal.Read Cert.Reference6Ideal.Gen Idealize.ShloMosaic Idealize.ShloMosaic.TcCoe Idealize.SL.Sem Idealize.ShloMosaic.Tactic

variable (x0 : (⟨S8192x2048, .bf16⟩ : BufTy).Contents (Elt Ideal)) (x1 : (⟨S8192x2048, .bf16⟩ : BufTy).Contents (Elt Ideal))

/-- An entry of the gradient of the output weight. -/
def entry (i j : ℕ) : EReal :=
  ∑ k : Fin 8192, Blocks.at2 (fun a b => x0 (ix2 a b)) k.val i * Blocks.at2 (fun a b => x1 (ix2 a b)) k.val j

theorem whole : val_main_v6 (F := Ideal) x0 x1 = fun i => entry x0 x1 (i 0).val (i 1).val := by
  funext i
  obtain ⟨a, b, rfl⟩ : ∃ a b, i = ix2 a b := ⟨i 0, i 1, eq_ix2 i⟩
  pointwise [val_main_v6, val_main_v5, val_main_v4, val_main_v3, val_main_v1]
  unfold entry
  refine Finset.sum_congr rfl fun k _ => ?_
  rw [mul_comm]
  exact congrArg₂ (· * ·) (Blocks.at2_fin (fun a b => x0 (ix2 a b)) k a).symm (Blocks.at2_fin (fun a b => x1 (ix2 a b)) k b).symm

end Cert.Reference6Ideal.Body

end
-- ==== Proof.GwIn.lean ====
module

public import proofs.«01_k».proof.Proof.BlockSums
public import proofs.«01_k».proof.Proof.Panels
public import proofs.«01_k».proof.Proof.Gen.Kernel7Ideal.Value
public import Idealize.ShloMosaic.Lib.Pointwise
public import Idealize.ShloMosaic.Lib.Pipeline.ValueKit
public import Idealize.ShloMosaic.Lib.Pipeline.ValueKit.Acc

/-!
The gradient of the input projection: what the accumulating kernel leaves in its result.
-/

@[expose] public section
set_option maxRecDepth 16384
noncomputable section
namespace Cert.Kernel7Ideal.Body
open Cert.Kernel7Ideal Cert.Kernel7Ideal.Gen Idealize.ShloMosaic Idealize.ShloMosaic.TcCoe Idealize.SL.Sem Idealize.ShloMosaic.Tactic
variable (m : (ℓ : Loc nD τ sig) → Buf (Elt Ideal) ℓ) (c : Dev nD)

/-- The two factors, whole and by block. -/
abbrev argA : S8448x4608.Idx → EReal := m ((c : Thread nD τ).loc main_arg0)
abbrev argB : S8448x2048.Idx → EReal := m ((c : Thread nD τ).loc main_arg1)
abbrev blkA (t : Fin cfg0.N) : S768x2304.Idx → EReal := iblk m c 0 t
abbrev blkB (t : Fin cfg0.N) : S768x2048.Idx → EReal := iblk m c 1 t

/-- One term of the contraction over tokens (the context after the sequence), for row `i` and column `j` of the result. -/
def term (i j k : ℕ) : EReal := Blocks.at2 (fun a b => argA m c (ix2 a b)) k i * Blocks.at2 (fun a b => argB m c (ix2 a b)) k j

theorem point_lt (t : Fin cfg0.N) : t.val < 22 := lt_of_lt_of_eq t.isLt N_0

/-- What one grid point adds to an entry of its block. -/
theorem addend (t : Fin cfg0.N) (a : Fin 2304) (b : Fin 2048) :
    ∑ x : Fin 768, blkA m c t (ix2 x a) * blkB m c t (ix2 x b)
      = ∑ x : Fin 768, term m c (2304 * (t.val / 11) + a.val) (b.val) (768 * (t.val % 11) + x.val) := by
  refine Finset.sum_congr rfl fun x _ => ?_
  have e0 : ∀ t : Fin cfg0.N, win0_0.index t = ![t.val % 11, t.val / 11] := (by decide +kernel : ∀ t : Fin grid0.N, _)
  have e1 : ∀ t : Fin cfg0.N, win0_1.index t = ![t.val % 11, 0] := (by decide +kernel : ∀ t : Fin grid0.N, _)
  have ht := point_lt t
  unfold term
  rw [Blocks.at2_of_lt _ (by omega) (by omega), Blocks.at2_of_lt _ (by omega) (by omega)]
  congr 1
  · blk_simp [iblk]
    rw [V_main_arg0]
    refine congrArg (argA m c) ?_
    blk_ext [e0]
  · blk_simp [iblk]
    rw [V_main_arg1]
    refine congrArg (argB m c) ?_
    blk_ext [e1]

/-- The first point of a run: the panels of the accumulator are a product. -/
theorem first_panels (x0 : Vec Ideal S768x2304 .bf16) (x1 : Vec Ideal S768x2048 .bf16) (a : Fin 2304) (b : Fin 2048) :
    View.canon [(⟨Rect.unit ![1920, 0] ![384, 2048] inb_S2304x2048_S384x2048_1920_0,
          k0_pay2 (View.ld x0 (Rect.unit ![0, 1920] ![768, 384] inb_S768x2304_S768x384_0_1920)) x1⟩ : View.Piece (Elt Ideal) S2304x2048 .f32),
        ⟨Rect.unit ![1536, 0] ![384, 2048] inb_S2304x2048_S384x2048_1536_0,
          k0_pay1 (View.ld x0 (Rect.unit ![0, 1536] ![768, 384] inb_S768x2304_S768x384_0_1536)) x1⟩,
        ⟨Rect.unit ![1152, 0] ![384, 2048] inb_S2304x2048_S384x2048_1152_0,
          k0_pay10 (View.ld x0 (Rect.unit ![0, 1152] ![768, 384] inb_S768x2304_S768x384_0_1152)) x1⟩,
        ⟨Rect.unit ![768, 0] ![384, 2048] inb_S2304x2048_S384x2048_768_0,
          k0_pay9 (View.ld x0 (Rect.unit ![0, 768] ![768, 384] inb_S768x2304_S768x384_0_768)) x1⟩,
        ⟨Rect.unit ![384, 0] ![384, 2048] inb_S2304x2048_S384x2048_384_0,
          k0_pay8 (View.ld x0 (Rect.unit ![0, 384] ![768, 384] inb_S768x2304_S768x384_0_384)) x1⟩,
        ⟨Rect.unit ![0, 0] ![384, 2048] inb_S2304x2048_S384x2048_0_0,
          k0_pay7 (View.ld x0 (Rect.unit ![0, 0] ![768, 384] inb_S768x2304_S768x384_0_0)) x1⟩] (ix2 a b)
      = ∑ x : Fin 768, x0 (ix2 x a) * x1 (ix2 x b) := by
  refine View.canon_eq_of_allAt _ _ _ (View.cover_of_tiled_head _ _ _ rfl _) ?_
  iterate 6
    refine View.allAt_cons_unit _ _ _ _ _ (Blocks.rows_at a b _ _ _ (fun a b => ∑ x : Fin 768, x0 (ix2 x a) * x1 (ix2 x b)) fun p hp q => ?_) ?_
    · pointwise [k0_pay2, k0_pay1, k0_pay10, k0_pay9, k0_pay8, k0_pay7]
  exact View.allAt_nil _ _

/-- A later point of a run: the panels are the accumulator before, plus a product. -/
theorem later_panels (x0 : Vec Ideal S768x2304 .bf16) (x1 : Vec Ideal S768x2048 .bf16) (x2 : Vec Ideal S2304x2048 .f32) (a : Fin 2304) (b : Fin 2048) :
    View.canon [(⟨Rect.unit ![1920, 0] ![384, 2048] inb_S2304x2048_S384x2048_1920_0,
          k0_pay5 (View.ld x0 (Rect.unit ![0, 1920] ![768, 384] inb_S768x2304_S768x384_0_1920)) x1 (View.ld x2 (Rect.unit ![1920, 0] ![384, 2048] inb_S2304x2048_S384x2048_1920_0))⟩ : View.Piece (Elt Ideal) S2304x2048 .f32),
        ⟨Rect.unit ![1536, 0] ![384, 2048] inb_S2304x2048_S384x2048_1536_0,
          k0_pay4 (View.ld x0 (Rect.unit ![0, 1536] ![768, 384] inb_S768x2304_S768x384_0_1536)) x1 (View.ld x2 (Rect.unit ![1536, 0] ![384, 2048] inb_S2304x2048_S384x2048_1536_0))⟩,
        ⟨Rect.unit ![1152, 0] ![384, 2048] inb_S2304x2048_S384x2048_1152_0,
          k0_pay3 (View.ld x0 (Rect.unit ![0, 1152] ![768, 384] inb_S768x2304_S768x384_0_1152)) x1 (View.ld x2 (Rect.unit ![1152, 0] ![384, 2048] inb_S2304x2048_S384x2048_1152_0))⟩,
        ⟨Rect.unit ![768, 0] ![384, 2048] inb_S2304x2048_S384x2048_768_0,
          k0_pay13 (View.ld x0 (Rect.unit ![0, 768] ![768, 384] inb_S768x2304_S768x384_0_768)) x1 (View.ld x2 (Rect.unit ![768, 0] ![384, 2048] inb_S2304x2048_S384x2048_768_0))⟩,
        ⟨Rect.unit ![384, 0] ![384, 2048] inb_S2304x2048_S384x2048_384_0,
          k0_pay12 (View.ld x0 (Rect.unit ![0, 384] ![768, 384] inb_S768x2304_S768x384_0_384)) x1 (View.ld x2 (Rect.unit ![384, 0] ![384, 2048] inb_S2304x2048_S384x2048_384_0))⟩,
        ⟨Rect.unit ![0, 0] ![384, 2048] inb_S2304x2048_S384x2048_0_0,
          k0_pay11 (View.ld x0 (Rect.unit ![0, 0] ![768, 384] inb_S768x2304_S768x384_0_0)) x1 (View.ld x2 (Rect.unit ![0, 0] ![384, 2048] inb_S2304x2048_S384x2048_0_0))⟩] (ix2 a b)
      = x2 (ix2 a b) + ∑ x : Fin 768, x0 (ix2 x a) * x1 (ix2 x b) := by
  refine View.canon_eq_of_allAt _ _ _ (View.cover_of_tiled_head _ _ _ rfl _) ?_
  iterate 6
    refine View.allAt_cons_unit _ _ _ _ _ (Blocks.rows_at a b _ _ _ (fun a b => x2 (ix2 a b) + ∑ x : Fin 768, x0 (ix2 x a) * x1 (ix2 x b)) fun p hp q => ?_) ?_
    · pointwise [k0_pay5, k0_pay4, k0_pay3, k0_pay13, k0_pay12, k0_pay11]
  exact View.allAt_nil _ _

/-- What a run has added by its point `t`. -/
theorem partial_sum (t : Fin cfg0.N) (y : S2304x2048.Idx) :
    ((outsAt0 m c t.val t.isLt).2 : S2304x2048.Idx → EReal) y = 0 + ∑ k ∈ Finset.range (t.val % 11 + 1),
      ∑ x : Fin 768, term m c (2304 * (t.val / 11) + (y 0).val) ((y 1).val) (768 * k + x.val) := by
  refine Pipeline.eq_sum_of_reset_step_apply_divmod (M := EReal) (fun n h => ((outsAt0 m c n h).2 : S2304x2048.Idx → EReal)) 11 (fun _ => 0)
    (fun q k y => ∑ x : Fin 768, term m c (2304 * q + (y 0).val) ((y 1).val) (768 * k + x.val)) (fun t h y => ?_) (fun t h y => ?_) t y
  · obtain ⟨a, b, rfl⟩ : ∃ a b, y = ix2 a b := ⟨y 0, y 1, eq_ix2 y⟩
    refine Eq.trans ?_ (zero_add _).symm
    rw [outsAt0_A m c t h (by omega) (by omega)]
    frame_out
    exact (first_panels _ _ a b).trans (addend m c t a b)
  · obtain ⟨a, b, rfl⟩ : ∃ a b, y = ix2 a b := ⟨y 0, y 1, eq_ix2 y⟩
    by_cases hl : t.val % 11 = 10
    on_goal 1 => rw [outsAt0_C m c t h (by omega) hl]
    on_goal 2 => rw [outsAt0_B m c t h (by omega) hl]
    all_goals
      frame_out
      rw [(Memref.isWhole_whole _).read_unread]
      exact (later_panels _ _ _ a b).trans (congrArg _ (addend m c t a b))

/-- At a run's last point the result's block is the accumulator. -/
theorem out_last (t : Fin cfg0.N) (hl : t.val % 11 = 10) (y : S2304x2048.Idx) :
    ((outsAt0 m c t.val t.isLt).1 : S2304x2048.Idx → EReal) y = ((outsAt0 m c t.val t.isLt).2 : S2304x2048.Idx → EReal) y := by
  obtain ⟨a, b, rfl⟩ : ∃ a b, y = ix2 a b := ⟨y 0, y 1, eq_ix2 y⟩
  rw [outsAt0_C m c t (by omega) (by omega) hl]
  frame_out
  pointwise [k0_pay6]
  rw [View.readCov_eq_canon_ld _ _ _ (View.cover_of_tiled_head _ _ _ rfl), View.ld_unit_lit _ _ (by decide)]

/-- An entry of the result. -/
def entry (i j : ℕ) : EReal := ∑ k : Fin 8448, term m c i j k.val

theorem final : (dats m 0 c).arrAt 2 cfg0.N = (fun i : S4608x2048.Idx => entry m c (i 0).val (i 1).val) := by
  refine (dats m 0 c).arrAt_eq_of_covers 2 _ (by decide +kernel) fun t hf y => ?_
  have e2 : ∀ t : Fin cfg0.N, win0_2.index t = ![t.val / 11, 0] := (by decide +kernel : ∀ t : Fin grid0.N, _)
  have hl : t.val % 11 = 10 := (flush0_2 t).mp hf
  blk_simp
  rw [after0_2, out_last m c t hl, partial_sum, hl, zero_add, Blocks.sum_fin _ 768 11 8448 rfl]
  have q0 : win0_2.index t 0 = t.val / 11 := congrFun (e2 t) 0
  have q1 : win0_2.index t 1 = 0 := congrFun (e2 t) 1
  exact congrArg₂ (entry m c) (by dsimp only; omega) (by dsimp only; omega)

end Cert.Kernel7Ideal.Body
end
-- ==== Proof.Ref7.lean ====
module

public import proofs.«01_k».proof.Proof.Gen.Reference7Ideal.Read
public import proofs.«01_k».proof.Proof.BlockSums
public import Idealize.ShloMosaic.Lib.Pointwise

@[expose] public section

noncomputable section

namespace Cert.Reference7Ideal.Body

open Cert.Reference7Ideal Cert.Reference7Ideal.Read Cert.Reference7Ideal.Gen Idealize.ShloMosaic Idealize.ShloMosaic.TcCoe Idealize.SL.Sem Idealize.ShloMosaic.Tactic

variable (x0 : (⟨S8448x4608, .bf16⟩ : BufTy).Contents (Elt Ideal)) (x1 : (⟨S8448x2048, .bf16⟩ : BufTy).Contents (Elt Ideal))

/-- An entry of the gradient of the input weight, transposed. -/
def entry (i j : ℕ) : EReal :=
  ∑ k : Fin 8448, Blocks.at2 (fun a b => x0 (ix2 a b)) k.val i * Blocks.at2 (fun a b => x1 (ix2 a b)) k.val j

theorem whole : val_main_v15 (F := Ideal) x0 x1 = fun i => entry x0 x1 (i 0).val (i 1).val := by
  funext i
  obtain ⟨a, b, rfl⟩ : ∃ a b, i = ix2 a b := ⟨i 0, i 1, eq_ix2 i⟩
  pointwise [val_main_v15, val_main_v14, val_main_v13, val_main_v12, val_main_v11, val_main_v10, val_main_v9, val_main_v8, val_main_v7, val_main_v3, val_main_v2, val_main_v1, val_main_v0]
  unfold entry
  rw [add_comm]
  refine Eq.trans ?_ (Fin.sum_univ_add (a := 8192) (b := 256) (fun k : Fin 8448 => Blocks.at2 (fun a b => x0 (ix2 a b)) k.val a.val * Blocks.at2 (fun a b => x1 (ix2 a b)) k.val b.val)).symm
  refine congrArg₂ (· + ·) (Finset.sum_congr rfl fun k _ => ?_) (Finset.sum_congr rfl fun k _ => ?_)
  · exact congrArg₂ (· * ·) (Blocks.at2_fin (fun a b => x0 (ix2 a b)) (Fin.castAdd 256 k) a).symm (Blocks.at2_fin (fun a b => x1 (ix2 a b)) (Fin.castAdd 256 k) b).symm
  · exact congrArg₂ (· * ·) (Blocks.at2_fin (fun a b => x0 (ix2 a b)) (Fin.natAdd 8192 k) a).symm (Blocks.at2_fin (fun a b => x1 (ix2 a b)) (Fin.natAdd 8192 k) b).symm

end Cert.Reference7Ideal.Body

end
-- ==== Proof.Down.lean ====
module

public import proofs.«01_k».proof.Proof.BlockSums
public import proofs.«01_k».proof.Proof.Panels
public import proofs.«01_k».proof.Proof.Gen.Kernel8Ideal.Value
public import Idealize.ShloMosaic.Lib.Pointwise
public import Idealize.ShloMosaic.Lib.Pipeline.ValueKit
public import Idealize.ShloMosaic.Lib.Pipeline.ValueKit.Acc

/-!
The down projection: what the accumulating kernel leaves in its result.
-/

@[expose] public section
set_option maxRecDepth 16384
noncomputable section
namespace Cert.Kernel8Ideal.Body
open Cert.Kernel8Ideal Cert.Kernel8Ideal.Gen Idealize.ShloMosaic Idealize.ShloMosaic.TcCoe Idealize.SL.Sem Idealize.ShloMosaic.Tactic
variable (m : (ℓ : Loc nD τ sig) → Buf (Elt Ideal) ℓ) (c : Dev nD)

/-- The two factors, whole and by block. -/
abbrev argA : S8192x5632.Idx → EReal := m ((c : Thread nD τ).loc main_arg0)
abbrev argB : S5632x2048.Idx → EReal := m ((c : Thread nD τ).loc main_arg1)
abbrev blkA (t : Fin cfg0.N) : S1024x2816.Idx → EReal := iblk m c 0 t
abbrev blkB (t : Fin cfg0.N) : S2816x1024.Idx → EReal := iblk m c 1 t

/-- One term of the contraction over hidden lanes, for row `i` and column `j` of the result. -/
def term (i j k : ℕ) : EReal := Blocks.at2 (fun a b => argA m c (ix2 a b)) i k * Blocks.at2 (fun a b => argB m c (ix2 a b)) k j

theorem point_lt (t : Fin cfg0.N) : t.val < 32 := lt_of_lt_of_eq t.isLt N_0

/-- What one grid point adds to an entry of its block. -/
theorem addend (t : Fin cfg0.N) (a : Fin 1024) (b : Fin 1024) :
    ∑ x : Fin 2816, blkA m c t (ix2 a x) * blkB m c t (ix2 x b)
      = ∑ x : Fin 2816, term m c (1024 * (t.val / 2 / 2) + a.val) (1024 * (t.val / 2 % 2) + b.val) (2816 * (t.val % 2) + x.val) := by
  refine Finset.sum_congr rfl fun x _ => ?_
  have e0 : ∀ t : Fin cfg0.N, win0_0.index t = ![t.val / 2 / 2, t.val % 2] := (by decide +kernel : ∀ t : Fin grid0.N, _)
  have e1 : ∀ t : Fin cfg0.N, win0_1.index t = ![t.val % 2, t.val / 2 % 2] := (by decide +kernel : ∀ t : Fin grid0.N, _)
  have ht := point_lt t
  unfold term
  rw [Blocks.at2_of_lt _ (by omega) (by omega), Blocks.at2_of_lt _ (by omega) (by omega)]
  congr 1
  · blk_simp [iblk]
    rw [V_main_arg0]
    refine congrArg (argA m c) ?_
    blk_ext [e0]
  · blk_simp [iblk]
    rw [V_main_arg1]
    refine congrArg (argB m c) ?_
    blk_ext [e1]

/-- The first point of a run: the panels of the accumulator are a product. -/
theorem first_panels (x0 : Vec Ideal S1024x2816 .bf16) (x1 : Vec Ideal S2816x1024 .bf16) (a : Fin 1024) (b : Fin 1024) :
    View.canon [(⟨Rect.unit ![0, 512] ![1024, 512] inb_S1024x1024_S1024x512_0_512,
          k0_pay2 x0 (View.ld x1 (Rect.unit ![0, 512] ![2816, 512] inb_S2816x1024_S2816x512_0_512))⟩ : View.Piece (Elt Ideal) S1024x1024 .f32),
        ⟨Rect.unit ![0, 0] ![1024, 512] inb_S1024x1024_S1024x512_0_0,
          k0_pay1 x0 (View.ld x1 (Rect.unit ![0, 0] ![2816, 512] inb_S2816x1024_S2816x512_0_0))⟩] (ix2 a b)
      = ∑ x : Fin 2816, x0 (ix2 a x) * x1 (ix2 x b) := by
  refine View.canon_eq_of_allAt _ _ _ (View.cover_of_tiled_head _ _ _ rfl _) ?_
  iterate 2
    refine View.allAt_cons_unit _ _ _ _ _ (Blocks.columns_at a b _ _ _ (fun a b => ∑ x : Fin 2816, x0 (ix2 a x) * x1 (ix2 x b)) fun p hp q => ?_) ?_
    · pointwise [k0_pay2, k0_pay1]
  exact View.allAt_nil _ _

/-- A later point of a run: the panels are the accumulator before, plus a product. -/
theorem later_panels (x0 : Vec Ideal S1024x2816 .bf16) (x1 : Vec Ideal S2816x1024 .bf16) (x2 : Vec Ideal S1024x1024 .f32) (a : Fin 1024) (b : Fin 1024) :
    View.canon [(⟨Rect.unit ![0, 512] ![1024, 512] inb_S1024x1024_S1024x512_0_512,
          k0_pay4 x0 (View.ld x1 (Rect.unit ![0, 512] ![2816, 512] inb_S2816x1024_S2816x512_0_512)) (View.ld x2 (Rect.unit ![0, 512] ![1024, 512] inb_S1024x1024_S1024x512_0_512))⟩ : View.Piece (Elt Ideal) S1024x1024 .f32),
        ⟨Rect.unit ![0, 0] ![1024, 512] inb_S1024x1024_S1024x512_0_0,
          k0_pay3 x0 (View.ld x1 (Rect.unit ![0, 0] ![2816, 512] inb_S2816x1024_S2816x512_0_0)) (View.ld x2 (Rect.unit ![0, 0] ![1024, 512] inb_S1024x1024_S1024x512_0_0))⟩] (ix2 a b)
      = x2 (ix2 a b) + ∑ x : Fin 2816, x0 (ix2 a x) * x1 (ix2 x b) := by
  refine View.canon_eq_of_allAt _ _ _ (View.cover_of_tiled_head _ _ _ rfl _) ?_
  iterate 2
    refine View.allAt_cons_unit _ _ _ _ _ (Blocks.columns_at a b _ _ _ (fun a b => x2 (ix2 a b) + ∑ x : Fin 2816, x0 (ix2 a x) * x1 (ix2 x b)) fun p hp q => ?_) ?_
    · pointwise [k0_pay4, k0_pay3]
  exact View.allAt_nil _ _

/-- What a run has added by its point `t`. -/
theorem partial_sum (t : Fin cfg0.N) (y : S1024x1024.Idx) :
    ((outsAt0 m c t.val t.isLt).2 : S1024x1024.Idx → EReal) y = 0 + ∑ k ∈ Finset.range (t.val % 2 + 1),
      ∑ x : Fin 2816, term m c (1024 * (t.val / 2 / 2) + (y 0).val) (1024 * (t.val / 2 % 2) + (y 1).val) (2816 * k + x.val) := by
  refine Pipeline.eq_sum_of_reset_step_apply_divmod (M := EReal) (fun n h => ((outsAt0 m c n h).2 : S1024x1024.Idx → EReal)) 2 (fun _ => 0)
    (fun q k y => ∑ x : Fin 2816, term m c (1024 * (q / 2) + (y 0).val) (1024 * (q % 2) + (y 1).val) (2816 * k + x.val)) (fun t h y => ?_) (fun t h y => ?_) t y
  · obtain ⟨a, b, rfl⟩ : ∃ a b, y = ix2 a b := ⟨y 0, y 1, eq_ix2 y⟩
    refine Eq.trans ?_ (zero_add _).symm
    rw [outsAt0_A m c t h (by omega) (by omega)]
    frame_out
    exact (first_panels _ _ a b).trans (addend m c t a b)
  · obtain ⟨a, b, rfl⟩ : ∃ a b, y = ix2 a b := ⟨y 0, y 1, eq_ix2 y⟩
    rw [outsAt0_B m c t h (by omega) (by omega)]
    frame_out
    rw [(Memref.isWhole_whole _).read_unread]
    exact (later_panels _ _ _ a b).trans (congrArg _ (addend m c t a b))

/-- At a run's last point the result's block is the accumulator. -/
theorem out_last (t : Fin cfg0.N) (hl : t.val % 2 = 1) (y : S1024x1024.Idx) :
    ((outsAt0 m c t.val t.isLt).1 : S1024x1024.Idx → EReal) y = ((outsAt0 m c t.val t.isLt).2 : S1024x1024.Idx → EReal) y := by
  obtain ⟨a, b, rfl⟩ : ∃ a b, y = ix2 a b := ⟨y 0, y 1, eq_ix2 y⟩
  rw [outsAt0_B m c t (by omega) (by omega) hl]
  frame_out
  pointwise [k0_pay5]
  rw [View.readCov_eq_canon_ld _ _ _ (View.cover_of_tiled_head _ _ _ rfl), View.ld_unit_lit _ _ (by decide)]

/-- An entry of the result. -/
def entry (i j : ℕ) : EReal := ∑ k : Fin 5632, term m c i j k.val

theorem final : (dats m 0 c).arrAt 2 cfg0.N = (fun i : S8192x2048.Idx => entry m c (i 0).val (i 1).val) := by
  refine (dats m 0 c).arrAt_eq_of_covers 2 _ (by decide +kernel) fun t hf y => ?_
  have e2 : ∀ t : Fin cfg0.N, win0_2.index t = ![t.val / 2 / 2, t.val / 2 % 2] := (by decide +kernel : ∀ t : Fin grid0.N, _)
  have hl : t.val % 2 = 1 := (flush0_2 t).mp hf
  blk_simp
  rw [after0_2, out_last m c t hl, partial_sum, hl, zero_add, Blocks.sum_fin _ 2816 2 5632 rfl]
  have q0 : win0_2.index t 0 = t.val / 2 / 2 := congrFun (e2 t) 0
  have q1 : win0_2.index t 1 = t.val / 2 % 2 := congrFun (e2 t) 1
  exact congrArg₂ (entry m c) (by dsimp only; omega) (by dsimp only; omega)

end Cert.Kernel8Ideal.Body
end
-- ==== Proof.Ref8.lean ====
module

public import proofs.«01_k».proof.Proof.Gen.Reference8Ideal.Read
public import proofs.«01_k».proof.Proof.BlockSums
public import Idealize.ShloMosaic.Lib.Pointwise

@[expose] public section

noncomputable section

namespace Cert.Reference8Ideal.Body

open Cert.Reference8Ideal Cert.Reference8Ideal.Read Cert.Reference8Ideal.Gen Idealize.ShloMosaic Idealize.ShloMosaic.TcCoe Idealize.SL.Sem Idealize.ShloMosaic.Tactic

variable (x0 : (⟨S8192x5632, .bf16⟩ : BufTy).Contents (Elt Ideal)) (x1 : (⟨S5632x2048, .bf16⟩ : BufTy).Contents (Elt Ideal))

/-- An entry of the down projection. -/
def entry (i j : ℕ) : EReal :=
  ∑ k : Fin 5632, Blocks.at2 (fun a b => x0 (ix2 a b)) i k.val * Blocks.at2 (fun a b => x1 (ix2 a b)) k.val j

theorem whole : val_main_v3 (F := Ideal) x0 x1 = fun i => entry x0 x1 (i 0).val (i 1).val := by
  funext i
  obtain ⟨a, b, rfl⟩ : ∃ a b, i = ix2 a b := ⟨i 0, i 1, eq_ix2 i⟩
  pointwise [val_main_v3, val_main_v2, val_main_v1, val_main_v0]
  unfold entry
  refine Finset.sum_congr rfl fun k _ => ?_
  exact congrArg₂ (· * ·) (Blocks.at2_fin (fun a b => x0 (ix2 a b)) a k).symm (Blocks.at2_fin (fun a b => x1 (ix2 a b)) k b).symm

end Cert.Reference8Ideal.Body

end
-- ==== Proof.Out.lean ====
module

public import proofs.«01_k».proof.Proof.BlockSums
public import proofs.«01_k».proof.Proof.Gen.Kernel9Ideal.Value
public import Idealize.ShloMosaic.Lib.Pointwise
public import Idealize.ShloMosaic.Lib.Pipeline.ValueKit
public import Idealize.ShloMosaic.Lib.Pipeline.ValueKit.Acc

/-!
The output projection.
-/

@[expose] public section
set_option maxRecDepth 16384
noncomputable section
namespace Cert.Kernel9Ideal.Body
open Cert.Kernel9Ideal Cert.Kernel9Ideal.Gen Idealize.ShloMosaic Idealize.ShloMosaic.TcCoe Idealize.SL.Sem Idealize.ShloMosaic.Tactic
variable (m : (ℓ : Loc nD τ sig) → Buf (Elt Ideal) ℓ) (c : Dev nD)

/-- The two factors. -/
abbrev argA : S8192x2048.Idx → EReal := m ((c : Thread nD τ).loc main_arg0)
abbrev argB : S2048x2048.Idx → EReal := m ((c : Thread nD τ).loc main_arg1)

/-- An entry of the result. -/
def entry (i j : ℕ) : EReal :=
  ∑ k : Fin 2048, Blocks.at2 (fun a b => argA m c (ix2 a b)) i k.val * Blocks.at2 (fun a b => argB m c (ix2 a b)) k.val j

/-- One grid point's block is the product of its two blocks. -/
theorem block (x0 : Vec Ideal S1024x2048 .bf16) (x1 : Vec Ideal S2048x2048 .bf16) (a : Fin 1024) (b : Fin 2048) :
    out0_2 x0 x1 (ix2 a b) = ∑ k : Fin 2048, x0 (ix2 a k) * x1 (ix2 k b) := by
  frame_out
  pointwise [k0_pay1]

theorem final : (dats m 0 c).arrAt 2 cfg0.N = (fun i : S8192x2048.Idx => entry m c (i 0).val (i 1).val) := by
  refine (dats m 0 c).arrAt_eq_of_covers 2 _ (by decide +kernel) fun t _ y => ?_
  obtain ⟨a, b, rfl⟩ : ∃ a b, y = ix2 a b := ⟨y 0, y 1, eq_ix2 y⟩
  have e0 : ∀ t : Fin cfg0.N, win0_0.index t = ![t.val, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![t.val, 0] := (by decide +kernel : ∀ t : Fin grid0.N, _)
  have ht : t.val < 8 := lt_of_lt_of_eq t.isLt N_0
  blk_simp
  rw [after0_2]
  refine (block _ _ a b).trans ?_
  have q0 : win0_2.index t 0 = t.val := congrFun (e2 t) 0
  have q1 : win0_2.index t 1 = 0 := congrFun (e2 t) 1
  refine Eq.trans ?_ (congrArg₂ (entry m c) (show 1024 * t.val + a.val = _ by dsimp only; omega) (show b.val = _ by omega))
  unfold entry
  refine Finset.sum_congr rfl fun k _ => ?_
  rw [Blocks.at2_of_lt _ (by omega) (by omega), Blocks.at2_of_lt _ (by omega) (by omega)]
  congr 1
  · blk_simp [iblk]
    rw [V_main_arg0]
    refine congrArg (argA m c) ?_
    blk_ext [e0]
  · blk_simp [iblk]
    rw [V_main_arg1]
    refine congrArg (argB m c) ?_
    blk_ext [e1]

end Cert.Kernel9Ideal.Body
end
-- ==== Proof.Ref9.lean ====
module

public import proofs.«01_k».proof.Proof.Gen.Reference9Ideal.Read
public import proofs.«01_k».proof.Proof.BlockSums
public import Idealize.ShloMosaic.Lib.Pointwise

@[expose] public section

noncomputable section

namespace Cert.Reference9Ideal.Body

open Cert.Reference9Ideal Cert.Reference9Ideal.Read Cert.Reference9Ideal.Gen Idealize.ShloMosaic Idealize.ShloMosaic.TcCoe Idealize.SL.Sem Idealize.ShloMosaic.Tactic

variable (x0 : (⟨S8192x2048, .bf16⟩ : BufTy).Contents (Elt Ideal)) (x1 : (⟨S2048x2048, .bf16⟩ : BufTy).Contents (Elt Ideal))

/-- An entry of the output projection. -/
def entry (i j : ℕ) : EReal :=
  ∑ k : Fin 2048, Blocks.at2 (fun a b => x0 (ix2 a b)) i k.val * Blocks.at2 (fun a b => x1 (ix2 a b)) k.val j

/-- The two mixers' outputs side by side are the array they were cut from. -/
theorem joined (a : Fin 8192) (k : Fin 2048) : val_main_v4 (F := Ideal) x0 (ix2 a k) = x0 (ix2 a k) := by
  pointwise [val_main_v4, val_main_v3, val_main_v2, val_main_v1, val_main_v0]
  split
  · rfl
  · exact congrArg x0 (congrArg (ix2 a) (Fin.ext (by dsimp only; omega)))

theorem whole : val_main_v7 (F := Ideal) x0 x1 = fun i => entry x0 x1 (i 0).val (i 1).val := by
  funext i
  obtain ⟨a, b, rfl⟩ : ∃ a b, i = ix2 a b := ⟨i 0, i 1, eq_ix2 i⟩
  pointwise [val_main_v7, val_main_v6, val_main_v5]
  unfold entry
  refine Finset.sum_congr rfl fun k _ => ?_
  rw [joined]
  exact congrArg₂ (· * ·) (Blocks.at2_fin (fun a b => x0 (ix2 a b)) a k).symm (Blocks.at2_fin (fun a b => x1 (ix2 a b)) k b).symm

end Cert.Reference9Ideal.Body

end
-- ==== Proof.GwGateUp.lean ====
module

public import proofs.«01_k».proof.Proof.BlockSums
public import proofs.«01_k».proof.Proof.Gen.Kernel10Ideal.Value
public import Idealize.ShloMosaic.Lib.Pointwise
public import Idealize.ShloMosaic.Lib.Pipeline.ValueKit
public import Idealize.ShloMosaic.Lib.Pipeline.ValueKit.Acc
public import Idealize.ShloMosaic.Lib.StableHlo.RunRead

/-!
The gradients of the feed-forward block's two input weights: two accumulators over the tokens.
-/

@[expose] public section
set_option maxRecDepth 16384
noncomputable section
namespace Cert.Kernel10Ideal.Body
open Cert.Kernel10Ideal Cert.Kernel10Ideal.Gen Idealize.ShloMosaic Idealize.ShloMosaic.TcCoe Idealize.SL.Sem Idealize.ShloMosaic.Tactic
variable (m : (ℓ : Loc nD τ sig) → Buf (Elt Ideal) ℓ) (c : Dev nD)

/-- The normalised tokens and the two incoming gradients. -/
abbrev argH : S8192x2048.Idx → EReal := m ((c : Thread nD τ).loc main_arg0)
abbrev argGate : S8192x5632.Idx → EReal := m ((c : Thread nD τ).loc main_arg1)
abbrev argUp : S8192x5632.Idx → EReal := m ((c : Thread nD τ).loc main_arg2)

/-- One term of a contraction over tokens, and an entry of a result. -/
def term (d : S8192x5632.Idx → EReal) (h : S8192x2048.Idx → EReal) (i j k : ℕ) : EReal :=
  Blocks.at2 (fun a b => d (ix2 a b)) k i * Blocks.at2 (fun a b => h (ix2 a b)) k j

def entry (d : S8192x5632.Idx → EReal) (h : S8192x2048.Idx → EReal) (i j : ℕ) : EReal := ∑ k : Fin 8192, term d h i j k.val

theorem point_lt (t : Fin cfg0.N) : t.val < 44 := lt_of_lt_of_eq t.isLt N_0

abbrev blkGate (t : Fin cfg0.N) : S2048x512.Idx → EReal := iblk m c 0 t
abbrev blkForGate (t : Fin cfg0.N) : S2048x2048.Idx → EReal := iblk m c 1 t

/-- What one grid point adds to the gate accumulator. -/
theorem addend_gate (t : Fin cfg0.N) (a : Fin 512) (b : Fin 2048) :
    ∑ x : Fin 2048, blkGate m c t (ix2 x a) * blkForGate m c t (ix2 x b)
      = ∑ x : Fin 2048, term (argGate m c) (argH m c) (512 * (t.val / 4) + a.val) b.val (2048 * (t.val % 4) + x.val) := by
  refine Finset.sum_congr rfl fun x _ => ?_
  have e0 : ∀ t : Fin cfg0.N, win0_0.index t = ![t.val % 4, t.val / 4] := (by decide +kernel : ∀ t : Fin grid0.N, _)
  have e1 : ∀ t : Fin cfg0.N, win0_1.index t = ![t.val % 4, 0] := (by decide +kernel : ∀ t : Fin grid0.N, _)
  have ht := point_lt t
  unfold term
  rw [Blocks.at2_of_lt _ (by omega) (by omega), Blocks.at2_of_lt _ (by omega) (by omega)]
  congr 1
  · unfold blkGate
    blk_simp [iblk]
    rw [V_main_arg1]
    refine congrArg (argGate m c) ?_
    blk_ext [e0]
  · unfold blkForGate
    blk_simp [iblk]
    rw [V_main_arg0]
    refine congrArg (argH m c) ?_
    blk_ext [e1]

abbrev blkUp (t : Fin cfg0.N) : S2048x512.Idx → EReal := iblk m c 2 t
abbrev blkForUp (t : Fin cfg0.N) : S2048x2048.Idx → EReal := iblk m c 3 t

/-- What one grid point adds to the up accumulator. -/
theorem addend_up (t : Fin cfg0.N) (a : Fin 512) (b : Fin 2048) :
    ∑ x : Fin 2048, blkUp m c t (ix2 x a) * blkForUp m c t (ix2 x b)
      = ∑ x : Fin 2048, term (argUp m c) (argH m c) (512 * (t.val / 4) + a.val) b.val (2048 * (t.val % 4) + x.val) := by
  refine Finset.sum_congr rfl fun x _ => ?_
  have e0 : ∀ t : Fin cfg0.N, win0_2.index t = ![t.val % 4, t.val / 4] := (by decide +kernel : ∀ t : Fin grid0.N, _)
  have e1 : ∀ t : Fin cfg0.N, win0_3.index t = ![t.val % 4, 0] := (by decide +kernel : ∀ t : Fin grid0.N, _)
  have ht := point_lt t
  unfold term
  rw [Blocks.at2_of_lt _ (by omega) (by omega), Blocks.at2_of_lt _ (by omega) (by omega)]
  congr 1
  · unfold blkUp
    blk_simp [iblk]
    rw [V_main_arg2]
    refine congrArg (argUp m c) ?_
    blk_ext [e0]
  · unfold blkForUp
    blk_simp [iblk]
    rw [V_main_arg0]
    refine congrArg (argH m c) ?_
    blk_ext [e1]

/-- What a run has added to the gate accumulator by its point `t`. -/
theorem partial_gate (t : Fin cfg0.N) (y : S512x2048.Idx) :
    ((outsAt0 m c t.val t.isLt).2.2.1 : S512x2048.Idx → EReal) y = 0 + ∑ k ∈ Finset.range (t.val % 4 + 1),
      ∑ x : Fin 2048, term (argGate m c) (argH m c) (512 * (t.val / 4) + (y 0).val) (y 1).val (2048 * k + x.val) := by
  refine Pipeline.eq_sum_of_reset_step_apply_divmod (M := EReal) (fun n h => ((outsAt0 m c n h).2.2.1 : S512x2048.Idx → EReal)) 4 (fun _ => 0)
    (fun q k y => ∑ x : Fin 2048, term (argGate m c) (argH m c) (512 * q + (y 0).val) (y 1).val (2048 * k + x.val)) (fun t h y => ?_) (fun t h y => ?_) t y
  · obtain ⟨a, b, rfl⟩ : ∃ a b, y = ix2 a b := ⟨y 0, y 1, eq_ix2 y⟩
    dsimp only
    rw [outsAt0_A m c t h (by omega) (by omega)]
    frame_out
    pointwise [k0_pay1]
    exact addend_gate m c t a b
  · obtain ⟨a, b, rfl⟩ : ∃ a b, y = ix2 a b := ⟨y 0, y 1, eq_ix2 y⟩
    dsimp only
    by_cases hl : t.val % 4 = 3
    on_goal 1 => rw [outsAt0_C m c t h (by omega) hl]
    on_goal 2 => rw [outsAt0_B m c t h (by omega) hl]
    all_goals
      frame_out
      pointwise [k0_pay3]
      rw [(Memref.isWhole_whole _).read_unread]
      exact congrArg _ (addend_gate m c t a b)

/-- At a run's last point the gate result's block is its accumulator. -/
theorem last_gate (t : Fin cfg0.N) (hl : t.val % 4 = 3) (y : S512x2048.Idx) :
    ((outsAt0 m c t.val t.isLt).1 : S512x2048.Idx → EReal) y = ((outsAt0 m c t.val t.isLt).2.2.1 : S512x2048.Idx → EReal) y := by
  obtain ⟨a, b, rfl⟩ : ∃ a b, y = ix2 a b := ⟨y 0, y 1, eq_ix2 y⟩
  rw [outsAt0_C m c t (by omega) (by omega) hl]
  frame_out
  pointwise [k0_pay5, k0_pay3]

theorem final_gate : (dats m 0 c).arrAt 4 cfg0.N = (fun i : S5632x2048.Idx => entry (argGate m c) (argH m c) (i 0).val (i 1).val) := by
  refine (dats m 0 c).arrAt_eq_of_covers 4 _ (by decide +kernel) fun t hf y => ?_
  have e : ∀ t : Fin cfg0.N, win0_4.index t = ![t.val / 4, 0] := (by decide +kernel : ∀ t : Fin grid0.N, _)
  have hl : t.val % 4 = 3 := (flush0_4 t).mp hf
  blk_simp
  rw [after0_4, last_gate m c t hl, partial_gate, hl, zero_add, Blocks.sum_fin _ 2048 4 8192 rfl]
  have q0 : win0_4.index t 0 = t.val / 4 := congrFun (e t) 0
  have q1 : win0_4.index t 1 = 0 := congrFun (e t) 1
  exact congrArg₂ (entry (argGate m c) (argH m c)) (by dsimp only; omega) (by dsimp only; omega)

/-- What a run has added to the up accumulator by its point `t`. -/
theorem partial_up (t : Fin cfg0.N) (y : S512x2048.Idx) :
    ((outsAt0 m c t.val t.isLt).2.2.2 : S512x2048.Idx → EReal) y = 0 + ∑ k ∈ Finset.range (t.val % 4 + 1),
      ∑ x : Fin 2048, term (argUp m c) (argH m c) (512 * (t.val / 4) + (y 0).val) (y 1).val (2048 * k + x.val) := by
  refine Pipeline.eq_sum_of_reset_step_apply_divmod (M := EReal) (fun n h => ((outsAt0 m c n h).2.2.2 : S512x2048.Idx → EReal)) 4 (fun _ => 0)
    (fun q k y => ∑ x : Fin 2048, term (argUp m c) (argH m c) (512 * q + (y 0).val) (y 1).val (2048 * k + x.val)) (fun t h y => ?_) (fun t h y => ?_) t y
  · obtain ⟨a, b, rfl⟩ : ∃ a b, y = ix2 a b := ⟨y 0, y 1, eq_ix2 y⟩
    dsimp only
    rw [outsAt0_A m c t h (by omega) (by omega)]
    frame_out
    pointwise [k0_pay2]
    exact addend_up m c t a b
  · obtain ⟨a, b, rfl⟩ : ∃ a b, y = ix2 a b := ⟨y 0, y 1, eq_ix2 y⟩
    dsimp only
    by_cases hl : t.val % 4 = 3
    on_goal 1 => rw [outsAt0_C m c t h (by omega) hl]
    on_goal 2 => rw [outsAt0_B m c t h (by omega) hl]
    all_goals
      frame_out
      pointwise [k0_pay4]
      rw [(Memref.isWhole_whole _).read_unread]
      exact congrArg _ (addend_up m c t a b)

/-- At a run's last point the up result's block is its accumulator. -/
theorem last_up (t : Fin cfg0.N) (hl : t.val % 4 = 3) (y : S512x2048.Idx) :
    ((outsAt0 m c t.val t.isLt).2.1 : S512x2048.Idx → EReal) y = ((outsAt0 m c t.val t.isLt).2.2.2 : S512x2048.Idx → EReal) y := by
  obtain ⟨a, b, rfl⟩ : ∃ a b, y = ix2 a b := ⟨y 0, y 1, eq_ix2 y⟩
  rw [outsAt0_C m c t (by omega) (by omega) hl]
  frame_out
  pointwise [k0_pay6, k0_pay4]

theorem final_up : (dats m 0 c).arrAt 5 cfg0.N = (fun i : S5632x2048.Idx => entry (argUp m c) (argH m c) (i 0).val (i 1).val) := by
  refine (dats m 0 c).arrAt_eq_of_covers 5 _ (by decide +kernel) fun t hf y => ?_
  have e : ∀ t : Fin cfg0.N, win0_5.index t = ![t.val / 4, 0] := (by decide +kernel : ∀ t : Fin grid0.N, _)
  have hl : t.val % 4 = 3 := (flush0_5 t).mp hf
  blk_simp
  rw [after0_5, last_up m c t hl, partial_up, hl, zero_add, Blocks.sum_fin _ 2048 4 8192 rfl]
  have q0 : win0_5.index t 0 = t.val / 4 := congrFun (e t) 0
  have q1 : win0_5.index t 1 = 0 := congrFun (e t) 1
  exact congrArg₂ (entry (argUp m c) (argH m c)) (by dsimp only; omega) (by dsimp only; omega)

end Cert.Kernel10Ideal.Body
end
-- ==== Proof.Ref10.lean ====
module

public import proofs.«01_k».proof.Proof.Gen.Reference10Ideal.Read
public import proofs.«01_k».proof.Proof.BlockSums
public import Idealize.ShloMosaic.Lib.Pointwise

/-!
The reference for the gradients of the feed-forward block's input weights.
-/

@[expose] public section

noncomputable section

namespace Cert.Reference10Ideal.Body

open Cert.Reference10Ideal Cert.Reference10Ideal.Read Cert.Reference10Ideal.Gen Idealize.ShloMosaic Idealize.ShloMosaic.TcCoe Idealize.SL.Sem Idealize.ShloMosaic.Tactic

variable (x0 : (⟨S8192x2048, .bf16⟩ : BufTy).Contents (Elt Ideal)) (x1 x2 : (⟨S8192x5632, .bf16⟩ : BufTy).Contents (Elt Ideal))

/-- An entry of a gradient, of the incoming gradient `d` and the tokens `h`. -/
def entry (d : (⟨S8192x5632, .bf16⟩ : BufTy).Contents (Elt Ideal)) (h : (⟨S8192x2048, .bf16⟩ : BufTy).Contents (Elt Ideal)) (i j : ℕ) : EReal :=
  ∑ k : Fin 8192, Blocks.at2 (fun a b => d (ix2 a b)) k.val i * Blocks.at2 (fun a b => h (ix2 a b)) k.val j

theorem whole_gate : val_main_v12 (F := Ideal) x0 x1 = fun i => entry x1 x0 (i 0).val (i 1).val := by
  funext i
  obtain ⟨a, b, rfl⟩ : ∃ a b, i = ix2 a b := ⟨i 0, i 1, eq_ix2 i⟩
  pointwise [val_main_v12, val_main_v11, val_main_v10, val_main_v9, val_main_v5, val_main_v1]
  unfold entry
  refine Finset.sum_congr rfl fun k _ => ?_
  exact congrArg₂ (· * ·) (Blocks.at2_fin (fun a b => x1 (ix2 a b)) k a).symm (Blocks.at2_fin (fun a b => x0 (ix2 a b)) k b).symm

theorem whole_up : val_main_v14 (F := Ideal) x0 x2 = fun i => entry x2 x0 (i 0).val (i 1).val := by
  funext i
  obtain ⟨a, b, rfl⟩ : ∃ a b, i = ix2 a b := ⟨i 0, i 1, eq_ix2 i⟩
  pointwise [val_main_v14, val_main_v13, val_main_v8, val_main_v7, val_main_v6, val_main_v3]
  unfold entry
  refine Finset.sum_congr rfl fun k _ => ?_
  exact congrArg₂ (· * ·) (Blocks.at2_fin (fun a b => x2 (ix2 a b)) k a).symm (Blocks.at2_fin (fun a b => x0 (ix2 a b)) k b).symm

end Cert.Reference10Ideal.Body

end
-- ==== Proof.DGateUp.lean ====
module

public import proofs.«01_k».proof.Proof.BlockSums
public import proofs.«01_k».proof.Proof.Panels
public import proofs.«01_k».proof.Proof.Gen.Kernel11Ideal.Value
public import Idealize.ShloMosaic.Lib.Pointwise
public import Idealize.ShloMosaic.Lib.Pipeline.ValueKit
public import Idealize.ShloMosaic.Lib.Pipeline.ValueKit.Acc
public import Idealize.ShloMosaic.Lib.StableHlo.RunRead

/-!
The gradient through the feed-forward block's two input products: one accumulator takes both, block by block.
-/

@[expose] public section
set_option maxRecDepth 16384
noncomputable section
namespace Cert.Kernel11Ideal.Body
open Cert.Kernel11Ideal Cert.Kernel11Ideal.Gen Idealize.ShloMosaic Idealize.ShloMosaic.TcCoe Idealize.SL.Sem Idealize.ShloMosaic.Tactic
variable (m : (ℓ : Loc nD τ sig) → Buf (Elt Ideal) ℓ) (c : Dev nD)

/-- The two weights, their two incoming gradients, and the factors by block. -/
abbrev argWg : S2048x5632.Idx → EReal := m ((c : Thread nD τ).loc main_arg0)
abbrev argWu : S2048x5632.Idx → EReal := m ((c : Thread nD τ).loc main_arg1)
abbrev argDg : S8192x5632.Idx → EReal := m ((c : Thread nD τ).loc main_arg2)
abbrev argDu : S8192x5632.Idx → EReal := m ((c : Thread nD τ).loc main_arg3)
abbrev blkDg (t : Fin cfg0.N) : S2048x512.Idx → EReal := iblk m c 0 t
abbrev blkWg (t : Fin cfg0.N) : S512x2048.Idx → EReal := iblk m c 1 t
abbrev blkDu (t : Fin cfg0.N) : S2048x512.Idx → EReal := iblk m c 2 t
abbrev blkWu (t : Fin cfg0.N) : S512x2048.Idx → EReal := iblk m c 3 t

/-- The terms of the two contractions over hidden lanes. -/
def term (i j k : ℕ) : EReal :=
  Blocks.at2 (fun a b => argDg m c (ix2 a b)) i k * Blocks.at2 (fun a b => argWg m c (ix2 a b)) j k
    + Blocks.at2 (fun a b => argDu m c (ix2 a b)) i k * Blocks.at2 (fun a b => argWu m c (ix2 a b)) j k

theorem point_lt (t : Fin cfg0.N) : t.val < 44 := lt_of_lt_of_eq t.isLt N_0

/-- The host's transposed weights. -/
theorem weight_gate (a : Fin 5632) (b : Fin 2048) : (V m c main_v0 : S5632x2048.Idx → EReal) (ix2 a b) = argWg m c (ix2 b a) := by
  unfold_abbrev_sides
  after_reads_simp
  pointwise

theorem weight_up (a : Fin 5632) (b : Fin 2048) : (V m c main_v1 : S5632x2048.Idx → EReal) (ix2 a b) = argWu m c (ix2 b a) := by
  unfold_abbrev_sides
  after_reads_simp
  pointwise

/-- What one grid point adds to an entry of its block. -/
theorem addend (t : Fin cfg0.N) (a : Fin 2048) (b : Fin 2048) :
    (∑ x : Fin 512, blkDg m c t (ix2 a x) * blkWg m c t (ix2 x b)) + (∑ x : Fin 512, blkDu m c t (ix2 a x) * blkWu m c t (ix2 x b))
      = ∑ x : Fin 512, term m c (2048 * (t.val / 11) + a.val) b.val (512 * (t.val % 11) + x.val) := by
  rw [← Finset.sum_add_distrib]
  refine Finset.sum_congr rfl fun x _ => ?_
  have e0 : ∀ t : Fin cfg0.N, win0_0.index t = ![t.val / 11, t.val % 11] := (by decide +kernel : ∀ t : Fin grid0.N, _)
  have e1 : ∀ t : Fin cfg0.N, win0_1.index t = ![t.val % 11, 0] := (by decide +kernel : ∀ t : Fin grid0.N, _)
  have e2 : ∀ t : Fin cfg0.N, win0_2.index t = ![t.val / 11, t.val % 11] := (by decide +kernel : ∀ t : Fin grid0.N, _)
  have e3 : ∀ t : Fin cfg0.N, win0_3.index t = ![t.val % 11, 0] := (by decide +kernel : ∀ t : Fin grid0.N, _)
  have ht := point_lt t
  unfold term
  rw [Blocks.at2_of_lt _ (by omega) (by omega), Blocks.at2_of_lt _ (by omega) (by omega), Blocks.at2_of_lt _ (by omega) (by omega), Blocks.at2_of_lt _ (by omega) (by omega)]
  refine congrArg₂ (· + ·) (congrArg₂ (· * ·) ?_ ?_) (congrArg₂ (· * ·) ?_ ?_)
  · unfold blkDg
    blk_simp [iblk]
    rw [V_main_arg2]
    refine congrArg (argDg m c) ?_
    blk_ext [e0]
  · unfold blkWg
    refine Eq.trans ?_ (weight_gate m c _ _)
    blk_simp [iblk]
    refine congrArg (V m c main_v0 : S5632x2048.Idx → EReal) ?_
    blk_ext [e1]
  · unfold blkDu
    blk_simp [iblk]
    rw [V_main_arg3]
    refine congrArg (argDu m c) ?_
    blk_ext [e2]
  · unfold blkWu
    refine Eq.trans ?_ (weight_up m c _ _)
    blk_simp [iblk]
    refine congrArg (V m c main_v1 : S5632x2048.Idx → EReal) ?_
    blk_ext [e3]

/-- The first point of a run: the panels of the accumulator are two products. -/
theorem first_panels (x0 : Vec Ideal S2048x512 .bf16) (x1 : Vec Ideal S512x2048 .bf16) (x2 : Vec Ideal S2048x512 .bf16) (x3 : Vec Ideal S512x2048 .bf16) (a : Fin 2048) (b : Fin 2048) :
    View.canon [(⟨Rect.unit ![0, 1536] ![2048, 512] inb_S2048x2048_S2048x512_0_1536,
          k0_pay2 x0 (View.ld x1 (Rect.unit ![0, 1536] ![512, 512] inb_S512x2048_S512x512_0_1536)) x2 (View.ld x3 (Rect.unit ![0, 1536] ![512, 512] inb_S512x2048_S512x512_0_1536))⟩ : View.Piece (Elt Ideal) S2048x2048 .f32),
        ⟨Rect.unit ![0, 1024] ![2048, 512] inb_S2048x2048_S2048x512_0_1024,
          k0_pay1 (k0_pay8 x0 (View.ld x1 (Rect.unit ![0, 1024] ![512, 512] inb_S512x2048_S512x512_0_1024))) x2 (View.ld x3 (Rect.unit ![0, 1024] ![512, 512] inb_S512x2048_S512x512_0_1024))⟩,
        ⟨Rect.unit ![0, 512] ![2048, 512] inb_S2048x2048_S2048x512_0_512,
          k0_pay7 x0 (View.ld x1 (Rect.unit ![0, 512] ![512, 512] inb_S512x2048_S512x512_0_512)) x2 (View.ld x3 (Rect.unit ![0, 512] ![512, 512] inb_S512x2048_S512x512_0_512))⟩,
        ⟨Rect.unit ![0, 0] ![2048, 512] inb_S2048x2048_S2048x512_0_0,
          k0_pay6 x0 (View.ld x1 (Rect.unit ![0, 0] ![512, 512] inb_S512x2048_S512x512_0_0)) x2 (View.ld x3 (Rect.unit ![0, 0] ![512, 512] inb_S512x2048_S512x512_0_0))⟩] (ix2 a b)
      = (∑ x : Fin 512, x0 (ix2 a x) * x1 (ix2 x b)) + (∑ x : Fin 512, x2 (ix2 a x) * x3 (ix2 x b)) := by
  refine View.canon_eq_of_allAt _ _ _ (View.cover_of_tiled_head _ _ _ rfl _) ?_
  iterate 4
    refine View.allAt_cons_unit _ _ _ _ _ (Blocks.columns_at a b _ _ _ (fun a b => (∑ x : Fin 512, x0 (ix2 a x) * x1 (ix2 x b)) + (∑ x : Fin 512, x2 (ix2 a x) * x3 (ix2 x b))) fun p hp q => ?_) ?_
    · pointwise [k0_pay1, k0_pay2, k0_pay6, k0_pay7, k0_pay8]
  exact View.allAt_nil _ _

/-- A later point of a run: the panels are the accumulator before, plus the two products. -/
theorem later_panels (x0 : Vec Ideal S2048x512 .bf16) (x1 : Vec Ideal S512x2048 .bf16) (x2 : Vec Ideal S2048x512 .bf16) (x3 : Vec Ideal S512x2048 .bf16) (x4 : Vec Ideal S2048x2048 .f32) (a : Fin 2048) (b : Fin 2048) :
    View.canon [(⟨Rect.unit ![0, 1536] ![2048, 512] inb_S2048x2048_S2048x512_0_1536,
          k0_pay4 x0 (View.ld x1 (Rect.unit ![0, 1536] ![512, 512] inb_S512x2048_S512x512_0_1536)) x2 (View.ld x3 (Rect.unit ![0, 1536] ![512, 512] inb_S512x2048_S512x512_0_1536)) (View.ld x4 (Rect.unit ![0, 1536] ![2048, 512] inb_S2048x2048_S2048x512_0_1536))⟩ : View.Piece (Elt Ideal) S2048x2048 .f32),
        ⟨Rect.unit ![0, 1024] ![2048, 512] inb_S2048x2048_S2048x512_0_1024,
          k0_pay3 x0 (View.ld x1 (Rect.unit ![0, 1024] ![512, 512] inb_S512x2048_S512x512_0_1024)) x2 (View.ld x3 (Rect.unit ![0, 1024] ![512, 512] inb_S512x2048_S512x512_0_1024)) (View.ld x4 (Rect.unit ![0, 1024] ![2048, 512] inb_S2048x2048_S2048x512_0_1024))⟩,
        ⟨Rect.unit ![0, 512] ![2048, 512] inb_S2048x2048_S2048x512_0_512,
          k0_pay10 x0 (View.ld x1 (Rect.unit ![0, 512] ![512, 512] inb_S512x2048_S512x512_0_512)) x2 (View.ld x3 (Rect.unit ![0, 512] ![512, 512] inb_S512x2048_S512x512_0_512)) (View.ld x4 (Rect.unit ![0, 512] ![2048, 512] inb_S2048x2048_S2048x512_0_512))⟩,
        ⟨Rect.unit ![0, 0] ![2048, 512] inb_S2048x2048_S2048x512_0_0,
          k0_pay9 x0 (View.ld x1 (Rect.unit ![0, 0] ![512, 512] inb_S512x2048_S512x512_0_0)) x2 (View.ld x3 (Rect.unit ![0, 0] ![512, 512] inb_S512x2048_S512x512_0_0)) (View.ld x4 (Rect.unit ![0, 0] ![2048, 512] inb_S2048x2048_S2048x512_0_0))⟩] (ix2 a b)
      = x4 (ix2 a b) + ((∑ x : Fin 512, x0 (ix2 a x) * x1 (ix2 x b)) + (∑ x : Fin 512, x2 (ix2 a x) * x3 (ix2 x b))) := by
  refine View.canon_eq_of_allAt _ _ _ (View.cover_of_tiled_head _ _ _ rfl _) ?_
  iterate 4
    refine View.allAt_cons_unit _ _ _ _ _ (Blocks.columns_at a b _ _ _ (fun a b => x4 (ix2 a b) + ((∑ x : Fin 512, x0 (ix2 a x) * x1 (ix2 x b)) + (∑ x : Fin 512, x2 (ix2 a x) * x3 (ix2 x b)))) fun p hp q => ?_) ?_
    · pointwise [k0_pay3, k0_pay4, k0_pay9, k0_pay10]
  exact View.allAt_nil _ _

/-- What a run has added by its point `t`. -/
theorem partial_sum (t : Fin cfg0.N) (y : S2048x2048.Idx) :
    ((outsAt0 m c t.val t.isLt).2 : S2048x2048.Idx → EReal) y = 0 + ∑ k ∈ Finset.range (t.val % 11 + 1),
      ∑ x : Fin 512, term m c (2048 * (t.val / 11) + (y 0).val) (y 1).val (512 * k + x.val) := by
  refine Pipeline.eq_sum_of_reset_step_apply_divmod (M := EReal) (fun n h => ((outsAt0 m c n h).2 : S2048x2048.Idx → EReal)) 11 (fun _ => 0)
    (fun q k y => ∑ x : Fin 512, term m c (2048 * q + (y 0).val) (y 1).val (512 * k + x.val)) (fun t h y => ?_) (fun t h y => ?_) t y
  · obtain ⟨a, b, rfl⟩ : ∃ a b, y = ix2 a b := ⟨y 0, y 1, eq_ix2 y⟩
    refine Eq.trans ?_ (zero_add _).symm
    rw [outsAt0_A m c t h (by omega) (by omega)]
    frame_out
    exact (first_panels _ _ _ _ a b).trans (addend m c t a b)
  · obtain ⟨a, b, rfl⟩ : ∃ a b, y = ix2 a b := ⟨y 0, y 1, eq_ix2 y⟩
    by_cases hl : t.val % 11 = 10
    on_goal 1 => rw [outsAt0_C m c t h (by omega) hl]
    on_goal 2 => rw [outsAt0_B m c t h (by omega) hl]
    all_goals
      frame_out
      rw [(Memref.isWhole_whole _).read_unread]
      exact (later_panels _ _ _ _ _ a b).trans (congrArg _ (addend m c t a b))

/-- At a run's last point the result's block is the accumulator. -/
theorem out_last (t : Fin cfg0.N) (hl : t.val % 11 = 10) (y : S2048x2048.Idx) :
    ((outsAt0 m c t.val t.isLt).1 : S2048x2048.Idx → EReal) y = ((outsAt0 m c t.val t.isLt).2 : S2048x2048.Idx → EReal) y := by
  obtain ⟨a, b, rfl⟩ : ∃ a b, y = ix2 a b := ⟨y 0, y 1, eq_ix2 y⟩
  rw [outsAt0_C m c t (by omega) (by omega) hl]
  frame_out
  pointwise [k0_pay5]
  rw [View.readCov_eq_canon_ld _ _ _ (View.cover_of_tiled_head _ _ _ rfl), View.ld_unit_lit _ _ (by decide)]

/-- An entry of the result. -/
def entry (i j : ℕ) : EReal := ∑ k : Fin 5632, term m c i j k.val

theorem final : (dats m 0 c).arrAt 4 cfg0.N = (fun i : S8192x2048.Idx => entry m c (i 0).val (i 1).val) := by
  refine (dats m 0 c).arrAt_eq_of_covers 4 _ (by decide +kernel) fun t hf y => ?_
  have e4 : ∀ t : Fin cfg0.N, win0_4.index t = ![t.val / 11, 0] := (by decide +kernel : ∀ t : Fin grid0.N, _)
  have hl : t.val % 11 = 10 := (flush0_4 t).mp hf
  blk_simp
  rw [after0_4, out_last m c t hl, partial_sum, hl, zero_add, Blocks.sum_fin _ 512 11 5632 rfl]
  have q0 : win0_4.index t 0 = t.val / 11 := congrFun (e4 t) 0
  have q1 : win0_4.index t 1 = 0 := congrFun (e4 t) 1
  exact congrArg₂ (entry m c) (by dsimp only; omega) (by dsimp only; omega)

end Cert.Kernel11Ideal.Body
end
-- ==== Proof.Ref11.lean ====
module

public import proofs.«01_k».proof.Proof.Gen.Reference11Ideal.Read
public import proofs.«01_k».proof.Proof.BlockSums
public import Idealize.ShloMosaic.Lib.Pointwise

/-!
The reference for the gradient through the feed-forward block's input products.
-/

@[expose] public section

noncomputable section

namespace Cert.Reference11Ideal.Body

open Cert.Reference11Ideal Cert.Reference11Ideal.Read Cert.Reference11Ideal.Gen Idealize.ShloMosaic Idealize.ShloMosaic.TcCoe Idealize.SL.Sem Idealize.ShloMosaic.Tactic

variable (x0 x1 : (⟨S2048x5632, .bf16⟩ : BufTy).Contents (Elt Ideal)) (x2 x3 : (⟨S8192x5632, .bf16⟩ : BufTy).Contents (Elt Ideal))

/-- An entry of the gradient: the two products' terms side by side. -/
def entry (i j : ℕ) : EReal := ∑ k : Fin 5632, (Blocks.at2 (fun a b => x2 (ix2 a b)) i k.val * Blocks.at2 (fun a b => x0 (ix2 a b)) j k.val
  + Blocks.at2 (fun a b => x3 (ix2 a b)) i k.val * Blocks.at2 (fun a b => x1 (ix2 a b)) j k.val)

theorem whole : val_main_v10 (F := Ideal) x0 x1 x2 x3 = fun i => entry x0 x1 x2 x3 (i 0).val (i 1).val := by
  funext i
  obtain ⟨a, b, rfl⟩ : ∃ a b, i = ix2 a b := ⟨i 0, i 1, eq_ix2 i⟩
  pointwise [val_main_v10, val_main_v9, val_main_v8, val_main_v7, val_main_v5, val_main_v3, val_main_v1, val_main_v0]
  unfold entry
  rw [Finset.sum_add_distrib, add_comm]
  refine congrArg₂ (· + ·) (Finset.sum_congr rfl fun k _ => ?_) (Finset.sum_congr rfl fun k _ => ?_)
  · exact congrArg₂ (· * ·) (Blocks.at2_fin (fun a b => x2 (ix2 a b)) a k).symm (Blocks.at2_fin (fun a b => x0 (ix2 a b)) b k).symm
  · exact congrArg₂ (· * ·) (Blocks.at2_fin (fun a b => x3 (ix2 a b)) a k).symm (Blocks.at2_fin (fun a b => x1 (ix2 a b)) b k).symm

end Cert.Reference11Ideal.Body

end
-- ==== Proof.GateUp.lean ====
module

public import proofs.«01_k».proof.Proof.BlockSums
public import proofs.«01_k».proof.Proof.Panels
public import proofs.«01_k».proof.Proof.Swish
public import proofs.«01_k».proof.Proof.Gen.Kernel12Ideal.Value
public import Idealize.ShloMosaic.Lib.Pointwise
public import Idealize.ShloMosaic.Lib.Pipeline.ValueKit
public import Idealize.ShloMosaic.Lib.Pipeline.ValueKit.Acc
public import Idealize.ShloMosaic.Lib.StableHlo.RunRead

/-!
The two products into the feed-forward block and its gate: the activation, the saved slope and the hidden array.
-/

@[expose] public section
set_option maxRecDepth 16384
noncomputable section
namespace Cert.Kernel12Ideal.Body
open Cert.Kernel12Ideal Cert.Kernel12Ideal.Gen Idealize.ShloMosaic Idealize.ShloMosaic.TcCoe Idealize.SL.Sem Idealize.ShloMosaic.Tactic
variable (m : (ℓ : Loc nD τ sig) → Buf (Elt Ideal) ℓ) (c : Dev nD)

/-- The normalised tokens and the two weights. -/
abbrev argH : S8192x2048.Idx → EReal := m ((c : Thread nD τ).loc main_arg0)
abbrev argWg : S2048x5632.Idx → EReal := m ((c : Thread nD τ).loc main_arg1)
abbrev argWu : S2048x5632.Idx → EReal := m ((c : Thread nD τ).loc main_arg2)

/-- An entry of a product, and what the gate makes of two of them. -/
def dot (h : S8192x2048.Idx → EReal) (w : S2048x5632.Idx → EReal) (i j : ℕ) : EReal :=
  ∑ k : Fin 2048, Blocks.at2 (fun a b => h (ix2 a b)) i k.val * Blocks.at2 (fun a b => w (ix2 a b)) k.val j
def actOf (g : EReal) : EReal := g * Swish.logistic g
def slopeOf (g u : EReal) : EReal := u * (Swish.logistic g * (1 + g * (1 - Swish.logistic g)))
def hiddenOf (g u : EReal) : EReal := g * Swish.logistic g * u

/-- Entries of the three results. -/
def actEntry (i j : ℕ) : EReal := actOf (dot (argH m c) (argWg m c) i j)
def slopeEntry (i j : ℕ) : EReal := slopeOf (dot (argH m c) (argWg m c) i j) (dot (argH m c) (argWu m c) i j)
def hiddenEntry (i j : ℕ) : EReal := hiddenOf (dot (argH m c) (argWg m c) i j) (dot (argH m c) (argWu m c) i j)

theorem point_lt (t : Fin cfg0.N) : t.val < 44 := lt_of_lt_of_eq t.isLt N_0

/-- The host's transposed weights. -/
theorem weight_gate (a : Fin 5632) (b : Fin 2048) : (V m c main_v0 : S5632x2048.Idx → EReal) (ix2 a b) = argWg m c (ix2 b a) := by
  unfold_abbrev_sides
  after_reads_simp
  pointwise

theorem weight_up (a : Fin 5632) (b : Fin 2048) : (V m c main_v1 : S5632x2048.Idx → EReal) (ix2 a b) = argWu m c (ix2 b a) := by
  unfold_abbrev_sides
  after_reads_simp
  pointwise

abbrev blkH0 (t : Fin cfg0.N) : S2048x2048.Idx → EReal := iblk m c 0 t
abbrev blkW1 (t : Fin cfg0.N) : S512x2048.Idx → EReal := iblk m c 1 t

theorem dot_gate (t : Fin cfg0.N) (a : Fin 2048) (b : Fin 512) :
    ∑ k : Fin 2048, blkH0 m c t (ix2 a k) * blkW1 m c t (ix2 b k) = dot (argH m c) (argWg m c) (2048 * (t.val / 11) + a.val) (512 * (t.val % 11) + b.val) := by
  have e0 : ∀ t : Fin cfg0.N, win0_0.index t = ![t.val / 11, 0] := (by decide +kernel : ∀ t : Fin grid0.N, _)
  have e1 : ∀ t : Fin cfg0.N, win0_1.index t = ![t.val % 11, 0] := (by decide +kernel : ∀ t : Fin grid0.N, _)
  have ht := point_lt t
  unfold dot
  refine Finset.sum_congr rfl fun k _ => ?_
  rw [Blocks.at2_of_lt _ (by omega) (by omega), Blocks.at2_of_lt _ (by omega) (by omega)]
  congr 1
  · unfold blkH0
    blk_simp [iblk]
    rw [V_main_arg0]
    refine congrArg (argH m c) ?_
    blk_ext [e0]
  · unfold blkW1
    refine Eq.trans ?_ (weight_gate m c _ _)
    blk_simp [iblk]
    refine congrArg (V m c main_v0 : S5632x2048.Idx → EReal) ?_
    blk_ext [e1]

abbrev blkH2 (t : Fin cfg0.N) : S2048x2048.Idx → EReal := iblk m c 2 t
abbrev blkW3 (t : Fin cfg0.N) : S512x2048.Idx → EReal := iblk m c 3 t

theorem dot_up (t : Fin cfg0.N) (a : Fin 2048) (b : Fin 512) :
    ∑ k : Fin 2048, blkH2 m c t (ix2 a k) * blkW3 m c t (ix2 b k) = dot (argH m c) (argWu m c) (2048 * (t.val / 11) + a.val) (512 * (t.val % 11) + b.val) := by
  have e0 : ∀ t : Fin cfg0.N, win0_2.index t = ![t.val / 11, 0] := (by decide +kernel : ∀ t : Fin grid0.N, _)
  have e1 : ∀ t : Fin cfg0.N, win0_3.index t = ![t.val % 11, 0] := (by decide +kernel : ∀ t : Fin grid0.N, _)
  have ht := point_lt t
  unfold dot
  refine Finset.sum_congr rfl fun k _ => ?_
  rw [Blocks.at2_of_lt _ (by omega) (by omega), Blocks.at2_of_lt _ (by omega) (by omega)]
  congr 1
  · unfold blkH2
    blk_simp [iblk]
    rw [V_main_arg0]
    refine congrArg (argH m c) ?_
    blk_ext [e0]
  · unfold blkW3
    refine Eq.trans ?_ (weight_up m c _ _)
    blk_simp [iblk]
    refine congrArg (V m c main_v1 : S5632x2048.Idx → EReal) ?_
    blk_ext [e1]

theorem act_block (x0 : Vec Ideal S2048x2048 .bf16) (x1 : Vec Ideal S512x2048 .bf16) (x2 : Vec Ideal S2048x2048 .bf16) (x3 : Vec Ideal S512x2048 .bf16) (a : Fin 2048) (b : Fin 512) :
    out0_4 x0 x1 x2 x3 (ix2 a b) = actOf (∑ k : Fin 2048, x0 (ix2 a k) * x1 (ix2 b k)) := by
  frame_out
  refine View.canon_eq_of_allAt _ _ _ (View.cover_of_tiled_head _ _ _ rfl _) ?_
  iterate 2
    refine View.allAt_cons_unit _ _ _ _ _ (Blocks.rows_at a b _ _ _ (fun a b => actOf (∑ k : Fin 2048, x0 (ix2 a k) * x1 (ix2 b k))) fun p hp q => ?_) ?_
    · unfold actOf
      simp only [← Swish.tanh_form]
      pointwise [k0_pay1, k0_pay3, k0_pay4, k0_pay5, k0_pay8, k0_pay10, k0_pay11, k0_pay12, r0_0, r0_1, r0_2, r0_3, r0_4]
  exact View.allAt_nil _ _

theorem slope_block (x0 : Vec Ideal S2048x2048 .bf16) (x1 : Vec Ideal S512x2048 .bf16) (x2 : Vec Ideal S2048x2048 .bf16) (x3 : Vec Ideal S512x2048 .bf16) (a : Fin 2048) (b : Fin 512) :
    out0_5 x0 x1 x2 x3 (ix2 a b) = slopeOf (∑ k : Fin 2048, x0 (ix2 a k) * x1 (ix2 b k)) (∑ k : Fin 2048, x2 (ix2 a k) * x3 (ix2 b k)) := by
  frame_out
  refine View.canon_eq_of_allAt _ _ _ (View.cover_of_tiled_head _ _ _ rfl _) ?_
  iterate 2
    refine View.allAt_cons_unit _ _ _ _ _ (Blocks.rows_at a b _ _ _ (fun a b => slopeOf (∑ k : Fin 2048, x0 (ix2 a k) * x1 (ix2 b k)) (∑ k : Fin 2048, x2 (ix2 a k) * x3 (ix2 b k))) fun p hp q => ?_) ?_
    · unfold slopeOf
      simp only [← Swish.tanh_form]
      pointwise [k0_pay1, k0_pay2, k0_pay3, k0_pay6, k0_pay8, k0_pay9, k0_pay10, k0_pay13, r0_0, r0_1, r0_2, r0_3, r0_4]
  exact View.allAt_nil _ _

theorem hidden_block (x0 : Vec Ideal S2048x2048 .bf16) (x1 : Vec Ideal S512x2048 .bf16) (x2 : Vec Ideal S2048x2048 .bf16) (x3 : Vec Ideal S512x2048 .bf16) (a : Fin 2048) (b : Fin 512) :
    out0_6 x0 x1 x2 x3 (ix2 a b) = hiddenOf (∑ k : Fin 2048, x0 (ix2 a k) * x1 (ix2 b k)) (∑ k : Fin 2048, x2 (ix2 a k) * x3 (ix2 b k)) := by
  frame_out
  refine View.canon_eq_of_allAt _ _ _ (View.cover_of_tiled_head _ _ _ rfl _) ?_
  iterate 2
    refine View.allAt_cons_unit _ _ _ _ _ (Blocks.rows_at a b _ _ _ (fun a b => hiddenOf (∑ k : Fin 2048, x0 (ix2 a k) * x1 (ix2 b k)) (∑ k : Fin 2048, x2 (ix2 a k) * x3 (ix2 b k))) fun p hp q => ?_) ?_
    · unfold hiddenOf
      simp only [← Swish.tanh_form]
      pointwise [k0_pay1, k0_pay2, k0_pay3, k0_pay4, k0_pay7, k0_pay8, k0_pay9, k0_pay10, k0_pay11, k0_pay14, r0_0, r0_1, r0_2, r0_3, r0_4]
  exact View.allAt_nil _ _

theorem final_act : (dats m 0 c).arrAt 4 cfg0.N = (fun i : S8192x5632.Idx => actEntry m c (i 0).val (i 1).val) := by
  refine (dats m 0 c).arrAt_eq_of_covers 4 _ (by decide +kernel) fun t _ y => ?_
  obtain ⟨a, b, rfl⟩ : ∃ a b, y = ix2 a b := ⟨y 0, y 1, eq_ix2 y⟩
  have e : ∀ t : Fin cfg0.N, win0_4.index t = ![t.val / 11, t.val % 11] := (by decide +kernel : ∀ t : Fin grid0.N, _)
  have ht := point_lt t
  blk_simp
  rw [after0_4]
  refine (act_block _ _ _ _ a b).trans ?_
  have q0 : win0_4.index t 0 = t.val / 11 := congrFun (e t) 0
  have q1 : win0_4.index t 1 = t.val % 11 := congrFun (e t) 1
  refine Eq.trans ?_ (congrArg₂ (actEntry m c) (show 2048 * (t.val / 11) + a.val = _ by dsimp only; omega) (show 512 * (t.val % 11) + b.val = _ by dsimp only; omega))
  exact congrArg actOf (dot_gate m c t a b)

theorem final_slope : (dats m 0 c).arrAt 5 cfg0.N = (fun i : S8192x5632.Idx => slopeEntry m c (i 0).val (i 1).val) := by
  refine (dats m 0 c).arrAt_eq_of_covers 5 _ (by decide +kernel) fun t _ y => ?_
  obtain ⟨a, b, rfl⟩ : ∃ a b, y = ix2 a b := ⟨y 0, y 1, eq_ix2 y⟩
  have e : ∀ t : Fin cfg0.N, win0_5.index t = ![t.val / 11, t.val % 11] := (by decide +kernel : ∀ t : Fin grid0.N, _)
  have ht := point_lt t
  blk_simp
  rw [after0_5]
  refine (slope_block _ _ _ _ a b).trans ?_
  have q0 : win0_5.index t 0 = t.val / 11 := congrFun (e t) 0
  have q1 : win0_5.index t 1 = t.val % 11 := congrFun (e t) 1
  refine Eq.trans ?_ (congrArg₂ (slopeEntry m c) (show 2048 * (t.val / 11) + a.val = _ by dsimp only; omega) (show 512 * (t.val % 11) + b.val = _ by dsimp only; omega))
  exact congrArg₂ slopeOf (dot_gate m c t a b) (dot_up m c t a b)

theorem final_hidden : (dats m 0 c).arrAt 6 cfg0.N = (fun i : S8192x5632.Idx => hiddenEntry m c (i 0).val (i 1).val) := by
  refine (dats m 0 c).arrAt_eq_of_covers 6 _ (by decide +kernel) fun t _ y => ?_
  obtain ⟨a, b, rfl⟩ : ∃ a b, y = ix2 a b := ⟨y 0, y 1, eq_ix2 y⟩
  have e : ∀ t : Fin cfg0.N, win0_6.index t = ![t.val / 11, t.val % 11] := (by decide +kernel : ∀ t : Fin grid0.N, _)
  have ht := point_lt t
  blk_simp
  rw [after0_6]
  refine (hidden_block _ _ _ _ a b).trans ?_
  have q0 : win0_6.index t 0 = t.val / 11 := congrFun (e t) 0
  have q1 : win0_6.index t 1 = t.val % 11 := congrFun (e t) 1
  refine Eq.trans ?_ (congrArg₂ (hiddenEntry m c) (show 2048 * (t.val / 11) + a.val = _ by dsimp only; omega) (show 512 * (t.val % 11) + b.val = _ by dsimp only; omega))
  exact congrArg₂ hiddenOf (dot_gate m c t a b) (dot_up m c t a b)

end Cert.Kernel12Ideal.Body
end
-- ==== Proof.Ref12.lean ====
module

public import proofs.«01_k».proof.Proof.Gen.Reference12Ideal.Read
public import proofs.«01_k».proof.Proof.BlockSums
public import proofs.«01_k».proof.Proof.Swish
public import Idealize.ShloMosaic.Lib.Pointwise

/-!
The reference for the products into the feed-forward block and its gate.
-/

@[expose] public section

noncomputable section

namespace Cert.Reference12Ideal.Body

open Cert.Reference12Ideal Cert.Reference12Ideal.Read Cert.Reference12Ideal.Gen Idealize.ShloMosaic Idealize.ShloMosaic.TcCoe Idealize.SL.Sem Idealize.ShloMosaic.Tactic

variable (x0 : (⟨S8192x2048, .bf16⟩ : BufTy).Contents (Elt Ideal)) (x1 x2 : (⟨S2048x5632, .bf16⟩ : BufTy).Contents (Elt Ideal))

/-- An entry of a product, and what the gate makes of two of them. -/
def dot (h : (⟨S8192x2048, .bf16⟩ : BufTy).Contents (Elt Ideal)) (w : (⟨S2048x5632, .bf16⟩ : BufTy).Contents (Elt Ideal)) (i j : ℕ) : EReal :=
  ∑ k : Fin 2048, Blocks.at2 (fun a b => h (ix2 a b)) i k.val * Blocks.at2 (fun a b => w (ix2 a b)) k.val j
def actOf (g : EReal) : EReal := g * Swish.logistic g
def slopeOf (g u : EReal) : EReal := u * (Swish.logistic g * (1 + g * (1 - Swish.logistic g)))
def hiddenOf (g u : EReal) : EReal := g * Swish.logistic g * u

theorem dot_fin (h : (⟨S8192x2048, .bf16⟩ : BufTy).Contents (Elt Ideal)) (w : (⟨S2048x5632, .bf16⟩ : BufTy).Contents (Elt Ideal)) (a : Fin 8192) (b : Fin 5632) :
    ∑ k : Fin 2048, h (ix2 a k) * w (ix2 k b) = dot h w a.val b.val := by
  unfold dot
  refine Finset.sum_congr rfl fun k _ => ?_
  exact congrArg₂ (· * ·) (Blocks.at2_fin (fun a b => h (ix2 a b)) a k).symm (Blocks.at2_fin (fun a b => w (ix2 a b)) k b).symm

theorem whole_act : val_main_v25 (F := Ideal) x0 x1 = fun i => actOf (dot x0 x1 (i 0).val (i 1).val) := by
  funext i
  obtain ⟨a, b, rfl⟩ : ∃ a b, i = ix2 a b := ⟨i 0, i 1, eq_ix2 i⟩
  refine Eq.trans ?_ (congrArg actOf (dot_fin x0 x1 a b))
  pointwise [val_main_v25, val_main_v24, val_main_call0_v0, val_main_call0_v1, val_main_call0_v2, val_main_call0_v3, val_main_call0_v4, val_main_call0_v5, val_main_call0_cst, val_main_call0_cst_0, val_main_v2, val_main_v1, val_main_v0]
  rfl

theorem whole_slope : val_main_v27 (F := Ideal) x0 x1 x2 = fun i => slopeOf (dot x0 x1 (i 0).val (i 1).val) (dot x0 x2 (i 0).val (i 1).val) := by
  funext i
  obtain ⟨a, b, rfl⟩ : ∃ a b, i = ix2 a b := ⟨i 0, i 1, eq_ix2 i⟩
  refine Eq.trans ?_ (congrArg₂ slopeOf (dot_fin x0 x1 a b) (dot_fin x0 x2 a b))
  pointwise [val_main_v27, val_main_v26, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

theorem whole_hidden : val_main_v30 (F := Ideal) x0 x1 x2 = fun i => hiddenOf (dot x0 x1 (i 0).val (i 1).val) (dot x0 x2 (i 0).val (i 1).val) := by
  funext i
  obtain ⟨a, b, rfl⟩ : ∃ a b, i = ix2 a b := ⟨i 0, i 1, eq_ix2 i⟩
  refine Eq.trans ?_ (congrArg₂ hiddenOf (dot_fin x0 x1 a b) (dot_fin x0 x2 a b))
  pointwise [val_main_v30, val_main_v29, val_main_v28, val_main_call1_v0, val_main_call1_v1, val_main_call1_v2, val_main_call1_v3, val_main_call1_v4, val_main_call1_v5, val_main_call1_cst, val_main_call1_cst_0, val_main_v5, val_main_v4, val_main_v3, val_main_v2, val_main_v1, val_main_v0]
  rfl

end Cert.Reference12Ideal.Body

end
-- ==== Proof.DIn.lean ====
module

public import proofs.«01_k».proof.Proof.BlockSums
public import proofs.«01_k».proof.Proof.Panels
public import proofs.«01_k».proof.Proof.Gen.Kernel13Ideal.Value
public import Idealize.ShloMosaic.Lib.Pointwise
public import Idealize.ShloMosaic.Lib.Pipeline.ValueKit
public import Idealize.ShloMosaic.Lib.Pipeline.ValueKit.Acc
public import Idealize.ShloMosaic.Lib.StableHlo.RunRead

/-!
The gradient through the input projection: what the accumulating kernel leaves in its result.
-/

@[expose] public section
set_option maxRecDepth 16384
noncomputable section
namespace Cert.Kernel13Ideal.Body
open Cert.Kernel13Ideal Cert.Kernel13Ideal.Gen Idealize.ShloMosaic Idealize.ShloMosaic.TcCoe Idealize.SL.Sem Idealize.ShloMosaic.Tactic
variable (m : (ℓ : Loc nD τ sig) → Buf (Elt Ideal) ℓ) (c : Dev nD)

/-- The weight and the incoming gradient, and the two factors by block. -/
abbrev argW : S2048x4608.Idx → EReal := m ((c : Thread nD τ).loc main_arg0)
abbrev argD : S8448x4608.Idx → EReal := m ((c : Thread nD τ).loc main_arg1)
abbrev blkA (t : Fin cfg0.N) : S1408x768.Idx → EReal := iblk m c 0 t
abbrev blkB (t : Fin cfg0.N) : S768x2048.Idx → EReal := iblk m c 1 t

/-- One term of the contraction over projected lanes, for row `i` and column `j` of the result. -/
def term (i j k : ℕ) : EReal := Blocks.at2 (fun a b => argD m c (ix2 a b)) i k * Blocks.at2 (fun a b => argW m c (ix2 a b)) j k

theorem point_lt (t : Fin cfg0.N) : t.val < 36 := lt_of_lt_of_eq t.isLt N_0

/-- The host's transposed weight. -/
theorem weight (a : Fin 4608) (b : Fin 2048) : (V m c main_v0 : S4608x2048.Idx → EReal) (ix2 a b) = argW m c (ix2 b a) := by
  unfold_abbrev_sides
  after_reads_simp
  pointwise

/-- What one grid point adds to an entry of its block. -/
theorem addend (t : Fin cfg0.N) (a : Fin 1408) (b : Fin 2048) :
    ∑ x : Fin 768, blkA m c t (ix2 a x) * blkB m c t (ix2 x b)
      = ∑ x : Fin 768, term m c (1408 * (t.val / 6) + a.val) b.val (768 * (t.val % 6) + x.val) := by
  refine Finset.sum_congr rfl fun x _ => ?_
  have e0 : ∀ t : Fin cfg0.N, win0_0.index t = ![t.val / 6, t.val % 6] := (by decide +kernel : ∀ t : Fin grid0.N, _)
  have e1 : ∀ t : Fin cfg0.N, win0_1.index t = ![t.val % 6, 0] := (by decide +kernel : ∀ t : Fin grid0.N, _)
  have ht := point_lt t
  unfold term
  rw [Blocks.at2_of_lt _ (by omega) (by omega), Blocks.at2_of_lt _ (by omega) (by omega)]
  congr 1
  · blk_simp [iblk]
    rw [V_main_arg1]
    refine congrArg (argD m c) ?_
    blk_ext [e0]
  · refine Eq.trans ?_ (weight m c _ _)
    blk_simp [iblk]
    refine congrArg (V m c main_v0 : S4608x2048.Idx → EReal) ?_
    blk_ext [e1]

/-- The first point of a run: the panels of the accumulator are a product. -/
theorem first_panels (x0 : Vec Ideal S1408x768 .bf16) (x1 : Vec Ideal S768x2048 .bf16) (a : Fin 1408) (b : Fin 2048) :
    View.canon [(⟨Rect.unit ![0, 1536] ![1408, 512] inb_S1408x2048_S1408x512_0_1536,
          k0_pay6 x0 (View.ld x1 (Rect.unit ![0, 1536] ![768, 512] inb_S768x2048_S768x512_0_1536))⟩ : View.Piece (Elt Ideal) S1408x2048 .f32),
        ⟨Rect.unit ![0, 1024] ![1408, 512] inb_S1408x2048_S1408x512_0_1024,
          k0_pay5 x0 (View.ld x1 (Rect.unit ![0, 1024] ![768, 512] inb_S768x2048_S768x512_0_1024))⟩,
        ⟨Rect.unit ![0, 512] ![1408, 512] inb_S1408x2048_S1408x512_0_512,
          k0_pay4 x0 (View.ld x1 (Rect.unit ![0, 512] ![768, 512] inb_S768x2048_S768x512_0_512))⟩,
        ⟨Rect.unit ![0, 0] ![1408, 512] inb_S1408x2048_S1408x512_0_0,
          k0_pay3 x0 (View.ld x1 (Rect.unit ![0, 0] ![768, 512] inb_S768x2048_S768x512_0_0))⟩] (ix2 a b)
      = ∑ x : Fin 768, x0 (ix2 a x) * x1 (ix2 x b) := by
  refine View.canon_eq_of_allAt _ _ _ (View.cover_of_tiled_head _ _ _ rfl _) ?_
  iterate 4
    refine View.allAt_cons_unit _ _ _ _ _ (Blocks.columns_at a b _ _ _ (fun a b => ∑ x : Fin 768, x0 (ix2 a x) * x1 (ix2 x b)) fun p hp q => ?_) ?_
    · pointwise [k0_pay3, k0_pay4, k0_pay5, k0_pay6]
  exact View.allAt_nil _ _

/-- A later point of a run: the panels are the accumulator before, plus a product. -/
theorem later_panels (x0 : Vec Ideal S1408x768 .bf16) (x1 : Vec Ideal S768x2048 .bf16) (x2 : Vec Ideal S1408x2048 .f32) (a : Fin 1408) (b : Fin 2048) :
    View.canon [(⟨Rect.unit ![0, 1536] ![1408, 512] inb_S1408x2048_S1408x512_0_1536,
          k0_pay1 x0 (View.ld x1 (Rect.unit ![0, 1536] ![768, 512] inb_S768x2048_S768x512_0_1536)) (View.ld x2 (Rect.unit ![0, 1536] ![1408, 512] inb_S1408x2048_S1408x512_0_1536))⟩ : View.Piece (Elt Ideal) S1408x2048 .f32),
        ⟨Rect.unit ![0, 1024] ![1408, 512] inb_S1408x2048_S1408x512_0_1024,
          k0_pay9 x0 (View.ld x1 (Rect.unit ![0, 1024] ![768, 512] inb_S768x2048_S768x512_0_1024)) (View.ld x2 (Rect.unit ![0, 1024] ![1408, 512] inb_S1408x2048_S1408x512_0_1024))⟩,
        ⟨Rect.unit ![0, 512] ![1408, 512] inb_S1408x2048_S1408x512_0_512,
          k0_pay8 x0 (View.ld x1 (Rect.unit ![0, 512] ![768, 512] inb_S768x2048_S768x512_0_512)) (View.ld x2 (Rect.unit ![0, 512] ![1408, 512] inb_S1408x2048_S1408x512_0_512))⟩,
        ⟨Rect.unit ![0, 0] ![1408, 512] inb_S1408x2048_S1408x512_0_0,
          k0_pay7 x0 (View.ld x1 (Rect.unit ![0, 0] ![768, 512] inb_S768x2048_S768x512_0_0)) (View.ld x2 (Rect.unit ![0, 0] ![1408, 512] inb_S1408x2048_S1408x512_0_0))⟩] (ix2 a b)
      = x2 (ix2 a b) + ∑ x : Fin 768, x0 (ix2 a x) * x1 (ix2 x b) := by
  refine View.canon_eq_of_allAt _ _ _ (View.cover_of_tiled_head _ _ _ rfl _) ?_
  iterate 4
    refine View.allAt_cons_unit _ _ _ _ _ (Blocks.columns_at a b _ _ _ (fun a b => x2 (ix2 a b) + ∑ x : Fin 768, x0 (ix2 a x) * x1 (ix2 x b)) fun p hp q => ?_) ?_
    · pointwise [k0_pay1, k0_pay7, k0_pay8, k0_pay9]
  exact View.allAt_nil _ _

/-- What a run has added by its point `t`. -/
theorem partial_sum (t : Fin cfg0.N) (y : S1408x2048.Idx) :
    ((outsAt0 m c t.val t.isLt).2 : S1408x2048.Idx → EReal) y = 0 + ∑ k ∈ Finset.range (t.val % 6 + 1),
      ∑ x : Fin 768, term m c (1408 * (t.val / 6) + (y 0).val) (y 1).val (768 * k + x.val) := by
  refine Pipeline.eq_sum_of_reset_step_apply_divmod (M := EReal) (fun n h => ((outsAt0 m c n h).2 : S1408x2048.Idx → EReal)) 6 (fun _ => 0)
    (fun q k y => ∑ x : Fin 768, term m c (1408 * q + (y 0).val) (y 1).val (768 * k + x.val)) (fun t h y => ?_) (fun t h y => ?_) t y
  · obtain ⟨a, b, rfl⟩ : ∃ a b, y = ix2 a b := ⟨y 0, y 1, eq_ix2 y⟩
    refine Eq.trans ?_ (zero_add _).symm
    rw [outsAt0_A m c t h (by omega) (by omega)]
    frame_out
    exact (first_panels _ _ a b).trans (addend m c t a b)
  · obtain ⟨a, b, rfl⟩ : ∃ a b, y = ix2 a b := ⟨y 0, y 1, eq_ix2 y⟩
    by_cases hl : t.val % 6 = 5
    on_goal 1 => rw [outsAt0_C m c t h (by omega) hl]
    on_goal 2 => rw [outsAt0_B m c t h (by omega) hl]
    all_goals
      frame_out
      rw [(Memref.isWhole_whole _).read_unread]
      exact (later_panels _ _ _ a b).trans (congrArg _ (addend m c t a b))

/-- At a run's last point the result's block is the accumulator. -/
theorem out_last (t : Fin cfg0.N) (hl : t.val % 6 = 5) (y : S1408x2048.Idx) :
    ((outsAt0 m c t.val t.isLt).1 : S1408x2048.Idx → EReal) y = ((outsAt0 m c t.val t.isLt).2 : S1408x2048.Idx → EReal) y := by
  obtain ⟨a, b, rfl⟩ : ∃ a b, y = ix2 a b := ⟨y 0, y 1, eq_ix2 y⟩
  rw [outsAt0_C m c t (by omega) (by omega) hl]
  frame_out
  pointwise [k0_pay2]
  rw [View.readCov_eq_canon_ld _ _ _ (View.cover_of_tiled_head _ _ _ rfl), View.ld_unit_lit _ _ (by decide)]

/-- An entry of the result. -/
def entry (i j : ℕ) : EReal := ∑ k : Fin 4608, term m c i j k.val

theorem final : (dats m 0 c).arrAt 2 cfg0.N = (fun i : S8448x2048.Idx => entry m c (i 0).val (i 1).val) := by
  refine (dats m 0 c).arrAt_eq_of_covers 2 _ (by decide +kernel) fun t hf y => ?_
  have e2 : ∀ t : Fin cfg0.N, win0_2.index t = ![t.val / 6, 0] := (by decide +kernel : ∀ t : Fin grid0.N, _)
  have hl : t.val % 6 = 5 := (flush0_2 t).mp hf
  blk_simp
  rw [after0_2, out_last m c t hl, partial_sum, hl, zero_add, Blocks.sum_fin _ 768 6 4608 rfl]
  have q0 : win0_2.index t 0 = t.val / 6 := congrFun (e2 t) 0
  have q1 : win0_2.index t 1 = 0 := congrFun (e2 t) 1
  exact congrArg₂ (entry m c) (by dsimp only; omega) (by dsimp only; omega)

end Cert.Kernel13Ideal.Body
end
-- ==== Proof.Ref13.lean ====
module

public import proofs.«01_k».proof.Proof.Gen.Reference13Ideal.Read
public import proofs.«01_k».proof.Proof.BlockSums
public import Idealize.ShloMosaic.Lib.Pointwise

/-!
The reference for the gradient through the input projection: sequence and context separately.
-/

@[expose] public section

noncomputable section

namespace Cert.Reference13Ideal.Body

open Cert.Reference13Ideal Cert.Reference13Ideal.Read Cert.Reference13Ideal.Gen Idealize.ShloMosaic Idealize.ShloMosaic.TcCoe Idealize.SL.Sem Idealize.ShloMosaic.Tactic

variable (x0 : (⟨S2048x4608, .bf16⟩ : BufTy).Contents (Elt Ideal)) (x1 : (⟨S8448x4608, .bf16⟩ : BufTy).Contents (Elt Ideal))

/-- An entry of the gradient. -/
def entry (i j : ℕ) : EReal := ∑ k : Fin 4608, Blocks.at2 (fun a b => x1 (ix2 a b)) i k.val * Blocks.at2 (fun a b => x0 (ix2 a b)) j k.val

theorem whole : val_main_v12 (F := Ideal) x0 x1 = fun i => entry x0 x1 (i 0).val (i 1).val := by
  funext i
  obtain ⟨a, b, rfl⟩ : ∃ a b, i = ix2 a b := ⟨i 0, i 1, eq_ix2 i⟩
  have e : ∑ k : Fin 4608, x1 (ix2 a k) * x0 (ix2 b k) = entry x0 x1 a.val b.val := by
    unfold entry
    refine Finset.sum_congr rfl fun k _ => ?_
    exact congrArg₂ (· * ·) (Blocks.at2_fin (fun a b => x1 (ix2 a b)) a k).symm (Blocks.at2_fin (fun a b => x0 (ix2 a b)) b k).symm
  refine Eq.trans ?_ e
  pointwise [val_main_v12, val_main_v11, val_main_v10, val_main_v9, val_main_v8, val_main_v7, val_main_v5, val_main_v3, val_main_v0]
  split
  · rfl
  · refine Finset.sum_congr rfl fun k _ => ?_
    exact congrArg₂ (· * ·) (congrArg x1 (congrArg (fun z => ix2 z k) (Fin.ext (by dsimp only; omega)))) rfl

end Cert.Reference13Ideal.Body

end
-- ==== Proof.In.lean ====
module

public import proofs.«01_k».proof.Proof.BlockSums
public import proofs.«01_k».proof.Proof.Gen.Kernel14Ideal.Value
public import Idealize.ShloMosaic.Lib.Pointwise
public import Idealize.ShloMosaic.Lib.Pipeline.ValueKit
public import Idealize.ShloMosaic.Lib.Pipeline.ValueKit.Acc
public import Idealize.ShloMosaic.Lib.StableHlo.RunRead

/-!
The input projection, of latent and context tokens.
-/

@[expose] public section
set_option maxRecDepth 16384
noncomputable section
namespace Cert.Kernel14Ideal.Body
open Cert.Kernel14Ideal Cert.Kernel14Ideal.Gen Idealize.ShloMosaic Idealize.ShloMosaic.TcCoe Idealize.SL.Sem Idealize.ShloMosaic.Tactic
variable (m : (ℓ : Loc nD τ sig) → Buf (Elt Ideal) ℓ) (c : Dev nD)

/-- The normalised tokens and the weight. -/
abbrev argH : S8448x2048.Idx → EReal := m ((c : Thread nD τ).loc main_arg0)
abbrev argW : S2048x4608.Idx → EReal := m ((c : Thread nD τ).loc main_arg1)

/-- An entry of the result. -/
def entry (i j : ℕ) : EReal :=
  ∑ k : Fin 2048, Blocks.at2 (fun a b => argH m c (ix2 a b)) i k.val * Blocks.at2 (fun a b => argW m c (ix2 a b)) k.val j

/-- The host's transposed weight. -/
theorem weight (a : Fin 4608) (b : Fin 2048) : (V m c main_v0 : S4608x2048.Idx → EReal) (ix2 a b) = argW m c (ix2 b a) := by
  unfold_abbrev_sides
  after_reads_simp
  pointwise

/-- One grid point's block is the product of its two blocks. -/
theorem block (x0 : Vec Ideal S1408x2048 .bf16) (x1 : Vec Ideal S1536x2048 .bf16) (a : Fin 1408) (b : Fin 1536) :
    out0_2 x0 x1 (ix2 a b) = ∑ k : Fin 2048, x0 (ix2 a k) * x1 (ix2 b k) := by
  frame_out
  pointwise [k0_pay1]

theorem final : (dats m 0 c).arrAt 2 cfg0.N = (fun i : S8448x4608.Idx => entry m c (i 0).val (i 1).val) := by
  refine (dats m 0 c).arrAt_eq_of_covers 2 _ (by decide +kernel) fun t _ y => ?_
  obtain ⟨a, b, rfl⟩ : ∃ a b, y = ix2 a b := ⟨y 0, y 1, eq_ix2 y⟩
  have e0 : ∀ t : Fin cfg0.N, win0_0.index t = ![t.val / 3, 0] := (by decide +kernel : ∀ t : Fin grid0.N, _)
  have e1 : ∀ t : Fin cfg0.N, win0_1.index t = ![t.val % 3, 0] := (by decide +kernel : ∀ t : Fin grid0.N, _)
  have e2 : ∀ t : Fin cfg0.N, win0_2.index t = ![t.val / 3, t.val % 3] := (by decide +kernel : ∀ t : Fin grid0.N, _)
  have ht : t.val < 18 := lt_of_lt_of_eq t.isLt N_0
  blk_simp
  rw [after0_2]
  refine (block _ _ a b).trans ?_
  have q0 : win0_2.index t 0 = t.val / 3 := congrFun (e2 t) 0
  have q1 : win0_2.index t 1 = t.val % 3 := congrFun (e2 t) 1
  refine Eq.trans ?_ (congrArg₂ (entry m c) (show 1408 * (t.val / 3) + a.val = _ by dsimp only; omega) (show 1536 * (t.val % 3) + b.val = _ by dsimp only; omega))
  unfold entry
  refine Finset.sum_congr rfl fun k _ => ?_
  rw [Blocks.at2_of_lt _ (by omega) (by omega), Blocks.at2_of_lt _ (by omega) (by omega)]
  congr 1
  · blk_simp [iblk]
    rw [V_main_arg0]
    refine congrArg (argH m c) ?_
    blk_ext [e0]
  · refine Eq.trans ?_ (weight m c _ _)
    blk_simp [iblk]
    refine congrArg (V m c main_v0 : S4608x2048.Idx → EReal) ?_
    blk_ext [e1]

end Cert.Kernel14Ideal.Body
end
-- ==== Proof.Ref14.lean ====
module

public import proofs.«01_k».proof.Proof.Gen.Reference14Ideal.Read
public import proofs.«01_k».proof.Proof.BlockSums
public import Idealize.ShloMosaic.Lib.Pointwise

/-!
The reference for the input projection: sequence and context separately.
-/

@[expose] public section

noncomputable section

namespace Cert.Reference14Ideal.Body

open Cert.Reference14Ideal Cert.Reference14Ideal.Read Cert.Reference14Ideal.Gen Idealize.ShloMosaic Idealize.ShloMosaic.TcCoe Idealize.SL.Sem Idealize.ShloMosaic.Tactic

variable (x0 : (⟨S8448x2048, .bf16⟩ : BufTy).Contents (Elt Ideal)) (x1 : (⟨S2048x4608, .bf16⟩ : BufTy).Contents (Elt Ideal))

/-- An entry of the product. -/
def entry (i j : ℕ) : EReal := ∑ k : Fin 2048, Blocks.at2 (fun a b => x0 (ix2 a b)) i k.val * Blocks.at2 (fun a b => x1 (ix2 a b)) k.val j

theorem whole : val_main_v7 (F := Ideal) x0 x1 = fun i => entry x0 x1 (i 0).val (i 1).val := by
  funext i
  obtain ⟨a, b, rfl⟩ : ∃ a b, i = ix2 a b := ⟨i 0, i 1, eq_ix2 i⟩
  have e : ∑ k : Fin 2048, x0 (ix2 a k) * x1 (ix2 k b) = entry x0 x1 a.val b.val := by
    unfold entry
    refine Finset.sum_congr rfl fun k _ => ?_
    exact congrArg₂ (· * ·) (Blocks.at2_fin (fun a b => x0 (ix2 a b)) a k).symm (Blocks.at2_fin (fun a b => x1 (ix2 a b)) k b).symm
  refine Eq.trans ?_ e
  pointwise [val_main_v7, val_main_v6, val_main_v5, val_main_v4, val_main_v3, val_main_v2, val_main_v1, val_main_v0]
  split
  · rfl
  · refine Finset.sum_congr rfl fun k _ => ?_
    exact congrArg₂ (· * ·) (congrArg x0 (congrArg (fun z => ix2 z k) (Fin.ext (by dsimp only; omega)))) rfl

end Cert.Reference14Ideal.Body

end
-- ==== Proof.AdamSteps.lean ====
module

public import Idealize.ShloMosaic.Lib.Pointwise

/-!
One AdamW step of an entry, over the extended reals. The constants are the words of both programs.
-/

@[expose] public section

noncomputable section

namespace Cert.AdamSteps

open Idealize.ShloMosaic

/-- The first moment after the step: `0.9 * m + 0.1 * g`. -/
def moment1 (m g : EReal) : EReal := Ideal.ofBits FTy.f32 0x3F666666#32 * m + Ideal.ofBits FTy.f32 0x3DCCCCCD#32 * g

/-- The second moment after the step: `0.999 * v + 0.001 * g²`. -/
def moment2 (v g : EReal) : EReal := Ideal.ofBits FTy.f32 0x3F7FBE77#32 * v + Ideal.ofBits FTy.f32 0x3A83126F#32 * (g * g)

/-- What the step adds to the weight `w`, of the moments after it. -/
def delta (w m v : EReal) : EReal :=
  Ideal.ofBits FTy.f32 0xBA83126F#32 * (Ideal.div (Ideal.div m (Ideal.ofBits FTy.f32 0x3F26BD02#32))
      (Ideal.sqrt (Ideal.div v (Ideal.ofBits FTy.f32 0x3C231ACC#32)) + Ideal.ofBits FTy.f32 0x322BCC77#32)
    + Ideal.ofBits FTy.f32 0x3C23D70A#32 * w)

end Cert.AdamSteps

end
-- ==== Proof.AdamWIn.lean ====
module

public import proofs.«01_k».proof.Proof.BlockSums
public import proofs.«01_k».proof.Proof.AdamSteps
public import proofs.«01_k».proof.Proof.Gen.Kernel15Ideal.Value
public import Idealize.ShloMosaic.Lib.Pointwise
public import Idealize.ShloMosaic.Lib.Pipeline.ValueKit
public import Idealize.ShloMosaic.Lib.StableHlo.RunRead

/-!
The AdamW step of the input projection: the four arrays the kernel leaves.
-/

@[expose] public section
noncomputable section
namespace Cert.Kernel15Ideal.Body
open Cert.Kernel15Ideal Cert.Kernel15Ideal.Gen Idealize.ShloMosaic Idealize.ShloMosaic.TcCoe Idealize.SL.Sem Idealize.ShloMosaic.Tactic
variable (m : (ℓ : Loc nD τ sig) → Buf (Elt Ideal) ℓ) (c : Dev nD)

/-- The weight, its moments and the gradient's parts, by the rows and columns of the call. -/
abbrev argW : S1x2048x576.Idx → EReal := m ((c : Thread nD τ).loc main_arg0)
abbrev argM : S1x2048x576.Idx → EReal := m ((c : Thread nD τ).loc main_arg1)
abbrev argV : S1x2048x576.Idx → EReal := m ((c : Thread nD τ).loc main_arg2)
abbrev argP : S8x576x2048.Idx → EReal := m ((c : Thread nD τ).loc main_arg3)
abbrev blkP (t : Fin cfg0.N) : S8x192x2048.Idx → EReal := iblk m c 3 t
def atW (i j : ℕ) : EReal := Blocks.at2 (fun (a : Fin 576) (b : Fin 2048) => argW m c (ix3 0 b a)) i j
def atM (i j : ℕ) : EReal := Blocks.at2 (fun (a : Fin 576) (b : Fin 2048) => argM m c (ix3 0 b a)) i j
def atV (i j : ℕ) : EReal := Blocks.at2 (fun (a : Fin 576) (b : Fin 2048) => argV m c (ix3 0 b a)) i j

/-- The gradient, the moments after the step and the step itself. -/
def grad (i j : ℕ) : EReal := ∑ x : Fin 8, Blocks.at2 (fun a b => argP m c (ix3 x a b)) i j
def moment1 (i j : ℕ) : EReal := AdamSteps.moment1 (atM m c i j) (grad m c i j)
def moment2 (i j : ℕ) : EReal := AdamSteps.moment2 (atV m c i j) (grad m c i j)
def delta (i j : ℕ) : EReal := AdamSteps.delta (atW m c i j) (moment1 m c i j) (moment2 m c i j)

theorem point_lt (t : Fin cfg0.N) : t.val < 3 := lt_of_lt_of_eq t.isLt N_0

/-! The arguments by block. -/

theorem hostW (a : Fin 576) (b : Fin 2048) : (V m c main_v1 : S576x2048.Idx → EReal) (ix2 a b) = argW m c (ix3 0 b a) := by
  unfold_abbrev_sides
  after_reads_simp
  pointwise

theorem blockW (t : Fin cfg0.N) (a : Fin 192) (b : Fin 2048) :
    (iblk m c 0 t : S192x2048.Idx → EReal) (ix2 a b) = atW m c (192 * t.val + a.val) b.val := by
  have e : ∀ t : Fin cfg0.N, win0_0.index t = ![t.val, 0] := (by decide +kernel : ∀ t : Fin grid0.N, _)
  have ht := point_lt t
  unfold atW
  rw [Blocks.at2_of_lt _ (by omega) (by omega)]
  refine Eq.trans ?_ (hostW m c _ _)
  blk_simp [iblk]
  refine congrArg (V m c main_v1 : S576x2048.Idx → EReal) ?_
  blk_ext [e]

theorem hostM (a : Fin 576) (b : Fin 2048) : (V m c main_v3 : S576x2048.Idx → EReal) (ix2 a b) = argM m c (ix3 0 b a) := by
  unfold_abbrev_sides
  after_reads_simp
  pointwise

theorem blockM (t : Fin cfg0.N) (a : Fin 192) (b : Fin 2048) :
    (iblk m c 1 t : S192x2048.Idx → EReal) (ix2 a b) = atM m c (192 * t.val + a.val) b.val := by
  have e : ∀ t : Fin cfg0.N, win0_1.index t = ![t.val, 0] := (by decide +kernel : ∀ t : Fin grid0.N, _)
  have ht := point_lt t
  unfold atM
  rw [Blocks.at2_of_lt _ (by omega) (by omega)]
  refine Eq.trans ?_ (hostM m c _ _)
  blk_simp [iblk]
  refine congrArg (V m c main_v3 : S576x2048.Idx → EReal) ?_
  blk_ext [e]

theorem hostV (a : Fin 576) (b : Fin 2048) : (V m c main_v5 : S576x2048.Idx → EReal) (ix2 a b) = argV m c (ix3 0 b a) := by
  unfold_abbrev_sides
  after_reads_simp
  pointwise

theorem blockV (t : Fin cfg0.N) (a : Fin 192) (b : Fin 2048) :
    (iblk m c 2 t : S192x2048.Idx → EReal) (ix2 a b) = atV m c (192 * t.val + a.val) b.val := by
  have e : ∀ t : Fin cfg0.N, win0_2.index t = ![t.val, 0] := (by decide +kernel : ∀ t : Fin grid0.N, _)
  have ht := point_lt t
  unfold atV
  rw [Blocks.at2_of_lt _ (by omega) (by omega)]
  refine Eq.trans ?_ (hostV m c _ _)
  blk_simp [iblk]
  refine congrArg (V m c main_v5 : S576x2048.Idx → EReal) ?_
  blk_ext [e]

theorem blockP (t : Fin cfg0.N) (x : Fin 8) (a : Fin 192) (b : Fin 2048) :
    blkP m c t (ix3 x a b) = Blocks.at2 (fun a b => argP m c (ix3 x a b)) (192 * t.val + a.val) b.val := by
  have e : ∀ t : Fin cfg0.N, win0_3.index t = ![0, t.val, 0] := (by decide +kernel : ∀ t : Fin grid0.N, _)
  have ht := point_lt t
  rw [Blocks.at2_of_lt _ (by omega) (by omega)]
  blk_simp [iblk]
  rw [V_main_arg3]
  refine congrArg (argP m c) ?_
  blk_ext [e]

/-! The body's four results, of blocks. -/

section
variable (x0 x1 x2 : Vec Ideal S192x2048 .f32) (x3 : Vec Ideal S8x192x2048 .bf16) (a : Fin 192) (b : Fin 2048)

theorem out_grad : out0_4 x0 x1 x2 x3 (ix2 a b) = (∑ x : Fin 8, x3 (ix3 x a b)) := by
  rw [Fin.sum_univ_eight]
  frame_out
  pointwise [k0_pay1, k0_pay2, k0_pay3, k0_pay4, k0_pay5, k0_pay6]

theorem out_moment1 : out0_6 x0 x1 x2 x3 (ix2 a b) = (AdamSteps.moment1 (x1 (ix2 a b)) (∑ x : Fin 8, x3 (ix3 x a b))) := by
  unfold AdamSteps.moment1
  rw [Fin.sum_univ_eight]
  frame_out
  pointwise [k0_pay1, k0_pay2, k0_pay3, k0_pay4, k0_pay5, k0_pay6]

theorem out_moment2 : out0_7 x0 x1 x2 x3 (ix2 a b) = (AdamSteps.moment2 (x2 (ix2 a b)) (∑ x : Fin 8, x3 (ix3 x a b))) := by
  unfold AdamSteps.moment2
  rw [Fin.sum_univ_eight]
  frame_out
  pointwise [k0_pay1, k0_pay2, k0_pay3, k0_pay4, k0_pay5, k0_pay6]

theorem out_delta : out0_5 x0 x1 x2 x3 (ix2 a b) = AdamSteps.delta (x0 (ix2 a b)) (AdamSteps.moment1 (x1 (ix2 a b)) (∑ x : Fin 8, x3 (ix3 x a b))) (AdamSteps.moment2 (x2 (ix2 a b)) (∑ x : Fin 8, x3 (ix3 x a b))) := by
  unfold AdamSteps.delta AdamSteps.moment1 AdamSteps.moment2
  rw [Fin.sum_univ_eight]
  frame_out
  pointwise [k0_pay1, k0_pay2, k0_pay3, k0_pay4, k0_pay5, k0_pay6]

end

/-! The four arrays after the run. -/

theorem block_grad (t : Fin cfg0.N) (a : Fin 192) (b : Fin 2048) :
    ∑ x : Fin 8, blkP m c t (ix3 x a b) = grad m c (192 * t.val + a.val) b.val :=
  Finset.sum_congr rfl fun x _ => blockP m c t x a b

theorem point_grad (t : Fin cfg0.N) (a : Fin 192) (b : Fin 2048) :
    (out0_4 (iblk m c 0 t) (iblk m c 1 t) (iblk m c 2 t) (iblk m c 3 t) : S192x2048.Idx → EReal) (ix2 a b) = grad m c (192 * t.val + a.val) b.val :=
  (out_grad _ _ _ _ a b).trans (block_grad m c t a b)

theorem final_grad : (dats m 0 c).arrAt 4 cfg0.N = (fun i : S576x2048.Idx => grad m c (i 0).val (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q0 : win0_4.index t 0 = t.val := congrFun (e t) 0
  have q1 : win0_4.index t 1 = 0 := congrFun (e t) 1
  exact congrArg₂ (grad m c) (by omega) (by omega)

theorem point_moment1 (t : Fin cfg0.N) (a : Fin 192) (b : Fin 2048) :
    (out0_6 (iblk m c 0 t) (iblk m c 1 t) (iblk m c 2 t) (iblk m c 3 t) : S192x2048.Idx → EReal) (ix2 a b) = moment1 m c (192 * t.val + a.val) b.val :=
  (out_moment1 _ _ _ _ a b).trans (congrArg₂ AdamSteps.moment1 (blockM m c t a b) (block_grad m c t a b))

theorem final_moment1 : (dats m 0 c).arrAt 6 cfg0.N = (fun i : S576x2048.Idx => moment1 m c (i 0).val (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q0 : win0_6.index t 0 = t.val := congrFun (e t) 0
  have q1 : win0_6.index t 1 = 0 := congrFun (e t) 1
  exact congrArg₂ (moment1 m c) (by omega) (by omega)

theorem point_moment2 (t : Fin cfg0.N) (a : Fin 192) (b : Fin 2048) :
    (out0_7 (iblk m c 0 t) (iblk m c 1 t) (iblk m c 2 t) (iblk m c 3 t) : S192x2048.Idx → EReal) (ix2 a b) = moment2 m c (192 * t.val + a.val) b.val :=
  (out_moment2 _ _ _ _ a b).trans (congrArg₂ AdamSteps.moment2 (blockV m c t a b) (block_grad m c t a b))

theorem final_moment2 : (dats m 0 c).arrAt 7 cfg0.N = (fun i : S576x2048.Idx => moment2 m c (i 0).val (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q0 : win0_7.index t 0 = t.val := congrFun (e t) 0
  have q1 : win0_7.index t 1 = 0 := congrFun (e t) 1
  exact congrArg₂ (moment2 m c) (by omega) (by omega)

theorem point_delta (t : Fin cfg0.N) (a : Fin 192) (b : Fin 2048) :
    (out0_5 (iblk m c 0 t) (iblk m c 1 t) (iblk m c 2 t) (iblk m c 3 t) : S192x2048.Idx → EReal) (ix2 a b) = delta m c (192 * t.val + a.val) b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S576x2048.Idx => delta m c (i 0).val (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q0 : win0_5.index t 0 = t.val := congrFun (e t) 0
  have q1 : win0_5.index t 1 = 0 := congrFun (e t) 1
  exact congrArg₂ (delta m c) (by omega) (by omega)

end Cert.Kernel15Ideal.Body
end
-- ==== Proof.Ref15.lean ====
module

public import proofs.«01_k».proof.Proof.Gen.Reference15Ideal.Read
public import proofs.«01_k».proof.Proof.BlockSums
public import proofs.«01_k».proof.Proof.AdamSteps
public import Idealize.ShloMosaic.Lib.Pointwise

/-!
The reference for the AdamW step of the input projection.
-/

@[expose] public section
noncomputable section
namespace Cert.Reference15Ideal.Body
open Cert.Reference15Ideal Cert.Reference15Ideal.Read Cert.Reference15Ideal.Gen Idealize.ShloMosaic Idealize.ShloMosaic.TcCoe Idealize.SL.Sem Idealize.ShloMosaic.Tactic
variable (x0 x1 x2 : (⟨S1x2048x576, .f32⟩ : BufTy).Contents (Elt Ideal)) (x3 : (⟨S8x576x2048, .bf16⟩ : BufTy).Contents (Elt Ideal))

/-- The gradient, the moments after the step and the step itself. -/
def atW (x : (⟨S1x2048x576, .f32⟩ : BufTy).Contents (Elt Ideal)) (i j : ℕ) : EReal := Blocks.at2 (fun (a : Fin 576) (b : Fin 2048) => x (ix3 0 b a)) i j
def grad (i j : ℕ) : EReal := ∑ x : Fin 8, Blocks.at2 (fun a b => x3 (ix3 x a b)) i j
def moment1 (i j : ℕ) : EReal := AdamSteps.moment1 (atW x1 i j) (grad x3 i j)
def moment2 (i j : ℕ) : EReal := AdamSteps.moment2 (atW x2 i j) (grad x3 i j)
def delta (i j : ℕ) : EReal := AdamSteps.delta (atW x0 i j) (moment1 x1 x3 i j) (moment2 x2 x3 i j)

theorem atW_fin (x : (⟨S1x2048x576, .f32⟩ : BufTy).Contents (Elt Ideal)) (a : Fin 576) (b : Fin 2048) : atW x a.val b.val = x (ix3 0 b a) :=
  Blocks.at2_fin (fun (a : Fin 576) (b : Fin 2048) => x (ix3 0 b a)) a b

theorem grad_fin (a : Fin 576) (b : Fin 2048) : grad x3 a.val b.val = ∑ x : Fin 8, x3 (ix3 x a b) :=
  Finset.sum_congr rfl fun x _ => Blocks.at2_fin (fun a b => x3 (ix3 x a b)) a b

theorem whole_grad : val_main_v29 (F := Ideal) x3 = fun i => grad x3 (i 0).val (i 1).val := by
  funext i
  obtain ⟨a, b, rfl⟩ : ∃ a b, i = ix2 a b := ⟨i 0, i 1, eq_ix2 i⟩
  show _ = grad x3 a.val b.val
  rw [grad_fin]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment1 : val_main_v33 (F := Ideal) x1 x3 = fun i => moment1 x1 x3 (i 0).val (i 1).val := by
  funext i
  obtain ⟨a, b, rfl⟩ : ∃ a b, i = ix2 a b := ⟨i 0, i 1, eq_ix2 i⟩
  show _ = moment1 x1 x3 a.val b.val
  unfold moment1 AdamSteps.moment1
  rw [grad_fin, atW_fin x1]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment2 : val_main_v35 (F := Ideal) x2 x3 = fun i => moment2 x2 x3 (i 0).val (i 1).val := by
  funext i
  obtain ⟨a, b, rfl⟩ : ∃ a b, i = ix2 a b := ⟨i 0, i 1, eq_ix2 i⟩
  show _ = moment2 x2 x3 a.val b.val
  unfold moment2 AdamSteps.moment2
  rw [grad_fin, atW_fin x2]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_delta : val_main_v31 (F := Ideal) x0 x1 x2 x3 = fun i => delta x0 x1 x2 x3 (i 0).val (i 1).val := by
  funext i
  obtain ⟨a, b, rfl⟩ : ∃ a b, i = ix2 a b := ⟨i 0, i 1, eq_ix2 i⟩
  show _ = delta x0 x1 x2 x3 a.val b.val
  unfold delta AdamSteps.delta moment1 AdamSteps.moment1 moment2 AdamSteps.moment2
  rw [grad_fin, atW_fin x0, atW_fin x1, atW_fin x2]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

end Cert.Reference15Ideal.Body
end
-- ==== Proof.AdamWOut.lean ====
module

public import proofs.«01_k».proof.Proof.BlockSums
public import proofs.«01_k».proof.Proof.AdamSteps
public import proofs.«01_k».proof.Proof.Gen.Kernel16Ideal.Value
public import Idealize.ShloMosaic.Lib.Pointwise
public import Idealize.ShloMosaic.Lib.Pipeline.ValueKit
public import Idealize.ShloMosaic.Lib.StableHlo.RunRead

/-!
The AdamW step of the output projection: the four arrays the kernel leaves.
-/

@[expose] public section
noncomputable section
namespace Cert.Kernel16Ideal.Body
open Cert.Kernel16Ideal Cert.Kernel16Ideal.Gen Idealize.ShloMosaic Idealize.ShloMosaic.TcCoe Idealize.SL.Sem Idealize.ShloMosaic.Tactic
variable (m : (ℓ : Loc nD τ sig) → Buf (Elt Ideal) ℓ) (c : Dev nD)

/-- The weight, its moments and the gradient's parts, by the rows and columns of the call. -/
abbrev argW : S1x256x2048.Idx → EReal := m ((c : Thread nD τ).loc main_arg0)
abbrev argM : S1x256x2048.Idx → EReal := m ((c : Thread nD τ).loc main_arg1)
abbrev argV : S1x256x2048.Idx → EReal := m ((c : Thread nD τ).loc main_arg2)
abbrev argP : S8x256x2048.Idx → EReal := m ((c : Thread nD τ).loc main_arg3)
abbrev blkP (t : Fin cfg0.N) : S8x256x2048.Idx → EReal := iblk m c 3 t
def atW (i j : ℕ) : EReal := Blocks.at2 (fun (a : Fin 256) (b : Fin 2048) => argW m c (ix3 0 a b)) i j
def atM (i j : ℕ) : EReal := Blocks.at2 (fun (a : Fin 256) (b : Fin 2048) => argM m c (ix3 0 a b)) i j
def atV (i j : ℕ) : EReal := Blocks.at2 (fun (a : Fin 256) (b : Fin 2048) => argV m c (ix3 0 a b)) i j

/-- The gradient, the moments after the step and the step itself. -/
def grad (i j : ℕ) : EReal := ∑ x : Fin 8, Blocks.at2 (fun a b => argP m c (ix3 x a b)) i j
def moment1 (i j : ℕ) : EReal := AdamSteps.moment1 (atM m c i j) (grad m c i j)
def moment2 (i j : ℕ) : EReal := AdamSteps.moment2 (atV m c i j) (grad m c i j)
def delta (i j : ℕ) : EReal := AdamSteps.delta (atW m c i j) (moment1 m c i j) (moment2 m c i j)

theorem point_lt (t : Fin cfg0.N) : t.val < 1 := lt_of_lt_of_eq t.isLt N_0

/-! The arguments by block. -/

theorem hostW (a : Fin 256) (b : Fin 2048) : (V m c main_v0 : S256x2048.Idx → EReal) (ix2 a b) = argW m c (ix3 0 a b) := by
  unfold_abbrev_sides
  after_reads_simp
  pointwise

theorem blockW (t : Fin cfg0.N) (a : Fin 256) (b : Fin 2048) :
    (iblk m c 0 t : S256x2048.Idx → EReal) (ix2 a b) = atW m c (256 * t.val + a.val) b.val := by
  have e : ∀ t : Fin cfg0.N, win0_0.index t = ![t.val, 0] := (by decide +kernel : ∀ t : Fin grid0.N, _)
  have ht := point_lt t
  unfold atW
  rw [Blocks.at2_of_lt _ (by omega) (by omega)]
  refine Eq.trans ?_ (hostW m c _ _)
  blk_simp [iblk]
  refine congrArg (V m c main_v0 : S256x2048.Idx → EReal) ?_
  blk_ext [e]

theorem hostM (a : Fin 256) (b : Fin 2048) : (V m c main_v1 : S256x2048.Idx → EReal) (ix2 a b) = argM m c (ix3 0 a b) := by
  unfold_abbrev_sides
  after_reads_simp
  pointwise

theorem blockM (t : Fin cfg0.N) (a : Fin 256) (b : Fin 2048) :
    (iblk m c 1 t : S256x2048.Idx → EReal) (ix2 a b) = atM m c (256 * t.val + a.val) b.val := by
  have e : ∀ t : Fin cfg0.N, win0_1.index t = ![t.val, 0] := (by decide +kernel : ∀ t : Fin grid0.N, _)
  have ht := point_lt t
  unfold atM
  rw [Blocks.at2_of_lt _ (by omega) (by omega)]
  refine Eq.trans ?_ (hostM m c _ _)
  blk_simp [iblk]
  refine congrArg (V m c main_v1 : S256x2048.Idx → EReal) ?_
  blk_ext [e]

theorem hostV (a : Fin 256) (b : Fin 2048) : (V m c main_v2 : S256x2048.Idx → EReal) (ix2 a b) = argV m c (ix3 0 a b) := by
  unfold_abbrev_sides
  after_reads_simp
  pointwise

theorem blockV (t : Fin cfg0.N) (a : Fin 256) (b : Fin 2048) :
    (iblk m c 2 t : S256x2048.Idx → EReal) (ix2 a b) = atV m c (256 * t.val + a.val) b.val := by
  have e : ∀ t : Fin cfg0.N, win0_2.index t = ![t.val, 0] := (by decide +kernel : ∀ t : Fin grid0.N, _)
  have ht := point_lt t
  unfold atV
  rw [Blocks.at2_of_lt _ (by omega) (by omega)]
  refine Eq.trans ?_ (hostV m c _ _)
  blk_simp [iblk]
  refine congrArg (V m c main_v2 : S256x2048.Idx → EReal) ?_
  blk_ext [e]

theorem blockP (t : Fin cfg0.N) (x : Fin 8) (a : Fin 256) (b : Fin 2048) :
    blkP m c t (ix3 x a b) = Blocks.at2 (fun a b => argP m c (ix3 x a b)) (256 * t.val + a.val) b.val := by
  have e : ∀ t : Fin cfg0.N, win0_3.index t = ![0, t.val, 0] := (by decide +kernel : ∀ t : Fin grid0.N, _)
  have ht := point_lt t
  rw [Blocks.at2_of_lt _ (by omega) (by omega)]
  blk_simp [iblk]
  rw [V_main_arg3]
  refine congrArg (argP m c) ?_
  blk_ext [e]

/-! The body's four results, of blocks. -/

section
variable (x0 x1 x2 : Vec Ideal S256x2048 .f32) (x3 : Vec Ideal S8x256x2048 .bf16) (a : Fin 256) (b : Fin 2048)

theorem out_grad : out0_4 x0 x1 x2 x3 (ix2 a b) = (∑ x : Fin 8, x3 (ix3 x a b)) := by
  rw [Fin.sum_univ_eight]
  frame_out
  pointwise [k0_pay1, k0_pay2, k0_pay3, k0_pay4, k0_pay5, k0_pay6]

theorem out_moment1 : out0_6 x0 x1 x2 x3 (ix2 a b) = (AdamSteps.moment1 (x1 (ix2 a b)) (∑ x : Fin 8, x3 (ix3 x a b))) := by
  unfold AdamSteps.moment1
  rw [Fin.sum_univ_eight]
  frame_out
  pointwise [k0_pay1, k0_pay2, k0_pay3, k0_pay4, k0_pay5, k0_pay6]

theorem out_moment2 : out0_7 x0 x1 x2 x3 (ix2 a b) = (AdamSteps.moment2 (x2 (ix2 a b)) (∑ x : Fin 8, x3 (ix3 x a b))) := by
  unfold AdamSteps.moment2
  rw [Fin.sum_univ_eight]
  frame_out
  pointwise [k0_pay1, k0_pay2, k0_pay3, k0_pay4, k0_pay5, k0_pay6]

theorem out_delta : out0_5 x0 x1 x2 x3 (ix2 a b) = AdamSteps.delta (x0 (ix2 a b)) (AdamSteps.moment1 (x1 (ix2 a b)) (∑ x : Fin 8, x3 (ix3 x a b))) (AdamSteps.moment2 (x2 (ix2 a b)) (∑ x : Fin 8, x3 (ix3 x a b))) := by
  unfold AdamSteps.delta AdamSteps.moment1 AdamSteps.moment2
  rw [Fin.sum_univ_eight]
  frame_out
  pointwise [k0_pay1, k0_pay2, k0_pay3, k0_pay4, k0_pay5, k0_pay6]

end

/-! The four arrays after the run. -/

theorem block_grad (t : Fin cfg0.N) (a : Fin 256) (b : Fin 2048) :
    ∑ x : Fin 8, blkP m c t (ix3 x a b) = grad m c (256 * t.val + a.val) b.val :=
  Finset.sum_congr rfl fun x _ => blockP m c t x a b

theorem point_grad (t : Fin cfg0.N) (a : Fin 256) (b : Fin 2048) :
    (out0_4 (iblk m c 0 t) (iblk m c 1 t) (iblk m c 2 t) (iblk m c 3 t) : S256x2048.Idx → EReal) (ix2 a b) = grad m c (256 * t.val + a.val) b.val :=
  (out_grad _ _ _ _ a b).trans (block_grad m c t a b)

theorem final_grad : (dats m 0 c).arrAt 4 cfg0.N = (fun i : S256x2048.Idx => grad m c (i 0).val (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q0 : win0_4.index t 0 = t.val := congrFun (e t) 0
  have q1 : win0_4.index t 1 = 0 := congrFun (e t) 1
  exact congrArg₂ (grad m c) (by omega) (by omega)

theorem point_moment1 (t : Fin cfg0.N) (a : Fin 256) (b : Fin 2048) :
    (out0_6 (iblk m c 0 t) (iblk m c 1 t) (iblk m c 2 t) (iblk m c 3 t) : S256x2048.Idx → EReal) (ix2 a b) = moment1 m c (256 * t.val + a.val) b.val :=
  (out_moment1 _ _ _ _ a b).trans (congrArg₂ AdamSteps.moment1 (blockM m c t a b) (block_grad m c t a b))

theorem final_moment1 : (dats m 0 c).arrAt 6 cfg0.N = (fun i : S256x2048.Idx => moment1 m c (i 0).val (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q0 : win0_6.index t 0 = t.val := congrFun (e t) 0
  have q1 : win0_6.index t 1 = 0 := congrFun (e t) 1
  exact congrArg₂ (moment1 m c) (by omega) (by omega)

theorem point_moment2 (t : Fin cfg0.N) (a : Fin 256) (b : Fin 2048) :
    (out0_7 (iblk m c 0 t) (iblk m c 1 t) (iblk m c 2 t) (iblk m c 3 t) : S256x2048.Idx → EReal) (ix2 a b) = moment2 m c (256 * t.val + a.val) b.val :=
  (out_moment2 _ _ _ _ a b).trans (congrArg₂ AdamSteps.moment2 (blockV m c t a b) (block_grad m c t a b))

theorem final_moment2 : (dats m 0 c).arrAt 7 cfg0.N = (fun i : S256x2048.Idx => moment2 m c (i 0).val (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q0 : win0_7.index t 0 = t.val := congrFun (e t) 0
  have q1 : win0_7.index t 1 = 0 := congrFun (e t) 1
  exact congrArg₂ (moment2 m c) (by omega) (by omega)

theorem point_delta (t : Fin cfg0.N) (a : Fin 256) (b : Fin 2048) :
    (out0_5 (iblk m c 0 t) (iblk m c 1 t) (iblk m c 2 t) (iblk m c 3 t) : S256x2048.Idx → EReal) (ix2 a b) = delta m c (256 * t.val + a.val) b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S256x2048.Idx => delta m c (i 0).val (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q0 : win0_5.index t 0 = t.val := congrFun (e t) 0
  have q1 : win0_5.index t 1 = 0 := congrFun (e t) 1
  exact congrArg₂ (delta m c) (by omega) (by omega)

end Cert.Kernel16Ideal.Body
end
-- ==== Proof.Ref16.lean ====
module

public import proofs.«01_k».proof.Proof.Gen.Reference16Ideal.Read
public import proofs.«01_k».proof.Proof.BlockSums
public import proofs.«01_k».proof.Proof.AdamSteps
public import Idealize.ShloMosaic.Lib.Pointwise

/-!
The reference for the AdamW step of the output projection.
-/

@[expose] public section
noncomputable section
namespace Cert.Reference16Ideal.Body
open Cert.Reference16Ideal Cert.Reference16Ideal.Read Cert.Reference16Ideal.Gen Idealize.ShloMosaic Idealize.ShloMosaic.TcCoe Idealize.SL.Sem Idealize.ShloMosaic.Tactic
variable (x0 x1 x2 : (⟨S1x256x2048, .f32⟩ : BufTy).Contents (Elt Ideal)) (x3 : (⟨S8x256x2048, .bf16⟩ : BufTy).Contents (Elt Ideal))

/-- The gradient, the moments after the step and the step itself. -/
def atW (x : (⟨S1x256x2048, .f32⟩ : BufTy).Contents (Elt Ideal)) (i j : ℕ) : EReal := Blocks.at2 (fun (a : Fin 256) (b : Fin 2048) => x (ix3 0 a b)) i j
def grad (i j : ℕ) : EReal := ∑ x : Fin 8, Blocks.at2 (fun a b => x3 (ix3 x a b)) i j
def moment1 (i j : ℕ) : EReal := AdamSteps.moment1 (atW x1 i j) (grad x3 i j)
def moment2 (i j : ℕ) : EReal := AdamSteps.moment2 (atW x2 i j) (grad x3 i j)
def delta (i j : ℕ) : EReal := AdamSteps.delta (atW x0 i j) (moment1 x1 x3 i j) (moment2 x2 x3 i j)

theorem atW_fin (x : (⟨S1x256x2048, .f32⟩ : BufTy).Contents (Elt Ideal)) (a : Fin 256) (b : Fin 2048) : atW x a.val b.val = x (ix3 0 a b) :=
  Blocks.at2_fin (fun (a : Fin 256) (b : Fin 2048) => x (ix3 0 a b)) a b

theorem grad_fin (a : Fin 256) (b : Fin 2048) : grad x3 a.val b.val = ∑ x : Fin 8, x3 (ix3 x a b) :=
  Finset.sum_congr rfl fun x _ => Blocks.at2_fin (fun a b => x3 (ix3 x a b)) a b

theorem whole_grad : val_main_v27 (F := Ideal) x3 = fun i => grad x3 (i 0).val (i 1).val := by
  funext i
  obtain ⟨a, b, rfl⟩ : ∃ a b, i = ix2 a b := ⟨i 0, i 1, eq_ix2 i⟩
  show _ = grad x3 a.val b.val
  rw [grad_fin]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment1 : val_main_v29 (F := Ideal) x1 x3 = fun i => moment1 x1 x3 (i 0).val (i 1).val := by
  funext i
  obtain ⟨a, b, rfl⟩ : ∃ a b, i = ix2 a b := ⟨i 0, i 1, eq_ix2 i⟩
  show _ = moment1 x1 x3 a.val b.val
  unfold moment1 AdamSteps.moment1
  rw [grad_fin, atW_fin x1]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment2 : val_main_v30 (F := Ideal) x2 x3 = fun i => moment2 x2 x3 (i 0).val (i 1).val := by
  funext i
  obtain ⟨a, b, rfl⟩ : ∃ a b, i = ix2 a b := ⟨i 0, i 1, eq_ix2 i⟩
  show _ = moment2 x2 x3 a.val b.val
  unfold moment2 AdamSteps.moment2
  rw [grad_fin, atW_fin x2]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_delta : val_main_v28 (F := Ideal) x0 x1 x2 x3 = fun i => delta x0 x1 x2 x3 (i 0).val (i 1).val := by
  funext i
  obtain ⟨a, b, rfl⟩ : ∃ a b, i = ix2 a b := ⟨i 0, i 1, eq_ix2 i⟩
  show _ = delta x0 x1 x2 x3 a.val b.val
  unfold delta AdamSteps.delta moment1 AdamSteps.moment1 moment2 AdamSteps.moment2
  rw [grad_fin, atW_fin x0, atW_fin x1, atW_fin x2]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

end Cert.Reference16Ideal.Body
end
-- ==== Proof.AdamWGate.lean ====
module

public import proofs.«01_k».proof.Proof.BlockSums
public import proofs.«01_k».proof.Proof.AdamSteps
public import proofs.«01_k».proof.Proof.Gen.Kernel17Ideal.Value
public import Idealize.ShloMosaic.Lib.Pointwise
public import Idealize.ShloMosaic.Lib.Pipeline.ValueKit
public import Idealize.ShloMosaic.Lib.StableHlo.RunRead

/-!
The AdamW step of the gate: the four arrays the kernel leaves.
-/

@[expose] public section
noncomputable section
namespace Cert.Kernel17Ideal.Body
open Cert.Kernel17Ideal Cert.Kernel17Ideal.Gen Idealize.ShloMosaic Idealize.ShloMosaic.TcCoe Idealize.SL.Sem Idealize.ShloMosaic.Tactic
variable (m : (ℓ : Loc nD τ sig) → Buf (Elt Ideal) ℓ) (c : Dev nD)

/-- The weight, its moments and the gradient's parts, by the rows and columns of the call. -/
abbrev argW : S1x2048x704.Idx → EReal := m ((c : Thread nD τ).loc main_arg0)
abbrev argM : S1x2048x704.Idx → EReal := m ((c : Thread nD τ).loc main_arg1)
abbrev argV : S1x2048x704.Idx → EReal := m ((c : Thread nD τ).loc main_arg2)
abbrev argP : S8x704x2048.Idx → EReal := m ((c : Thread nD τ).loc main_arg3)
abbrev blkP (t : Fin cfg0.N) : S8x176x2048.Idx → EReal := iblk m c 3 t
def atW (i j : ℕ) : EReal := Blocks.at2 (fun (a : Fin 704) (b : Fin 2048) => argW m c (ix3 0 b a)) i j
def atM (i j : ℕ) : EReal := Blocks.at2 (fun (a : Fin 704) (b : Fin 2048) => argM m c (ix3 0 b a)) i j
def atV (i j : ℕ) : EReal := Blocks.at2 (fun (a : Fin 704) (b : Fin 2048) => argV m c (ix3 0 b a)) i j

/-- The gradient, the moments after the step and the step itself. -/
def grad (i j : ℕ) : EReal := ∑ x : Fin 8, Blocks.at2 (fun a b => argP m c (ix3 x a b)) i j
def moment1 (i j : ℕ) : EReal := AdamSteps.moment1 (atM m c i j) (grad m c i j)
def moment2 (i j : ℕ) : EReal := AdamSteps.moment2 (atV m c i j) (grad m c i j)
def delta (i j : ℕ) : EReal := AdamSteps.delta (atW m c i j) (moment1 m c i j) (moment2 m c i j)

theorem point_lt (t : Fin cfg0.N) : t.val < 4 := lt_of_lt_of_eq t.isLt N_0

/-! The arguments by block. -/

theorem hostW (a : Fin 704) (b : Fin 2048) : (V m c main_v1 : S704x2048.Idx → EReal) (ix2 a b) = argW m c (ix3 0 b a) := by
  unfold_abbrev_sides
  after_reads_simp
  pointwise

theorem blockW (t : Fin cfg0.N) (a : Fin 176) (b : Fin 2048) :
    (iblk m c 0 t : S176x2048.Idx → EReal) (ix2 a b) = atW m c (176 * t.val + a.val) b.val := by
  have e : ∀ t : Fin cfg0.N, win0_0.index t = ![t.val, 0] := (by decide +kernel : ∀ t : Fin grid0.N, _)
  have ht := point_lt t
  unfold atW
  rw [Blocks.at2_of_lt _ (by omega) (by omega)]
  refine Eq.trans ?_ (hostW m c _ _)
  blk_simp [iblk]
  refine congrArg (V m c main_v1 : S704x2048.Idx → EReal) ?_
  blk_ext [e]

theorem hostM (a : Fin 704) (b : Fin 2048) : (V m c main_v3 : S704x2048.Idx → EReal) (ix2 a b) = argM m c (ix3 0 b a) := by
  unfold_abbrev_sides
  after_reads_simp
  pointwise

theorem blockM (t : Fin cfg0.N) (a : Fin 176) (b : Fin 2048) :
    (iblk m c 1 t : S176x2048.Idx → EReal) (ix2 a b) = atM m c (176 * t.val + a.val) b.val := by
  have e : ∀ t : Fin cfg0.N, win0_1.index t = ![t.val, 0] := (by decide +kernel : ∀ t : Fin grid0.N, _)
  have ht := point_lt t
  unfold atM
  rw [Blocks.at2_of_lt _ (by omega) (by omega)]
  refine Eq.trans ?_ (hostM m c _ _)
  blk_simp [iblk]
  refine congrArg (V m c main_v3 : S704x2048.Idx → EReal) ?_
  blk_ext [e]

theorem hostV (a : Fin 704) (b : Fin 2048) : (V m c main_v5 : S704x2048.Idx → EReal) (ix2 a b) = argV m c (ix3 0 b a) := by
  unfold_abbrev_sides
  after_reads_simp
  pointwise

theorem blockV (t : Fin cfg0.N) (a : Fin 176) (b : Fin 2048) :
    (iblk m c 2 t : S176x2048.Idx → EReal) (ix2 a b) = atV m c (176 * t.val + a.val) b.val := by
  have e : ∀ t : Fin cfg0.N, win0_2.index t = ![t.val, 0] := (by decide +kernel : ∀ t : Fin grid0.N, _)
  have ht := point_lt t
  unfold atV
  rw [Blocks.at2_of_lt _ (by omega) (by omega)]
  refine Eq.trans ?_ (hostV m c _ _)
  blk_simp [iblk]
  refine congrArg (V m c main_v5 : S704x2048.Idx → EReal) ?_
  blk_ext [e]

theorem blockP (t : Fin cfg0.N) (x : Fin 8) (a : Fin 176) (b : Fin 2048) :
    blkP m c t (ix3 x a b) = Blocks.at2 (fun a b => argP m c (ix3 x a b)) (176 * t.val + a.val) b.val := by
  have e : ∀ t : Fin cfg0.N, win0_3.index t = ![0, t.val, 0] := (by decide +kernel : ∀ t : Fin grid0.N, _)
  have ht := point_lt t
  rw [Blocks.at2_of_lt _ (by omega) (by omega)]
  blk_simp [iblk]
  rw [V_main_arg3]
  refine congrArg (argP m c) ?_
  blk_ext [e]

/-! The body's four results, of blocks. -/

section
variable (x0 x1 x2 : Vec Ideal S176x2048 .f32) (x3 : Vec Ideal S8x176x2048 .bf16) (a : Fin 176) (b : Fin 2048)

theorem out_grad : out0_4 x0 x1 x2 x3 (ix2 a b) = (∑ x : Fin 8, x3 (ix3 x a b)) := by
  rw [Fin.sum_univ_eight]
  frame_out
  pointwise [k0_pay1, k0_pay2, k0_pay3, k0_pay4, k0_pay5, k0_pay6]

theorem out_moment1 : out0_6 x0 x1 x2 x3 (ix2 a b) = (AdamSteps.moment1 (x1 (ix2 a b)) (∑ x : Fin 8, x3 (ix3 x a b))) := by
  unfold AdamSteps.moment1
  rw [Fin.sum_univ_eight]
  frame_out
  pointwise [k0_pay1, k0_pay2, k0_pay3, k0_pay4, k0_pay5, k0_pay6]

theorem out_moment2 : out0_7 x0 x1 x2 x3 (ix2 a b) = (AdamSteps.moment2 (x2 (ix2 a b)) (∑ x : Fin 8, x3 (ix3 x a b))) := by
  unfold AdamSteps.moment2
  rw [Fin.sum_univ_eight]
  frame_out
  pointwise [k0_pay1, k0_pay2, k0_pay3, k0_pay4, k0_pay5, k0_pay6]

theorem out_delta : out0_5 x0 x1 x2 x3 (ix2 a b) = AdamSteps.delta (x0 (ix2 a b)) (AdamSteps.moment1 (x1 (ix2 a b)) (∑ x : Fin 8, x3 (ix3 x a b))) (AdamSteps.moment2 (x2 (ix2 a b)) (∑ x : Fin 8, x3 (ix3 x a b))) := by
  unfold AdamSteps.delta AdamSteps.moment1 AdamSteps.moment2
  rw [Fin.sum_univ_eight]
  frame_out
  pointwise [k0_pay1, k0_pay2, k0_pay3, k0_pay4, k0_pay5, k0_pay6]

end

/-! The four arrays after the run. -/

theorem block_grad (t : Fin cfg0.N) (a : Fin 176) (b : Fin 2048) :
    ∑ x : Fin 8, blkP m c t (ix3 x a b) = grad m c (176 * t.val + a.val) b.val :=
  Finset.sum_congr rfl fun x _ => blockP m c t x a b

theorem point_grad (t : Fin cfg0.N) (a : Fin 176) (b : Fin 2048) :
    (out0_4 (iblk m c 0 t) (iblk m c 1 t) (iblk m c 2 t) (iblk m c 3 t) : S176x2048.Idx → EReal) (ix2 a b) = grad m c (176 * t.val + a.val) b.val :=
  (out_grad _ _ _ _ a b).trans (block_grad m c t a b)

theorem final_grad : (dats m 0 c).arrAt 4 cfg0.N = (fun i : S704x2048.Idx => grad m c (i 0).val (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q0 : win0_4.index t 0 = t.val := congrFun (e t) 0
  have q1 : win0_4.index t 1 = 0 := congrFun (e t) 1
  exact congrArg₂ (grad m c) (by omega) (by omega)

theorem point_moment1 (t : Fin cfg0.N) (a : Fin 176) (b : Fin 2048) :
    (out0_6 (iblk m c 0 t) (iblk m c 1 t) (iblk m c 2 t) (iblk m c 3 t) : S176x2048.Idx → EReal) (ix2 a b) = moment1 m c (176 * t.val + a.val) b.val :=
  (out_moment1 _ _ _ _ a b).trans (congrArg₂ AdamSteps.moment1 (blockM m c t a b) (block_grad m c t a b))

theorem final_moment1 : (dats m 0 c).arrAt 6 cfg0.N = (fun i : S704x2048.Idx => moment1 m c (i 0).val (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q0 : win0_6.index t 0 = t.val := congrFun (e t) 0
  have q1 : win0_6.index t 1 = 0 := congrFun (e t) 1
  exact congrArg₂ (moment1 m c) (by omega) (by omega)

theorem point_moment2 (t : Fin cfg0.N) (a : Fin 176) (b : Fin 2048) :
    (out0_7 (iblk m c 0 t) (iblk m c 1 t) (iblk m c 2 t) (iblk m c 3 t) : S176x2048.Idx → EReal) (ix2 a b) = moment2 m c (176 * t.val + a.val) b.val :=
  (out_moment2 _ _ _ _ a b).trans (congrArg₂ AdamSteps.moment2 (blockV m c t a b) (block_grad m c t a b))

theorem final_moment2 : (dats m 0 c).arrAt 7 cfg0.N = (fun i : S704x2048.Idx => moment2 m c (i 0).val (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q0 : win0_7.index t 0 = t.val := congrFun (e t) 0
  have q1 : win0_7.index t 1 = 0 := congrFun (e t) 1
  exact congrArg₂ (moment2 m c) (by omega) (by omega)

theorem point_delta (t : Fin cfg0.N) (a : Fin 176) (b : Fin 2048) :
    (out0_5 (iblk m c 0 t) (iblk m c 1 t) (iblk m c 2 t) (iblk m c 3 t) : S176x2048.Idx → EReal) (ix2 a b) = delta m c (176 * t.val + a.val) b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S704x2048.Idx => delta m c (i 0).val (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q0 : win0_5.index t 0 = t.val := congrFun (e t) 0
  have q1 : win0_5.index t 1 = 0 := congrFun (e t) 1
  exact congrArg₂ (delta m c) (by omega) (by omega)

end Cert.Kernel17Ideal.Body
end
-- ==== Proof.Ref17.lean ====
module

public import proofs.«01_k».proof.Proof.Gen.Reference17Ideal.Read
public import proofs.«01_k».proof.Proof.BlockSums
public import proofs.«01_k».proof.Proof.AdamSteps
public import Idealize.ShloMosaic.Lib.Pointwise

/-!
The reference for the AdamW step of the gate.
-/

@[expose] public section
noncomputable section
namespace Cert.Reference17Ideal.Body
open Cert.Reference17Ideal Cert.Reference17Ideal.Read Cert.Reference17Ideal.Gen Idealize.ShloMosaic Idealize.ShloMosaic.TcCoe Idealize.SL.Sem Idealize.ShloMosaic.Tactic
variable (x0 x1 x2 : (⟨S1x2048x704, .f32⟩ : BufTy).Contents (Elt Ideal)) (x3 : (⟨S8x704x2048, .bf16⟩ : BufTy).Contents (Elt Ideal))

/-- The gradient, the moments after the step and the step itself. -/
def atW (x : (⟨S1x2048x704, .f32⟩ : BufTy).Contents (Elt Ideal)) (i j : ℕ) : EReal := Blocks.at2 (fun (a : Fin 704) (b : Fin 2048) => x (ix3 0 b a)) i j
def grad (i j : ℕ) : EReal := ∑ x : Fin 8, Blocks.at2 (fun a b => x3 (ix3 x a b)) i j
def moment1 (i j : ℕ) : EReal := AdamSteps.moment1 (atW x1 i j) (grad x3 i j)
def moment2 (i j : ℕ) : EReal := AdamSteps.moment2 (atW x2 i j) (grad x3 i j)
def delta (i j : ℕ) : EReal := AdamSteps.delta (atW x0 i j) (moment1 x1 x3 i j) (moment2 x2 x3 i j)

theorem atW_fin (x : (⟨S1x2048x704, .f32⟩ : BufTy).Contents (Elt Ideal)) (a : Fin 704) (b : Fin 2048) : atW x a.val b.val = x (ix3 0 b a) :=
  Blocks.at2_fin (fun (a : Fin 704) (b : Fin 2048) => x (ix3 0 b a)) a b

theorem grad_fin (a : Fin 704) (b : Fin 2048) : grad x3 a.val b.val = ∑ x : Fin 8, x3 (ix3 x a b) :=
  Finset.sum_congr rfl fun x _ => Blocks.at2_fin (fun a b => x3 (ix3 x a b)) a b

theorem whole_grad : val_main_v29 (F := Ideal) x3 = fun i => grad x3 (i 0).val (i 1).val := by
  funext i
  obtain ⟨a, b, rfl⟩ : ∃ a b, i = ix2 a b := ⟨i 0, i 1, eq_ix2 i⟩
  show _ = grad x3 a.val b.val
  rw [grad_fin]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment1 : val_main_v33 (F := Ideal) x1 x3 = fun i => moment1 x1 x3 (i 0).val (i 1).val := by
  funext i
  obtain ⟨a, b, rfl⟩ : ∃ a b, i = ix2 a b := ⟨i 0, i 1, eq_ix2 i⟩
  show _ = moment1 x1 x3 a.val b.val
  unfold moment1 AdamSteps.moment1
  rw [grad_fin, atW_fin x1]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment2 : val_main_v35 (F := Ideal) x2 x3 = fun i => moment2 x2 x3 (i 0).val (i 1).val := by
  funext i
  obtain ⟨a, b, rfl⟩ : ∃ a b, i = ix2 a b := ⟨i 0, i 1, eq_ix2 i⟩
  show _ = moment2 x2 x3 a.val b.val
  unfold moment2 AdamSteps.moment2
  rw [grad_fin, atW_fin x2]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_delta : val_main_v31 (F := Ideal) x0 x1 x2 x3 = fun i => delta x0 x1 x2 x3 (i 0).val (i 1).val := by
  funext i
  obtain ⟨a, b, rfl⟩ : ∃ a b, i = ix2 a b := ⟨i 0, i 1, eq_ix2 i⟩
  show _ = delta x0 x1 x2 x3 a.val b.val
  unfold delta AdamSteps.delta moment1 AdamSteps.moment1 moment2 AdamSteps.moment2
  rw [grad_fin, atW_fin x0, atW_fin x1, atW_fin x2]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

end Cert.Reference17Ideal.Body
end
-- ==== Proof.AdamWUp.lean ====
module

public import proofs.«01_k».proof.Proof.BlockSums
public import proofs.«01_k».proof.Proof.AdamSteps
public import proofs.«01_k».proof.Proof.Gen.Kernel18Ideal.Value
public import Idealize.ShloMosaic.Lib.Pointwise
public import Idealize.ShloMosaic.Lib.Pipeline.ValueKit
public import Idealize.ShloMosaic.Lib.StableHlo.RunRead

/-!
The AdamW step of the up projection: the four arrays the kernel leaves.
-/

@[expose] public section
noncomputable section
namespace Cert.Kernel18Ideal.Body
open Cert.Kernel18Ideal Cert.Kernel18Ideal.Gen Idealize.ShloMosaic Idealize.ShloMosaic.TcCoe Idealize.SL.Sem Idealize.ShloMosaic.Tactic
variable (m : (ℓ : Loc nD τ sig) → Buf (Elt Ideal) ℓ) (c : Dev nD)

/-- The weight, its moments and the gradient's parts, by the rows and columns of the call. -/
abbrev argW : S1x2048x704.Idx → EReal := m ((c : Thread nD τ).loc main_arg0)
abbrev argM : S1x2048x704.Idx → EReal := m ((c : Thread nD τ).loc main_arg1)
abbrev argV : S1x2048x704.Idx → EReal := m ((c : Thread nD τ).loc main_arg2)
abbrev argP : S8x704x2048.Idx → EReal := m ((c : Thread nD τ).loc main_arg3)
abbrev blkP (t : Fin cfg0.N) : S8x176x2048.Idx → EReal := iblk m c 3 t
def atW (i j : ℕ) : EReal := Blocks.at2 (fun (a : Fin 704) (b : Fin 2048) => argW m c (ix3 0 b a)) i j
def atM (i j : ℕ) : EReal := Blocks.at2 (fun (a : Fin 704) (b : Fin 2048) => argM m c (ix3 0 b a)) i j
def atV (i j : ℕ) : EReal := Blocks.at2 (fun (a : Fin 704) (b : Fin 2048) => argV m c (ix3 0 b a)) i j

/-- The gradient, the moments after the step and the step itself. -/
def grad (i j : ℕ) : EReal := ∑ x : Fin 8, Blocks.at2 (fun a b => argP m c (ix3 x a b)) i j
def moment1 (i j : ℕ) : EReal := AdamSteps.moment1 (atM m c i j) (grad m c i j)
def moment2 (i j : ℕ) : EReal := AdamSteps.moment2 (atV m c i j) (grad m c i j)
def delta (i j : ℕ) : EReal := AdamSteps.delta (atW m c i j) (moment1 m c i j) (moment2 m c i j)

theorem point_lt (t : Fin cfg0.N) : t.val < 4 := lt_of_lt_of_eq t.isLt N_0

/-! The arguments by block. -/

theorem hostW (a : Fin 704) (b : Fin 2048) : (V m c main_v1 : S704x2048.Idx → EReal) (ix2 a b) = argW m c (ix3 0 b a) := by
  unfold_abbrev_sides
  after_reads_simp
  pointwise

theorem blockW (t : Fin cfg0.N) (a : Fin 176) (b : Fin 2048) :
    (iblk m c 0 t : S176x2048.Idx → EReal) (ix2 a b) = atW m c (176 * t.val + a.val) b.val := by
  have e : ∀ t : Fin cfg0.N, win0_0.index t = ![t.val, 0] := (by decide +kernel : ∀ t : Fin grid0.N, _)
  have ht := point_lt t
  unfold atW
  rw [Blocks.at2_of_lt _ (by omega) (by omega)]
  refine Eq.trans ?_ (hostW m c _ _)
  blk_simp [iblk]
  refine congrArg (V m c main_v1 : S704x2048.Idx → EReal) ?_
  blk_ext [e]

theorem hostM (a : Fin 704) (b : Fin 2048) : (V m c main_v3 : S704x2048.Idx → EReal) (ix2 a b) = argM m c (ix3 0 b a) := by
  unfold_abbrev_sides
  after_reads_simp
  pointwise

theorem blockM (t : Fin cfg0.N) (a : Fin 176) (b : Fin 2048) :
    (iblk m c 1 t : S176x2048.Idx → EReal) (ix2 a b) = atM m c (176 * t.val + a.val) b.val := by
  have e : ∀ t : Fin cfg0.N, win0_1.index t = ![t.val, 0] := (by decide +kernel : ∀ t : Fin grid0.N, _)
  have ht := point_lt t
  unfold atM
  rw [Blocks.at2_of_lt _ (by omega) (by omega)]
  refine Eq.trans ?_ (hostM m c _ _)
  blk_simp [iblk]
  refine congrArg (V m c main_v3 : S704x2048.Idx → EReal) ?_
  blk_ext [e]

theorem hostV (a : Fin 704) (b : Fin 2048) : (V m c main_v5 : S704x2048.Idx → EReal) (ix2 a b) = argV m c (ix3 0 b a) := by
  unfold_abbrev_sides
  after_reads_simp
  pointwise

theorem blockV (t : Fin cfg0.N) (a : Fin 176) (b : Fin 2048) :
    (iblk m c 2 t : S176x2048.Idx → EReal) (ix2 a b) = atV m c (176 * t.val + a.val) b.val := by
  have e : ∀ t : Fin cfg0.N, win0_2.index t = ![t.val, 0] := (by decide +kernel : ∀ t : Fin grid0.N, _)
  have ht := point_lt t
  unfold atV
  rw [Blocks.at2_of_lt _ (by omega) (by omega)]
  refine Eq.trans ?_ (hostV m c _ _)
  blk_simp [iblk]
  refine congrArg (V m c main_v5 : S704x2048.Idx → EReal) ?_
  blk_ext [e]

theorem blockP (t : Fin cfg0.N) (x : Fin 8) (a : Fin 176) (b : Fin 2048) :
    blkP m c t (ix3 x a b) = Blocks.at2 (fun a b => argP m c (ix3 x a b)) (176 * t.val + a.val) b.val := by
  have e : ∀ t : Fin cfg0.N, win0_3.index t = ![0, t.val, 0] := (by decide +kernel : ∀ t : Fin grid0.N, _)
  have ht := point_lt t
  rw [Blocks.at2_of_lt _ (by omega) (by omega)]
  blk_simp [iblk]
  rw [V_main_arg3]
  refine congrArg (argP m c) ?_
  blk_ext [e]

/-! The body's four results, of blocks. -/

section
variable (x0 x1 x2 : Vec Ideal S176x2048 .f32) (x3 : Vec Ideal S8x176x2048 .bf16) (a : Fin 176) (b : Fin 2048)

theorem out_grad : out0_4 x0 x1 x2 x3 (ix2 a b) = (∑ x : Fin 8, x3 (ix3 x a b)) := by
  rw [Fin.sum_univ_eight]
  frame_out
  pointwise [k0_pay1, k0_pay2, k0_pay3, k0_pay4, k0_pay5, k0_pay6]

theorem out_moment1 : out0_6 x0 x1 x2 x3 (ix2 a b) = (AdamSteps.moment1 (x1 (ix2 a b)) (∑ x : Fin 8, x3 (ix3 x a b))) := by
  unfold AdamSteps.moment1
  rw [Fin.sum_univ_eight]
  frame_out
  pointwise [k0_pay1, k0_pay2, k0_pay3, k0_pay4, k0_pay5, k0_pay6]

theorem out_moment2 : out0_7 x0 x1 x2 x3 (ix2 a b) = (AdamSteps.moment2 (x2 (ix2 a b)) (∑ x : Fin 8, x3 (ix3 x a b))) := by
  unfold AdamSteps.moment2
  rw [Fin.sum_univ_eight]
  frame_out
  pointwise [k0_pay1, k0_pay2, k0_pay3, k0_pay4, k0_pay5, k0_pay6]

theorem out_delta : out0_5 x0 x1 x2 x3 (ix2 a b) = AdamSteps.delta (x0 (ix2 a b)) (AdamSteps.moment1 (x1 (ix2 a b)) (∑ x : Fin 8, x3 (ix3 x a b))) (AdamSteps.moment2 (x2 (ix2 a b)) (∑ x : Fin 8, x3 (ix3 x a b))) := by
  unfold AdamSteps.delta AdamSteps.moment1 AdamSteps.moment2
  rw [Fin.sum_univ_eight]
  frame_out
  pointwise [k0_pay1, k0_pay2, k0_pay3, k0_pay4, k0_pay5, k0_pay6]

end

/-! The four arrays after the run. -/

theorem block_grad (t : Fin cfg0.N) (a : Fin 176) (b : Fin 2048) :
    ∑ x : Fin 8, blkP m c t (ix3 x a b) = grad m c (176 * t.val + a.val) b.val :=
  Finset.sum_congr rfl fun x _ => blockP m c t x a b

theorem point_grad (t : Fin cfg0.N) (a : Fin 176) (b : Fin 2048) :
    (out0_4 (iblk m c 0 t) (iblk m c 1 t) (iblk m c 2 t) (iblk m c 3 t) : S176x2048.Idx → EReal) (ix2 a b) = grad m c (176 * t.val + a.val) b.val :=
  (out_grad _ _ _ _ a b).trans (block_grad m c t a b)

theorem final_grad : (dats m 0 c).arrAt 4 cfg0.N = (fun i : S704x2048.Idx => grad m c (i 0).val (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q0 : win0_4.index t 0 = t.val := congrFun (e t) 0
  have q1 : win0_4.index t 1 = 0 := congrFun (e t) 1
  exact congrArg₂ (grad m c) (by omega) (by omega)

theorem point_moment1 (t : Fin cfg0.N) (a : Fin 176) (b : Fin 2048) :
    (out0_6 (iblk m c 0 t) (iblk m c 1 t) (iblk m c 2 t) (iblk m c 3 t) : S176x2048.Idx → EReal) (ix2 a b) = moment1 m c (176 * t.val + a.val) b.val :=
  (out_moment1 _ _ _ _ a b).trans (congrArg₂ AdamSteps.moment1 (blockM m c t a b) (block_grad m c t a b))

theorem final_moment1 : (dats m 0 c).arrAt 6 cfg0.N = (fun i : S704x2048.Idx => moment1 m c (i 0).val (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q0 : win0_6.index t 0 = t.val := congrFun (e t) 0
  have q1 : win0_6.index t 1 = 0 := congrFun (e t) 1
  exact congrArg₂ (moment1 m c) (by omega) (by omega)

theorem point_moment2 (t : Fin cfg0.N) (a : Fin 176) (b : Fin 2048) :
    (out0_7 (iblk m c 0 t) (iblk m c 1 t) (iblk m c 2 t) (iblk m c 3 t) : S176x2048.Idx → EReal) (ix2 a b) = moment2 m c (176 * t.val + a.val) b.val :=
  (out_moment2 _ _ _ _ a b).trans (congrArg₂ AdamSteps.moment2 (blockV m c t a b) (block_grad m c t a b))

theorem final_moment2 : (dats m 0 c).arrAt 7 cfg0.N = (fun i : S704x2048.Idx => moment2 m c (i 0).val (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q0 : win0_7.index t 0 = t.val := congrFun (e t) 0
  have q1 : win0_7.index t 1 = 0 := congrFun (e t) 1
  exact congrArg₂ (moment2 m c) (by omega) (by omega)

theorem point_delta (t : Fin cfg0.N) (a : Fin 176) (b : Fin 2048) :
    (out0_5 (iblk m c 0 t) (iblk m c 1 t) (iblk m c 2 t) (iblk m c 3 t) : S176x2048.Idx → EReal) (ix2 a b) = delta m c (176 * t.val + a.val) b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S704x2048.Idx => delta m c (i 0).val (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q0 : win0_5.index t 0 = t.val := congrFun (e t) 0
  have q1 : win0_5.index t 1 = 0 := congrFun (e t) 1
  exact congrArg₂ (delta m c) (by omega) (by omega)

end Cert.Kernel18Ideal.Body
end
-- ==== Proof.Ref18.lean ====
module

public import proofs.«01_k».proof.Proof.Gen.Reference18Ideal.Read
public import proofs.«01_k».proof.Proof.BlockSums
public import proofs.«01_k».proof.Proof.AdamSteps
public import Idealize.ShloMosaic.Lib.Pointwise

/-!
The reference for the AdamW step of the up projection.
-/

@[expose] public section
noncomputable section
namespace Cert.Reference18Ideal.Body
open Cert.Reference18Ideal Cert.Reference18Ideal.Read Cert.Reference18Ideal.Gen Idealize.ShloMosaic Idealize.ShloMosaic.TcCoe Idealize.SL.Sem Idealize.ShloMosaic.Tactic
variable (x0 x1 x2 : (⟨S1x2048x704, .f32⟩ : BufTy).Contents (Elt Ideal)) (x3 : (⟨S8x704x2048, .bf16⟩ : BufTy).Contents (Elt Ideal))

/-- The gradient, the moments after the step and the step itself. -/
def atW (x : (⟨S1x2048x704, .f32⟩ : BufTy).Contents (Elt Ideal)) (i j : ℕ) : EReal := Blocks.at2 (fun (a : Fin 704) (b : Fin 2048) => x (ix3 0 b a)) i j
def grad (i j : ℕ) : EReal := ∑ x : Fin 8, Blocks.at2 (fun a b => x3 (ix3 x a b)) i j
def moment1 (i j : ℕ) : EReal := AdamSteps.moment1 (atW x1 i j) (grad x3 i j)
def moment2 (i j : ℕ) : EReal := AdamSteps.moment2 (atW x2 i j) (grad x3 i j)
def delta (i j : ℕ) : EReal := AdamSteps.delta (atW x0 i j) (moment1 x1 x3 i j) (moment2 x2 x3 i j)

theorem atW_fin (x : (⟨S1x2048x704, .f32⟩ : BufTy).Contents (Elt Ideal)) (a : Fin 704) (b : Fin 2048) : atW x a.val b.val = x (ix3 0 b a) :=
  Blocks.at2_fin (fun (a : Fin 704) (b : Fin 2048) => x (ix3 0 b a)) a b

theorem grad_fin (a : Fin 704) (b : Fin 2048) : grad x3 a.val b.val = ∑ x : Fin 8, x3 (ix3 x a b) :=
  Finset.sum_congr rfl fun x _ => Blocks.at2_fin (fun a b => x3 (ix3 x a b)) a b

theorem whole_grad : val_main_v29 (F := Ideal) x3 = fun i => grad x3 (i 0).val (i 1).val := by
  funext i
  obtain ⟨a, b, rfl⟩ : ∃ a b, i = ix2 a b := ⟨i 0, i 1, eq_ix2 i⟩
  show _ = grad x3 a.val b.val
  rw [grad_fin]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment1 : val_main_v33 (F := Ideal) x1 x3 = fun i => moment1 x1 x3 (i 0).val (i 1).val := by
  funext i
  obtain ⟨a, b, rfl⟩ : ∃ a b, i = ix2 a b := ⟨i 0, i 1, eq_ix2 i⟩
  show _ = moment1 x1 x3 a.val b.val
  unfold moment1 AdamSteps.moment1
  rw [grad_fin, atW_fin x1]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment2 : val_main_v35 (F := Ideal) x2 x3 = fun i => moment2 x2 x3 (i 0).val (i 1).val := by
  funext i
  obtain ⟨a, b, rfl⟩ : ∃ a b, i = ix2 a b := ⟨i 0, i 1, eq_ix2 i⟩
  show _ = moment2 x2 x3 a.val b.val
  unfold moment2 AdamSteps.moment2
  rw [grad_fin, atW_fin x2]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_delta : val_main_v31 (F := Ideal) x0 x1 x2 x3 = fun i => delta x0 x1 x2 x3 (i 0).val (i 1).val := by
  funext i
  obtain ⟨a, b, rfl⟩ : ∃ a b, i = ix2 a b := ⟨i 0, i 1, eq_ix2 i⟩
  show _ = delta x0 x1 x2 x3 a.val b.val
  unfold delta AdamSteps.delta moment1 AdamSteps.moment1 moment2 AdamSteps.moment2
  rw [grad_fin, atW_fin x0, atW_fin x1, atW_fin x2]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

end Cert.Reference18Ideal.Body
end
-- ==== Proof.AdamWDown.lean ====
module

public import proofs.«01_k».proof.Proof.BlockSums
public import proofs.«01_k».proof.Proof.AdamSteps
public import proofs.«01_k».proof.Proof.Gen.Kernel19Ideal.Value
public import Idealize.ShloMosaic.Lib.Pointwise
public import Idealize.ShloMosaic.Lib.Pipeline.ValueKit
public import Idealize.ShloMosaic.Lib.StableHlo.RunRead

/-!
The AdamW step of the down projection: the four arrays the kernel leaves.
-/

@[expose] public section
noncomputable section
namespace Cert.Kernel19Ideal.Body
open Cert.Kernel19Ideal Cert.Kernel19Ideal.Gen Idealize.ShloMosaic Idealize.ShloMosaic.TcCoe Idealize.SL.Sem Idealize.ShloMosaic.Tactic
variable (m : (ℓ : Loc nD τ sig) → Buf (Elt Ideal) ℓ) (c : Dev nD)

/-- The weight, its moments and the gradient's parts, by the rows and columns of the call. -/
abbrev argW : S1x704x2048.Idx → EReal := m ((c : Thread nD τ).loc main_arg0)
abbrev argM : S1x704x2048.Idx → EReal := m ((c : Thread nD τ).loc main_arg1)
abbrev argV : S1x704x2048.Idx → EReal := m ((c : Thread nD τ).loc main_arg2)
abbrev argP : S8x704x2048.Idx → EReal := m ((c : Thread nD τ).loc main_arg3)
abbrev blkP (t : Fin cfg0.N) : S8x176x2048.Idx → EReal := iblk m c 3 t
def atW (i j : ℕ) : EReal := Blocks.at2 (fun (a : Fin 704) (b : Fin 2048) => argW m c (ix3 0 a b)) i j
def atM (i j : ℕ) : EReal := Blocks.at2 (fun (a : Fin 704) (b : Fin 2048) => argM m c (ix3 0 a b)) i j
def atV (i j : ℕ) : EReal := Blocks.at2 (fun (a : Fin 704) (b : Fin 2048) => argV m c (ix3 0 a b)) i j

/-- The gradient, the moments after the step and the step itself. -/
def grad (i j : ℕ) : EReal := ∑ x : Fin 8, Blocks.at2 (fun a b => argP m c (ix3 x a b)) i j
def moment1 (i j : ℕ) : EReal := AdamSteps.moment1 (atM m c i j) (grad m c i j)
def moment2 (i j : ℕ) : EReal := AdamSteps.moment2 (atV m c i j) (grad m c i j)
def delta (i j : ℕ) : EReal := AdamSteps.delta (atW m c i j) (moment1 m c i j) (moment2 m c i j)

theorem point_lt (t : Fin cfg0.N) : t.val < 4 := lt_of_lt_of_eq t.isLt N_0

/-! The arguments by block. -/

theorem hostW (a : Fin 704) (b : Fin 2048) : (V m c main_v0 : S704x2048.Idx → EReal) (ix2 a b) = argW m c (ix3 0 a b) := by
  unfold_abbrev_sides
  after_reads_simp
  pointwise

theorem blockW (t : Fin cfg0.N) (a : Fin 176) (b : Fin 2048) :
    (iblk m c 0 t : S176x2048.Idx → EReal) (ix2 a b) = atW m c (176 * t.val + a.val) b.val := by
  have e : ∀ t : Fin cfg0.N, win0_0.index t = ![t.val, 0] := (by decide +kernel : ∀ t : Fin grid0.N, _)
  have ht := point_lt t
  unfold atW
  rw [Blocks.at2_of_lt _ (by omega) (by omega)]
  refine Eq.trans ?_ (hostW m c _ _)
  blk_simp [iblk]
  refine congrArg (V m c main_v0 : S704x2048.Idx → EReal) ?_
  blk_ext [e]

theorem hostM (a : Fin 704) (b : Fin 2048) : (V m c main_v1 : S704x2048.Idx → EReal) (ix2 a b) = argM m c (ix3 0 a b) := by
  unfold_abbrev_sides
  after_reads_simp
  pointwise

theorem blockM (t : Fin cfg0.N) (a : Fin 176) (b : Fin 2048) :
    (iblk m c 1 t : S176x2048.Idx → EReal) (ix2 a b) = atM m c (176 * t.val + a.val) b.val := by
  have e : ∀ t : Fin cfg0.N, win0_1.index t = ![t.val, 0] := (by decide +kernel : ∀ t : Fin grid0.N, _)
  have ht := point_lt t
  unfold atM
  rw [Blocks.at2_of_lt _ (by omega) (by omega)]
  refine Eq.trans ?_ (hostM m c _ _)
  blk_simp [iblk]
  refine congrArg (V m c main_v1 : S704x2048.Idx → EReal) ?_
  blk_ext [e]

theorem hostV (a : Fin 704) (b : Fin 2048) : (V m c main_v2 : S704x2048.Idx → EReal) (ix2 a b) = argV m c (ix3 0 a b) := by
  unfold_abbrev_sides
  after_reads_simp
  pointwise

theorem blockV (t : Fin cfg0.N) (a : Fin 176) (b : Fin 2048) :
    (iblk m c 2 t : S176x2048.Idx → EReal) (ix2 a b) = atV m c (176 * t.val + a.val) b.val := by
  have e : ∀ t : Fin cfg0.N, win0_2.index t = ![t.val, 0] := (by decide +kernel : ∀ t : Fin grid0.N, _)
  have ht := point_lt t
  unfold atV
  rw [Blocks.at2_of_lt _ (by omega) (by omega)]
  refine Eq.trans ?_ (hostV m c _ _)
  blk_simp [iblk]
  refine congrArg (V m c main_v2 : S704x2048.Idx → EReal) ?_
  blk_ext [e]

theorem blockP (t : Fin cfg0.N) (x : Fin 8) (a : Fin 176) (b : Fin 2048) :
    blkP m c t (ix3 x a b) = Blocks.at2 (fun a b => argP m c (ix3 x a b)) (176 * t.val + a.val) b.val := by
  have e : ∀ t : Fin cfg0.N, win0_3.index t = ![0, t.val, 0] := (by decide +kernel : ∀ t : Fin grid0.N, _)
  have ht := point_lt t
  rw [Blocks.at2_of_lt _ (by omega) (by omega)]
  blk_simp [iblk]
  rw [V_main_arg3]
  refine congrArg (argP m c) ?_
  blk_ext [e]

/-! The body's four results, of blocks. -/

section
variable (x0 x1 x2 : Vec Ideal S176x2048 .f32) (x3 : Vec Ideal S8x176x2048 .bf16) (a : Fin 176) (b : Fin 2048)

theorem out_grad : out0_4 x0 x1 x2 x3 (ix2 a b) = (∑ x : Fin 8, x3 (ix3 x a b)) := by
  rw [Fin.sum_univ_eight]
  frame_out
  pointwise [k0_pay1, k0_pay2, k0_pay3, k0_pay4, k0_pay5, k0_pay6]

theorem out_moment1 : out0_6 x0 x1 x2 x3 (ix2 a b) = (AdamSteps.moment1 (x1 (ix2 a b)) (∑ x : Fin 8, x3 (ix3 x a b))) := by
  unfold AdamSteps.moment1
  rw [Fin.sum_univ_eight]
  frame_out
  pointwise [k0_pay1, k0_pay2, k0_pay3, k0_pay4, k0_pay5, k0_pay6]

theorem out_moment2 : out0_7 x0 x1 x2 x3 (ix2 a b) = (AdamSteps.moment2 (x2 (ix2 a b)) (∑ x : Fin 8, x3 (ix3 x a b))) := by
  unfold AdamSteps.moment2
  rw [Fin.sum_univ_eight]
  frame_out
  pointwise [k0_pay1, k0_pay2, k0_pay3, k0_pay4, k0_pay5, k0_pay6]

theorem out_delta : out0_5 x0 x1 x2 x3 (ix2 a b) = AdamSteps.delta (x0 (ix2 a b)) (AdamSteps.moment1 (x1 (ix2 a b)) (∑ x : Fin 8, x3 (ix3 x a b))) (AdamSteps.moment2 (x2 (ix2 a b)) (∑ x : Fin 8, x3 (ix3 x a b))) := by
  unfold AdamSteps.delta AdamSteps.moment1 AdamSteps.moment2
  rw [Fin.sum_univ_eight]
  frame_out
  pointwise [k0_pay1, k0_pay2, k0_pay3, k0_pay4, k0_pay5, k0_pay6]

end

/-! The four arrays after the run. -/

theorem block_grad (t : Fin cfg0.N) (a : Fin 176) (b : Fin 2048) :
    ∑ x : Fin 8, blkP m c t (ix3 x a b) = grad m c (176 * t.val + a.val) b.val :=
  Finset.sum_congr rfl fun x _ => blockP m c t x a b

theorem point_grad (t : Fin cfg0.N) (a : Fin 176) (b : Fin 2048) :
    (out0_4 (iblk m c 0 t) (iblk m c 1 t) (iblk m c 2 t) (iblk m c 3 t) : S176x2048.Idx → EReal) (ix2 a b) = grad m c (176 * t.val + a.val) b.val :=
  (out_grad _ _ _ _ a b).trans (block_grad m c t a b)

theorem final_grad : (dats m 0 c).arrAt 4 cfg0.N = (fun i : S704x2048.Idx => grad m c (i 0).val (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q0 : win0_4.index t 0 = t.val := congrFun (e t) 0
  have q1 : win0_4.index t 1 = 0 := congrFun (e t) 1
  exact congrArg₂ (grad m c) (by omega) (by omega)

theorem point_moment1 (t : Fin cfg0.N) (a : Fin 176) (b : Fin 2048) :
    (out0_6 (iblk m c 0 t) (iblk m c 1 t) (iblk m c 2 t) (iblk m c 3 t) : S176x2048.Idx → EReal) (ix2 a b) = moment1 m c (176 * t.val + a.val) b.val :=
  (out_moment1 _ _ _ _ a b).trans (congrArg₂ AdamSteps.moment1 (blockM m c t a b) (block_grad m c t a b))

theorem final_moment1 : (dats m 0 c).arrAt 6 cfg0.N = (fun i : S704x2048.Idx => moment1 m c (i 0).val (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q0 : win0_6.index t 0 = t.val := congrFun (e t) 0
  have q1 : win0_6.index t 1 = 0 := congrFun (e t) 1
  exact congrArg₂ (moment1 m c) (by omega) (by omega)

theorem point_moment2 (t : Fin cfg0.N) (a : Fin 176) (b : Fin 2048) :
    (out0_7 (iblk m c 0 t) (iblk m c 1 t) (iblk m c 2 t) (iblk m c 3 t) : S176x2048.Idx → EReal) (ix2 a b) = moment2 m c (176 * t.val + a.val) b.val :=
  (out_moment2 _ _ _ _ a b).trans (congrArg₂ AdamSteps.moment2 (blockV m c t a b) (block_grad m c t a b))

theorem final_moment2 : (dats m 0 c).arrAt 7 cfg0.N = (fun i : S704x2048.Idx => moment2 m c (i 0).val (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q0 : win0_7.index t 0 = t.val := congrFun (e t) 0
  have q1 : win0_7.index t 1 = 0 := congrFun (e t) 1
  exact congrArg₂ (moment2 m c) (by omega) (by omega)

theorem point_delta (t : Fin cfg0.N) (a : Fin 176) (b : Fin 2048) :
    (out0_5 (iblk m c 0 t) (iblk m c 1 t) (iblk m c 2 t) (iblk m c 3 t) : S176x2048.Idx → EReal) (ix2 a b) = delta m c (176 * t.val + a.val) b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S704x2048.Idx => delta m c (i 0).val (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q0 : win0_5.index t 0 = t.val := congrFun (e t) 0
  have q1 : win0_5.index t 1 = 0 := congrFun (e t) 1
  exact congrArg₂ (delta m c) (by omega) (by omega)

end Cert.Kernel19Ideal.Body
end
-- ==== Proof.Ref19.lean ====
module

public import proofs.«01_k».proof.Proof.Gen.Reference19Ideal.Read
public import proofs.«01_k».proof.Proof.BlockSums
public import proofs.«01_k».proof.Proof.AdamSteps
public import Idealize.ShloMosaic.Lib.Pointwise

/-!
The reference for the AdamW step of the down projection.
-/

@[expose] public section
noncomputable section
namespace Cert.Reference19Ideal.Body
open Cert.Reference19Ideal Cert.Reference19Ideal.Read Cert.Reference19Ideal.Gen Idealize.ShloMosaic Idealize.ShloMosaic.TcCoe Idealize.SL.Sem Idealize.ShloMosaic.Tactic
variable (x0 x1 x2 : (⟨S1x704x2048, .f32⟩ : BufTy).Contents (Elt Ideal)) (x3 : (⟨S8x704x2048, .bf16⟩ : BufTy).Contents (Elt Ideal))

/-- The gradient, the moments after the step and the step itself. -/
def atW (x : (⟨S1x704x2048, .f32⟩ : BufTy).Contents (Elt Ideal)) (i j : ℕ) : EReal := Blocks.at2 (fun (a : Fin 704) (b : Fin 2048) => x (ix3 0 a b)) i j
def grad (i j : ℕ) : EReal := ∑ x : Fin 8, Blocks.at2 (fun a b => x3 (ix3 x a b)) i j
def moment1 (i j : ℕ) : EReal := AdamSteps.moment1 (atW x1 i j) (grad x3 i j)
def moment2 (i j : ℕ) : EReal := AdamSteps.moment2 (atW x2 i j) (grad x3 i j)
def delta (i j : ℕ) : EReal := AdamSteps.delta (atW x0 i j) (moment1 x1 x3 i j) (moment2 x2 x3 i j)

theorem atW_fin (x : (⟨S1x704x2048, .f32⟩ : BufTy).Contents (Elt Ideal)) (a : Fin 704) (b : Fin 2048) : atW x a.val b.val = x (ix3 0 a b) :=
  Blocks.at2_fin (fun (a : Fin 704) (b : Fin 2048) => x (ix3 0 a b)) a b

theorem grad_fin (a : Fin 704) (b : Fin 2048) : grad x3 a.val b.val = ∑ x : Fin 8, x3 (ix3 x a b) :=
  Finset.sum_congr rfl fun x _ => Blocks.at2_fin (fun a b => x3 (ix3 x a b)) a b

theorem whole_grad : val_main_v27 (F := Ideal) x3 = fun i => grad x3 (i 0).val (i 1).val := by
  funext i
  obtain ⟨a, b, rfl⟩ : ∃ a b, i = ix2 a b := ⟨i 0, i 1, eq_ix2 i⟩
  show _ = grad x3 a.val b.val
  rw [grad_fin]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment1 : val_main_v29 (F := Ideal) x1 x3 = fun i => moment1 x1 x3 (i 0).val (i 1).val := by
  funext i
  obtain ⟨a, b, rfl⟩ : ∃ a b, i = ix2 a b := ⟨i 0, i 1, eq_ix2 i⟩
  show _ = moment1 x1 x3 a.val b.val
  unfold moment1 AdamSteps.moment1
  rw [grad_fin, atW_fin x1]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_moment2 : val_main_v30 (F := Ideal) x2 x3 = fun i => moment2 x2 x3 (i 0).val (i 1).val := by
  funext i
  obtain ⟨a, b, rfl⟩ : ∃ a b, i = ix2 a b := ⟨i 0, i 1, eq_ix2 i⟩
  show _ = moment2 x2 x3 a.val b.val
  unfold moment2 AdamSteps.moment2
  rw [grad_fin, atW_fin x2]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem whole_delta : val_main_v28 (F := Ideal) x0 x1 x2 x3 = fun i => delta x0 x1 x2 x3 (i 0).val (i 1).val := by
  funext i
  obtain ⟨a, b, rfl⟩ : ∃ a b, i = ix2 a b := ⟨i 0, i 1, eq_ix2 i⟩
  show _ = delta x0 x1 x2 x3 a.val b.val
  unfold delta AdamSteps.delta moment1 AdamSteps.moment1 moment2 AdamSteps.moment2
  rw [grad_fin, atW_fin x0, atW_fin x1, atW_fin x2]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

end Cert.Reference19Ideal.Body
end
-- ==== Proof.AdamBMod.lean ====
module

public import proofs.«01_k».proof.Proof.BlockSums
public import proofs.«01_k».proof.Proof.AdamSteps
public import proofs.«01_k».proof.Proof.Gen.Kernel20Ideal.Value
public import Idealize.ShloMosaic.Lib.Pointwise
public import Idealize.ShloMosaic.Lib.Pipeline.ValueKit
public import Idealize.ShloMosaic.Lib.StableHlo.RunRead

/-!
The AdamW step of the modulation biases: the four arrays the kernel leaves.
-/

@[expose] public section
noncomputable section
namespace Cert.Kernel20Ideal.Body
open Cert.Kernel20Ideal Cert.Kernel20Ideal.Gen Idealize.ShloMosaic Idealize.ShloMosaic.TcCoe Idealize.SL.Sem Idealize.ShloMosaic.Tactic
variable (m : (ℓ : Loc nD τ sig) → Buf (Elt Ideal) ℓ) (c : Dev nD)

/-- The weight, its moments and the gradient's parts, by the rows and columns of the call. -/
abbrev argW : S1x12288.Idx → EReal := m ((c : Thread nD τ).loc main_arg0)
abbrev argM : S1x12288.Idx → EReal := m ((c : Thread nD τ).loc main_arg1)
abbrev argV : S1x12288.Idx → EReal := m ((c : Thread nD τ).loc main_arg2)
abbrev argP : S8x2x12288.Idx → EReal := m ((c : Thread nD τ).loc main_arg3)
abbrev blkP (t : Fin cfg0.N) : S16x1x12288.Idx → EReal := iblk m c 3 t
def atW (i j : ℕ) : EReal := Blocks.at2 (fun (a : Fin 1) (b : Fin 12288) => argW m c (ix2 a b)) i j
def atM (i j : ℕ) : EReal := Blocks.at2 (fun (a : Fin 1) (b : Fin 12288) => argM m c (ix2 a b)) i j
def atV (i j : ℕ) : EReal := Blocks.at2 (fun (a : Fin 1) (b : Fin 12288) => argV m c (ix2 a b)) i j

/-- The gradient, the moments after the step and the step itself. -/
def grad (i j : ℕ) : EReal := ∑ d : Fin 8, ∑ e : Fin 2, Blocks.at2 (fun (_ : Fin 1) b => argP m c (ix3 d e b)) i j
def moment1 (i j : ℕ) : EReal := AdamSteps.moment1 (atM m c i j) (grad m c i j)
def moment2 (i j : ℕ) : EReal := AdamSteps.moment2 (atV m c i j) (grad m c i j)
def delta (i j : ℕ) : EReal := AdamSteps.delta (atW m c i j) (moment1 m c i j) (moment2 m c i j)

theorem point_lt (t : Fin cfg0.N) : t.val < 1 := lt_of_lt_of_eq t.isLt N_0

/-! The arguments by block. -/

theorem blockW (t : Fin cfg0.N) (a : Fin 1) (b : Fin 12288) :
    (iblk m c 0 t : S1x12288.Idx → EReal) (ix2 a b) = atW m c (1 * t.val + a.val) b.val := by
  have e : ∀ t : Fin cfg0.N, win0_0.index t = ![t.val, 0] := (by decide +kernel : ∀ t : Fin grid0.N, _)
  have ht := point_lt t
  unfold atW
  rw [Blocks.at2_of_lt _ (by omega) (by omega)]
  blk_simp [iblk]
  rw [V_main_arg0]
  refine congrArg (argW m c) ?_
  blk_ext [e]

theorem blockM (t : Fin cfg0.N) (a : Fin 1) (b : Fin 12288) :
    (iblk m c 1 t : S1x12288.Idx → EReal) (ix2 a b) = atM m c (1 * t.val + a.val) b.val := by
  have e : ∀ t : Fin cfg0.N, win0_1.index t = ![t.val, 0] := (by decide +kernel : ∀ t : Fin grid0.N, _)
  have ht := point_lt t
  unfold atM
  rw [Blocks.at2_of_lt _ (by omega) (by omega)]
  blk_simp [iblk]
  rw [V_main_arg1]
  refine congrArg (argM m c) ?_
  blk_ext [e]

theorem blockV (t : Fin cfg0.N) (a : Fin 1) (b : Fin 12288) :
    (iblk m c 2 t : S1x12288.Idx → EReal) (ix2 a b) = atV m c (1 * t.val + a.val) b.val := by
  have e : ∀ t : Fin cfg0.N, win0_2.index t = ![t.val, 0] := (by decide +kernel : ∀ t : Fin grid0.N, _)
  have ht := point_lt t
  unfold atV
  rw [Blocks.at2_of_lt _ (by omega) (by omega)]
  blk_simp [iblk]
  rw [V_main_arg2]
  refine congrArg (argV m c) ?_
  blk_ext [e]

theorem hostP (d : Fin 16) (a : Fin 1) (b : Fin 12288) : (V m c main_v0 : S16x1x12288.Idx → EReal) (ix3 d a b)
    = argP m c (ix3 ⟨d.val / 2, by omega⟩ ⟨d.val % 2, by omega⟩ b) := by
  unfold_abbrev_sides
  after_reads_simp
  pointwise

theorem blockP (t : Fin cfg0.N) (d : Fin 16) (a : Fin 1) (b : Fin 12288) :
    blkP m c t (ix3 d a b) = argP m c (ix3 ⟨d.val / 2, by omega⟩ ⟨d.val % 2, by omega⟩ b) := by
  have e : ∀ t : Fin cfg0.N, win0_3.index t = ![0, t.val, 0] := (by decide +kernel : ∀ t : Fin grid0.N, _)
  have ht := point_lt t
  refine Eq.trans ?_ (hostP m c d a b)
  blk_simp [iblk]
  refine congrArg (V m c main_v0 : S16x1x12288.Idx → EReal) ?_
  blk_ext [e]

/-! The body's four results, of blocks. -/

/-- Sixteen parts, one after the other. -/
theorem sum_sixteen (f : Fin 16 → EReal) : ∑ x, f x
    = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

section
variable (x0 x1 x2 : Vec Ideal S1x12288 .f32) (x3 : Vec Ideal S16x1x12288 .f32) (a : Fin 1) (b : Fin 12288)

theorem out_grad : out0_4 x0 x1 x2 x3 (ix2 a b) = (∑ x : Fin 16, x3 (ix3 x a b)) := by
  obtain rfl : a = 0 := Subsingleton.elim _ _
  rw [sum_sixteen]
  frame_out
  pointwise [k0_pay1, k0_pay2, k0_pay3, k0_pay4, k0_pay5, k0_pay6, k0_pay7, k0_pay8]

theorem out_moment1 : out0_6 x0 x1 x2 x3 (ix2 a b) = (AdamSteps.moment1 (x1 (ix2 a b)) (∑ x : Fin 16, x3 (ix3 x a b))) := by
  unfold AdamSteps.moment1
  obtain rfl : a = 0 := Subsingleton.elim _ _
  rw [sum_sixteen]
  frame_out
  pointwise [k0_pay1, k0_pay2, k0_pay3, k0_pay4, k0_pay5, k0_pay6, k0_pay7, k0_pay8]

theorem out_moment2 : out0_7 x0 x1 x2 x3 (ix2 a b) = (AdamSteps.moment2 (x2 (ix2 a b)) (∑ x : Fin 16, x3 (ix3 x a b))) := by
  unfold AdamSteps.moment2
  obtain rfl : a = 0 := Subsingleton.elim _ _
  rw [sum_sixteen]
  frame_out
  pointwise [k0_pay1, k0_pay2, k0_pay3, k0_pay4, k0_pay5, k0_pay6, k0_pay7, k0_pay8]

theorem out_delta : out0_5 x0 x1 x2 x3 (ix2 a b) = AdamSteps.delta (x0 (ix2 a b)) (AdamSteps.moment1 (x1 (ix2 a b)) (∑ x : Fin 16, x3 (ix3 x a b))) (AdamSteps.moment2 (x2 (ix2 a b)) (∑ x : Fin 16, x3 (ix3 x a b))) := by
  unfold AdamSteps.delta AdamSteps.moment1 AdamSteps.moment2
  obtain rfl : a = 0 := Subsingleton.elim _ _
  rw [sum_sixteen]
  frame_out
  pointwise [k0_pay1, k0_pay2, k0_pay3, k0_pay4, k0_pay5, k0_pay6, k0_pay7, k0_pay8]

end

/-! The four arrays after the run. -/

theorem block_grad (t : Fin cfg0.N) (a : Fin 1) (b : Fin 12288) :
    ∑ x : Fin 16, blkP m c t (ix3 x a b) = grad m c (1 * t.val + a.val) b.val := by
  have ht := point_lt t
  have e : ∀ (d : Fin 8) (e : Fin 2), Blocks.at2 (fun (_ : Fin 1) b => argP m c (ix3 d e b)) (1 * t.val + a.val) b.val = argP m c (ix3 d e b) :=
    fun d e => Blocks.at2_of_lt (fun (_ : Fin 1) b => argP m c (ix3 d e b)) (by omega) b.isLt
  unfold grad
  simp only [e, blockP]
  rw [sum_sixteen, Fin.sum_univ_eight]
  simp only [Fin.sum_univ_two, ← add_assoc]
  rfl

theorem point_grad (t : Fin cfg0.N) (a : Fin 1) (b : Fin 12288) :
    (out0_4 (iblk m c 0 t) (iblk m c 1 t) (iblk m c 2 t) (iblk m c 3 t) : S1x12288.Idx → EReal) (ix2 a b) = grad m c (1 * t.val + a.val) b.val :=
  (out_grad _ _ _ _ a b).trans (block_grad m c t a b)

theorem final_grad : (dats m 0 c).arrAt 4 cfg0.N = (fun i : S1x12288.Idx => grad m c (i 0).val (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q0 : win0_4.index t 0 = t.val := congrFun (e t) 0
  have q1 : win0_4.index t 1 = 0 := congrFun (e t) 1
  exact congrArg₂ (grad m c) (by omega) (by omega)

theorem point_moment1 (t : Fin cfg0.N) (a : Fin 1) (b : Fin 12288) :
    (out0_6 (iblk m c 0 t) (iblk m c 1 t) (iblk m c 2 t) (iblk m c 3 t) : S1x12288.Idx → EReal) (ix2 a b) = moment1 m c (1 * t.val + a.val) b.val :=
  (out_moment1 _ _ _ _ a b).trans (congrArg₂ AdamSteps.moment1 (blockM m c t a b) (block_grad m c t a b))

theorem final_moment1 : (dats m 0 c).arrAt 6 cfg0.N = (fun i : S1x12288.Idx => moment1 m c (i 0).val (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q0 : win0_6.index t 0 = t.val := congrFun (e t) 0
  have q1 : win0_6.index t 1 = 0 := congrFun (e t) 1
  exact congrArg₂ (moment1 m c) (by omega) (by omega)

theorem point_moment2 (t : Fin cfg0.N) (a : Fin 1) (b : Fin 12288) :
    (out0_7 (iblk m c 0 t) (iblk m c 1 t) (iblk m c 2 t) (iblk m c 3 t) : S1x12288.Idx → EReal) (ix2 a b) = moment2 m c (1 * t.val + a.val) b.val :=
  (out_moment2 _ _ _ _ a b).trans (congrArg₂ AdamSteps.moment2 (blockV m c t a b) (block_grad m c t a b))

theorem final_moment2 : (dats m 0 c).arrAt 7 cfg0.N = (fun i : S1x12288.Idx => moment2 m c (i 0).val (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q0 : win0_7.index t 0 = t.val := congrFun (e t) 0
  have q1 : win0_7.index t 1 = 0 := congrFun (e t) 1
  exact congrArg₂ (moment2 m c) (by omega) (by omega)

theorem point_delta (t : Fin cfg0.N) (a : Fin 1) (b : Fin 12288) :
    (out0_5 (iblk m c 0 t) (iblk m c 1 t) (iblk m c 2 t) (iblk m c 3 t) : S1x12288.Idx → EReal) (ix2 a b) = delta m c (1 * t.val + a.val) b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S1x12288.Idx => delta m c (i 0).val (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q0 : win0_5.index t 0 = t.val := congrFun (e t) 0
  have q1 : win0_5.index t 1 = 0 := congrFun (e t) 1
  exact congrArg₂ (delta m c) (by omega) (by omega)

end Cert.Kernel20Ideal.Body
end
-- ==== Proof.Ref20.lean ====
module

public import proofs.«01_k».proof.Proof.Gen.Reference20Ideal.Read
public import proofs.«01_k».proof.Proof.BlockSums
public import proofs.«01_k».proof.Proof.AdamSteps
public import Idealize.ShloMosaic.Lib.Pointwise

/-!
The reference for the AdamW step of the modulation biases.
-/

@[expose] public section
noncomputable section
namespace Cert.Reference20Ideal.Body
open Cert.Reference20Ideal Cert.Reference20Ideal.Read Cert.Reference20Ideal.Gen Idealize.ShloMosaic Idealize.ShloMosaic.TcCoe Idealize.SL.Sem Idealize.ShloMosaic.Tactic
variable (x0 x1 x2 : (⟨S1x12288, .f32⟩ : BufTy).Contents (Elt Ideal)) (x3 : (⟨S8x2x12288, .f32⟩ : BufTy).Contents (Elt Ideal))

/-- The gradient, the moments after the step and the step itself. -/
def atW (x : (⟨S1x12288, .f32⟩ : BufTy).Contents (Elt Ideal)) (i j : ℕ) : EReal := Blocks.at2 (fun (a : Fin 1) (b : Fin 12288) => x (ix2 a b)) i j
def grad (i j : ℕ) : EReal := ∑ d : Fin 8, ∑ e : Fin 2, Blocks.at2 (fun (_ : Fin 1) b => x3 (ix3 d e b)) i j
def moment1 (i j : ℕ) : EReal := AdamSteps.moment1 (atW x1 i j) (grad x3 i j)
def moment2 (i j : ℕ) : EReal := AdamSteps.moment2 (atW x2 i j) (grad x3 i j)
def delta (i j : ℕ) : EReal := AdamSteps.delta (atW x0 i j) (moment1 x1 x3 i j) (moment2 x2 x3 i j)

theorem atW_fin (x : (⟨S1x12288, .f32⟩ : BufTy).Contents (Elt Ideal)) (a : Fin 1) (b : Fin 12288) : atW x a.val b.val = x (ix2 a b) :=
  Blocks.at2_fin (fun (a : Fin 1) (b : Fin 12288) => x (ix2 a b)) a b

theorem grad_fin (a : Fin 1) (b : Fin 12288) : grad x3 a.val b.val = ∑ d : Fin 8, ∑ e : Fin 2, x3 (ix3 d e b) :=
  Finset.sum_congr rfl fun d _ => Finset.sum_congr rfl fun e _ => Blocks.at2_fin (fun (_ : Fin 1) b => x3 (ix3 d e b)) a b

theorem whole_grad : val_main_v2 (F := Ideal) x3 = fun i => grad x3 (i 0).val (i 1).val := by
  funext i
  obtain ⟨a, b, rfl⟩ : ∃ a b, i = ix2 a b := ⟨i 0, i 1, eq_ix2 i⟩
  show _ = grad x3 a.val b.val
  rw [grad_fin]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

theorem whole_moment1 : val_main_v7 (F := Ideal) x1 x3 = fun i => moment1 x1 x3 (i 0).val (i 1).val := by
  funext i
  obtain ⟨a, b, rfl⟩ : ∃ a b, i = ix2 a b := ⟨i 0, i 1, eq_ix2 i⟩
  show _ = moment1 x1 x3 a.val b.val
  unfold moment1 AdamSteps.moment1
  rw [grad_fin, atW_fin x1]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

theorem whole_moment2 : val_main_v13 (F := Ideal) x2 x3 = fun i => moment2 x2 x3 (i 0).val (i 1).val := by
  funext i
  obtain ⟨a, b, rfl⟩ : ∃ a b, i = ix2 a b := ⟨i 0, i 1, eq_ix2 i⟩
  show _ = moment2 x2 x3 a.val b.val
  unfold moment2 AdamSteps.moment2
  rw [grad_fin, atW_fin x2]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

theorem whole_delta : val_main_v26 (F := Ideal) x0 x1 x2 x3 = fun i => delta x0 x1 x2 x3 (i 0).val (i 1).val := by
  funext i
  obtain ⟨a, b, rfl⟩ : ∃ a b, i = ix2 a b := ⟨i 0, i 1, eq_ix2 i⟩
  show _ = delta x0 x1 x2 x3 a.val b.val
  unfold delta AdamSteps.delta moment1 AdamSteps.moment1 moment2 AdamSteps.moment2
  rw [grad_fin, atW_fin x0, atW_fin x1, atW_fin x2]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

end Cert.Reference20Ideal.Body
end
-- ==== Proof.ModBwd.lean ====
module

public import proofs.«01_k».proof.Proof.BlockSums
public import proofs.«01_k».proof.Proof.Swish
public import proofs.«01_k».proof.Proof.Gen.Kernel21Ideal.Value
public import Idealize.ShloMosaic.Lib.Pointwise
public import Idealize.ShloMosaic.Lib.Pipeline.ValueKit
public import Idealize.ShloMosaic.Lib.StableHlo.RunRead

/-!
The gradient of the modulation: of its weight, from all devices' own rows and the context's, and of the context's conditioning.
-/

@[expose] public section
noncomputable section
namespace Cert.Kernel21Ideal.Body
open Cert.Kernel21Ideal Cert.Kernel21Ideal.Gen Idealize.ShloMosaic Idealize.ShloMosaic.TcCoe Idealize.SL.Sem Idealize.ShloMosaic.Tactic
variable (m : (ℓ : Loc nD τ sig) → Buf (Elt Ideal) ℓ) (c : Dev nD)

/-- The devices' conditionings, the context's, the weight and the modulations' gradients. -/
abbrev argC : S8x2048.Idx → EReal := m ((c : Thread nD τ).loc main_arg0)
abbrev argX : S2048.Idx → EReal := m ((c : Thread nD τ).loc main_arg1)
abbrev argW : S1x2048x1536.Idx → EReal := m ((c : Thread nD τ).loc main_arg2)
abbrev argD : S16x1536.Idx → EReal := m ((c : Thread nD τ).loc main_arg3)
abbrev blkS (t : Fin cfg0.N) : S16x512.Idx → EReal := iblk m c 0 t
abbrev blkD (t : Fin cfg0.N) : S16x1536.Idx → EReal := iblk m c 1 t
abbrev blkW (t : Fin cfg0.N) : S512x1536.Idx → EReal := iblk m c 2 t
def atC (k : Fin 8) (i : ℕ) : EReal := Blocks.at2 (fun (a : Fin 8) (b : Fin 2048) => argC m c (ix2 a b)) k.val i
def atX (i : ℕ) : EReal := Blocks.at2 (fun (_ : Fin 1) (b : Fin 2048) => argX m c (ix1 b)) 0 i
def atW (i j : ℕ) : EReal := Blocks.at2 (fun (a : Fin 2048) (b : Fin 1536) => argW m c (ix3 0 a b)) i j
def atD (k j : ℕ) : EReal := Blocks.at2 (fun (a : Fin 16) (b : Fin 1536) => argD m c (ix2 a b)) k j

def silu (x : EReal) : EReal := x * Swish.logistic x

/-- The weight's gradient at a row and a column, and the conditioning's at a column. -/
def gradW (i j : ℕ) : EReal := (∑ k : Fin 8, silu (atC m c k i) * atD m c k.val j) + ∑ k : Fin 8, silu (atX m c i) * atD m c (8 + k.val) j
def gradX (i : ℕ) : EReal := (∑ k : Fin 8, ∑ l : Fin 1536, atD m c (8 + k.val) l.val * atW m c i l.val)
  * (Swish.logistic (atX m c i) * (1 + atX m c i * (1 - Swish.logistic (atX m c i))))

theorem point_lt (t : Fin cfg0.N) : t.val < 4 := lt_of_lt_of_eq t.isLt N_0

/-! The arguments by block. -/

theorem hostS (a : Fin 16) (b : Fin 2048) : (V m c main_v2 : S16x2048.Idx → EReal) (ix2 a b)
    = if h : a.val < 8 then argC m c (ix2 ⟨a.val, h⟩ b) else argX m c (ix1 b) := by
  unfold_abbrev_sides
  after_reads_simp
  pointwise
  try rfl

theorem hostW (a : Fin 2048) (b : Fin 1536) : (V m c main_v3 : S2048x1536.Idx → EReal) (ix2 a b) = argW m c (ix3 0 a b) := by
  unfold_abbrev_sides
  after_reads_simp
  pointwise

theorem blockS (t : Fin cfg0.N) (a : Fin 16) (b : Fin 512) :
    blkS m c t (ix2 a b) = if h : a.val < 8 then atC m c ⟨a.val, h⟩ (512 * t.val + b.val) else atX m c (512 * t.val + b.val) := by
  have e : ∀ t : Fin cfg0.N, win0_0.index t = ![0, t.val] := (by decide +kernel : ∀ t : Fin grid0.N, _)
  have ht := point_lt t
  have hb : 512 * t.val + b.val < 2048 := by omega
  have q : blkS m c t (ix2 a b) = (V m c main_v2 : S16x2048.Idx → EReal) (ix2 a ⟨512 * t.val + b.val, hb⟩) := by
    blk_simp [iblk]
    refine congrArg (V m c main_v2 : S16x2048.Idx → EReal) ?_
    blk_ext [e]
  rw [q, hostS]
  unfold atC atX
  split_ifs with h
  · exact (Blocks.at2_of_lt (fun (a : Fin 8) (b : Fin 2048) => argC m c (ix2 a b)) h hb).symm
  · exact (Blocks.at2_of_lt (fun (_ : Fin 1) (b : Fin 2048) => argX m c (ix1 b)) (by omega) hb).symm

theorem blockD (t : Fin cfg0.N) (a : Fin 16) (b : Fin 1536) : blkD m c t (ix2 a b) = atD m c a.val b.val := by
  have e : ∀ t : Fin cfg0.N, win0_1.index t = ![0, 0] := (by decide +kernel : ∀ t : Fin grid0.N, _)
  unfold atD
  rw [Blocks.at2_of_lt _ a.isLt b.isLt]
  blk_simp [iblk]
  rw [V_main_arg3]
  refine congrArg (argD m c) ?_
  blk_ext [e]

theorem blockW (t : Fin cfg0.N) (a : Fin 512) (b : Fin 1536) : blkW m c t (ix2 a b) = atW m c (512 * t.val + a.val) b.val := by
  have e : ∀ t : Fin cfg0.N, win0_2.index t = ![t.val, 0] := (by decide +kernel : ∀ t : Fin grid0.N, _)
  have ht := point_lt t
  have ha : 512 * t.val + a.val < 2048 := by omega
  unfold atW
  rw [Blocks.at2_of_lt _ ha b.isLt]
  refine Eq.trans ?_ (hostW m c ⟨512 * t.val + a.val, ha⟩ b)
  blk_simp [iblk]
  refine congrArg (V m c main_v3 : S2048x1536.Idx → EReal) ?_
  blk_ext [e]

/-! The body's two results, of blocks. -/

section
variable (x0 : Vec Ideal S16x512 .f32) (x1 : Vec Ideal S16x1536 .f32) (x2 : Vec Ideal S512x1536 .f32)

theorem out_gradW (a : Fin 512) (b : Fin 1536) : out0_3 x0 x1 x2 (ix2 a b) = ∑ k : Fin 16, silu (x0 (ix2 k a)) * x1 (ix2 k b) := by
  unfold silu
  simp only [← Swish.tanh_form]
  frame_out
  pointwise [k0_pay1, k0_pay2, k0_pay3]

theorem out_gradX (a : Fin 8) (b : Fin 512) : out0_4 x0 x1 x2 (ix2 a b)
    = (∑ k : Fin 8, ∑ l : Fin 1536, x1 (ix2 ⟨8 + k.val, by omega⟩ l) * x2 (ix2 b l))
      * (Swish.logistic (x0 (ix2 8 b)) * (1 + x0 (ix2 8 b) * (1 - Swish.logistic (x0 (ix2 8 b))))) := by
  simp only [← Swish.tanh_form]
  frame_out
  pointwise [k0_pay1, k0_pay2, k0_pay4]

end

/-- Sixteen parts are eight and eight. -/
theorem sum_halves (f : Fin 16 → EReal) : ∑ x, f x = (∑ k : Fin 8, f ⟨k.val, by omega⟩) + ∑ k : Fin 8, f ⟨8 + k.val, by omega⟩ :=
  Fin.sum_univ_add (a := 8) (b := 8) f

theorem block_gradW (t : Fin cfg0.N) (a : Fin 512) (b : Fin 1536) :
    ∑ k : Fin 16, silu (blkS m c t (ix2 k a)) * blkD m c t (ix2 k b) = gradW m c (512 * t.val + a.val) b.val := by
  rw [sum_halves]
  unfold gradW
  refine congrArg₂ (· + ·) (Finset.sum_congr rfl fun k _ => ?_) (Finset.sum_congr rfl fun k _ => ?_)
  · rw [blockS, blockD, dif_pos k.isLt]
  · rw [blockS, blockD, dif_neg (by simp)]

theorem block_gradX (t : Fin cfg0.N) (b : Fin 512) :
    (∑ k : Fin 8, ∑ l : Fin 1536, blkD m c t (ix2 ⟨8 + k.val, by omega⟩ l) * blkW m c t (ix2 b l))
      * (Swish.logistic (blkS m c t (ix2 8 b)) * (1 + blkS m c t (ix2 8 b) * (1 - Swish.logistic (blkS m c t (ix2 8 b))))) = gradX m c (512 * t.val + b.val) := by
  have h8 : blkS m c t (ix2 8 b) = atX m c (512 * t.val + b.val) := by
    rw [blockS, dif_neg (by decide)]
  rw [h8]
  simp only [blockD, blockW]
  rfl

theorem final_gradW : (dats m 0 c).arrAt 3 cfg0.N = (fun i : S2048x1536.Idx => gradW m c (i 0).val (i 1).val) := by
  refine (dats m 0 c).arrAt_eq_of_covers 3 _ (by decide +kernel) fun t hf y => ?_
  have e : ∀ t : Fin cfg0.N, win0_3.index t = ![t.val, 0] := (by decide +kernel : ∀ t : Fin grid0.N, _)
  obtain ⟨a, b, rfl⟩ : ∃ a b, y = ix2 a b := ⟨y 0, y 1, eq_ix2 y⟩
  blk_simp
  rw [after0_3]
  refine ((out_gradW _ _ _ a b).trans (block_gradW m c t a b)).trans ?_
  have q0 : win0_3.index t 0 = t.val := congrFun (e t) 0
  have q1 : win0_3.index t 1 = 0 := congrFun (e t) 1
  exact congrArg₂ (gradW m c) (by omega) (by omega)

theorem final_gradX : (dats m 0 c).arrAt 4 cfg0.N = (fun i : S8x2048.Idx => gradX m c (i 1).val) := by
  refine (dats m 0 c).arrAt_eq_of_covers 4 _ (by decide +kernel) fun t hf y => ?_
  have e : ∀ t : Fin cfg0.N, win0_4.index t = ![0, t.val] := (by decide +kernel : ∀ t : Fin grid0.N, _)
  obtain ⟨a, b, rfl⟩ : ∃ a b, y = ix2 a b := ⟨y 0, y 1, eq_ix2 y⟩
  blk_simp
  rw [after0_4]
  refine ((out_gradX _ _ _ a b).trans (block_gradX m c t b)).trans ?_
  have q1 : win0_4.index t 1 = t.val := congrFun (e t) 1
  exact congrArg (gradX m c) (by omega)

end Cert.Kernel21Ideal.Body
end
-- ==== Proof.Ref21.lean ====
module

public import proofs.«01_k».proof.Proof.Gen.Reference21Ideal.Read
public import proofs.«01_k».proof.Proof.BlockSums
public import proofs.«01_k».proof.Proof.Swish
public import Idealize.ShloMosaic.Lib.Pointwise

/-!
The reference for the gradient of the modulation.
-/

@[expose] public section
noncomputable section
namespace Cert.Reference21Ideal.Body
open Cert.Reference21Ideal Cert.Reference21Ideal.Read Cert.Reference21Ideal.Gen Idealize.ShloMosaic Idealize.ShloMosaic.TcCoe Idealize.SL.Sem Idealize.ShloMosaic.Tactic
variable (x0 : (⟨S8x2048, .f32⟩ : BufTy).Contents (Elt Ideal)) (x1 : (⟨S2048, .f32⟩ : BufTy).Contents (Elt Ideal))
  (x2 : (⟨S1x2048x1536, .f32⟩ : BufTy).Contents (Elt Ideal)) (x3 : (⟨S16x1536, .f32⟩ : BufTy).Contents (Elt Ideal))

def atC (k : Fin 8) (i : ℕ) : EReal := Blocks.at2 (fun (a : Fin 8) (b : Fin 2048) => x0 (ix2 a b)) k.val i
def atX (i : ℕ) : EReal := Blocks.at2 (fun (_ : Fin 1) (b : Fin 2048) => x1 (ix1 b)) 0 i
def atW (i j : ℕ) : EReal := Blocks.at2 (fun (a : Fin 2048) (b : Fin 1536) => x2 (ix3 0 a b)) i j
def atD (k j : ℕ) : EReal := Blocks.at2 (fun (a : Fin 16) (b : Fin 1536) => x3 (ix2 a b)) k j

def silu (x : EReal) : EReal := x * Swish.logistic x

/-- The weight's gradient at a row and a column, and the conditioning's at a column. -/
def gradW (i j : ℕ) : EReal := (∑ k : Fin 8, silu (atC x0 k i) * atD x3 k.val j) + ∑ k : Fin 8, silu (atX x1 i) * atD x3 (8 + k.val) j
def gradX (i : ℕ) : EReal := (∑ k : Fin 8, ∑ l : Fin 1536, atD x3 (8 + k.val) l.val * atW x2 i l.val)
  * (Swish.logistic (atX x1 i) * (1 + atX x1 i * (1 - Swish.logistic (atX x1 i))))

theorem atC_fin (k : Fin 8) (b : Fin 2048) : atC x0 k b.val = x0 (ix2 k b) := Blocks.at2_fin (fun (a : Fin 8) (b : Fin 2048) => x0 (ix2 a b)) k b
theorem atX_fin (b : Fin 2048) : atX x1 b.val = x1 (ix1 b) := Blocks.at2_fin (fun (_ : Fin 1) (b : Fin 2048) => x1 (ix1 b)) 0 b
theorem atW_fin (a : Fin 2048) (b : Fin 1536) : atW x2 a.val b.val = x2 (ix3 0 a b) := Blocks.at2_fin (fun (a : Fin 2048) (b : Fin 1536) => x2 (ix3 0 a b)) a b
theorem atD_lo (k : Fin 8) (b : Fin 1536) : atD x3 k.val b.val = x3 (ix2 ⟨k.val, by omega⟩ b) :=
  Blocks.at2_of_lt (fun (a : Fin 16) (b : Fin 1536) => x3 (ix2 a b)) (by omega) b.isLt
theorem atD_hi (k : Fin 8) (b : Fin 1536) : atD x3 (8 + k.val) b.val = x3 (ix2 ⟨8 + k.val, by omega⟩ b) :=
  Blocks.at2_of_lt (fun (a : Fin 16) (b : Fin 1536) => x3 (ix2 a b)) (by omega) b.isLt

theorem whole_gradW : val_main_v22 (F := Ideal) x0 x1 x3 = fun i => gradW x0 x1 x3 (i 0).val (i 1).val := by
  funext i
  obtain ⟨a, b, rfl⟩ : ∃ a b, i = ix2 a b := ⟨i 0, i 1, eq_ix2 i⟩
  show _ = gradW x0 x1 x3 a.val b.val
  unfold gradW silu
  simp only [atC_fin, atX_fin, atD_lo, atD_hi]
  pointwise [val_main_v22, val_main_v21, val_main_v13, val_main_v11, val_main_v10, val_main_v9, val_main_v5, val_main_v4, val_main_v3_0, val_main_v3_2, val_main_call1_v4, val_main_call1_cst_0, val_main_call1_v3, val_main_call1_v2, val_main_call1_cst, val_main_call1_v1, val_main_call1_v0, val_main_v20, val_main_v19, val_main_v18, val_main_v8, val_main_v0, val_main_call0_v5, val_main_call0_v4, val_main_call0_cst_0, val_main_call0_v3, val_main_call0_v2, val_main_call0_cst, val_main_call0_v1, val_main_call0_v0]
  rw [add_comm]
  exact congrArg₂ (· + ·) (Finset.sum_congr rfl fun k _ => mul_comm _ _) (Finset.sum_congr rfl fun k _ => mul_comm _ _)

theorem whole_gradX (h2 : ∀ a b, ∃ r : ℝ, x2 (ix3 0 a b) = (r : EReal)) (h3 : ∀ a b, ∃ r : ℝ, x3 (ix2 a b) = (r : EReal)) :
    val_main_v24 (F := Ideal) x1 x2 x3 = fun i => gradX x1 x2 x3 (i 1).val := by
  funext i
  obtain ⟨a, b, rfl⟩ : ∃ a b, i = ix2 a b := ⟨i 0, i 1, eq_ix2 i⟩
  show _ = gradX x1 x2 x3 b.val
  unfold gradX
  simp only [atW_fin, atX_fin, atD_hi]
  pointwise [val_main_v24, val_main_v23, val_main_v17, val_main_call2_v1, val_main_v16, val_main_v15, val_main_v14, val_main_v12, val_main_v9, val_main_v6, val_main_cst, val_main_cst_0, val_main_v3_2, val_main_call1_v4, val_main_call1_cst_0, val_main_call1_v3, val_main_call1_v2, val_main_call1_cst, val_main_call1_v1, val_main_call1_v0, val_main_call2_v2, val_main_call2_v0, val_main_v3_1, val_main_call1_v7, val_main_call1_v6, val_main_call1_cst_1]
  simp only [Finset.univ_unique, Finset.sum_singleton]
  obtain ⟨s, hs⟩ := Swish.sum_real (fun k : Fin 8 => ∑ l : Fin 1536, x3 (ix2 ⟨8 + k.val, by omega⟩ l) * x2 (ix3 0 b l)) (fun _ => 1)
    (fun k => Swish.sum_real (fun l : Fin 1536 => x3 (ix2 ⟨8 + k.val, by omega⟩ l)) (fun l => x2 (ix3 0 b l)) (fun l => h3 _ l) fun l => h2 b l)
    fun _ => ⟨1, EReal.coe_one.symm⟩
  simp only [mul_one] at hs
  rw [hs]
  have key := (Swish.gradient s 1 (x1 (ix1 b))).symm
  rw [EReal.coe_one, mul_one, one_mul] at key
  exact key

end Cert.Reference21Ideal.Body
end
-- ==== Proof.AdamWMod.lean ====
module

public import proofs.«01_k».proof.Proof.BlockSums
public import proofs.«01_k».proof.Proof.AdamSteps
public import proofs.«01_k».proof.Proof.Gen.Kernel22Ideal.Value
public import Idealize.ShloMosaic.Lib.Pointwise
public import Idealize.ShloMosaic.Lib.Pipeline.ValueKit
public import Idealize.ShloMosaic.Lib.StableHlo.RunRead

/-!
The AdamW step of the modulation weights: the four arrays the kernel leaves.
-/

@[expose] public section
noncomputable section
namespace Cert.Kernel22Ideal.Body
open Cert.Kernel22Ideal Cert.Kernel22Ideal.Gen Idealize.ShloMosaic Idealize.ShloMosaic.TcCoe Idealize.SL.Sem Idealize.ShloMosaic.Tactic
variable (m : (ℓ : Loc nD τ sig) → Buf (Elt Ideal) ℓ) (c : Dev nD)

/-- The weight, its moments and the gradient, by the rows and columns of the call. -/
abbrev argW : S1x2048x1536.Idx → EReal := m ((c : Thread nD τ).loc main_arg0)
abbrev argM : S1x2048x1536.Idx → EReal := m ((c : Thread nD τ).loc main_arg1)
abbrev argV : S1x2048x1536.Idx → EReal := m ((c : Thread nD τ).loc main_arg2)
abbrev argP : S2048x1536.Idx → EReal := m ((c : Thread nD τ).loc main_arg3)
abbrev blkP (t : Fin cfg0.N) : S256x1536.Idx → EReal := iblk m c 3 t
def atW (i j : ℕ) : EReal := Blocks.at2 (fun (a : Fin 2048) (b : Fin 1536) => argW m c (ix3 0 a b)) i j
def atM (i j : ℕ) : EReal := Blocks.at2 (fun (a : Fin 2048) (b : Fin 1536) => argM m c (ix3 0 a b)) i j
def atV (i j : ℕ) : EReal := Blocks.at2 (fun (a : Fin 2048) (b : Fin 1536) => argV m c (ix3 0 a b)) i j

/-- The gradient, the moments after the step and the step itself. -/
def grad (i j : ℕ) : EReal := Blocks.at2 (fun a b => argP m c (ix2 a b)) i j
def moment1 (i j : ℕ) : EReal := AdamSteps.moment1 (atM m c i j) (grad m c i j)
def moment2 (i j : ℕ) : EReal := AdamSteps.moment2 (atV m c i j) (grad m c i j)
def delta (i j : ℕ) : EReal := AdamSteps.delta (atW m c i j) (moment1 m c i j) (moment2 m c i j)

theorem point_lt (t : Fin cfg0.N) : t.val < 8 := lt_of_lt_of_eq t.isLt N_0

/-! The arguments by block. -/

theorem hostW (a : Fin 2048) (b : Fin 1536) : (V m c main_v0 : S2048x1536.Idx → EReal) (ix2 a b) = argW m c (ix3 0 a b) := by
  unfold_abbrev_sides
  after_reads_simp
  pointwise

theorem blockW (t : Fin cfg0.N) (a : Fin 256) (b : Fin 1536) :
    (iblk m c 0 t : S256x1536.Idx → EReal) (ix2 a b) = atW m c (256 * t.val + a.val) b.val := by
  have e : ∀ t : Fin cfg0.N, win0_0.index t = ![t.val, 0] := (by decide +kernel : ∀ t : Fin grid0.N, _)
  have ht := point_lt t
  unfold atW
  rw [Blocks.at2_of_lt _ (by omega) (by omega)]
  refine Eq.trans ?_ (hostW m c _ _)
  blk_simp [iblk]
  refine congrArg (V m c main_v0 : S2048x1536.Idx → EReal) ?_
  blk_ext [e]

theorem hostM (a : Fin 2048) (b : Fin 1536) : (V m c main_v1 : S2048x1536.Idx → EReal) (ix2 a b) = argM m c (ix3 0 a b) := by
  unfold_abbrev_sides
  after_reads_simp
  pointwise

theorem blockM (t : Fin cfg0.N) (a : Fin 256) (b : Fin 1536) :
    (iblk m c 1 t : S256x1536.Idx → EReal) (ix2 a b) = atM m c (256 * t.val + a.val) b.val := by
  have e : ∀ t : Fin cfg0.N, win0_1.index t = ![t.val, 0] := (by decide +kernel : ∀ t : Fin grid0.N, _)
  have ht := point_lt t
  unfold atM
  rw [Blocks.at2_of_lt _ (by omega) (by omega)]
  refine Eq.trans ?_ (hostM m c _ _)
  blk_simp [iblk]
  refine congrArg (V m c main_v1 : S2048x1536.Idx → EReal) ?_
  blk_ext [e]

theorem hostV (a : Fin 2048) (b : Fin 1536) : (V m c main_v2 : S2048x1536.Idx → EReal) (ix2 a b) = argV m c (ix3 0 a b) := by
  unfold_abbrev_sides
  after_reads_simp
  pointwise

theorem blockV (t : Fin cfg0.N) (a : Fin 256) (b : Fin 1536) :
    (iblk m c 2 t : S256x1536.Idx → EReal) (ix2 a b) = atV m c (256 * t.val + a.val) b.val := by
  have e : ∀ t : Fin cfg0.N, win0_2.index t = ![t.val, 0] := (by decide +kernel : ∀ t : Fin grid0.N, _)
  have ht := point_lt t
  unfold atV
  rw [Blocks.at2_of_lt _ (by omega) (by omega)]
  refine Eq.trans ?_ (hostV m c _ _)
  blk_simp [iblk]
  refine congrArg (V m c main_v2 : S2048x1536.Idx → EReal) ?_
  blk_ext [e]

theorem blockP (t : Fin cfg0.N) (a : Fin 256) (b : Fin 1536) :
    blkP m c t (ix2 a b) = Blocks.at2 (fun a b => argP m c (ix2 a b)) (256 * t.val + a.val) b.val := by
  have e : ∀ t : Fin cfg0.N, win0_3.index t = ![t.val, 0] := (by decide +kernel : ∀ t : Fin grid0.N, _)
  have ht := point_lt t
  rw [Blocks.at2_of_lt _ (by omega) (by omega)]
  blk_simp [iblk]
  rw [V_main_arg3]
  refine congrArg (argP m c) ?_
  blk_ext [e]

/-! The body's four results, of blocks. -/

section
variable (x0 x1 x2 : Vec Ideal S256x1536 .f32) (x3 : Vec Ideal S256x1536 .f32) (a : Fin 256) (b : Fin 1536)

theorem out_grad : out0_4 x0 x1 x2 x3 (ix2 a b) = (x3 (ix2 a b)) := by
  frame_out

theorem out_moment1 : out0_6 x0 x1 x2 x3 (ix2 a b) = (AdamSteps.moment1 (x1 (ix2 a b)) (x3 (ix2 a b))) := by
  unfold AdamSteps.moment1
  frame_out
  pointwise [k0_pay1, k0_pay2, k0_pay3]

theorem out_moment2 : out0_7 x0 x1 x2 x3 (ix2 a b) = (AdamSteps.moment2 (x2 (ix2 a b)) (x3 (ix2 a b))) := by
  unfold AdamSteps.moment2
  frame_out
  pointwise [k0_pay1, k0_pay2, k0_pay3]

theorem out_delta : out0_5 x0 x1 x2 x3 (ix2 a b) = AdamSteps.delta (x0 (ix2 a b)) (AdamSteps.moment1 (x1 (ix2 a b)) (x3 (ix2 a b))) (AdamSteps.moment2 (x2 (ix2 a b)) (x3 (ix2 a b))) := by
  unfold AdamSteps.delta AdamSteps.moment1 AdamSteps.moment2
  frame_out
  pointwise [k0_pay1, k0_pay2, k0_pay3]

end

/-! The four arrays after the run. -/

theorem block_grad (t : Fin cfg0.N) (a : Fin 256) (b : Fin 1536) :
    blkP m c t (ix2 a b) = grad m c (256 * t.val + a.val) b.val :=
  blockP m c t a b

theorem point_grad (t : Fin cfg0.N) (a : Fin 256) (b : Fin 1536) :
    (out0_4 (iblk m c 0 t) (iblk m c 1 t) (iblk m c 2 t) (iblk m c 3 t) : S256x1536.Idx → EReal) (ix2 a b) = grad m c (256 * t.val + a.val) b.val :=
  (out_grad _ _ _ _ a b).trans (block_grad m c t a b)

theorem final_grad : (dats m 0 c).arrAt 4 cfg0.N = (fun i : S2048x1536.Idx => grad m c (i 0).val (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q0 : win0_4.index t 0 = t.val := congrFun (e t) 0
  have q1 : win0_4.index t 1 = 0 := congrFun (e t) 1
  exact congrArg₂ (grad m c) (by omega) (by omega)

theorem point_moment1 (t : Fin cfg0.N) (a : Fin 256) (b : Fin 1536) :
    (out0_6 (iblk m c 0 t) (iblk m c 1 t) (iblk m c 2 t) (iblk m c 3 t) : S256x1536.Idx → EReal) (ix2 a b) = moment1 m c (256 * t.val + a.val) b.val :=
  (out_moment1 _ _ _ _ a b).trans (congrArg₂ AdamSteps.moment1 (blockM m c t a b) (block_grad m c t a b))

theorem final_moment1 : (dats m 0 c).arrAt 6 cfg0.N = (fun i : S2048x1536.Idx => moment1 m c (i 0).val (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q0 : win0_6.index t 0 = t.val := congrFun (e t) 0
  have q1 : win0_6.index t 1 = 0 := congrFun (e t) 1
  exact congrArg₂ (moment1 m c) (by omega) (by omega)

theorem point_moment2 (t : Fin cfg0.N) (a : Fin 256) (b : Fin 1536) :
    (out0_7 (iblk m c 0 t) (iblk m c 1 t) (iblk m c 2 t) (iblk m c 3 t) : S256x1536.Idx → EReal) (ix2 a b) = moment2 m c (256 * t.val + a.val) b.val :=
  (out_moment2 _ _ _ _ a b).trans (congrArg₂ AdamSteps.moment2 (blockV m c t a b) (block_grad m c t a b))

theorem final_moment2 : (dats m 0 c).arrAt 7 cfg0.N = (fun i : S2048x1536.Idx => moment2 m c (i 0).val (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q0 : win0_7.index t 0 = t.val := congrFun (e t) 0
  have q1 : win0_7.index t 1 = 0 := congrFun (e t) 1
  exact congrArg₂ (moment2 m c) (by omega) (by omega)

theorem point_delta (t : Fin cfg0.N) (a : Fin 256) (b : Fin 1536) :
    (out0_5 (iblk m c 0 t) (iblk m c 1 t) (iblk m c 2 t) (iblk m c 3 t) : S256x1536.Idx → EReal) (ix2 a b) = delta m c (256 * t.val + a.val) b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S2048x1536.Idx => delta m c (i 0).val (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q0 : win0_5.index t 0 = t.val := congrFun (e t) 0
  have q1 : win0_5.index t 1 = 0 := congrFun (e t) 1
  exact congrArg₂ (delta m c) (by omega) (by omega)

end Cert.Kernel22Ideal.Body
end
-- ==== Proof.Ref22.lean ====
module

public import proofs.«01_k».proof.Proof.Gen.Reference22Ideal.Read
public import proofs.«01_k».proof.Proof.BlockSums
public import proofs.«01_k».proof.Proof.AdamSteps
public import Idealize.ShloMosaic.Lib.Pointwise

/-!
The reference for the AdamW step of the modulation weights.
-/

@[expose] public section
noncomputable section
namespace Cert.Reference22Ideal.Body
open Cert.Reference22Ideal Cert.Reference22Ideal.Read Cert.Reference22Ideal.Gen Idealize.ShloMosaic Idealize.ShloMosaic.TcCoe Idealize.SL.Sem Idealize.ShloMosaic.Tactic
variable (x0 x1 x2 : (⟨S1x2048x1536, .f32⟩ : BufTy).Contents (Elt Ideal)) (x3 : (⟨S2048x1536, .f32⟩ : BufTy).Contents (Elt Ideal))

/-- The gradient, the moments after the step and the step itself. -/
def atW (x : (⟨S1x2048x1536, .f32⟩ : BufTy).Contents (Elt Ideal)) (i j : ℕ) : EReal := Blocks.at2 (fun (a : Fin 2048) (b : Fin 1536) => x (ix3 0 a b)) i j
def grad (i j : ℕ) : EReal := Blocks.at2 (fun a b => x3 (ix2 a b)) i j
def moment1 (i j : ℕ) : EReal := AdamSteps.moment1 (atW x1 i j) (grad x3 i j)
def moment2 (i j : ℕ) : EReal := AdamSteps.moment2 (atW x2 i j) (grad x3 i j)
def delta (i j : ℕ) : EReal := AdamSteps.delta (atW x0 i j) (moment1 x1 x3 i j) (moment2 x2 x3 i j)

theorem atW_fin (x : (⟨S1x2048x1536, .f32⟩ : BufTy).Contents (Elt Ideal)) (a : Fin 2048) (b : Fin 1536) : atW x a.val b.val = x (ix3 0 a b) :=
  Blocks.at2_fin (fun (a : Fin 2048) (b : Fin 1536) => x (ix3 0 a b)) a b

theorem grad_fin (a : Fin 2048) (b : Fin 1536) : grad x3 a.val b.val = x3 (ix2 a b) :=
  Blocks.at2_fin (fun a b => x3 (ix2 a b)) a b

theorem whole_grad : val_main_v26 (F := Ideal) x3 = fun i => grad x3 (i 0).val (i 1).val := by
  funext i
  obtain ⟨a, b, rfl⟩ : ∃ a b, i = ix2 a b := ⟨i 0, i 1, eq_ix2 i⟩
  show _ = grad x3 a.val b.val
  rw [grad_fin]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem whole_moment1 : val_main_v28 (F := Ideal) x1 x3 = fun i => moment1 x1 x3 (i 0).val (i 1).val := by
  funext i
  obtain ⟨a, b, rfl⟩ : ∃ a b, i = ix2 a b := ⟨i 0, i 1, eq_ix2 i⟩
  show _ = moment1 x1 x3 a.val b.val
  unfold moment1 AdamSteps.moment1
  rw [grad_fin, atW_fin x1]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem whole_moment2 : val_main_v29 (F := Ideal) x2 x3 = fun i => moment2 x2 x3 (i 0).val (i 1).val := by
  funext i
  obtain ⟨a, b, rfl⟩ : ∃ a b, i = ix2 a b := ⟨i 0, i 1, eq_ix2 i⟩
  show _ = moment2 x2 x3 a.val b.val
  unfold moment2 AdamSteps.moment2
  rw [grad_fin, atW_fin x2]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem whole_delta : val_main_v27 (F := Ideal) x0 x1 x2 x3 = fun i => delta x0 x1 x2 x3 (i 0).val (i 1).val := by
  funext i
  obtain ⟨a, b, rfl⟩ : ∃ a b, i = ix2 a b := ⟨i 0, i 1, eq_ix2 i⟩
  show _ = delta x0 x1 x2 x3 a.val b.val
  unfold delta AdamSteps.delta moment1 AdamSteps.moment1 moment2 AdamSteps.moment2
  rw [grad_fin, atW_fin x0, atW_fin x1, atW_fin x2]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

end Cert.Reference22Ideal.Body
end
-- ==== Proof.SmallPack.lean ====
module

public import proofs.«01_k».proof.Proof.AdamSteps

/-!
The small weights side by side in one row: four of 2048 entries, two of 16 entries in 128 lanes each, and 128 lanes of the loss.
-/

@[expose] public section

noncomputable section

namespace Cert.SmallPack

open Idealize.ShloMosaic

/-- An entry of a vector, zero past its end. -/
def at1 {n : ℕ} (f : Fin n → EReal) (j : ℕ) : EReal := if h : j < n then f ⟨j, h⟩ else 0

theorem at1_of_lt {n : ℕ} (f : Fin n → EReal) {j : ℕ} (h : j < n) : at1 f j = f ⟨j, h⟩ := dif_pos h

theorem at1_of_not_lt {n : ℕ} (f : Fin n → EReal) {j : ℕ} (h : ¬ j < n) : at1 f j = 0 := dif_neg h

/-- An entry of the row of the seven pieces. -/
def pack (a0 a1 a2 a3 a4 a5 a6 : ℕ → EReal) (j : ℕ) : EReal :=
  if j < 2048 then a0 j
  else if j - 2048 < 2048 then a1 (j - 2048)
  else if j - 2048 - 2048 < 2048 then a2 (j - 2048 - 2048)
  else if j - 2048 - 2048 - 2048 < 2048 then a3 (j - 2048 - 2048 - 2048)
  else if j - 2048 - 2048 - 2048 - 2048 < 128 then a4 (j - 2048 - 2048 - 2048 - 2048)
  else if j - 2048 - 2048 - 2048 - 2048 - 128 < 128 then a5 (j - 2048 - 2048 - 2048 - 2048 - 128)
  else a6 (j - 2048 - 2048 - 2048 - 2048 - 128 - 128)

section
variable (a0 a1 a2 a3 a4 a5 a6 : ℕ → EReal) {j : ℕ}

theorem pack_0 (h0 : j < 2048) : pack a0 a1 a2 a3 a4 a5 a6 j = a0 (j) := by
  rw [pack, if_pos h0]

theorem pack_1 (h0 : ¬ j < 2048) (h1 : j - 2048 < 2048) : pack a0 a1 a2 a3 a4 a5 a6 j = a1 (j - 2048) := by
  rw [pack, if_neg h0, if_pos h1]

theorem pack_2 (h0 : ¬ j < 2048) (h1 : ¬ j - 2048 < 2048) (h2 : j - 2048 - 2048 < 2048) : pack a0 a1 a2 a3 a4 a5 a6 j = a2 (j - 2048 - 2048) := by
  rw [pack, if_neg h0, if_neg h1, if_pos h2]

theorem pack_3 (h0 : ¬ j < 2048) (h1 : ¬ j - 2048 < 2048) (h2 : ¬ j - 2048 - 2048 < 2048) (h3 : j - 2048 - 2048 - 2048 < 2048) : pack a0 a1 a2 a3 a4 a5 a6 j = a3 (j - 2048 - 2048 - 2048) := by
  rw [pack, if_neg h0, if_neg h1, if_neg h2, if_pos h3]

theorem pack_4 (h0 : ¬ j < 2048) (h1 : ¬ j - 2048 < 2048) (h2 : ¬ j - 2048 - 2048 < 2048) (h3 : ¬ j - 2048 - 2048 - 2048 < 2048) (h4 : j - 2048 - 2048 - 2048 - 2048 < 128) : pack a0 a1 a2 a3 a4 a5 a6 j = a4 (j - 2048 - 2048 - 2048 - 2048) := by
  rw [pack, if_neg h0, if_neg h1, if_neg h2, if_neg h3, if_pos h4]

theorem pack_5 (h0 : ¬ j < 2048) (h1 : ¬ j - 2048 < 2048) (h2 : ¬ j - 2048 - 2048 < 2048) (h3 : ¬ j - 2048 - 2048 - 2048 < 2048) (h4 : ¬ j - 2048 - 2048 - 2048 - 2048 < 128) (h5 : j - 2048 - 2048 - 2048 - 2048 - 128 < 128) : pack a0 a1 a2 a3 a4 a5 a6 j = a5 (j - 2048 - 2048 - 2048 - 2048 - 128) := by
  rw [pack, if_neg h0, if_neg h1, if_neg h2, if_neg h3, if_neg h4, if_pos h5]

theorem pack_6 (h0 : ¬ j < 2048) (h1 : ¬ j - 2048 < 2048) (h2 : ¬ j - 2048 - 2048 < 2048) (h3 : ¬ j - 2048 - 2048 - 2048 < 2048) (h4 : ¬ j - 2048 - 2048 - 2048 - 2048 < 128) (h5 : ¬ j - 2048 - 2048 - 2048 - 2048 - 128 < 128) : pack a0 a1 a2 a3 a4 a5 a6 j = a6 (j - 2048 - 2048 - 2048 - 2048 - 128 - 128) := by
  rw [pack, if_neg h0, if_neg h1, if_neg h2, if_neg h3, if_neg h4, if_neg h5]

end

/-- A sum of rows, entry by entry. -/
theorem sum_pack (a0 a1 a2 a3 a4 a5 a6 : Fin 8 → ℕ → EReal) (j : ℕ) :
    ∑ d, pack (a0 d) (a1 d) (a2 d) (a3 d) (a4 d) (a5 d) (a6 d) j
      = pack (fun j => ∑ d, a0 d j) (fun j => ∑ d, a1 d j) (fun j => ∑ d, a2 d j) (fun j => ∑ d, a3 d j) (fun j => ∑ d, a4 d j)
          (fun j => ∑ d, a5 d j) (fun j => ∑ d, a6 d j) j := by
  unfold pack
  split_ifs <;> rfl

theorem sum_at1 {n : ℕ} (f : Fin 8 → Fin n → EReal) (j : ℕ) : ∑ d, at1 (f d) j = at1 (fun i => ∑ d, f d i) j := by
  unfold at1
  split_ifs
  · rfl
  · exact Finset.sum_const_zero

/-- The weights' row, and the moments'. -/
def row (x0 x1 x2 x3 : Fin 2048 → EReal) (x4 x5 : Fin 16 → EReal) : ℕ → EReal :=
  pack (at1 x0) (at1 x1) (at1 x2) (at1 x3) (at1 x4) (at1 x5) fun _ => 0

/-- The row of one device's gradient parts and its part of the loss. -/
def partRow (x0 x1 x2 x3 : Fin 8 → Fin 2048 → EReal) (x4 x5 : Fin 8 → Fin 16 → EReal) (x6 : Fin 8 → Fin 128 → EReal) (d : Fin 8) : ℕ → EReal :=
  pack (at1 (x0 d)) (at1 (x1 d)) (at1 (x2 d)) (at1 (x3 d)) (at1 (x4 d)) (at1 (x5 d)) (at1 (x6 d))

/-- The sum of the devices' rows. -/
def gradRow (x0 x1 x2 x3 : Fin 8 → Fin 2048 → EReal) (x4 x5 : Fin 8 → Fin 16 → EReal) (x6 : Fin 8 → Fin 128 → EReal) (j : ℕ) : EReal :=
  ∑ d, partRow x0 x1 x2 x3 x4 x5 x6 d j

theorem gradRow_eq (x0 x1 x2 x3 : Fin 8 → Fin 2048 → EReal) (x4 x5 : Fin 8 → Fin 16 → EReal) (x6 : Fin 8 → Fin 128 → EReal) (j : ℕ) :
    gradRow x0 x1 x2 x3 x4 x5 x6 j = pack (at1 fun i => ∑ d, x0 d i) (at1 fun i => ∑ d, x1 d i) (at1 fun i => ∑ d, x2 d i)
      (at1 fun i => ∑ d, x3 d i) (at1 fun i => ∑ d, x4 d i) (at1 fun i => ∑ d, x5 d i) (at1 fun i => ∑ d, x6 d i) j := by
  unfold gradRow partRow
  rw [sum_pack]
  simp only [sum_at1]

/-- Of zeros an AdamW step leaves zeros. -/
theorem moment1_zero : AdamSteps.moment1 0 0 = 0 := by simp [AdamSteps.moment1]

theorem moment2_zero : AdamSteps.moment2 0 0 = 0 := by simp [AdamSteps.moment2]

theorem delta_zero : AdamSteps.delta 0 0 0 = 0 := by
  have hne : ∀ w : BitVec 32, Ideal.ofBits FTy.f32 w ≠ 0 → Ideal.div 0 (Ideal.ofBits FTy.f32 w) = 0 := fun w h => by
    rw [Ideal.div, if_neg h, zero_mul]
  have h1 : Ideal.ofBits FTy.f32 0x3F26BD02#32 ≠ 0 := by simp [Ideal.ofBits, Ideal.ieee]
  have h2 : Ideal.ofBits FTy.f32 0x3C231ACC#32 ≠ 0 := by simp [Ideal.ofBits, Ideal.ieee]
  have h3 : Ideal.ofBits FTy.f32 0x322BCC77#32 ≠ 0 := by simp [Ideal.ofBits, Ideal.ieee]
  have hs : Ideal.sqrt 0 = 0 := by
    rw [← EReal.coe_zero]
    show (if (0 : ℝ) < 0 then ⊥ else ((Real.sqrt 0 : ℝ) : EReal)) = ((0 : ℝ) : EReal)
    rw [if_neg (lt_irrefl _), Real.sqrt_zero]
  rw [AdamSteps.delta, hne _ h1, hne _ h2, hs, zero_add, hne _ h3, mul_zero, add_zero, mul_zero]

end Cert.SmallPack

end
-- ==== Proof.AdamSmall.lean ====
module

public import proofs.«01_k».proof.Proof.SmallPack
public import proofs.«01_k».proof.Proof.Gen.Kernel23Ideal.Value
public import Idealize.ShloMosaic.Lib.Pointwise
public import Idealize.ShloMosaic.Lib.Pipeline.ValueKit
public import Idealize.ShloMosaic.Lib.StableHlo.RunRead

/-!
The AdamW step of the small weights, packed into one row with the loss: the four rows the kernel leaves.
-/

@[expose] public section
noncomputable section
namespace Cert.Kernel23Ideal.Body
open Cert.Kernel23Ideal Cert.Kernel23Ideal.Gen Idealize.ShloMosaic Idealize.ShloMosaic.TcCoe Idealize.SL.Sem Idealize.ShloMosaic.Tactic Cert.SmallPack
variable (m : (ℓ : Loc nD τ sig) → Buf (Elt Ideal) ℓ) (c : Dev nD)

/-! The arguments: the weights, their moments, and the devices' parts of the gradients and of the loss. -/

abbrev arg0 : S2048.Idx → EReal := m ((c : Thread nD τ).loc main_arg0)
abbrev arg1 : S1x2048.Idx → EReal := m ((c : Thread nD τ).loc main_arg1)
abbrev arg2 : S1x2048.Idx → EReal := m ((c : Thread nD τ).loc main_arg2)
abbrev arg3 : S2048.Idx → EReal := m ((c : Thread nD τ).loc main_arg3)
abbrev arg4 : S1x2x8.Idx → EReal := m ((c : Thread nD τ).loc main_arg4)
abbrev arg5 : S1x16.Idx → EReal := m ((c : Thread nD τ).loc main_arg5)
abbrev arg6 : S2048.Idx → EReal := m ((c : Thread nD τ).loc main_arg6)
abbrev arg7 : S1x2048.Idx → EReal := m ((c : Thread nD τ).loc main_arg7)
abbrev arg8 : S1x2048.Idx → EReal := m ((c : Thread nD τ).loc main_arg8)
abbrev arg9 : S2048.Idx → EReal := m ((c : Thread nD τ).loc main_arg9)
abbrev arg10 : S1x2x8.Idx → EReal := m ((c : Thread nD τ).loc main_arg10)
abbrev arg11 : S1x16.Idx → EReal := m ((c : Thread nD τ).loc main_arg11)
abbrev arg12 : S2048.Idx → EReal := m ((c : Thread nD τ).loc main_arg12)
abbrev arg13 : S1x2048.Idx → EReal := m ((c : Thread nD τ).loc main_arg13)
abbrev arg14 : S1x2048.Idx → EReal := m ((c : Thread nD τ).loc main_arg14)
abbrev arg15 : S2048.Idx → EReal := m ((c : Thread nD τ).loc main_arg15)
abbrev arg16 : S1x2x8.Idx → EReal := m ((c : Thread nD τ).loc main_arg16)
abbrev arg17 : S1x16.Idx → EReal := m ((c : Thread nD τ).loc main_arg17)
abbrev arg18 : S8x2048.Idx → EReal := m ((c : Thread nD τ).loc main_arg18)
abbrev arg19 : S8x2048.Idx → EReal := m ((c : Thread nD τ).loc main_arg19)
abbrev arg20 : S8x2048.Idx → EReal := m ((c : Thread nD τ).loc main_arg20)
abbrev arg21 : S8x2048.Idx → EReal := m ((c : Thread nD τ).loc main_arg21)
abbrev arg22 : S8x16.Idx → EReal := m ((c : Thread nD τ).loc main_arg22)
abbrev arg23 : S8x16.Idx → EReal := m ((c : Thread nD τ).loc main_arg23)
abbrev arg24 : S8x128.Idx → EReal := m ((c : Thread nD τ).loc main_arg24)

/-- The row of the packed arrays' six pieces. -/
def rowOf (x0 : S2048.Idx → EReal) (x1 x2 : S1x2048.Idx → EReal) (x3 : S2048.Idx → EReal) (x4 : S1x2x8.Idx → EReal) (x5 : S1x16.Idx → EReal) : ℕ → EReal :=
  row (fun i => x0 (ix1 i)) (fun i => x1 (ix2 0 i)) (fun i => x2 (ix2 0 i)) (fun i => x3 (ix1 i))
    (fun i => x4 (ix3 0 ⟨i.val / 8, by omega⟩ ⟨i.val % 8, by omega⟩)) (fun i => x5 (ix2 0 i))

def atW : ℕ → EReal := rowOf (arg0 m c) (arg1 m c) (arg2 m c) (arg3 m c) (arg4 m c) (arg5 m c)
def atM : ℕ → EReal := rowOf (arg6 m c) (arg7 m c) (arg8 m c) (arg9 m c) (arg10 m c) (arg11 m c)
def atV : ℕ → EReal := rowOf (arg12 m c) (arg13 m c) (arg14 m c) (arg15 m c) (arg16 m c) (arg17 m c)

/-- The parts of a device, their sum, and the step of it. -/
def atP (d : Fin 8) : ℕ → EReal := partRow (fun d i => arg18 m c (ix2 d i)) (fun d i => arg19 m c (ix2 d i)) (fun d i => arg20 m c (ix2 d i)) (fun d i => arg21 m c (ix2 d i)) (fun d i => arg22 m c (ix2 d i)) (fun d i => arg23 m c (ix2 d i)) (fun d i => arg24 m c (ix2 d i)) d
def grad (j : ℕ) : EReal := gradRow (fun d i => arg18 m c (ix2 d i)) (fun d i => arg19 m c (ix2 d i)) (fun d i => arg20 m c (ix2 d i)) (fun d i => arg21 m c (ix2 d i)) (fun d i => arg22 m c (ix2 d i)) (fun d i => arg23 m c (ix2 d i)) (fun d i => arg24 m c (ix2 d i)) j
def moment1 (j : ℕ) : EReal := AdamSteps.moment1 (atM m c j) (grad m c j)
def moment2 (j : ℕ) : EReal := AdamSteps.moment2 (atV m c j) (grad m c j)
def delta (j : ℕ) : EReal := AdamSteps.delta (atW m c j) (moment1 m c j) (moment2 m c j)

/-! The rows the host packs. -/

set_option maxHeartbeats 1000000 in
theorem hostW (a : Fin 1) (b : Fin 8576) : (V m c main_v19 : S1x8576.Idx → EReal) (ix2 a b) = atW m c b.val := by
  unfold_abbrev_sides
  after_reads_simp
  pointwise
  unfold atW rowOf row
  by_cases h0 : b.val < 2048
  · rewrite [dif_pos h0, pack_0 _ _ _ _ _ _ _ h0]
    rewrite [at1_of_lt _ h0]
    after_reads_simp
    pointwise
  rewrite [dif_neg h0]
  by_cases h1 : b.val - 2048 < 2048
  · rewrite [dif_pos h1, pack_1 _ _ _ _ _ _ _ h0 h1]
    rewrite [at1_of_lt _ h1]
    rfl
  rewrite [dif_neg h1]
  by_cases h2 : b.val - 2048 - 2048 < 2048
  · rewrite [dif_pos h2, pack_2 _ _ _ _ _ _ _ h0 h1 h2]
    rewrite [at1_of_lt _ h2]
    rfl
  rewrite [dif_neg h2]
  by_cases h3 : b.val - 2048 - 2048 - 2048 < 2048
  · rewrite [dif_pos h3, pack_3 _ _ _ _ _ _ _ h0 h1 h2 h3]
    rewrite [at1_of_lt _ h3]
    after_reads_simp
    pointwise
  rewrite [dif_neg h3]
  by_cases h4 : b.val - 2048 - 2048 - 2048 - 2048 < 128
  · rewrite [dif_pos h4, pack_4 _ _ _ _ _ _ _ h0 h1 h2 h3 h4]
    by_cases hp : b.val - 2048 - 2048 - 2048 - 2048 < 16
    · rewrite [at1_of_lt _ hp]
      after_reads_simp
      pointwise
      rewrite [dif_pos hp]
      after_reads_simp
      pointwise
    · rewrite [at1_of_not_lt _ hp]
      after_reads_simp
      pointwise
      rewrite [dif_neg hp]
      after_reads_simp
      pointwise
  rewrite [dif_neg h4]
  by_cases h5 : b.val - 2048 - 2048 - 2048 - 2048 - 128 < 128
  · rewrite [dif_pos h5, pack_5 _ _ _ _ _ _ _ h0 h1 h2 h3 h4 h5]
    by_cases hp : b.val - 2048 - 2048 - 2048 - 2048 - 128 < 16
    · rewrite [at1_of_lt _ hp]
      after_reads_simp
      pointwise
      rewrite [dif_pos hp]
      after_reads_simp
      pointwise
    · rewrite [at1_of_not_lt _ hp]
      after_reads_simp
      pointwise
      rewrite [dif_neg hp]
      after_reads_simp
      pointwise
  rewrite [dif_neg h5]
  rewrite [pack_6 _ _ _ _ _ _ _ h0 h1 h2 h3 h4 h5]
  after_reads_simp
  pointwise

set_option maxHeartbeats 1000000 in
theorem hostM (a : Fin 1) (b : Fin 8576) : (V m c main_v32 : S1x8576.Idx → EReal) (ix2 a b) = atM m c b.val := by
  unfold_abbrev_sides
  after_reads_simp
  pointwise
  unfold atM rowOf row
  by_cases h0 : b.val < 2048
  · rewrite [dif_pos h0, pack_0 _ _ _ _ _ _ _ h0]
    rewrite [at1_of_lt _ h0]
    after_reads_simp
    pointwise
  rewrite [dif_neg h0]
  by_cases h1 : b.val - 2048 < 2048
  · rewrite [dif_pos h1, pack_1 _ _ _ _ _ _ _ h0 h1]
    rewrite [at1_of_lt _ h1]
    rfl
  rewrite [dif_neg h1]
  by_cases h2 : b.val - 2048 - 2048 < 2048
  · rewrite [dif_pos h2, pack_2 _ _ _ _ _ _ _ h0 h1 h2]
    rewrite [at1_of_lt _ h2]
    rfl
  rewrite [dif_neg h2]
  by_cases h3 : b.val - 2048 - 2048 - 2048 < 2048
  · rewrite [dif_pos h3, pack_3 _ _ _ _ _ _ _ h0 h1 h2 h3]
    rewrite [at1_of_lt _ h3]
    after_reads_simp
    pointwise
  rewrite [dif_neg h3]
  by_cases h4 : b.val - 2048 - 2048 - 2048 - 2048 < 128
  · rewrite [dif_pos h4, pack_4 _ _ _ _ _ _ _ h0 h1 h2 h3 h4]
    by_cases hp : b.val - 2048 - 2048 - 2048 - 2048 < 16
    · rewrite [at1_of_lt _ hp]
      after_reads_simp
      pointwise
      rewrite [dif_pos hp]
      after_reads_simp
      pointwise
    · rewrite [at1_of_not_lt _ hp]
      after_reads_simp
      pointwise
      rewrite [dif_neg hp]
      after_reads_simp
      pointwise
  rewrite [dif_neg h4]
  by_cases h5 : b.val - 2048 - 2048 - 2048 - 2048 - 128 < 128
  · rewrite [dif_pos h5, pack_5 _ _ _ _ _ _ _ h0 h1 h2 h3 h4 h5]
    by_cases hp : b.val - 2048 - 2048 - 2048 - 2048 - 128 < 16
    · rewrite [at1_of_lt _ hp]
      after_reads_simp
      pointwise
      rewrite [dif_pos hp]
      after_reads_simp
      pointwise
    · rewrite [at1_of_not_lt _ hp]
      after_reads_simp
      pointwise
      rewrite [dif_neg hp]
      after_reads_simp
      pointwise
  rewrite [dif_neg h5]
  rewrite [pack_6 _ _ _ _ _ _ _ h0 h1 h2 h3 h4 h5]
  after_reads_simp
  pointwise

set_option maxHeartbeats 1000000 in
theorem hostV (a : Fin 1) (b : Fin 8576) : (V m c main_v45 : S1x8576.Idx → EReal) (ix2 a b) = atV m c b.val := by
  unfold_abbrev_sides
  after_reads_simp
  pointwise
  unfold atV rowOf row
  by_cases h0 : b.val < 2048
  · rewrite [dif_pos h0, pack_0 _ _ _ _ _ _ _ h0]
    rewrite [at1_of_lt _ h0]
    after_reads_simp
    pointwise
  rewrite [dif_neg h0]
  by_cases h1 : b.val - 2048 < 2048
  · rewrite [dif_pos h1, pack_1 _ _ _ _ _ _ _ h0 h1]
    rewrite [at1_of_lt _ h1]
    rfl
  rewrite [dif_neg h1]
  by_cases h2 : b.val - 2048 - 2048 < 2048
  · rewrite [dif_pos h2, pack_2 _ _ _ _ _ _ _ h0 h1 h2]
    rewrite [at1_of_lt _ h2]
    rfl
  rewrite [dif_neg h2]
  by_cases h3 : b.val - 2048 - 2048 - 2048 < 2048
  · rewrite [dif_pos h3, pack_3 _ _ _ _ _ _ _ h0 h1 h2 h3]
    rewrite [at1_of_lt _ h3]
    after_reads_simp
    pointwise
  rewrite [dif_neg h3]
  by_cases h4 : b.val - 2048 - 2048 - 2048 - 2048 < 128
  · rewrite [dif_pos h4, pack_4 _ _ _ _ _ _ _ h0 h1 h2 h3 h4]
    by_cases hp : b.val - 2048 - 2048 - 2048 - 2048 < 16
    · rewrite [at1_of_lt _ hp]
      after_reads_simp
      pointwise
      rewrite [dif_pos hp]
      after_reads_simp
      pointwise
    · rewrite [at1_of_not_lt _ hp]
      after_reads_simp
      pointwise
      rewrite [dif_neg hp]
      after_reads_simp
      pointwise
  rewrite [dif_neg h4]
  by_cases h5 : b.val - 2048 - 2048 - 2048 - 2048 - 128 < 128
  · rewrite [dif_pos h5, pack_5 _ _ _ _ _ _ _ h0 h1 h2 h3 h4 h5]
    by_cases hp : b.val - 2048 - 2048 - 2048 - 2048 - 128 < 16
    · rewrite [at1_of_lt _ hp]
      after_reads_simp
      pointwise
      rewrite [dif_pos hp]
      after_reads_simp
      pointwise
    · rewrite [at1_of_not_lt _ hp]
      after_reads_simp
      pointwise
      rewrite [dif_neg hp]
      after_reads_simp
      pointwise
  rewrite [dif_neg h5]
  rewrite [pack_6 _ _ _ _ _ _ _ h0 h1 h2 h3 h4 h5]
  after_reads_simp
  pointwise

set_option maxHeartbeats 1000000 in
theorem hostP (d : Fin 8) (a : Fin 1) (b : Fin 8576) : (V m c main_v6 : S8x1x8576.Idx → EReal) (ix3 d a b) = atP m c d b.val := by
  unfold_abbrev_sides
  after_reads_simp
  pointwise
  unfold atP partRow
  by_cases h0 : b.val < 2048
  · rewrite [dif_pos h0, pack_0 _ _ _ _ _ _ _ h0]
    rewrite [at1_of_lt _ h0]
    after_reads_simp
    try pointwise
  rewrite [dif_neg h0]
  by_cases h1 : b.val - 2048 < 2048
  · rewrite [dif_pos h1, pack_1 _ _ _ _ _ _ _ h0 h1]
    rewrite [at1_of_lt _ h1]
    after_reads_simp
    try pointwise
  rewrite [dif_neg h1]
  by_cases h2 : b.val - 2048 - 2048 < 2048
  · rewrite [dif_pos h2, pack_2 _ _ _ _ _ _ _ h0 h1 h2]
    rewrite [at1_of_lt _ h2]
    after_reads_simp
    try pointwise
  rewrite [dif_neg h2]
  by_cases h3 : b.val - 2048 - 2048 - 2048 < 2048
  · rewrite [dif_pos h3, pack_3 _ _ _ _ _ _ _ h0 h1 h2 h3]
    rewrite [at1_of_lt _ h3]
    after_reads_simp
    try pointwise
  rewrite [dif_neg h3]
  by_cases h4 : b.val - 2048 - 2048 - 2048 - 2048 < 128
  · rewrite [dif_pos h4, pack_4 _ _ _ _ _ _ _ h0 h1 h2 h3 h4]
    by_cases hp : b.val - 2048 - 2048 - 2048 - 2048 < 16
    · rewrite [at1_of_lt _ hp]
      after_reads_simp
      pointwise
      first | done | (rewrite [dif_pos hp]; rfl)
    · rewrite [at1_of_not_lt _ hp]
      after_reads_simp
      pointwise
      first | done | (rewrite [dif_neg hp]; after_reads_simp)
  rewrite [dif_neg h4]
  by_cases h5 : b.val - 2048 - 2048 - 2048 - 2048 - 128 < 128
  · rewrite [dif_pos h5, pack_5 _ _ _ _ _ _ _ h0 h1 h2 h3 h4 h5]
    by_cases hp : b.val - 2048 - 2048 - 2048 - 2048 - 128 < 16
    · rewrite [at1_of_lt _ hp]
      after_reads_simp
      pointwise
      first | done | (rewrite [dif_pos hp]; rfl)
    · rewrite [at1_of_not_lt _ hp]
      after_reads_simp
      pointwise
      first | done | (rewrite [dif_neg hp]; after_reads_simp)
  rewrite [dif_neg h5]
  rewrite [pack_6 _ _ _ _ _ _ _ h0 h1 h2 h3 h4 h5]
  rewrite [at1_of_lt _ (by omega)]
  after_reads_simp
  try pointwise

/-! The arguments of the one grid step. -/

abbrev blkP (t : Fin cfg0.N) : S8x1x8576.Idx → EReal := iblk m c 3 t

theorem point_lt (t : Fin cfg0.N) : t.val < 1 := lt_of_lt_of_eq t.isLt N_0

theorem blockW (t : Fin cfg0.N) (a : Fin 1) (b : Fin 8576) : (iblk m c 0 t : S1x8576.Idx → EReal) (ix2 a b) = atW m c b.val := by
  have e : ∀ t : Fin cfg0.N, win0_0.index t = ![t.val, 0] := (by decide +kernel : ∀ t : Fin grid0.N, _)
  have ht := point_lt t
  refine Eq.trans ?_ (hostW m c a b)
  blk_simp [iblk]
  refine congrArg (V m c main_v19 : S1x8576.Idx → EReal) ?_
  blk_ext [e]

theorem blockM (t : Fin cfg0.N) (a : Fin 1) (b : Fin 8576) : (iblk m c 1 t : S1x8576.Idx → EReal) (ix2 a b) = atM m c b.val := by
  have e : ∀ t : Fin cfg0.N, win0_1.index t = ![t.val, 0] := (by decide +kernel : ∀ t : Fin grid0.N, _)
  have ht := point_lt t
  refine Eq.trans ?_ (hostM m c a b)
  blk_simp [iblk]
  refine congrArg (V m c main_v32 : S1x8576.Idx → EReal) ?_
  blk_ext [e]

theorem blockV (t : Fin cfg0.N) (a : Fin 1) (b : Fin 8576) : (iblk m c 2 t : S1x8576.Idx → EReal) (ix2 a b) = atV m c b.val := by
  have e : ∀ t : Fin cfg0.N, win0_2.index t = ![t.val, 0] := (by decide +kernel : ∀ t : Fin grid0.N, _)
  have ht := point_lt t
  refine Eq.trans ?_ (hostV m c a b)
  blk_simp [iblk]
  refine congrArg (V m c main_v45 : S1x8576.Idx → EReal) ?_
  blk_ext [e]

theorem blockP (t : Fin cfg0.N) (d : Fin 8) (a : Fin 1) (b : Fin 8576) : blkP m c t (ix3 d a b) = atP m c d b.val := by
  have e : ∀ t : Fin cfg0.N, win0_3.index t = ![0, t.val, 0] := (by decide +kernel : ∀ t : Fin grid0.N, _)
  have ht := point_lt t
  refine Eq.trans ?_ (hostP m c d a b)
  blk_simp [iblk]
  refine congrArg (V m c main_v6 : S8x1x8576.Idx → EReal) ?_
  blk_ext [e]

theorem block_grad (t : Fin cfg0.N) (a : Fin 1) (b : Fin 8576) : ∑ x : Fin 8, blkP m c t (ix3 x a b) = grad m c b.val := by
  unfold grad gradRow
  simp only [blockP, atP]

/-! The body's four results, of blocks. -/

section
variable (x0 x1 x2 : Vec Ideal S1x8576 .f32) (x3 : Vec Ideal S8x1x8576 .f32) (a : Fin 1) (b : Fin 8576)

theorem out_grad : out0_4 x0 x1 x2 x3 (ix2 a b) = (∑ x : Fin 8, x3 (ix3 x a b)) := by
  obtain rfl : a = 0 := Subsingleton.elim _ _
  rw [Fin.sum_univ_eight]
  frame_out
  pointwise [k0_pay1, k0_pay2, k0_pay3, k0_pay4, k0_pay5, k0_pay6, k0_pay7, k0_pay8, k0_pay9, k0_pay10]

theorem out_moment1 : out0_6 x0 x1 x2 x3 (ix2 a b) = AdamSteps.moment1 (x1 (ix2 a b)) (∑ x : Fin 8, x3 (ix3 x a b)) := by
  unfold AdamSteps.moment1
  obtain rfl : a = 0 := Subsingleton.elim _ _
  rw [Fin.sum_univ_eight]
  frame_out
  pointwise [k0_pay1, k0_pay2, k0_pay3, k0_pay4, k0_pay5, k0_pay6, k0_pay7, k0_pay8, k0_pay9, k0_pay10]

theorem out_moment2 : out0_7 x0 x1 x2 x3 (ix2 a b) = AdamSteps.moment2 (x2 (ix2 a b)) (∑ x : Fin 8, x3 (ix3 x a b)) := by
  unfold AdamSteps.moment2
  obtain rfl : a = 0 := Subsingleton.elim _ _
  rw [Fin.sum_univ_eight]
  frame_out
  pointwise [k0_pay1, k0_pay2, k0_pay3, k0_pay4, k0_pay5, k0_pay6, k0_pay7, k0_pay8, k0_pay9, k0_pay10]

theorem out_delta : out0_5 x0 x1 x2 x3 (ix2 a b) = AdamSteps.delta (x0 (ix2 a b)) (AdamSteps.moment1 (x1 (ix2 a b)) (∑ x : Fin 8, x3 (ix3 x a b))) (AdamSteps.moment2 (x2 (ix2 a b)) (∑ x : Fin 8, x3 (ix3 x a b))) := by
  unfold AdamSteps.delta AdamSteps.moment1 AdamSteps.moment2
  obtain rfl : a = 0 := Subsingleton.elim _ _
  rw [Fin.sum_univ_eight]
  frame_out
  pointwise [k0_pay1, k0_pay2, k0_pay3, k0_pay4, k0_pay5, k0_pay6, k0_pay7, k0_pay8, k0_pay9, k0_pay10]

end

/-! The four rows after the run. -/

theorem point_grad (t : Fin cfg0.N) (a : Fin 1) (b : Fin 8576) :
    (out0_4 (iblk m c 0 t) (iblk m c 1 t) (iblk m c 2 t) (iblk m c 3 t) : S1x8576.Idx → EReal) (ix2 a b) = grad m c b.val :=
  (out_grad _ _ _ _ a b).trans (block_grad m c t a b)

theorem final_grad : (dats m 0 c).arrAt 4 cfg0.N = (fun i : S1x8576.Idx => grad m c (i 1).val) := by
  refine (dats m 0 c).arrAt_eq_of_covers 4 _ (by decide +kernel) fun t hf y => ?_
  have e : ∀ t : Fin cfg0.N, win0_4.index t = ![t.val, 0] := (by decide +kernel : ∀ t : Fin grid0.N, _)
  obtain ⟨a, b, rfl⟩ : ∃ a b, y = ix2 a b := ⟨y 0, y 1, eq_ix2 y⟩
  blk_simp
  rw [after0_4]
  refine (point_grad m c t a b).trans ?_
  have q1 : win0_4.index t 1 = 0 := congrFun (e t) 1
  exact congrArg (grad m c) (by omega)

theorem point_moment1 (t : Fin cfg0.N) (a : Fin 1) (b : Fin 8576) :
    (out0_6 (iblk m c 0 t) (iblk m c 1 t) (iblk m c 2 t) (iblk m c 3 t) : S1x8576.Idx → EReal) (ix2 a b) = moment1 m c b.val :=
  (out_moment1 _ _ _ _ a b).trans (congrArg₂ AdamSteps.moment1 (blockM m c t a b) (block_grad m c t a b))

theorem final_moment1 : (dats m 0 c).arrAt 6 cfg0.N = (fun i : S1x8576.Idx => moment1 m c (i 1).val) := by
  refine (dats m 0 c).arrAt_eq_of_covers 6 _ (by decide +kernel) fun t hf y => ?_
  have e : ∀ t : Fin cfg0.N, win0_6.index t = ![t.val, 0] := (by decide +kernel : ∀ t : Fin grid0.N, _)
  obtain ⟨a, b, rfl⟩ : ∃ a b, y = ix2 a b := ⟨y 0, y 1, eq_ix2 y⟩
  blk_simp
  rw [after0_6]
  refine (point_moment1 m c t a b).trans ?_
  have q1 : win0_6.index t 1 = 0 := congrFun (e t) 1
  exact congrArg (moment1 m c) (by omega)

theorem point_moment2 (t : Fin cfg0.N) (a : Fin 1) (b : Fin 8576) :
    (out0_7 (iblk m c 0 t) (iblk m c 1 t) (iblk m c 2 t) (iblk m c 3 t) : S1x8576.Idx → EReal) (ix2 a b) = moment2 m c b.val :=
  (out_moment2 _ _ _ _ a b).trans (congrArg₂ AdamSteps.moment2 (blockV m c t a b) (block_grad m c t a b))

theorem final_moment2 : (dats m 0 c).arrAt 7 cfg0.N = (fun i : S1x8576.Idx => moment2 m c (i 1).val) := by
  refine (dats m 0 c).arrAt_eq_of_covers 7 _ (by decide +kernel) fun t hf y => ?_
  have e : ∀ t : Fin cfg0.N, win0_7.index t = ![t.val, 0] := (by decide +kernel : ∀ t : Fin grid0.N, _)
  obtain ⟨a, b, rfl⟩ : ∃ a b, y = ix2 a b := ⟨y 0, y 1, eq_ix2 y⟩
  blk_simp
  rw [after0_7]
  refine (point_moment2 m c t a b).trans ?_
  have q1 : win0_7.index t 1 = 0 := congrFun (e t) 1
  exact congrArg (moment2 m c) (by omega)

theorem point_delta (t : Fin cfg0.N) (a : Fin 1) (b : Fin 8576) :
    (out0_5 (iblk m c 0 t) (iblk m c 1 t) (iblk m c 2 t) (iblk m c 3 t) : S1x8576.Idx → EReal) (ix2 a b) = delta m c b.val :=
  (out_delta _ _ _ _ a b).trans (congr (congrArg₂ AdamSteps.delta (blockW m c t a b) (congrArg₂ AdamSteps.moment1 (blockM m c t a b) (block_grad m c t a b)))
    (congrArg₂ AdamSteps.moment2 (blockV m c t a b) (block_grad m c t a b)))

theorem final_delta : (dats m 0 c).arrAt 5 cfg0.N = (fun i : S1x8576.Idx => delta m c (i 1).val) := by
  refine (dats m 0 c).arrAt_eq_of_covers 5 _ (by decide +kernel) fun t hf y => ?_
  have e : ∀ t : Fin cfg0.N, win0_5.index t = ![t.val, 0] := (by decide +kernel : ∀ t : Fin grid0.N, _)
  obtain ⟨a, b, rfl⟩ : ∃ a b, y = ix2 a b := ⟨y 0, y 1, eq_ix2 y⟩
  blk_simp
  rw [after0_5]
  refine (point_delta m c t a b).trans ?_
  have q1 : win0_5.index t 1 = 0 := congrFun (e t) 1
  exact congrArg (delta m c) (by omega)

end Cert.Kernel23Ideal.Body
end
-- ==== Proof.Ref23.lean ====
module

public import proofs.«01_k».proof.Proof.SmallPack
public import proofs.«01_k».proof.Proof.Gen.Reference23Ideal.Read
public import Idealize.ShloMosaic.Lib.Pointwise

/-!
The reference for the AdamW step of the small weights, weight by weight.
-/

@[expose] public section
noncomputable section
namespace Cert.Reference23Ideal.Body
open Cert.Reference23Ideal Cert.Reference23Ideal.Read Cert.Reference23Ideal.Gen Idealize.ShloMosaic Idealize.ShloMosaic.TcCoe Idealize.SL.Sem Idealize.ShloMosaic.Tactic Cert.SmallPack
variable (x0 : (⟨S2048, .f32⟩ : BufTy).Contents (Elt Ideal)) (x1 : (⟨S1x2048, .f32⟩ : BufTy).Contents (Elt Ideal)) (x2 : (⟨S1x2048, .f32⟩ : BufTy).Contents (Elt Ideal)) (x3 : (⟨S2048, .f32⟩ : BufTy).Contents (Elt Ideal)) (x4 : (⟨S1x2x8, .f32⟩ : BufTy).Contents (Elt Ideal)) (x5 : (⟨S1x16, .f32⟩ : BufTy).Contents (Elt Ideal)) (x6 : (⟨S2048, .f32⟩ : BufTy).Contents (Elt Ideal)) (x7 : (⟨S1x2048, .f32⟩ : BufTy).Contents (Elt Ideal)) (x8 : (⟨S1x2048, .f32⟩ : BufTy).Contents (Elt Ideal)) (x9 : (⟨S2048, .f32⟩ : BufTy).Contents (Elt Ideal)) (x10 : (⟨S1x2x8, .f32⟩ : BufTy).Contents (Elt Ideal)) (x11 : (⟨S1x16, .f32⟩ : BufTy).Contents (Elt Ideal)) (x12 : (⟨S2048, .f32⟩ : BufTy).Contents (Elt Ideal)) (x13 : (⟨S1x2048, .f32⟩ : BufTy).Contents (Elt Ideal)) (x14 : (⟨S1x2048, .f32⟩ : BufTy).Contents (Elt Ideal)) (x15 : (⟨S2048, .f32⟩ : BufTy).Contents (Elt Ideal)) (x16 : (⟨S1x2x8, .f32⟩ : BufTy).Contents (Elt Ideal)) (x17 : (⟨S1x16, .f32⟩ : BufTy).Contents (Elt Ideal)) (x18 : (⟨S8x2048, .f32⟩ : BufTy).Contents (Elt Ideal)) (x19 : (⟨S8x2048, .f32⟩ : BufTy).Contents (Elt Ideal)) (x20 : (⟨S8x2048, .f32⟩ : BufTy).Contents (Elt Ideal)) (x21 : (⟨S8x2048, .f32⟩ : BufTy).Contents (Elt Ideal)) (x22 : (⟨S8x16, .f32⟩ : BufTy).Contents (Elt Ideal)) (x23 : (⟨S8x16, .f32⟩ : BufTy).Contents (Elt Ideal)) (x24 : (⟨S8x128, .f32⟩ : BufTy).Contents (Elt Ideal))

/-- The row of six pieces, and the sum of the devices' rows. -/
def rowOf (x0 : S2048.Idx → EReal) (x1 x2 : S1x2048.Idx → EReal) (x3 : S2048.Idx → EReal) (x4 : S1x2x8.Idx → EReal) (x5 : S1x16.Idx → EReal) : ℕ → EReal :=
  row (fun i => x0 (ix1 i)) (fun i => x1 (ix2 0 i)) (fun i => x2 (ix2 0 i)) (fun i => x3 (ix1 i))
    (fun i => x4 (ix3 0 ⟨i.val / 8, by omega⟩ ⟨i.val % 8, by omega⟩)) (fun i => x5 (ix2 0 i))

def gradOf (x0 x1 x2 x3 : S8x2048.Idx → EReal) (x4 x5 : S8x16.Idx → EReal) (x6 : S8x128.Idx → EReal) : ℕ → EReal :=
  gradRow (fun d i => x0 (ix2 d i)) (fun d i => x1 (ix2 d i)) (fun d i => x2 (ix2 d i)) (fun d i => x3 (ix2 d i)) (fun d i => x4 (ix2 d i))
    (fun d i => x5 (ix2 d i)) (fun d i => x6 (ix2 d i))

set_option maxHeartbeats 1000000 in
theorem whole_grad : val_main_v188 (F := Ideal) x18 x19 x20 x21 x22 x23 x24 = fun i => (gradOf x18 x19 x20 x21 x22 x23 x24 (i 1).val) := by
  funext i
  obtain ⟨a, b, rfl⟩ : ∃ a b, i = ix2 a b := ⟨i 0, i 1, eq_ix2 i⟩
  show _ = (gradOf x18 x19 x20 x21 x22 x23 x24 b.val)
  unfold gradOf
  rw [gradRow_eq]
  pointwise [val_main_v188]
  by_cases h0 : b.val < 2048
  · rewrite [dif_pos h0]
    simp only [pack_0 _ _ _ _ _ _ _ h0]
    simp only [at1_of_lt _ h0]
    pointwise [val_main_v180, val_main_v1, val_main_cst_0]
  rewrite [dif_neg h0]
  by_cases h1 : b.val - 2048 < 2048
  · rewrite [dif_pos h1]
    simp only [pack_1 _ _ _ _ _ _ _ h0 h1]
    simp only [at1_of_lt _ h1]
    pointwise [val_main_v27, val_main_v26, val_main_cst_10]
  rewrite [dif_neg h1]
  by_cases h2 : b.val - 2048 - 2048 < 2048
  · rewrite [dif_pos h2]
    simp only [pack_2 _ _ _ _ _ _ _ h0 h1 h2]
    simp only [at1_of_lt _ h2]
    pointwise [val_main_v53, val_main_v52, val_main_cst_20]
  rewrite [dif_neg h2]
  by_cases h3 : b.val - 2048 - 2048 - 2048 < 2048
  · rewrite [dif_pos h3]
    simp only [pack_3 _ _ _ _ _ _ _ h0 h1 h2 h3]
    simp only [at1_of_lt _ h3]
    pointwise [val_main_v181, val_main_v78, val_main_cst_30]
  rewrite [dif_neg h3]
  by_cases h4 : b.val - 2048 - 2048 - 2048 - 2048 < 128
  · rewrite [dif_pos h4]
    simp only [pack_4 _ _ _ _ _ _ _ h0 h1 h2 h3 h4]
    by_cases hp : b.val - 2048 - 2048 - 2048 - 2048 < 16
    · simp only [at1_of_lt _ hp]
      pointwise [val_main_v184]
      rewrite [dif_pos hp]
      pointwise [val_main_v184, val_main_v182, val_main_v104, val_main_v103, val_main_cst_40, val_main_v183, val_main_cst_70]
      simp only [Nat.div_add_mod']
    · simp only [at1_of_not_lt _ hp]
      pointwise [val_main_v184]
      rewrite [dif_neg hp]
      pointwise [val_main_v184, val_main_v182, val_main_v104, val_main_v103, val_main_cst_40, val_main_v183, val_main_cst_70]
  rewrite [dif_neg h4]
  by_cases h5 : b.val - 2048 - 2048 - 2048 - 2048 - 128 < 128
  · rewrite [dif_pos h5]
    simp only [pack_5 _ _ _ _ _ _ _ h0 h1 h2 h3 h4 h5]
    by_cases hp : b.val - 2048 - 2048 - 2048 - 2048 - 128 < 16
    · simp only [at1_of_lt _ hp]
      pointwise [val_main_v186]
      rewrite [dif_pos hp]
      pointwise [val_main_v186, val_main_v130, val_main_v129, val_main_cst_50, val_main_v185, val_main_cst_71]
    · simp only [at1_of_not_lt _ hp]
      pointwise [val_main_v186]
      rewrite [dif_neg hp]
      pointwise [val_main_v186, val_main_v130, val_main_v129, val_main_cst_50, val_main_v185, val_main_cst_71]
  rewrite [dif_neg h5]
  simp only [pack_6 _ _ _ _ _ _ _ h0 h1 h2 h3 h4 h5]
  simp only [at1_of_lt _ (show b.val - 2048 - 2048 - 2048 - 2048 - 128 - 128 < 128 by omega)]
  pointwise [val_main_v187, val_main_v155, val_main_cst_60]

set_option maxHeartbeats 1000000 in
theorem whole_moment1 : val_main_v206 (F := Ideal) x6 x7 x8 x9 x10 x11 x18 x19 x20 x21 x22 x23 x24 = fun i => AdamSteps.moment1 (rowOf x6 x7 x8 x9 x10 x11 (i 1).val) (gradOf x18 x19 x20 x21 x22 x23 x24 (i 1).val) := by
  funext i
  obtain ⟨a, b, rfl⟩ : ∃ a b, i = ix2 a b := ⟨i 0, i 1, eq_ix2 i⟩
  show _ = AdamSteps.moment1 (rowOf x6 x7 x8 x9 x10 x11 b.val) (gradOf x18 x19 x20 x21 x22 x23 x24 b.val)
  unfold gradOf rowOf row
  rw [gradRow_eq]
  pointwise [val_main_v206]
  by_cases h0 : b.val < 2048
  · rewrite [dif_pos h0]
    simp only [pack_0 _ _ _ _ _ _ _ h0]
    simp only [at1_of_lt _ h0]
    unfold AdamSteps.moment1
    pointwise [val_main_v198, val_main_v6, val_main_v3, val_main_v2, val_main_cst_1, val_main_v5, val_main_v4, val_main_cst_2, val_main_v1, val_main_cst_0]
  rewrite [dif_neg h0]
  by_cases h1 : b.val - 2048 < 2048
  · rewrite [dif_pos h1]
    simp only [pack_1 _ _ _ _ _ _ _ h0 h1]
    simp only [at1_of_lt _ h1]
    unfold AdamSteps.moment1
    pointwise [val_main_v32, val_main_v29, val_main_v28, val_main_cst_11, val_main_v31, val_main_v30, val_main_cst_12, val_main_v27, val_main_v26, val_main_cst_10]
  rewrite [dif_neg h1]
  by_cases h2 : b.val - 2048 - 2048 < 2048
  · rewrite [dif_pos h2]
    simp only [pack_2 _ _ _ _ _ _ _ h0 h1 h2]
    simp only [at1_of_lt _ h2]
    unfold AdamSteps.moment1
    pointwise [val_main_v58, val_main_v55, val_main_v54, val_main_cst_21, val_main_v57, val_main_v56, val_main_cst_22, val_main_v53, val_main_v52, val_main_cst_20]
  rewrite [dif_neg h2]
  by_cases h3 : b.val - 2048 - 2048 - 2048 < 2048
  · rewrite [dif_pos h3]
    simp only [pack_3 _ _ _ _ _ _ _ h0 h1 h2 h3]
    simp only [at1_of_lt _ h3]
    unfold AdamSteps.moment1
    pointwise [val_main_v199, val_main_v83, val_main_v80, val_main_v79, val_main_cst_31, val_main_v82, val_main_v81, val_main_cst_32, val_main_v78, val_main_cst_30]
  rewrite [dif_neg h3]
  by_cases h4 : b.val - 2048 - 2048 - 2048 - 2048 < 128
  · rewrite [dif_pos h4]
    simp only [pack_4 _ _ _ _ _ _ _ h0 h1 h2 h3 h4]
    by_cases hp : b.val - 2048 - 2048 - 2048 - 2048 < 16
    · simp only [at1_of_lt _ hp]
      unfold AdamSteps.moment1
      pointwise [val_main_v202]
      rewrite [dif_pos hp]
      pointwise [val_main_v202, val_main_v200, val_main_v109, val_main_v106, val_main_v105, val_main_cst_41, val_main_v108, val_main_v107, val_main_cst_42, val_main_v104, val_main_v103, val_main_cst_40, val_main_v201, val_main_cst_74]
      simp only [Nat.div_add_mod']
    · simp only [at1_of_not_lt _ hp, moment1_zero]
      pointwise [val_main_v202]
      rewrite [dif_neg hp]
      pointwise [val_main_v202, val_main_v200, val_main_v109, val_main_v106, val_main_v105, val_main_cst_41, val_main_v108, val_main_v107, val_main_cst_42, val_main_v104, val_main_v103, val_main_cst_40, val_main_v201, val_main_cst_74]
  rewrite [dif_neg h4]
  by_cases h5 : b.val - 2048 - 2048 - 2048 - 2048 - 128 < 128
  · rewrite [dif_pos h5]
    simp only [pack_5 _ _ _ _ _ _ _ h0 h1 h2 h3 h4 h5]
    by_cases hp : b.val - 2048 - 2048 - 2048 - 2048 - 128 < 16
    · simp only [at1_of_lt _ hp]
      unfold AdamSteps.moment1
      pointwise [val_main_v204]
      rewrite [dif_pos hp]
      pointwise [val_main_v204, val_main_v135, val_main_v132, val_main_v131, val_main_cst_51, val_main_v134, val_main_v133, val_main_cst_52, val_main_v130, val_main_v129, val_main_cst_50, val_main_v203, val_main_cst_75]
    · simp only [at1_of_not_lt _ hp, moment1_zero]
      pointwise [val_main_v204]
      rewrite [dif_neg hp]
      pointwise [val_main_v204, val_main_v135, val_main_v132, val_main_v131, val_main_cst_51, val_main_v134, val_main_v133, val_main_cst_52, val_main_v130, val_main_v129, val_main_cst_50, val_main_v203, val_main_cst_75]
  rewrite [dif_neg h5]
  simp only [pack_6 _ _ _ _ _ _ _ h0 h1 h2 h3 h4 h5]
  simp only [at1_of_lt _ (show b.val - 2048 - 2048 - 2048 - 2048 - 128 - 128 < 128 by omega)]
  unfold AdamSteps.moment1
  pointwise [val_main_v205, val_main_v160, val_main_v157, val_main_v156, val_main_cst_61, val_main_v0, val_main_cst, val_main_v159, val_main_v158, val_main_cst_62, val_main_v155, val_main_cst_60]

set_option maxHeartbeats 1000000 in
theorem whole_moment2 : val_main_v215 (F := Ideal) x12 x13 x14 x15 x16 x17 x18 x19 x20 x21 x22 x23 x24 = fun i => AdamSteps.moment2 (rowOf x12 x13 x14 x15 x16 x17 (i 1).val) (gradOf x18 x19 x20 x21 x22 x23 x24 (i 1).val) := by
  funext i
  obtain ⟨a, b, rfl⟩ : ∃ a b, i = ix2 a b := ⟨i 0, i 1, eq_ix2 i⟩
  show _ = AdamSteps.moment2 (rowOf x12 x13 x14 x15 x16 x17 b.val) (gradOf x18 x19 x20 x21 x22 x23 x24 b.val)
  unfold gradOf rowOf row
  rw [gradRow_eq]
  pointwise [val_main_v215]
  by_cases h0 : b.val < 2048
  · rewrite [dif_pos h0]
    simp only [pack_0 _ _ _ _ _ _ _ h0]
    simp only [at1_of_lt _ h0]
    unfold AdamSteps.moment2
    pointwise [val_main_v207, val_main_v12, val_main_v8, val_main_v7, val_main_cst_3, val_main_v11, val_main_v10, val_main_cst_4, val_main_v9, val_main_v1, val_main_cst_0]
  rewrite [dif_neg h0]
  by_cases h1 : b.val - 2048 < 2048
  · rewrite [dif_pos h1]
    simp only [pack_1 _ _ _ _ _ _ _ h0 h1]
    simp only [at1_of_lt _ h1]
    unfold AdamSteps.moment2
    pointwise [val_main_v38, val_main_v34, val_main_v33, val_main_cst_13, val_main_v37, val_main_v36, val_main_cst_14, val_main_v35, val_main_v27, val_main_v26, val_main_cst_10]
  rewrite [dif_neg h1]
  by_cases h2 : b.val - 2048 - 2048 < 2048
  · rewrite [dif_pos h2]
    simp only [pack_2 _ _ _ _ _ _ _ h0 h1 h2]
    simp only [at1_of_lt _ h2]
    unfold AdamSteps.moment2
    pointwise [val_main_v64, val_main_v60, val_main_v59, val_main_cst_23, val_main_v63, val_main_v62, val_main_cst_24, val_main_v61, val_main_v53, val_main_v52, val_main_cst_20]
  rewrite [dif_neg h2]
  by_cases h3 : b.val - 2048 - 2048 - 2048 < 2048
  · rewrite [dif_pos h3]
    simp only [pack_3 _ _ _ _ _ _ _ h0 h1 h2 h3]
    simp only [at1_of_lt _ h3]
    unfold AdamSteps.moment2
    pointwise [val_main_v208, val_main_v89, val_main_v85, val_main_v84, val_main_cst_33, val_main_v88, val_main_v87, val_main_cst_34, val_main_v86, val_main_v78, val_main_cst_30]
  rewrite [dif_neg h3]
  by_cases h4 : b.val - 2048 - 2048 - 2048 - 2048 < 128
  · rewrite [dif_pos h4]
    simp only [pack_4 _ _ _ _ _ _ _ h0 h1 h2 h3 h4]
    by_cases hp : b.val - 2048 - 2048 - 2048 - 2048 < 16
    · simp only [at1_of_lt _ hp]
      unfold AdamSteps.moment2
      pointwise [val_main_v211]
      rewrite [dif_pos hp]
      pointwise [val_main_v211, val_main_v209, val_main_v115, val_main_v111, val_main_v110, val_main_cst_43, val_main_v114, val_main_v113, val_main_cst_44, val_main_v112, val_main_v104, val_main_v103, val_main_cst_40, val_main_v210, val_main_cst_76]
      simp only [Nat.div_add_mod']
    · simp only [at1_of_not_lt _ hp, moment2_zero]
      pointwise [val_main_v211]
      rewrite [dif_neg hp]
      pointwise [val_main_v211, val_main_v209, val_main_v115, val_main_v111, val_main_v110, val_main_cst_43, val_main_v114, val_main_v113, val_main_cst_44, val_main_v112, val_main_v104, val_main_v103, val_main_cst_40, val_main_v210, val_main_cst_76]
  rewrite [dif_neg h4]
  by_cases h5 : b.val - 2048 - 2048 - 2048 - 2048 - 128 < 128
  · rewrite [dif_pos h5]
    simp only [pack_5 _ _ _ _ _ _ _ h0 h1 h2 h3 h4 h5]
    by_cases hp : b.val - 2048 - 2048 - 2048 - 2048 - 128 < 16
    · simp only [at1_of_lt _ hp]
      unfold AdamSteps.moment2
      pointwise [val_main_v213]
      rewrite [dif_pos hp]
      pointwise [val_main_v213, val_main_v141, val_main_v137, val_main_v136, val_main_cst_53, val_main_v140, val_main_v139, val_main_cst_54, val_main_v138, val_main_v130, val_main_v129, val_main_cst_50, val_main_v212, val_main_cst_77]
    · simp only [at1_of_not_lt _ hp, moment2_zero]
      pointwise [val_main_v213]
      rewrite [dif_neg hp]
      pointwise [val_main_v213, val_main_v141, val_main_v137, val_main_v136, val_main_cst_53, val_main_v140, val_main_v139, val_main_cst_54, val_main_v138, val_main_v130, val_main_v129, val_main_cst_50, val_main_v212, val_main_cst_77]
  rewrite [dif_neg h5]
  simp only [pack_6 _ _ _ _ _ _ _ h0 h1 h2 h3 h4 h5]
  simp only [at1_of_lt _ (show b.val - 2048 - 2048 - 2048 - 2048 - 128 - 128 < 128 by omega)]
  unfold AdamSteps.moment2
  pointwise [val_main_v214, val_main_v166, val_main_v162, val_main_v161, val_main_cst_63, val_main_v0, val_main_cst, val_main_v165, val_main_v164, val_main_cst_64, val_main_v163, val_main_v155, val_main_cst_60]

set_option maxHeartbeats 1000000 in
theorem whole_delta : val_main_v197 (F := Ideal) x0 x1 x2 x3 x4 x5 x6 x7 x8 x9 x10 x11 x12 x13 x14 x15 x16 x17 x18 x19 x20 x21 x22 x23 x24 = fun i => AdamSteps.delta (rowOf x0 x1 x2 x3 x4 x5 (i 1).val) (AdamSteps.moment1 (rowOf x6 x7 x8 x9 x10 x11 (i 1).val) (gradOf x18 x19 x20 x21 x22 x23 x24 (i 1).val)) (AdamSteps.moment2 (rowOf x12 x13 x14 x15 x16 x17 (i 1).val) (gradOf x18 x19 x20 x21 x22 x23 x24 (i 1).val)) := by
  funext i
  obtain ⟨a, b, rfl⟩ : ∃ a b, i = ix2 a b := ⟨i 0, i 1, eq_ix2 i⟩
  show _ = AdamSteps.delta (rowOf x0 x1 x2 x3 x4 x5 b.val) (AdamSteps.moment1 (rowOf x6 x7 x8 x9 x10 x11 b.val) (gradOf x18 x19 x20 x21 x22 x23 x24 b.val)) (AdamSteps.moment2 (rowOf x12 x13 x14 x15 x16 x17 b.val) (gradOf x18 x19 x20 x21 x22 x23 x24 b.val))
  unfold gradOf rowOf row
  rw [gradRow_eq]
  pointwise [val_main_v197]
  by_cases h0 : b.val < 2048
  · rewrite [dif_pos h0]
    simp only [pack_0 _ _ _ _ _ _ _ h0]
    simp only [at1_of_lt _ h0]
    unfold AdamSteps.delta AdamSteps.moment1 AdamSteps.moment2
    pointwise [val_main_v189, val_main_v25, val_main_v24, val_main_cst_9, val_main_v23, val_main_v20, val_main_v14, val_main_v6, val_main_v3, val_main_v2, val_main_cst_1, val_main_v5, val_main_v4, val_main_cst_2, val_main_v1, val_main_cst_0, val_main_v13, val_main_cst_5, val_main_v19, val_main_v17, val_main_v16, val_main_v12, val_main_v8, val_main_v7, val_main_cst_3, val_main_v11, val_main_v10, val_main_cst_4, val_main_v9, val_main_v15, val_main_cst_6, val_main_v18, val_main_cst_7, val_main_v22, val_main_v21, val_main_cst_8]
  rewrite [dif_neg h0]
  by_cases h1 : b.val - 2048 < 2048
  · rewrite [dif_pos h1]
    simp only [pack_1 _ _ _ _ _ _ _ h0 h1]
    simp only [at1_of_lt _ h1]
    unfold AdamSteps.delta AdamSteps.moment1 AdamSteps.moment2
    pointwise [val_main_v51, val_main_v50, val_main_cst_19, val_main_v49, val_main_v46, val_main_v40, val_main_v32, val_main_v29, val_main_v28, val_main_cst_11, val_main_v31, val_main_v30, val_main_cst_12, val_main_v27, val_main_v26, val_main_cst_10, val_main_v39, val_main_cst_15, val_main_v45, val_main_v43, val_main_v42, val_main_v38, val_main_v34, val_main_v33, val_main_cst_13, val_main_v37, val_main_v36, val_main_cst_14, val_main_v35, val_main_v41, val_main_cst_16, val_main_v44, val_main_cst_17, val_main_v48, val_main_v47, val_main_cst_18]
  rewrite [dif_neg h1]
  by_cases h2 : b.val - 2048 - 2048 < 2048
  · rewrite [dif_pos h2]
    simp only [pack_2 _ _ _ _ _ _ _ h0 h1 h2]
    simp only [at1_of_lt _ h2]
    unfold AdamSteps.delta AdamSteps.moment1 AdamSteps.moment2
    pointwise [val_main_v77, val_main_v76, val_main_cst_29, val_main_v75, val_main_v72, val_main_v66, val_main_v58, val_main_v55, val_main_v54, val_main_cst_21, val_main_v57, val_main_v56, val_main_cst_22, val_main_v53, val_main_v52, val_main_cst_20, val_main_v65, val_main_cst_25, val_main_v71, val_main_v69, val_main_v68, val_main_v64, val_main_v60, val_main_v59, val_main_cst_23, val_main_v63, val_main_v62, val_main_cst_24, val_main_v61, val_main_v67, val_main_cst_26, val_main_v70, val_main_cst_27, val_main_v74, val_main_v73, val_main_cst_28]
  rewrite [dif_neg h2]
  by_cases h3 : b.val - 2048 - 2048 - 2048 < 2048
  · rewrite [dif_pos h3]
    simp only [pack_3 _ _ _ _ _ _ _ h0 h1 h2 h3]
    simp only [at1_of_lt _ h3]
    unfold AdamSteps.delta AdamSteps.moment1 AdamSteps.moment2
    pointwise [val_main_v190, val_main_v102, val_main_v101, val_main_cst_39, val_main_v100, val_main_v97, val_main_v91, val_main_v83, val_main_v80, val_main_v79, val_main_cst_31, val_main_v82, val_main_v81, val_main_cst_32, val_main_v78, val_main_cst_30, val_main_v90, val_main_cst_35, val_main_v96, val_main_v94, val_main_v93, val_main_v89, val_main_v85, val_main_v84, val_main_cst_33, val_main_v88, val_main_v87, val_main_cst_34, val_main_v86, val_main_v92, val_main_cst_36, val_main_v95, val_main_cst_37, val_main_v99, val_main_v98, val_main_cst_38]
  rewrite [dif_neg h3]
  by_cases h4 : b.val - 2048 - 2048 - 2048 - 2048 < 128
  · rewrite [dif_pos h4]
    simp only [pack_4 _ _ _ _ _ _ _ h0 h1 h2 h3 h4]
    by_cases hp : b.val - 2048 - 2048 - 2048 - 2048 < 16
    · simp only [at1_of_lt _ hp]
      unfold AdamSteps.delta AdamSteps.moment1 AdamSteps.moment2
      pointwise [val_main_v193]
      rewrite [dif_pos hp]
      pointwise [val_main_v193, val_main_v191, val_main_v128, val_main_v127, val_main_cst_49, val_main_v126, val_main_v123, val_main_v117, val_main_v109, val_main_v106, val_main_v105, val_main_cst_41, val_main_v108, val_main_v107, val_main_cst_42, val_main_v104, val_main_v103, val_main_cst_40, val_main_v116, val_main_cst_45, val_main_v122, val_main_v120, val_main_v119, val_main_v115, val_main_v111, val_main_v110, val_main_cst_43, val_main_v114, val_main_v113, val_main_cst_44, val_main_v112, val_main_v118, val_main_cst_46, val_main_v121, val_main_cst_47, val_main_v125, val_main_v124, val_main_cst_48, val_main_v192, val_main_cst_72]
      simp only [Nat.div_add_mod']
    · simp only [at1_of_not_lt _ hp, moment1_zero, moment2_zero, delta_zero]
      pointwise [val_main_v193]
      rewrite [dif_neg hp]
      pointwise [val_main_v193, val_main_v191, val_main_v128, val_main_v127, val_main_cst_49, val_main_v126, val_main_v123, val_main_v117, val_main_v109, val_main_v106, val_main_v105, val_main_cst_41, val_main_v108, val_main_v107, val_main_cst_42, val_main_v104, val_main_v103, val_main_cst_40, val_main_v116, val_main_cst_45, val_main_v122, val_main_v120, val_main_v119, val_main_v115, val_main_v111, val_main_v110, val_main_cst_43, val_main_v114, val_main_v113, val_main_cst_44, val_main_v112, val_main_v118, val_main_cst_46, val_main_v121, val_main_cst_47, val_main_v125, val_main_v124, val_main_cst_48, val_main_v192, val_main_cst_72]
  rewrite [dif_neg h4]
  by_cases h5 : b.val - 2048 - 2048 - 2048 - 2048 - 128 < 128
  · rewrite [dif_pos h5]
    simp only [pack_5 _ _ _ _ _ _ _ h0 h1 h2 h3 h4 h5]
    by_cases hp : b.val - 2048 - 2048 - 2048 - 2048 - 128 < 16
    · simp only [at1_of_lt _ hp]
      unfold AdamSteps.delta AdamSteps.moment1 AdamSteps.moment2
      pointwise [val_main_v195]
      rewrite [dif_pos hp]
      pointwise [val_main_v195, val_main_v154, val_main_v153, val_main_cst_59, val_main_v152, val_main_v149, val_main_v143, val_main_v135, val_main_v132, val_main_v131, val_main_cst_51, val_main_v134, val_main_v133, val_main_cst_52, val_main_v130, val_main_v129, val_main_cst_50, val_main_v142, val_main_cst_55, val_main_v148, val_main_v146, val_main_v145, val_main_v141, val_main_v137, val_main_v136, val_main_cst_53, val_main_v140, val_main_v139, val_main_cst_54, val_main_v138, val_main_v144, val_main_cst_56, val_main_v147, val_main_cst_57, val_main_v151, val_main_v150, val_main_cst_58, val_main_v194, val_main_cst_73]
    · simp only [at1_of_not_lt _ hp, moment1_zero, moment2_zero, delta_zero]
      pointwise [val_main_v195]
      rewrite [dif_neg hp]
      pointwise [val_main_v195, val_main_v154, val_main_v153, val_main_cst_59, val_main_v152, val_main_v149, val_main_v143, val_main_v135, val_main_v132, val_main_v131, val_main_cst_51, val_main_v134, val_main_v133, val_main_cst_52, val_main_v130, val_main_v129, val_main_cst_50, val_main_v142, val_main_cst_55, val_main_v148, val_main_v146, val_main_v145, val_main_v141, val_main_v137, val_main_v136, val_main_cst_53, val_main_v140, val_main_v139, val_main_cst_54, val_main_v138, val_main_v144, val_main_cst_56, val_main_v147, val_main_cst_57, val_main_v151, val_main_v150, val_main_cst_58, val_main_v194, val_main_cst_73]
  rewrite [dif_neg h5]
  simp only [pack_6 _ _ _ _ _ _ _ h0 h1 h2 h3 h4 h5]
  simp only [at1_of_lt _ (show b.val - 2048 - 2048 - 2048 - 2048 - 128 - 128 < 128 by omega)]
  unfold AdamSteps.delta AdamSteps.moment1 AdamSteps.moment2
  pointwise [val_main_v196, val_main_v179, val_main_v178, val_main_cst_69, val_main_v177, val_main_v174, val_main_v168, val_main_v160, val_main_v157, val_main_v156, val_main_cst_61, val_main_v0, val_main_cst, val_main_v159, val_main_v158, val_main_cst_62, val_main_v155, val_main_cst_60, val_main_v167, val_main_cst_65, val_main_v173, val_main_v171, val_main_v170, val_main_v166, val_main_v162, val_main_v161, val_main_cst_63, val_main_v165, val_main_v164, val_main_cst_64, val_main_v163, val_main_v169, val_main_cst_66, val_main_v172, val_main_cst_67, val_main_v176, val_main_v175, val_main_cst_68]

end Cert.Reference23Ideal.Body
end
-- ==== Proof.NormGrad.lean ====
module

public import Idealize.ShloMosaic.PureOps.Ideal.Laws
public import proofs.«01_k».proof.Proof.BlockSums

/-!
The gradient of a normalised row over the extended reals.

The kernel writes it around the normalised row; the derivative of the formula of the norm has the row itself, the cube of
its scale as a quotient, and the two halves of the square's derivative. Of finite entries the two are one number.
-/

@[expose] public section
noncomputable section
namespace NormGrad
open Idealize.ShloMosaic Finset

/-- A number that is no infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem real_one : IsReal 1 := ⟨1, rfl⟩

theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem IsReal.sum {ι : Type*} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- A sum of finite terms times a finite factor. -/
theorem sum_mul_real {ι : Type*} (s : Finset ι) (f : ι → EReal) (w : EReal) (h : ∀ i, IsReal (f i)) (hw : IsReal w) :
    (∑ i ∈ s, f i) * w = ∑ i ∈ s, f i * w := by
  choose g hg using h
  obtain ⟨r, rfl⟩ := hw
  simp only [hg]
  simp only [← EReal.coe_mul, sum_coe, Finset.sum_mul]

/-- Sums by tiles, each scaled, against the sum of the scaled terms. -/
theorem tiles (f : ℕ → EReal) (w : EReal) (h : ∀ i, IsReal (f i)) (hw : IsReal w) (J B n : ℕ) (e : J * B = n) :
    ∑ k ∈ range J, (∑ x : Fin B, f (B * k + x.val)) * w = ∑ i : Fin n, f i.val * w := by
  rw [← Blocks.sum_fin (fun i => f i * w) B J n e]
  exact Finset.sum_congr rfl fun k _ => sum_mul_real _ _ w (fun _ => h _) hw

/-- The constants the programs name: the row's length, the norm's small addend and the exponent of the scale. -/
abbrev len : EReal := Ideal.ofBits .f32 0x45000000#32
abbrev eps : EReal := Ideal.ofBits .f32 0x358637BD#32
abbrev half : EReal := Ideal.ofBits .f32 0xBF000000#32

theorem len_eq : len = ((2048 : ℝ) : EReal) := by
  simp [len, Ideal.ofBits, Ideal.ieee]
  rw [← EReal.coe_mul]
  norm_num

theorem half_eq : half = ((-1 / 2 : ℝ) : EReal) := by
  simp [half, Ideal.ofBits, Ideal.ieee]
  rw [← EReal.coe_mul, ← EReal.coe_neg]
  norm_num

theorem eps_eq : ∃ e : ℝ, 0 < e ∧ eps = (e : EReal) := by
  refine ⟨8796093 * 2 ^ (-43 : ℤ), by positivity, ?_⟩
  simp [eps, Ideal.ofBits, Ideal.ieee]
  try norm_num

theorem div_coe (a b : ℝ) (h : b ≠ 0) : Ideal.div (a : EReal) (b : EReal) = ((a / b : ℝ) : EReal) := by
  rw [Ideal.div, if_neg (by exact_mod_cast h), ← EReal.coe_inv, ← EReal.coe_mul, div_eq_mul_inv]

/-- A row's mean square with the small addend, and its scale. -/
def square (x : Fin 2048 → EReal) : EReal := Ideal.div (∑ k, x k * x k) len + eps
def scale (x : Fin 2048 → EReal) : EReal := Ideal.rsqrt (square x)

theorem scale_real (x : Fin 2048 → EReal) (hx : ∀ k, IsReal (x k)) : ∃ v r : ℝ, 0 < v ∧ r * r * v = 1 ∧ square x = (v : EReal) ∧ scale x = (r : EReal) := by
  choose a ha using hx
  obtain ⟨e, he, ee⟩ := eps_eq
  have hv : 0 < (∑ k, a k * a k) / 2048 + e := by
    have : 0 ≤ ∑ k, a k * a k := Finset.sum_nonneg fun k _ => mul_self_nonneg _
    positivity
  have hs : square x = (((∑ k, a k * a k) / 2048 + e : ℝ) : EReal) := by
    unfold square
    simp only [ha, ← EReal.coe_mul, sum_coe]
    rw [len_eq, ee, div_coe _ _ (by norm_num), ← EReal.coe_add]
  refine ⟨_, (Real.sqrt ((∑ k, a k * a k) / 2048 + e))⁻¹, hv, ?_, hs, ?_⟩
  · rw [← mul_inv, Real.mul_self_sqrt hv.le, inv_mul_cancel₀ hv.ne']
  · rw [scale, hs, Ideal.rsqrt_coe, if_neg (not_lt.mpr hv.le), if_neg hv.ne']

theorem IsReal.scale {x : Fin 2048 → EReal} (hx : ∀ k, IsReal (x k)) : IsReal (scale x) := by
  obtain ⟨v, r, _, _, _, h⟩ := scale_real x hx
  exact ⟨r, h⟩

/-- The gradient of a row as the kernel has it: `d` the incoming gradient, `w` what scales the normalised row. -/
def grad (x d w : Fin 2048 → EReal) (j : Fin 2048) : EReal :=
  scale x * (d j * w j - x j * scale x * Ideal.div (∑ k, d k * w k * (x k * scale x)) len)

/-- What the derivative hands the square of an entry. -/
def inner (x u : Fin 2048 → EReal) : EReal := Ideal.div ((∑ k, x k * u k) * (half * Ideal.div (scale x) (square x))) len

/-- The same gradient, as the derivative of the norm's formula has it: `u` what the normalised row receives. -/
theorem grad_eq (x d w u : Fin 2048 → EReal) (hx : ∀ k, IsReal (x k)) (hd : ∀ k, IsReal (d k)) (hw : ∀ k, IsReal (w k))
    (hu : ∀ k, u k = d k * w k) (j : Fin 2048) : u j * scale x + x j * inner x u + inner x u * x j = grad x d w j := by
  obtain ⟨v, r, hv, hr, es, er⟩ := scale_real x hx
  choose a ha using hx
  choose b hb using hd
  choose c hc using hw
  have h2 : (2048 : ℝ) ≠ 0 := by norm_num
  unfold inner grad
  simp only [hu, es, er, ha, hb, hc, half_eq, len_eq, ← EReal.coe_mul, sum_coe, div_coe _ _ hv.ne', div_coe _ _ h2, ← EReal.coe_add, ← EReal.coe_sub]
  refine congrArg _ ?_
  have e1 : ∑ k, b k * c k * (a k * r) = r * ∑ k, a k * (b k * c k) := by
    rw [Finset.mul_sum]
    exact Finset.sum_congr rfl fun k _ => by ring
  rw [e1]
  generalize ∑ k, a k * (b k * c k) = s
  have e2 : r / v = r * r * r := by
    rw [div_eq_iff hv.ne']
    linear_combination (-r) * hr
  rw [e2]
  ring
/-! The gradient of a modulated norm, over all rows: of the rows, and of the norm's weight `g` and the modulation by tiles of 512 rows. -/

section
variable (X D : Fin 8192 → Fin 2048 → EReal) (g s : Fin 2048 → EReal)

def row (i : ℕ) : Fin 2048 → EReal := fun k => Blocks.at2 X i k.val
def weight : Fin 2048 → EReal := fun k => g k * (1 + s k)
def rowGrad (i : ℕ) (j : Fin 2048) : EReal := grad (row X i) (row D i) (weight g s) j

/-- The incoming gradient times the normalised row. -/
def dn (j : Fin 2048) (i : ℕ) : EReal := row D i j * (row X i j * scale (row X i))

/-- What a tile adds to row `r` of the sums: the shift's, the scale's and the norm's weight's gradient. -/
def addend (r : ℕ) (j : Fin 2048) (t : ℕ) : EReal :=
  if r = 0 then ∑ x : Fin 512, row D (512 * t + x.val) j
  else if r = 1 then (∑ x : Fin 512, dn X D j (512 * t + x.val)) * g j
  else if r = 2 then (∑ x : Fin 512, dn X D j (512 * t + x.val)) * (1 + s j)
  else 0

/-- The same sums over all rows at once. -/
def total (r : ℕ) (j : Fin 2048) : EReal :=
  if r = 0 then ∑ i : Fin 8192, row D i.val j
  else if r = 1 then ∑ i : Fin 8192, dn X D j i.val * g j
  else if r = 2 then ∑ i : Fin 8192, dn X D j i.val * (1 + s j)
  else 0

theorem row_fin (i : Fin 8192) (k : Fin 2048) : row X i.val k = X i k := Blocks.at2_fin X i k

theorem row_real (h : ∀ i k, IsReal (X i k)) (i : ℕ) (k : Fin 2048) : IsReal (row X i k) := by
  unfold row Blocks.at2
  split_ifs
  · exact h _ _
  · exact ⟨0, rfl⟩

theorem swap1 (p q u t : EReal) : p * q * u * t = t * (p * q) * u := by ac_rfl
theorem swap2 (p q t u : EReal) : p * q * (t * u) = t * (p * q) * u := by ac_rfl

theorem total_eq (hX : ∀ i k, IsReal (X i k)) (hD : ∀ i k, IsReal (D i k)) (hg : ∀ k, IsReal (g k)) (hs : ∀ k, IsReal (s k)) (r : ℕ) (j : Fin 2048) :
    ∑ t ∈ range 16, addend X D g s r j t = total X D g s r j := by
  have hn : ∀ i, IsReal (dn X D j i) := fun i => (row_real D hD i j).mul ((row_real X hX i j).mul (IsReal.scale (row_real X hX i)))
  unfold addend total
  split_ifs
  · exact Blocks.sum_fin (fun i => row D i j) 512 16 8192 rfl
  · exact tiles (dn X D j) (g j) hn (hg j) 16 512 8192 rfl
  · exact tiles (dn X D j) (1 + s j) hn (real_one.add (hs j)) 16 512 8192 rfl
  · simp
end
end NormGrad
end
-- ==== Proof.RowSums.lean ====
module

public import proofs.«01_k».proof.Proof.NormGrad
public import Idealize.ShloMosaic.Lib.Pointwise
public import Idealize.ShloMosaic.Lib.WritesUnit
public import Idealize.ShloMosaic.Lib.Pipeline.ValueKit

/-!
Sums kept in the rows of one block: what a row holds after stores of single rows.
-/

@[expose] public section
noncomputable section
namespace Cert.RowSums
open Idealize.ShloMosaic Idealize.ShloMosaic.TcCoe Idealize.SL.Sem Idealize.ShloMosaic.Tactic

abbrev Sums (n : ℕ) : Shape := ⟨2, ![n, 2048]⟩
abbrev Row : Shape := ⟨2, ![1, 2048]⟩

/-! A row stored into the sums. -/

theorem row_idx (n : ℕ) (o : ℕ) (ho : o < n) (inb) (b : Fin 2048) : (Rect.unit (s := Sums n) ![o, 0] ![1, 2048] inb).idx (ix2 (0 : Fin 1) b) = (ix2 (⟨o, ho⟩ : Fin n) b : (Sums n).Idx) := by
  funext q
  refine Fin.ext ((Rect.idx_unit_val _ _ _ _ q).trans ?_)
  fin_cases q
  · rfl
  · exact Nat.zero_add _

theorem row_not_mem (n : ℕ) (o : ℕ) (inb) (a : Fin n) (b : Fin 2048) (h : a.val ≠ o) : (ix2 a b : (Sums n).Idx) ∉ (Rect.unit (s := Sums n) ![o, 0] ![1, 2048] inb).set := by
  intro hy
  obtain ⟨x, hx⟩ := (Rect.unit (s := Sums n) ![o, 0] ![1, 2048] inb).exists_idx_of_mem hy
  have q : (![o, 0] : Fin 2 → ℕ) 0 + (x 0).val = a.val := (Rect.idx_unit_val (s := Sums n) ![o, 0] ![1, 2048] inb x 0).symm.trans (congrArg Fin.val (congrFun hx 0))
  have r : (x 0).val < 1 := (x 0).isLt
  have : o + (x 0).val = a.val := q
  omega

theorem canon_row (n : ℕ) (o : ℕ) (ho : o < n) (inb) (w : Row.Idx → EReal) (L : List (View.Piece (Elt Ideal) (Sums n) .f32)) (a : Fin n) (b : Fin 2048) :
    View.canon (Val := Elt Ideal) (s := Sums n) (e := .f32) (⟨Rect.unit (s := Sums n) ![o, 0] ![1, 2048] inb, w⟩ :: L) (ix2 a b)
      = if a.val = o then w (ix2 0 b) else View.canon L (ix2 a b) := by
  by_cases h : a.val = o
  · rw [if_pos h]
    have e : (ix2 a b : (Sums n).Idx) = (Rect.unit (s := Sums n) ![o, 0] ![1, 2048] inb).emb (ix2 (0 : Fin 1) b) := by
      rw [show a = ⟨o, ho⟩ from Fin.ext h]; exact (row_idx n o ho inb b).symm
    rw [e]
    exact View.canon_cons_emb _ _ _ _
  · rw [if_neg h]
    exact View.canon_cons_of_not_mem _ _ (row_not_mem n o inb a b h)

theorem load_row (n : ℕ) {sig : _} {κ : _} {sp : _} (v : View sig κ sp (Sums n) .f32) (L : List (View.Piece (Elt Ideal) (Sums n) .f32)) (o : ℕ) (ho : o < n) (inb) (b : Fin 2048) :
    (v.readCov L (Rect.unit (s := Sums n) ![o, 0] ![1, 2048] inb).toLoadRect : Row.Idx → EReal) (ix2 0 b) = View.canon L (ix2 (⟨o, ho⟩ : Fin n) b) := by
  rw [View.readCov_eq_canon']
  exact congrArg (View.canon L) (row_idx n o ho inb b)

theorem read_row (n : ℕ) {sig : _} {κ : _} {sp : _} (v : View sig κ sp (Sums n) .f32) (f : v.ty.Contents (Elt Ideal)) (o : ℕ) (ho : o < n) (inb) (w : Row.Idx → EReal) (L : List (View.Piece (Elt Ideal) (Sums n) .f32)) (a : Fin n) (b : Fin 2048) :
    v.read (Elt Ideal) (v.writes (Elt Ideal) f (⟨Rect.unit (s := Sums n) ![o, 0] ![1, 2048] inb, w⟩ :: L)) (ix2 a b)
      = if a.val = o then w (ix2 0 b) else v.read (Elt Ideal) (v.writes (Elt Ideal) f L) (ix2 a b) := by
  by_cases h : a.val = o
  · rw [if_pos h]
    exact View.read_writes_cons_rows_of_mem v f inb w L (ix2 a b) (ix2 (0 : Fin 1) b) rfl h rfl
  · rw [if_neg h]
    exact View.read_writes_cons_rows_of_not_mem v f inb w L (ix2 a b) rfl rfl (by change a.val < o ∨ o + 1 ≤ a.val; omega)

theorem canon_all (n : ℕ) (inb) (w : Vec Ideal (Sums n) .f32) (y : (Sums n).Idx) :
    View.canon (Val := Elt Ideal) (s := Sums n) (e := .f32) [⟨Rect.unit (s := Sums n) ![0, 0] ![n, 2048] inb, w⟩] y = w y :=
  congrFun (View.canon_unit_zero (Val := Elt Ideal) (S := Sums n) (e := .f32) (by funext q; fin_cases q <;> rfl) inb w) y

/-- A loaded row. -/
theorem ld_row (n : ℕ) (P : (Sums n).Idx → EReal) (o : ℕ) (ho : o < n) (inb) (b : Fin 2048) :
    (View.ld (Val := Elt Ideal) (e' := .f32) P (Rect.unit (s := Sums n) ![o, 0] ![1, 2048] inb) : Row.Idx → EReal) (ix2 0 b) = P (ix2 (⟨o, ho⟩ : Fin n) b) :=
  congrArg P (row_idx n o ho inb b)
end Cert.RowSums
end
-- ==== Proof.ModMix.lean ====
module

public import proofs.«01_k».proof.Proof.NormGrad
public import proofs.«01_k».proof.Proof.RowSums
public import proofs.«01_k».proof.Proof.Gen.Kernel24Ideal.Value
public import Idealize.ShloMosaic.Lib.Pointwise
public import Idealize.ShloMosaic.Lib.Pipeline.ValueKit

/-!
The gradient of the first modulated norm: a block of rows at each grid point, and the sums over rows point by point.
-/

@[expose] public section
noncomputable section
namespace Cert.Kernel24Ideal.Body
open Cert.Kernel24Ideal Cert.Kernel24Ideal.Gen Idealize.ShloMosaic Idealize.ShloMosaic.TcCoe Idealize.SL.Sem Idealize.ShloMosaic.Tactic RowSums
variable (m : (ℓ : Loc nD τ sig) → Buf (Elt Ideal) ℓ) (c : Dev nD)

/-- The rows, the incoming gradient, the norm's weight, the modulation and the residual's gradient. -/
abbrev argX : S8192x2048.Idx → EReal := m ((c : Thread nD τ).loc main_arg0)
abbrev argD : S8192x2048.Idx → EReal := m ((c : Thread nD τ).loc main_arg1)
abbrev argG : S1x2048.Idx → EReal := m ((c : Thread nD τ).loc main_arg2)
abbrev argM : S8x2048.Idx → EReal := m ((c : Thread nD τ).loc main_arg3)
abbrev argR : S8192x2048.Idx → EReal := m ((c : Thread nD τ).loc main_arg4)
abbrev X : Fin 8192 → Fin 2048 → EReal := fun i k => argX m c (ix2 i k)
abbrev D : Fin 8192 → Fin 2048 → EReal := fun i k => argD m c (ix2 i k)
abbrev g : Fin 2048 → EReal := fun k => argG m c (ix2 0 k)
abbrev s : Fin 2048 → EReal := fun k => argM m c (ix2 1 k)
abbrev R : Fin 8192 → Fin 2048 → EReal := fun i k => argR m c (ix2 i k)
abbrev blkX (t : Fin cfg0.N) : S512x2048.Idx → EReal := iblk m c 0 t
abbrev blkD (t : Fin cfg0.N) : S512x2048.Idx → EReal := iblk m c 1 t
abbrev blkG (t : Fin cfg0.N) : S1x2048.Idx → EReal := iblk m c 2 t
abbrev blkM (t : Fin cfg0.N) : S8x2048.Idx → EReal := iblk m c 3 t
abbrev blkR (t : Fin cfg0.N) : S512x2048.Idx → EReal := iblk m c 4 t

theorem point_lt (t : Fin cfg0.N) : t.val < 16 := lt_of_lt_of_eq t.isLt N_0

/-! The arguments by block. -/

theorem blockX (t : Fin cfg0.N) (a : Fin 512) : (fun k => blkX m c t (ix2 a k)) = NormGrad.row (X m c) (512 * t.val + a.val) := by
  have e : ∀ t : Fin cfg0.N, win0_0.index t = ![t.val, 0] := (by decide +kernel : ∀ t : Fin grid0.N, _)
  have ht := point_lt t
  funext k
  unfold NormGrad.row
  rw [Blocks.at2_of_lt _ (by omega) k.isLt]
  blk_simp [iblk]
  rw [V_main_arg0]
  refine congrArg (argX m c) ?_
  blk_ext [e]

theorem blockD (t : Fin cfg0.N) (a : Fin 512) : (fun k => blkD m c t (ix2 a k)) = NormGrad.row (D m c) (512 * t.val + a.val) := by
  have e : ∀ t : Fin cfg0.N, win0_1.index t = ![t.val, 0] := (by decide +kernel : ∀ t : Fin grid0.N, _)
  have ht := point_lt t
  funext k
  unfold NormGrad.row
  rw [Blocks.at2_of_lt _ (by omega) k.isLt]
  blk_simp [iblk]
  rw [V_main_arg1]
  refine congrArg (argD m c) ?_
  blk_ext [e]

theorem blockG (t : Fin cfg0.N) : (fun k => blkG m c t (ix2 0 k)) = g m c := by
  have e : ∀ t : Fin cfg0.N, win0_2.index t = ![0, 0] := (by decide +kernel : ∀ t : Fin grid0.N, _)
  funext k
  blk_simp [iblk]
  rw [V_main_arg2]
  refine congrArg (argG m c) ?_
  blk_ext [e]

theorem blockM (t : Fin cfg0.N) : (fun k => blkM m c t (ix2 1 k)) = s m c := by
  have e : ∀ t : Fin cfg0.N, win0_3.index t = ![0, 0] := (by decide +kernel : ∀ t : Fin grid0.N, _)
  funext k
  blk_simp [iblk]
  rw [V_main_arg3]
  refine congrArg (argM m c) ?_
  blk_ext [e]

theorem blockR (t : Fin cfg0.N) (a : Fin 512) : (fun k => blkR m c t (ix2 a k)) = NormGrad.row (R m c) (512 * t.val + a.val) := by
  have e : ∀ t : Fin cfg0.N, win0_4.index t = ![t.val, 0] := (by decide +kernel : ∀ t : Fin grid0.N, _)
  have ht := point_lt t
  funext k
  unfold NormGrad.row
  rw [Blocks.at2_of_lt _ (by omega) k.isLt]
  blk_simp [iblk]
  rw [V_main_arg4]
  refine congrArg (argR m c) ?_
  blk_ext [e]

/-! The body's results of blocks. -/

section
variable (x0 : Vec Ideal S512x2048 .f32) (x1 : Vec Ideal S512x2048 .bf16) (x2 : Vec Ideal S1x2048 .f32) (x3 : Vec Ideal S8x2048 .f32) (x4 : Vec Ideal S512x2048 .f32)

theorem pay_dx (v17 : Vec Ideal S1x2048 .f32) (a : Fin 512) (b : Fin 2048) : k0_pay2 (F := Ideal) (k0_pay4 x0) (k0_pay5 x0) (k0_pay6 x1) x2 (k0_pay7 v17) x4 (ix2 a b)
    = NormGrad.grad (fun k => x0 (ix2 a k)) (fun k => x1 (ix2 a k)) (NormGrad.weight (fun k => x2 (ix2 0 k)) (fun k => v17 (ix2 0 k))) b + x4 (ix2 a b) := by
  pointwise [k0_pay2, k0_pay4, k0_pay5, k0_pay6, k0_pay7]
  rfl

theorem pay_shift (v20 : Vec Ideal S1x2048 .f32) (b : Fin 2048) : k0_pay8 (F := Ideal) x1 v20 (ix2 0 b) = v20 (ix2 0 b) + ∑ a : Fin 512, x1 (ix2 a b) := by
  pointwise [k0_pay8, k0_pay6]

theorem pay_scale (v27 : Vec Ideal S1x2048 .f32) (b : Fin 2048) : k0_pay10 (F := Ideal) x0 x1 x2 v27 (ix2 0 b)
    = v27 (ix2 0 b) + (∑ a : Fin 512, x1 (ix2 a b) * (x0 (ix2 a b) * NormGrad.scale (fun k => x0 (ix2 a k)))) * x2 (ix2 0 b) := by
  pointwise [k0_pay10, k0_pay9, k0_pay4, k0_pay5, k0_pay6, k0_pay7]
  rfl

theorem pay_weight (v17 v34 : Vec Ideal S1x2048 .f32) (b : Fin 2048) : k0_pay1 (F := Ideal) (k0_pay7 v17) (k0_pay9 x0 x1) v34 (ix2 0 b)
    = v34 (ix2 0 b) + (∑ a : Fin 512, x1 (ix2 a b) * (x0 (ix2 a b) * NormGrad.scale (fun k => x0 (ix2 a k)))) * (1 + v17 (ix2 0 b)) := by
  pointwise [k0_pay1, k0_pay9, k0_pay4, k0_pay5, k0_pay6, k0_pay7]
  rfl

theorem pay_zero (y : S16x2048.Idx) : k0_pay3 (F := Ideal) y = 0 := by
  pointwise [k0_pay3]
end

/-! What each row of the sums receives at a point. -/

theorem sum_D (t : Fin cfg0.N) (b : Fin 2048) : ∑ a : Fin 512, blkD m c t (ix2 a b) = ∑ x : Fin 512, NormGrad.row (D m c) (512 * t.val + x.val) b :=
  Finset.sum_congr rfl fun a _ => congrFun (blockD m c t a) b

theorem sum_dn (t : Fin cfg0.N) (b : Fin 2048) : ∑ a : Fin 512, blkD m c t (ix2 a b) * (blkX m c t (ix2 a b) * NormGrad.scale (fun k => blkX m c t (ix2 a k)))
    = ∑ x : Fin 512, NormGrad.dn (X m c) (D m c) b (512 * t.val + x.val) :=
  Finset.sum_congr rfl fun a _ => by
    rw [blockX m c t a, congrFun (blockD m c t a) b, congrFun (blockX m c t a) b]
    rfl

theorem load_s (t : Fin cfg0.N) (inb) (b : Fin 2048) : (View.ld (Val := Elt Ideal) (e' := .f32) (blkM m c t) (Rect.unit (s := S8x2048) ![1, 0] ![1, 2048] inb) : S1x2048.Idx → EReal) (ix2 0 b) = s m c b := by
  refine Eq.trans ?_ (congrFun (blockM m c t) b)
  refine congrArg (blkM m c t) (funext fun q => Fin.ext ((Rect.idx_unit_val _ _ _ _ q).trans ?_))
  fin_cases q
  · rfl
  · exact Nat.zero_add _

theorem row_shift (t : Fin cfg0.N) (v : Vec Ideal S1x2048 .f32) (b : Fin 2048) : k0_pay8 (F := Ideal) (blkD m c t) v (ix2 0 b)
    = v (ix2 0 b) + NormGrad.addend (X m c) (D m c) (g m c) (s m c) 0 b t.val := by
  rw [pay_shift, sum_D]; rfl

theorem row_scale (t : Fin cfg0.N) (v : Vec Ideal S1x2048 .f32) (b : Fin 2048) : k0_pay10 (F := Ideal) (blkX m c t) (blkD m c t) (blkG m c t) v (ix2 0 b)
    = v (ix2 0 b) + NormGrad.addend (X m c) (D m c) (g m c) (s m c) 1 b t.val := by
  rw [pay_scale, sum_dn, congrFun (blockG m c t) b]; rfl

theorem row_weight (t : Fin cfg0.N) (inb) (v : Vec Ideal S1x2048 .f32) (b : Fin 2048) :
    k0_pay1 (F := Ideal) (k0_pay7 (View.ld (blkM m c t) (Rect.unit (s := S8x2048) ![1, 0] ![1, 2048] inb))) (k0_pay9 (blkX m c t) (blkD m c t)) v (ix2 0 b)
    = v (ix2 0 b) + NormGrad.addend (X m c) (D m c) (g m c) (s m c) 2 b t.val := by
  rw [pay_weight, sum_dn, load_s]; rfl

theorem no_addend (r : ℕ) (h0 : ¬r = 0) (h1 : ¬r = 1) (h2 : ¬r = 2) (b : Fin 2048) (t : ℕ) : NormGrad.addend (X m c) (D m c) (g m c) (s m c) r b t = 0 := by
  unfold NormGrad.addend
  rw [if_neg h0, if_neg h1, if_neg h2]

theorem acc_A (t : Fin cfg0.N) (h : t.val % 16 = 0) (a : Fin 16) (b : Fin 2048) : ((outsAt0 m c t.val t.isLt).2 : S16x2048.Idx → EReal) (ix2 a b)
    = 0 + NormGrad.addend (X m c) (D m c) (g m c) (s m c) a.val b t.val := by
  rw [outsAt0_A m c t h]
  frame_out
  rw [canon_row 16 2 (by omega), canon_row 16 1 (by omega), canon_row 16 0 (by omega)]
  by_cases h2 : a.val = 2
  · rw [if_pos h2, row_weight, load_row 16 _ _ 2 (by omega), canon_row 16 1 (by omega), canon_row 16 0 (by omega), if_neg (by norm_num), if_neg (by norm_num), canon_all, pay_zero, h2]
  · rw [if_neg h2]
    by_cases h1 : a.val = 1
    · rw [if_pos h1, row_scale, load_row 16 _ _ 1 (by omega), canon_row 16 0 (by omega), if_neg (by norm_num), canon_all, pay_zero, h1]
    · rw [if_neg h1]
      by_cases h0 : a.val = 0
      · rw [if_pos h0, row_shift, load_row 16 _ _ 0 (by omega), canon_all, pay_zero, h0]
      · rw [if_neg h0, canon_all, pay_zero, no_addend m c _ h0 h1 h2, add_zero]

theorem acc_B (t : Fin cfg0.N) (h : ¬t.val % 16 = 0) (a : Fin 16) (b : Fin 2048) : ((outsAt0 m c t.val t.isLt).2 : S16x2048.Idx → EReal) (ix2 a b)
    = ((outsAt0 m c (t.val - 1) (by omega)).2 : S16x2048.Idx → EReal) (ix2 a b) + NormGrad.addend (X m c) (D m c) (g m c) (s m c) a.val b t.val := by
  rw [outsAt0_B m c t h]
  frame_out
  rw [read_row 16 _ _ 2 (by omega), read_row 16 _ _ 1 (by omega), read_row 16 _ _ 0 (by omega), View.writes_nil]
  by_cases h2 : a.val = 2
  · rw [if_pos h2, row_weight, ld_row 16 _ 2 (by omega), show a = ⟨2, by omega⟩ from Fin.ext h2]
  · rw [if_neg h2]
    by_cases h1 : a.val = 1
    · rw [if_pos h1, row_scale, ld_row 16 _ 1 (by omega), show a = ⟨1, by omega⟩ from Fin.ext h1]
    · rw [if_neg h1]
      by_cases h0 : a.val = 0
      · rw [if_pos h0, row_shift, ld_row 16 _ 0 (by omega), show a = ⟨0, by omega⟩ from Fin.ext h0]
      · rw [if_neg h0, no_addend m c _ h0 h1 h2, add_zero]
        exact congrFun (Memref.IsWhole.read_unread _ _) _

theorem dx_A (t : Fin cfg0.N) (h : t.val % 16 = 0) (a : Fin 512) (b : Fin 2048) : ((outsAt0 m c t.val t.isLt).1 : S512x2048.Idx → EReal) (ix2 a b)
    = NormGrad.rowGrad (X m c) (D m c) (g m c) (s m c) (512 * t.val + a.val) b + NormGrad.row (R m c) (512 * t.val + a.val) b := by
  rw [outsAt0_A m c t h]
  frame_out
  refine (pay_dx _ _ _ _ _ a b).trans ?_
  rw [blockX m c t a, blockD m c t a, blockG m c t, funext (load_s m c t _)]
  exact congrArg₂ (· + ·) rfl (congrFun (blockR m c t a) b)

theorem dx_B (t : Fin cfg0.N) (h : ¬t.val % 16 = 0) (a : Fin 512) (b : Fin 2048) : ((outsAt0 m c t.val t.isLt).1 : S512x2048.Idx → EReal) (ix2 a b)
    = NormGrad.rowGrad (X m c) (D m c) (g m c) (s m c) (512 * t.val + a.val) b + NormGrad.row (R m c) (512 * t.val + a.val) b := by
  rw [outsAt0_B m c t h]
  frame_out
  refine (pay_dx _ _ _ _ _ a b).trans ?_
  rw [blockX m c t a, blockD m c t a, blockG m c t, funext (load_s m c t _)]
  exact congrArg₂ (· + ·) rfl (congrFun (blockR m c t a) b)

theorem dx (t : Fin cfg0.N) (a : Fin 512) (b : Fin 2048) : ((outsAt0 m c t.val t.isLt).1 : S512x2048.Idx → EReal) (ix2 a b)
    = NormGrad.rowGrad (X m c) (D m c) (g m c) (s m c) (512 * t.val + a.val) b + NormGrad.row (R m c) (512 * t.val + a.val) b := by
  by_cases h : t.val % 16 = 0
  · exact dx_A m c t h a b
  · exact dx_B m c t h a b

/-- The sums after a point are those of the tiles so far. -/
theorem partial_sum (t : Fin cfg0.N) (y : S16x2048.Idx) :
    ((outsAt0 m c t.val t.isLt).2 : S16x2048.Idx → EReal) y = 0 + ∑ k ∈ Finset.range (t.val % 16 + 1), NormGrad.addend (X m c) (D m c) (g m c) (s m c) (y 0).val (y 1) k := by
  refine Pipeline.eq_sum_of_reset_step_apply_divmod (M := EReal) (fun n h => ((outsAt0 m c n h).2 : S16x2048.Idx → EReal)) 16 (fun _ => 0)
    (fun _ k y => NormGrad.addend (X m c) (D m c) (g m c) (s m c) (y 0).val (y 1) k) (fun t h y => ?_) (fun t h y => ?_) t y
  · obtain ⟨a, b, rfl⟩ : ∃ a b, y = ix2 a b := ⟨y 0, y 1, eq_ix2 y⟩
    have e : t.val % 16 = t.val := Nat.mod_eq_of_lt (point_lt t)
    exact (acc_A m c t h a b).trans (congrArg (fun k => 0 + NormGrad.addend (X m c) (D m c) (g m c) (s m c) a.val b k) e.symm)
  · obtain ⟨a, b, rfl⟩ : ∃ a b, y = ix2 a b := ⟨y 0, y 1, eq_ix2 y⟩
    have e : t.val % 16 = t.val := Nat.mod_eq_of_lt (point_lt t)
    exact (acc_B m c t h a b).trans (congrArg (fun k => ((outsAt0 m c (t.val - 1) (by omega)).2 : S16x2048.Idx → EReal) (ix2 a b) + NormGrad.addend (X m c) (D m c) (g m c) (s m c) a.val b k) e.symm)

theorem final_dx : (dats m 0 c).arrAt 5 cfg0.N = (fun i : S8192x2048.Idx => NormGrad.rowGrad (X m c) (D m c) (g m c) (s m c) (i 0).val (i 1) + Blocks.at2 (R m c) (i 0).val (i 1).val) := by
  refine (dats m 0 c).arrAt_eq_of_covers 5 _ (by decide +kernel) fun t hf y => ?_
  obtain ⟨a, b, rfl⟩ : ∃ a b, y = ix2 a b := ⟨y 0, y 1, eq_ix2 y⟩
  have e : ∀ t : Fin cfg0.N, win0_5.index t = ![t.val, 0] := (by decide +kernel : ∀ t : Fin grid0.N, _)
  blk_simp
  rw [after0_5, dx]
  have q0 : win0_5.index t 0 = t.val := congrFun (e t) 0
  have q1 : win0_5.index t 1 = 0 := congrFun (e t) 1
  have f : (win0_5.blk t).view.emb (ix2 a b) 1 = b := Fin.ext (by blk_simp; omega)
  rw [f, q0, q1, Nat.mul_comm t.val 512, Nat.zero_mul, Nat.zero_add]
  rfl

theorem final_sums (hX : ∀ i k, NormGrad.IsReal (X m c i k)) (hD : ∀ i k, NormGrad.IsReal (D m c i k)) (hg : ∀ k, NormGrad.IsReal (g m c k)) (hs : ∀ k, NormGrad.IsReal (s m c k)) :
    (dats m 0 c).arrAt 6 cfg0.N = (fun i : S16x2048.Idx => NormGrad.total (X m c) (D m c) (g m c) (s m c) (i 0).val (i 1)) := by
  refine (dats m 0 c).arrAt_eq_of_covers 6 _ (by decide +kernel) fun t hf y => ?_
  obtain ⟨a, b, rfl⟩ : ∃ a b, y = ix2 a b := ⟨y 0, y 1, eq_ix2 y⟩
  have e : ∀ t : Fin cfg0.N, win0_6.index t = ![0, 0] := (by decide +kernel : ∀ t : Fin grid0.N, _)
  have h15 := (flush0_6 t).mp hf
  blk_simp
  rw [after0_6, partial_sum]
  have q0 : win0_6.index t 0 = 0 := congrFun (e t) 0
  have q1 : win0_6.index t 1 = 0 := congrFun (e t) 1
  have f : (win0_6.blk t).view.emb (ix2 a b) 1 = b := Fin.ext (by blk_simp; omega)
  rw [f, q0, h15, Nat.zero_mul, Nat.zero_add, zero_add]
  exact NormGrad.total_eq (X m c) (D m c) (g m c) (s m c) hX hD hg hs a.val b
end Cert.Kernel24Ideal.Body
end
-- ==== Proof.Ref24.lean ====
module

public import proofs.«01_k».proof.Proof.NormGrad
public import proofs.«01_k».proof.Proof.Gen.Reference24Ideal.Read
public import Idealize.ShloMosaic.Lib.Pointwise

/-!
The gradient of the first modulated norm, from its formula.
-/

@[expose] public section
noncomputable section
namespace Cert.Reference24Ideal.Body
open Cert.Reference24Ideal Cert.Reference24Ideal.Read Idealize.ShloMosaic Idealize.ShloMosaic.TcCoe Idealize.SL.Sem Idealize.ShloMosaic.Tactic
variable (x0 : (⟨S8192x2048, .f32⟩ : BufTy).Contents (Elt Ideal)) (x1 : (⟨S8192x2048, .bf16⟩ : BufTy).Contents (Elt Ideal))
  (x2 : (⟨S1x2048, .f32⟩ : BufTy).Contents (Elt Ideal)) (x3 : (⟨S8x2048, .f32⟩ : BufTy).Contents (Elt Ideal)) (x4 : (⟨S8192x2048, .f32⟩ : BufTy).Contents (Elt Ideal))

/-- The arrays by row, and the norm's weight and the modulation's scale. -/
abbrev X : Fin 8192 → Fin 2048 → EReal := fun i k => x0 (ix2 i k)
abbrev D : Fin 8192 → Fin 2048 → EReal := fun i k => x1 (ix2 i k)
abbrev g : Fin 2048 → EReal := fun k => x2 (ix2 0 k)
abbrev s : Fin 2048 → EReal := fun k => x3 (ix2 1 k)

theorem scale_row (a : Fin 8192) : val_main_v9 (F := Ideal) x0 (ix2 a 0) = NormGrad.scale (X x0 a) := by
  pointwise [val_main_v2, val_main_v3, val_main_v4, val_main_v5, val_main_v6, val_main_v7, val_main_v8, val_main_v9, val_main_cst, val_main_cst_0, val_main_cst_1, val_main_cst_2, val_main_cst_3, val_main_cst_4, val_main_cst_5, val_main_cst_6, val_main_cst_7, val_main_cst_8, val_main_cst_9, val_main_cst_10]
  rfl

theorem u_row (a : Fin 8192) (b : Fin 2048) : val_main_v35 (F := Ideal) x1 x2 x3 (ix2 a b) = x1 (ix2 a b) * NormGrad.weight (g x2) (s x3) b := by
  pointwise [val_main_v17, val_main_v18, val_main_v1, val_main_v23, val_main_v29, val_main_v30, val_main_v34, val_main_v35, val_main_cst, val_main_cst_0, val_main_cst_1, val_main_cst_2, val_main_cst_3, val_main_cst_4, val_main_cst_5, val_main_cst_6, val_main_cst_7, val_main_cst_8, val_main_cst_9, val_main_cst_10]
  unfold NormGrad.weight
  rw [mul_assoc, mul_comm (1 + x3 (ix2 1 b))]

theorem inner_row (a : Fin 8192) : val_main_v44 (F := Ideal) x0 x1 x2 x3 (ix1 a) = NormGrad.inner (X x0 a) (fun k => val_main_v35 (F := Ideal) x1 x2 x3 (ix2 a k)) := by
  pointwise [val_main_v36, val_main_v37, val_main_v38, val_main_v41, val_main_v42, val_main_v43, val_main_v44, val_main_v10, val_main_v11, val_main_v12, val_main_cst, val_main_cst_0, val_main_cst_1, val_main_cst_2, val_main_cst_3, val_main_cst_4, val_main_cst_5, val_main_cst_6, val_main_cst_7, val_main_cst_8, val_main_cst_9, val_main_cst_10]
  rw [Finset.univ_unique, Finset.sum_singleton]
  have e8 : val_main_v8 (F := Ideal) x0 (ix2 a 0) = NormGrad.square (X x0 a) := by
    pointwise [val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9, val_main_cst_10]
    rfl
  have q : (default : Fin 1) = 0 := rfl
  rw [q, scale_row, e8]
  rfl

theorem whole_dx (h0 : ∀ i k, NormGrad.IsReal (X x0 i k)) (h1 : ∀ i k, NormGrad.IsReal (D x1 i k)) (h2 : ∀ k, NormGrad.IsReal (g x2 k)) (h3 : ∀ k, NormGrad.IsReal (s x3 k)) :
    val_main_v50 (F := Ideal) x0 x1 x2 x3 x4 = fun i => NormGrad.rowGrad (X x0) (D x1) (g x2) (s x3) (i 0).val (i 1) + Blocks.at2 (fun (a : Fin 8192) (b : Fin 2048) => x4 (ix2 a b)) (i 0).val (i 1).val := by
  funext i
  obtain ⟨a, b, rfl⟩ : ∃ a b, i = ix2 a b := ⟨i 0, i 1, eq_ix2 i⟩
  show _ = NormGrad.rowGrad _ _ _ _ a.val b + Blocks.at2 _ a.val b.val
  rw [Blocks.at2_fin]
  pointwise [val_main_v39, val_main_v40, val_main_v45, val_main_v46, val_main_v47, val_main_v48, val_main_v49, val_main_v50, val_main_cst, val_main_cst_0, val_main_cst_1, val_main_cst_2, val_main_cst_3, val_main_cst_4, val_main_cst_5, val_main_cst_6, val_main_cst_7, val_main_cst_8, val_main_cst_9, val_main_cst_10]
  rw [scale_row, inner_row]
  refine congrArg (· + x4 (ix2 a b)) ?_
  have e0 : NormGrad.row (X x0) a.val = X x0 a := funext fun k => NormGrad.row_fin _ a k
  have e1 : NormGrad.row (D x1) a.val = D x1 a := funext fun k => NormGrad.row_fin _ a k
  unfold NormGrad.rowGrad
  rw [e0, e1]
  exact NormGrad.grad_eq (X x0 a) (D x1 a) (NormGrad.weight (g x2) (s x3)) _ (h0 a) (h1 a) (fun k => (h2 k).mul (NormGrad.real_one.add (h3 k))) (fun k => u_row x1 x2 x3 a k) b

theorem whole_sums : val_main_v52 (F := Ideal) x0 x1 x2 x3 = fun i => NormGrad.total (X x0) (D x1) (g x2) (s x3) (i 0).val (i 1) := by
  funext i
  obtain ⟨a, b, rfl⟩ : ∃ a b, i = ix2 a b := ⟨i 0, i 1, eq_ix2 i⟩
  show _ = NormGrad.total _ _ _ _ a.val b
  have e : ∀ x : Fin 8192, NormGrad.scale (NormGrad.row (X x0) x.val) = NormGrad.scale (X x0 x) := fun x => congrArg _ (funext fun k => NormGrad.row_fin _ x k)
  unfold NormGrad.total NormGrad.dn
  simp only [e, NormGrad.row_fin]
  pointwise [val_main_v52, val_main_v51, val_main_v33, val_main_v32, val_main_v31, val_main_v28, val_main_v27, val_main_v26, val_main_v25, val_main_v24, val_main_v16, val_main_v15, val_main_v14, val_main_v13, val_main_v23, val_main_v30, val_main_v29, val_main_v18, val_main_v17, val_main_v1, val_main_cst, val_main_cst_0, val_main_cst_1, val_main_cst_2, val_main_cst_3, val_main_cst_4, val_main_cst_5, val_main_cst_6, val_main_cst_7, val_main_cst_8, val_main_cst_9, val_main_cst_10]
  simp only [scale_row]
  by_cases p0 : a.val = 0
  · rw [dif_pos (by omega), if_pos p0]
  rw [dif_neg (by omega), if_neg p0]
  by_cases p1 : a.val = 1
  · rw [dif_pos (by omega), if_pos p1]
    exact Finset.sum_congr rfl fun x _ => NormGrad.swap1 _ _ _ _
  rw [dif_neg (by omega), if_neg p1]
  by_cases p2 : a.val = 2
  · rw [dif_pos (by omega), if_pos p2]
    exact Finset.sum_congr rfl fun x _ => NormGrad.swap2 _ _ _ _
  rw [dif_neg (by omega), if_neg p2]
end Cert.Reference24Ideal.Body
end
-- ==== Proof.ModFfn.lean ====
module

public import proofs.«01_k».proof.Proof.NormGrad
public import proofs.«01_k».proof.Proof.RowSums
public import proofs.«01_k».proof.Proof.Gen.Kernel25Ideal.Value
public import Idealize.ShloMosaic.Lib.Pointwise
public import Idealize.ShloMosaic.Lib.Pipeline.ValueKit

/-!
The gradient of the second modulated norm and of the gated residual: a block of rows at each grid point, and the sums over rows point by point.
-/

@[expose] public section
noncomputable section
namespace Cert.Kernel25Ideal.Body
open Cert.Kernel25Ideal Cert.Kernel25Ideal.Gen Idealize.ShloMosaic Idealize.ShloMosaic.TcCoe Idealize.SL.Sem Idealize.ShloMosaic.Tactic RowSums
variable (m : (ℓ : Loc nD τ sig) → Buf (Elt Ideal) ℓ) (c : Dev nD)

/-- The rows, the incoming gradient, the norm's weight, the modulation and the residual's gradient. -/
abbrev argX : S8192x2048.Idx → EReal := m ((c : Thread nD τ).loc main_arg0)
abbrev argD : S8192x2048.Idx → EReal := m ((c : Thread nD τ).loc main_arg1)
abbrev argG : S1x2048.Idx → EReal := m ((c : Thread nD τ).loc main_arg2)
abbrev argM : S8x2048.Idx → EReal := m ((c : Thread nD τ).loc main_arg3)
abbrev argR : S8192x2048.Idx → EReal := m ((c : Thread nD τ).loc main_arg4)
abbrev argF : S8192x2048.Idx → EReal := m ((c : Thread nD τ).loc main_arg5)
abbrev argW : S1x2048.Idx → EReal := m ((c : Thread nD τ).loc main_arg6)
abbrev X : Fin 8192 → Fin 2048 → EReal := fun i k => argX m c (ix2 i k)
abbrev D : Fin 8192 → Fin 2048 → EReal := fun i k => argD m c (ix2 i k)
abbrev g : Fin 2048 → EReal := fun k => argG m c (ix2 0 k)
abbrev s : Fin 2048 → EReal := fun k => argM m c (ix2 1 k)
abbrev R : Fin 8192 → Fin 2048 → EReal := fun i k => argR m c (ix2 i k)
abbrev F : Fin 8192 → Fin 2048 → EReal := fun i k => argF m c (ix2 i k)
abbrev w : Fin 2048 → EReal := fun k => argW m c (ix2 0 k)
abbrev blkX (t : Fin cfg0.N) : S512x2048.Idx → EReal := iblk m c 0 t
abbrev blkD (t : Fin cfg0.N) : S512x2048.Idx → EReal := iblk m c 1 t
abbrev blkG (t : Fin cfg0.N) : S1x2048.Idx → EReal := iblk m c 2 t
abbrev blkM (t : Fin cfg0.N) : S8x2048.Idx → EReal := iblk m c 3 t
abbrev blkR (t : Fin cfg0.N) : S512x2048.Idx → EReal := iblk m c 4 t
abbrev blkF (t : Fin cfg0.N) : S512x2048.Idx → EReal := iblk m c 5 t
abbrev blkW (t : Fin cfg0.N) : S1x2048.Idx → EReal := iblk m c 6 t

theorem point_lt (t : Fin cfg0.N) : t.val < 16 := lt_of_lt_of_eq t.isLt N_0

/-! The arguments by block. -/

theorem blockX (t : Fin cfg0.N) (a : Fin 512) : (fun k => blkX m c t (ix2 a k)) = NormGrad.row (X m c) (512 * t.val + a.val) := by
  have e : ∀ t : Fin cfg0.N, win0_0.index t = ![t.val, 0] := (by decide +kernel : ∀ t : Fin grid0.N, _)
  have ht := point_lt t
  funext k
  unfold NormGrad.row
  rw [Blocks.at2_of_lt _ (by omega) k.isLt]
  blk_simp [iblk]
  rw [V_main_arg0]
  refine congrArg (argX m c) ?_
  blk_ext [e]

theorem blockD (t : Fin cfg0.N) (a : Fin 512) : (fun k => blkD m c t (ix2 a k)) = NormGrad.row (D m c) (512 * t.val + a.val) := by
  have e : ∀ t : Fin cfg0.N, win0_1.index t = ![t.val, 0] := (by decide +kernel : ∀ t : Fin grid0.N, _)
  have ht := point_lt t
  funext k
  unfold NormGrad.row
  rw [Blocks.at2_of_lt _ (by omega) k.isLt]
  blk_simp [iblk]
  rw [V_main_arg1]
  refine congrArg (argD m c) ?_
  blk_ext [e]

theorem blockG (t : Fin cfg0.N) : (fun k => blkG m c t (ix2 0 k)) = g m c := by
  have e : ∀ t : Fin cfg0.N, win0_2.index t = ![0, 0] := (by decide +kernel : ∀ t : Fin grid0.N, _)
  funext k
  blk_simp [iblk]
  rw [V_main_arg2]
  refine congrArg (argG m c) ?_
  blk_ext [e]

theorem blockM (t : Fin cfg0.N) : (fun k => blkM m c t (ix2 1 k)) = s m c := by
  have e : ∀ t : Fin cfg0.N, win0_3.index t = ![0, 0] := (by decide +kernel : ∀ t : Fin grid0.N, _)
  funext k
  blk_simp [iblk]
  rw [V_main_arg3]
  refine congrArg (argM m c) ?_
  blk_ext [e]

theorem blockR (t : Fin cfg0.N) (a : Fin 512) : (fun k => blkR m c t (ix2 a k)) = NormGrad.row (R m c) (512 * t.val + a.val) := by
  have e : ∀ t : Fin cfg0.N, win0_4.index t = ![t.val, 0] := (by decide +kernel : ∀ t : Fin grid0.N, _)
  have ht := point_lt t
  funext k
  unfold NormGrad.row
  rw [Blocks.at2_of_lt _ (by omega) k.isLt]
  blk_simp [iblk]
  rw [V_main_arg4]
  refine congrArg (argR m c) ?_
  blk_ext [e]

theorem blockF (t : Fin cfg0.N) (a : Fin 512) : (fun k => blkF m c t (ix2 a k)) = NormGrad.row (F m c) (512 * t.val + a.val) := by
  have e : ∀ t : Fin cfg0.N, win0_5.index t = ![t.val, 0] := (by decide +kernel : ∀ t : Fin grid0.N, _)
  have ht := point_lt t
  funext k
  unfold NormGrad.row
  rw [Blocks.at2_of_lt _ (by omega) k.isLt]
  blk_simp [iblk]
  rw [V_main_arg5]
  refine congrArg (argF m c) ?_
  blk_ext [e]

theorem blockW (t : Fin cfg0.N) : (fun k => blkW m c t (ix2 0 k)) = w m c := by
  have e : ∀ t : Fin cfg0.N, win0_6.index t = ![0, 0] := (by decide +kernel : ∀ t : Fin grid0.N, _)
  funext k
  blk_simp [iblk]
  rw [V_main_arg6]
  refine congrArg (argW m c) ?_
  blk_ext [e]

/-! The body's results of blocks. -/

section
variable (x0 : Vec Ideal S512x2048 .f32) (x1 : Vec Ideal S512x2048 .bf16) (x2 : Vec Ideal S1x2048 .f32) (x3 : Vec Ideal S8x2048 .f32) (x4 : Vec Ideal S512x2048 .f32)

theorem pay_dx (v17 : Vec Ideal S1x2048 .f32) (a : Fin 512) (b : Fin 2048) : k0_pay11 (F := Ideal) (k0_pay3 x0) (k0_pay4 x0) (k0_pay5 x1) x2 (k0_pay6 v17) x4 (ix2 a b)
    = NormGrad.grad (fun k => x0 (ix2 a k)) (fun k => x1 (ix2 a k)) (NormGrad.weight (fun k => x2 (ix2 0 k)) (fun k => v17 (ix2 0 k))) b + x4 (ix2 a b) := by
  pointwise [k0_pay11, k0_pay3, k0_pay4, k0_pay5, k0_pay6]
  rfl

theorem pay_df (v11 : Vec Ideal S512x1 .f32) (v13 v15 : Vec Ideal S512x2048 .f32) (v19 x6 : Vec Ideal S1x2048 .f32) (a : Fin 512) (b : Fin 2048) :
    k0_pay1 (F := Ideal) (k0_pay13 v11 v13 v15 x2 v19 x4 x6) (ix2 a b) = k0_pay11 (F := Ideal) v11 v13 v15 x2 v19 x4 (ix2 a b) * x6 (ix2 0 b) := by
  pointwise [k0_pay1, k0_pay13]

theorem pay_gate (v11 : Vec Ideal S512x1 .f32) (v13 v15 : Vec Ideal S512x2048 .f32) (v19 v57 : Vec Ideal S1x2048 .f32) (x5 : Vec Ideal S512x2048 .bf16) (b : Fin 2048) :
    k0_pay12 (F := Ideal) v11 v13 v15 x2 v19 x4 v57 x5 (ix2 0 b) = v57 (ix2 0 b) + ∑ a : Fin 512, k0_pay11 (F := Ideal) v11 v13 v15 x2 v19 x4 (ix2 a b) * x5 (ix2 a b) := by
  pointwise [k0_pay12]

theorem pay_shift (v20 : Vec Ideal S1x2048 .f32) (b : Fin 2048) : k0_pay7 (F := Ideal) x1 v20 (ix2 0 b) = v20 (ix2 0 b) + ∑ a : Fin 512, x1 (ix2 a b) := by
  pointwise [k0_pay7, k0_pay5]

theorem pay_scale (v27 : Vec Ideal S1x2048 .f32) (b : Fin 2048) : k0_pay9 (F := Ideal) x0 x1 x2 v27 (ix2 0 b)
    = v27 (ix2 0 b) + (∑ a : Fin 512, x1 (ix2 a b) * (x0 (ix2 a b) * NormGrad.scale (fun k => x0 (ix2 a k)))) * x2 (ix2 0 b) := by
  pointwise [k0_pay9, k0_pay8, k0_pay3, k0_pay4, k0_pay5, k0_pay6]
  rfl

theorem pay_weight (v17 v34 : Vec Ideal S1x2048 .f32) (b : Fin 2048) : k0_pay10 (F := Ideal) (k0_pay6 v17) (k0_pay8 x0 x1) v34 (ix2 0 b)
    = v34 (ix2 0 b) + (∑ a : Fin 512, x1 (ix2 a b) * (x0 (ix2 a b) * NormGrad.scale (fun k => x0 (ix2 a k)))) * (1 + v17 (ix2 0 b)) := by
  pointwise [k0_pay10, k0_pay8, k0_pay3, k0_pay4, k0_pay5, k0_pay6]
  rfl

theorem pay_zero (y : S16x2048.Idx) : k0_pay2 (F := Ideal) y = 0 := by
  pointwise [k0_pay2]
end

/-! What each row of the sums receives at a point. -/

theorem sum_D (t : Fin cfg0.N) (b : Fin 2048) : ∑ a : Fin 512, blkD m c t (ix2 a b) = ∑ x : Fin 512, NormGrad.row (D m c) (512 * t.val + x.val) b :=
  Finset.sum_congr rfl fun a _ => congrFun (blockD m c t a) b

theorem sum_dn (t : Fin cfg0.N) (b : Fin 2048) : ∑ a : Fin 512, blkD m c t (ix2 a b) * (blkX m c t (ix2 a b) * NormGrad.scale (fun k => blkX m c t (ix2 a k)))
    = ∑ x : Fin 512, NormGrad.dn (X m c) (D m c) b (512 * t.val + x.val) :=
  Finset.sum_congr rfl fun a _ => by
    rw [blockX m c t a, congrFun (blockD m c t a) b, congrFun (blockX m c t a) b]
    rfl

theorem load_s (t : Fin cfg0.N) (inb) (b : Fin 2048) : (View.ld (Val := Elt Ideal) (e' := .f32) (blkM m c t) (Rect.unit (s := S8x2048) ![1, 0] ![1, 2048] inb) : S1x2048.Idx → EReal) (ix2 0 b) = s m c b := by
  refine Eq.trans ?_ (congrFun (blockM m c t) b)
  refine congrArg (blkM m c t) (funext fun q => Fin.ext ((Rect.idx_unit_val _ _ _ _ q).trans ?_))
  fin_cases q
  · rfl
  · exact Nat.zero_add _

/-- The gradient of the sum that the norm is taken of. -/
def sumGrad (j : Fin 2048) (i : ℕ) : EReal := NormGrad.rowGrad (X m c) (D m c) (g m c) (s m c) i j + NormGrad.row (R m c) i j

/-- What a tile adds to row `r` of the sums: row 6 takes the gate's gradient. -/
def addend (r : ℕ) (j : Fin 2048) (t : ℕ) : EReal :=
  if r = 6 then ∑ x : Fin 512, sumGrad m c j (512 * t + x.val) * NormGrad.row (F m c) (512 * t + x.val) j
  else NormGrad.addend (X m c) (D m c) (g m c) (s m c) r j t

theorem row_shift (t : Fin cfg0.N) (v : Vec Ideal S1x2048 .f32) (b : Fin 2048) : k0_pay7 (F := Ideal) (blkD m c t) v (ix2 0 b)
    = v (ix2 0 b) + addend m c 0 b t.val := by
  rw [pay_shift, sum_D]; rfl

theorem row_scale (t : Fin cfg0.N) (v : Vec Ideal S1x2048 .f32) (b : Fin 2048) : k0_pay9 (F := Ideal) (blkX m c t) (blkD m c t) (blkG m c t) v (ix2 0 b)
    = v (ix2 0 b) + addend m c 1 b t.val := by
  rw [pay_scale, sum_dn, congrFun (blockG m c t) b]; rfl

theorem row_weight (t : Fin cfg0.N) (inb) (v : Vec Ideal S1x2048 .f32) (b : Fin 2048) :
    k0_pay10 (F := Ideal) (k0_pay6 (View.ld (blkM m c t) (Rect.unit (s := S8x2048) ![1, 0] ![1, 2048] inb))) (k0_pay8 (blkX m c t) (blkD m c t)) v (ix2 0 b)
    = v (ix2 0 b) + addend m c 2 b t.val := by
  rw [pay_weight, sum_dn, load_s]; rfl

theorem block_dx (t : Fin cfg0.N) (inb) (a : Fin 512) (b : Fin 2048) :
    k0_pay11 (F := Ideal) (k0_pay3 (blkX m c t)) (k0_pay4 (blkX m c t)) (k0_pay5 (blkD m c t)) (blkG m c t) (k0_pay6 (View.ld (blkM m c t) (Rect.unit (s := S8x2048) ![1, 0] ![1, 2048] inb))) (blkR m c t) (ix2 a b)
    = sumGrad m c b (512 * t.val + a.val) := by
  refine (pay_dx _ _ _ _ _ a b).trans ?_
  rw [blockX m c t a, blockD m c t a, blockG m c t, funext (load_s m c t _)]
  exact congrArg₂ (· + ·) rfl (congrFun (blockR m c t a) b)

theorem row_gate (t : Fin cfg0.N) (inb) (v : Vec Ideal S1x2048 .f32) (b : Fin 2048) :
    k0_pay12 (F := Ideal) (k0_pay3 (blkX m c t)) (k0_pay4 (blkX m c t)) (k0_pay5 (blkD m c t)) (blkG m c t) (k0_pay6 (View.ld (blkM m c t) (Rect.unit (s := S8x2048) ![1, 0] ![1, 2048] inb))) (blkR m c t) v (blkF m c t) (ix2 0 b)
    = v (ix2 0 b) + addend m c 6 b t.val := by
  rw [pay_gate]
  refine congrArg (v (ix2 0 b) + ·) ?_
  unfold addend
  rw [if_pos rfl]
  refine Finset.sum_congr rfl fun a _ => ?_
  rw [block_dx]
  exact congrArg (sumGrad m c b (512 * t.val + a.val) * ·) (congrFun (blockF m c t a) b)

theorem no_addend (r : ℕ) (h0 : ¬r = 0) (h1 : ¬r = 1) (h2 : ¬r = 2) (h6 : ¬r = 6) (b : Fin 2048) (t : ℕ) : addend m c r b t = 0 := by
  unfold addend NormGrad.addend
  rw [if_neg h6, if_neg h0, if_neg h1, if_neg h2]

theorem acc_A (t : Fin cfg0.N) (h : t.val % 16 = 0) (a : Fin 16) (b : Fin 2048) : ((outsAt0 m c t.val t.isLt).2.2 : S16x2048.Idx → EReal) (ix2 a b)
    = 0 + addend m c a.val b t.val := by
  rw [outsAt0_A m c t h]
  frame_out
  rw [canon_row 16 6 (by omega), canon_row 16 2 (by omega), canon_row 16 1 (by omega), canon_row 16 0 (by omega)]
  by_cases h6 : a.val = 6
  · rw [if_pos h6, row_gate, load_row 16 _ _ 6 (by omega), canon_row 16 2 (by omega), canon_row 16 1 (by omega), canon_row 16 0 (by omega), if_neg (by norm_num), if_neg (by norm_num), if_neg (by norm_num), canon_all, pay_zero, h6]
  rw [if_neg h6]
  by_cases h2 : a.val = 2
  · rw [if_pos h2, row_weight, load_row 16 _ _ 2 (by omega), canon_row 16 1 (by omega), canon_row 16 0 (by omega), if_neg (by norm_num), if_neg (by norm_num), canon_all, pay_zero, h2]
  rw [if_neg h2]
  by_cases h1 : a.val = 1
  · rw [if_pos h1, row_scale, load_row 16 _ _ 1 (by omega), canon_row 16 0 (by omega), if_neg (by norm_num), canon_all, pay_zero, h1]
  rw [if_neg h1]
  by_cases h0 : a.val = 0
  · rw [if_pos h0, row_shift, load_row 16 _ _ 0 (by omega), canon_all, pay_zero, h0]
  rw [if_neg h0, canon_all, pay_zero, no_addend m c _ h0 h1 h2 h6, add_zero]

theorem acc_B (t : Fin cfg0.N) (h : ¬t.val % 16 = 0) (a : Fin 16) (b : Fin 2048) : ((outsAt0 m c t.val t.isLt).2.2 : S16x2048.Idx → EReal) (ix2 a b)
    = ((outsAt0 m c (t.val - 1) (by omega)).2.2 : S16x2048.Idx → EReal) (ix2 a b) + addend m c a.val b t.val := by
  rw [outsAt0_B m c t h]
  frame_out
  rw [read_row 16 _ _ 6 (by omega), read_row 16 _ _ 2 (by omega), read_row 16 _ _ 1 (by omega), read_row 16 _ _ 0 (by omega), View.writes_nil]
  by_cases h6 : a.val = 6
  · rw [if_pos h6, row_gate, ld_row 16 _ 6 (by omega), show a = ⟨6, by omega⟩ from Fin.ext h6]
  rw [if_neg h6]
  by_cases h2 : a.val = 2
  · rw [if_pos h2, row_weight, ld_row 16 _ 2 (by omega), show a = ⟨2, by omega⟩ from Fin.ext h2]
  rw [if_neg h2]
  by_cases h1 : a.val = 1
  · rw [if_pos h1, row_scale, ld_row 16 _ 1 (by omega), show a = ⟨1, by omega⟩ from Fin.ext h1]
  rw [if_neg h1]
  by_cases h0 : a.val = 0
  · rw [if_pos h0, row_shift, ld_row 16 _ 0 (by omega), show a = ⟨0, by omega⟩ from Fin.ext h0]
  rw [if_neg h0, no_addend m c _ h0 h1 h2 h6, add_zero]
  exact congrFun (Memref.IsWhole.read_unread _ _) _

theorem dx (t : Fin cfg0.N) (a : Fin 512) (b : Fin 2048) : ((outsAt0 m c t.val t.isLt).1 : S512x2048.Idx → EReal) (ix2 a b) = sumGrad m c b (512 * t.val + a.val) := by
  by_cases h : t.val % 16 = 0
  · rw [outsAt0_A m c t h]
    frame_out
    exact block_dx m c t _ a b
  · rw [outsAt0_B m c t h]
    frame_out
    exact block_dx m c t _ a b

theorem df (t : Fin cfg0.N) (a : Fin 512) (b : Fin 2048) : ((outsAt0 m c t.val t.isLt).2.1 : S512x2048.Idx → EReal) (ix2 a b) = sumGrad m c b (512 * t.val + a.val) * w m c b := by
  by_cases h : t.val % 16 = 0
  · rw [outsAt0_A m c t h]
    frame_out
    exact (pay_df _ _ _ _ _ _ _ a b).trans (congrArg₂ (· * ·) (block_dx m c t _ a b) (congrFun (blockW m c t) b))
  · rw [outsAt0_B m c t h]
    frame_out
    exact (pay_df _ _ _ _ _ _ _ a b).trans (congrArg₂ (· * ·) (block_dx m c t _ a b) (congrFun (blockW m c t) b))

/-- The sums after a point are those of the tiles so far. -/
theorem partial_sum (t : Fin cfg0.N) (y : S16x2048.Idx) :
    ((outsAt0 m c t.val t.isLt).2.2 : S16x2048.Idx → EReal) y = 0 + ∑ k ∈ Finset.range (t.val % 16 + 1), addend m c (y 0).val (y 1) k := by
  refine Pipeline.eq_sum_of_reset_step_apply_divmod (M := EReal) (fun n h => ((outsAt0 m c n h).2.2 : S16x2048.Idx → EReal)) 16 (fun _ => 0)
    (fun _ k y => addend m c (y 0).val (y 1) k) (fun t h y => ?_) (fun t h y => ?_) t y
  · obtain ⟨a, b, rfl⟩ : ∃ a b, y = ix2 a b := ⟨y 0, y 1, eq_ix2 y⟩
    have e : t.val % 16 = t.val := Nat.mod_eq_of_lt (point_lt t)
    exact (acc_A m c t h a b).trans (congrArg (fun k => 0 + addend m c a.val b k) e.symm)
  · obtain ⟨a, b, rfl⟩ : ∃ a b, y = ix2 a b := ⟨y 0, y 1, eq_ix2 y⟩
    have e : t.val % 16 = t.val := Nat.mod_eq_of_lt (point_lt t)
    exact (acc_B m c t h a b).trans (congrArg (fun k => ((outsAt0 m c (t.val - 1) (by omega)).2.2 : S16x2048.Idx → EReal) (ix2 a b) + addend m c a.val b k) e.symm)

theorem final_dx : (dats m 0 c).arrAt 7 cfg0.N = (fun i : S8192x2048.Idx => sumGrad m c (i 1) (i 0).val) := by
  refine (dats m 0 c).arrAt_eq_of_covers 7 _ (by decide +kernel) fun t hf y => ?_
  obtain ⟨a, b, rfl⟩ : ∃ a b, y = ix2 a b := ⟨y 0, y 1, eq_ix2 y⟩
  have e : ∀ t : Fin cfg0.N, win0_7.index t = ![t.val, 0] := (by decide +kernel : ∀ t : Fin grid0.N, _)
  blk_simp
  rw [after0_7, dx]
  have q0 : win0_7.index t 0 = t.val := congrFun (e t) 0
  have q1 : win0_7.index t 1 = 0 := congrFun (e t) 1
  have f : (win0_7.blk t).view.emb (ix2 a b) 1 = b := Fin.ext (by blk_simp; omega)
  rw [f, q0, Nat.mul_comm t.val 512]

theorem final_df : (dats m 0 c).arrAt 8 cfg0.N = (fun i : S8192x2048.Idx => sumGrad m c (i 1) (i 0).val * w m c (i 1)) := by
  refine (dats m 0 c).arrAt_eq_of_covers 8 _ (by decide +kernel) fun t hf y => ?_
  obtain ⟨a, b, rfl⟩ : ∃ a b, y = ix2 a b := ⟨y 0, y 1, eq_ix2 y⟩
  have e : ∀ t : Fin cfg0.N, win0_8.index t = ![t.val, 0] := (by decide +kernel : ∀ t : Fin grid0.N, _)
  blk_simp
  rw [after0_8, df]
  have q0 : win0_8.index t 0 = t.val := congrFun (e t) 0
  have q1 : win0_8.index t 1 = 0 := congrFun (e t) 1
  have f : (win0_8.blk t).view.emb (ix2 a b) 1 = b := Fin.ext (by blk_simp; omega)
  rw [f, q0, Nat.mul_comm t.val 512]

/-- The sums over all rows. -/
def total (r : ℕ) (j : Fin 2048) : EReal :=
  if r = 6 then ∑ i : Fin 8192, sumGrad m c j i.val * NormGrad.row (F m c) i.val j
  else NormGrad.total (X m c) (D m c) (g m c) (s m c) r j

theorem total_eq (hX : ∀ i k, NormGrad.IsReal (X m c i k)) (hD : ∀ i k, NormGrad.IsReal (D m c i k)) (hg : ∀ k, NormGrad.IsReal (g m c k)) (hs : ∀ k, NormGrad.IsReal (s m c k)) (r : ℕ) (j : Fin 2048) :
    ∑ t ∈ Finset.range 16, addend m c r j t = total m c r j := by
  unfold addend total
  by_cases h : r = 6
  · simp only [if_pos h]
    exact Blocks.sum_fin (fun i => sumGrad m c j i * NormGrad.row (F m c) i j) 512 16 8192 rfl
  · simp only [if_neg h]
    exact NormGrad.total_eq (X m c) (D m c) (g m c) (s m c) hX hD hg hs r j

theorem final_sums (hX : ∀ i k, NormGrad.IsReal (X m c i k)) (hD : ∀ i k, NormGrad.IsReal (D m c i k)) (hg : ∀ k, NormGrad.IsReal (g m c k)) (hs : ∀ k, NormGrad.IsReal (s m c k)) :
    (dats m 0 c).arrAt 9 cfg0.N = (fun i : S16x2048.Idx => total m c (i 0).val (i 1)) := by
  refine (dats m 0 c).arrAt_eq_of_covers 9 _ (by decide +kernel) fun t hf y => ?_
  obtain ⟨a, b, rfl⟩ : ∃ a b, y = ix2 a b := ⟨y 0, y 1, eq_ix2 y⟩
  have e : ∀ t : Fin cfg0.N, win0_9.index t = ![0, 0] := (by decide +kernel : ∀ t : Fin grid0.N, _)
  have h15 := (flush0_9 t).mp hf
  blk_simp
  rw [after0_9, partial_sum]
  have q0 : win0_9.index t 0 = 0 := congrFun (e t) 0
  have q1 : win0_9.index t 1 = 0 := congrFun (e t) 1
  have f : (win0_9.blk t).view.emb (ix2 a b) 1 = b := Fin.ext (by blk_simp; omega)
  rw [f, q0, h15, Nat.zero_mul, Nat.zero_add, zero_add]
  exact total_eq m c hX hD hg hs a.val b
end Cert.Kernel25Ideal.Body
end
-- ==== Proof.Ref25.lean ====
module

public import proofs.«01_k».proof.Proof.NormGrad
public import proofs.«01_k».proof.Proof.Gen.Reference25Ideal.Read
public import Idealize.ShloMosaic.Lib.Pointwise

/-!
The gradient of the second modulated norm and of the gated residual, from its formula.
-/

@[expose] public section
noncomputable section
namespace Cert.Reference25Ideal.Body
open Cert.Reference25Ideal Cert.Reference25Ideal.Read Idealize.ShloMosaic Idealize.ShloMosaic.TcCoe Idealize.SL.Sem Idealize.ShloMosaic.Tactic
variable (x0 : (⟨S8192x2048, .f32⟩ : BufTy).Contents (Elt Ideal)) (x1 : (⟨S8192x2048, .bf16⟩ : BufTy).Contents (Elt Ideal))
  (x2 : (⟨S1x2048, .f32⟩ : BufTy).Contents (Elt Ideal)) (x3 : (⟨S8x2048, .f32⟩ : BufTy).Contents (Elt Ideal)) (x4 : (⟨S8192x2048, .f32⟩ : BufTy).Contents (Elt Ideal))
  (x5 : (⟨S8192x2048, .bf16⟩ : BufTy).Contents (Elt Ideal)) (x6 : (⟨S1x2048, .f32⟩ : BufTy).Contents (Elt Ideal))

/-- The arrays by row, and the norm's weight and the modulation's scale. -/
abbrev X : Fin 8192 → Fin 2048 → EReal := fun i k => x0 (ix2 i k)
abbrev D : Fin 8192 → Fin 2048 → EReal := fun i k => x1 (ix2 i k)
abbrev g : Fin 2048 → EReal := fun k => x2 (ix2 0 k)
abbrev s : Fin 2048 → EReal := fun k => x3 (ix2 1 k)

theorem scale_row (a : Fin 8192) : val_main_v9 (F := Ideal) x0 (ix2 a 0) = NormGrad.scale (X x0 a) := by
  pointwise [val_main_v2, val_main_v3, val_main_v4, val_main_v5, val_main_v6, val_main_v7, val_main_v8, val_main_v9, val_main_cst, val_main_cst_0, val_main_cst_1, val_main_cst_2, val_main_cst_3, val_main_cst_4, val_main_cst_5, val_main_cst_6, val_main_cst_7, val_main_cst_8, val_main_cst_9, val_main_cst_10]
  rfl

theorem u_row (a : Fin 8192) (b : Fin 2048) : val_main_v35 (F := Ideal) x1 x2 x3 (ix2 a b) = x1 (ix2 a b) * NormGrad.weight (g x2) (s x3) b := by
  pointwise [val_main_v17, val_main_v18, val_main_v1, val_main_v23, val_main_v29, val_main_v30, val_main_v34, val_main_v35, val_main_cst, val_main_cst_0, val_main_cst_1, val_main_cst_2, val_main_cst_3, val_main_cst_4, val_main_cst_5, val_main_cst_6, val_main_cst_7, val_main_cst_8, val_main_cst_9, val_main_cst_10]
  unfold NormGrad.weight
  rw [mul_assoc, mul_comm (1 + x3 (ix2 1 b))]

theorem inner_row (a : Fin 8192) : val_main_v44 (F := Ideal) x0 x1 x2 x3 (ix1 a) = NormGrad.inner (X x0 a) (fun k => val_main_v35 (F := Ideal) x1 x2 x3 (ix2 a k)) := by
  pointwise [val_main_v36, val_main_v37, val_main_v38, val_main_v41, val_main_v42, val_main_v43, val_main_v44, val_main_v10, val_main_v11, val_main_v12, val_main_cst, val_main_cst_0, val_main_cst_1, val_main_cst_2, val_main_cst_3, val_main_cst_4, val_main_cst_5, val_main_cst_6, val_main_cst_7, val_main_cst_8, val_main_cst_9, val_main_cst_10]
  rw [Finset.univ_unique, Finset.sum_singleton]
  have e8 : val_main_v8 (F := Ideal) x0 (ix2 a 0) = NormGrad.square (X x0 a) := by
    pointwise [val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9, val_main_cst_10]
    rfl
  have q : (default : Fin 1) = 0 := rfl
  rw [q, scale_row, e8]
  rfl

theorem whole_dx (h0 : ∀ i k, NormGrad.IsReal (X x0 i k)) (h1 : ∀ i k, NormGrad.IsReal (D x1 i k)) (h2 : ∀ k, NormGrad.IsReal (g x2 k)) (h3 : ∀ k, NormGrad.IsReal (s x3 k)) :
    val_main_v50 (F := Ideal) x0 x1 x2 x3 x4 = fun i => NormGrad.rowGrad (X x0) (D x1) (g x2) (s x3) (i 0).val (i 1) + Blocks.at2 (fun (a : Fin 8192) (b : Fin 2048) => x4 (ix2 a b)) (i 0).val (i 1).val := by
  funext i
  obtain ⟨a, b, rfl⟩ : ∃ a b, i = ix2 a b := ⟨i 0, i 1, eq_ix2 i⟩
  show _ = NormGrad.rowGrad _ _ _ _ a.val b + Blocks.at2 _ a.val b.val
  rw [Blocks.at2_fin]
  pointwise [val_main_v39, val_main_v40, val_main_v45, val_main_v46, val_main_v47, val_main_v48, val_main_v49, val_main_v50, val_main_cst, val_main_cst_0, val_main_cst_1, val_main_cst_2, val_main_cst_3, val_main_cst_4, val_main_cst_5, val_main_cst_6, val_main_cst_7, val_main_cst_8, val_main_cst_9, val_main_cst_10]
  rw [scale_row, inner_row]
  refine congrArg (· + x4 (ix2 a b)) ?_
  have e0 : NormGrad.row (X x0) a.val = X x0 a := funext fun k => NormGrad.row_fin _ a k
  have e1 : NormGrad.row (D x1) a.val = D x1 a := funext fun k => NormGrad.row_fin _ a k
  unfold NormGrad.rowGrad
  rw [e0, e1]
  exact NormGrad.grad_eq (X x0 a) (D x1 a) (NormGrad.weight (g x2) (s x3)) _ (h0 a) (h1 a) (fun k => (h2 k).mul (NormGrad.real_one.add (h3 k))) (fun k => u_row x1 x2 x3 a k) b

/-- The gradient of the sum that the norm is taken of. -/
def sumGrad (j : Fin 2048) (i : ℕ) : EReal := NormGrad.rowGrad (X x0) (D x1) (g x2) (s x3) i j + NormGrad.row (fun (a : Fin 8192) (b : Fin 2048) => x4 (ix2 a b)) i j

theorem whole_df (h0 : ∀ i k, NormGrad.IsReal (X x0 i k)) (h1 : ∀ i k, NormGrad.IsReal (D x1 i k)) (h2 : ∀ k, NormGrad.IsReal (g x2 k)) (h3 : ∀ k, NormGrad.IsReal (s x3 k)) :
    val_main_v60 (F := Ideal) x0 x1 x2 x3 x4 x6 = fun i => sumGrad x0 x1 x2 x3 x4 (i 1) (i 0).val * x6 (ix2 0 (i 1)) := by
  funext i
  obtain ⟨a, b, rfl⟩ : ∃ a b, i = ix2 a b := ⟨i 0, i 1, eq_ix2 i⟩
  show _ = sumGrad x0 x1 x2 x3 x4 b a.val * x6 (ix2 0 b)
  pointwise [val_main_v60, val_main_v55, val_main_v54]
  rw [whole_dx x0 x1 x2 x3 x4 h0 h1 h2 h3, mul_comm]
  rfl

theorem sums_gate (h0 : ∀ i k, NormGrad.IsReal (X x0 i k)) (h1 : ∀ i k, NormGrad.IsReal (D x1 i k)) (h2 : ∀ k, NormGrad.IsReal (g x2 k)) (h3 : ∀ k, NormGrad.IsReal (s x3 k)) (b : Fin 2048) :
    val_main_v57 (F := Ideal) x0 x1 x2 x3 x4 x5 (ix1 b) = ∑ i : Fin 8192, sumGrad x0 x1 x2 x3 x4 b i.val * NormGrad.row (fun (a : Fin 8192) (b : Fin 2048) => x5 (ix2 a b)) i.val b := by
  pointwise [val_main_v57, val_main_v56, val_main_v51, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  refine Finset.sum_congr rfl fun i _ => ?_
  rw [whole_dx x0 x1 x2 x3 x4 h0 h1 h2 h3, NormGrad.row_fin]
  rfl

/-- The sums over all rows. -/
def total (r : ℕ) (j : Fin 2048) : EReal :=
  if r = 6 then ∑ i : Fin 8192, sumGrad x0 x1 x2 x3 x4 j i.val * NormGrad.row (fun (a : Fin 8192) (b : Fin 2048) => x5 (ix2 a b)) i.val j
  else NormGrad.total (X x0) (D x1) (g x2) (s x3) r j

theorem whole_sums (h0 : ∀ i k, NormGrad.IsReal (X x0 i k)) (h1 : ∀ i k, NormGrad.IsReal (D x1 i k)) (h2 : ∀ k, NormGrad.IsReal (g x2 k)) (h3 : ∀ k, NormGrad.IsReal (s x3 k)) :
    val_main_v62 (F := Ideal) x0 x1 x2 x3 x4 x5 = fun i => total x0 x1 x2 x3 x4 x5 (i 0).val (i 1) := by
  funext i
  obtain ⟨a, b, rfl⟩ : ∃ a b, i = ix2 a b := ⟨i 0, i 1, eq_ix2 i⟩
  show _ = total _ _ _ _ _ _ a.val b
  have e : ∀ x : Fin 8192, NormGrad.scale (NormGrad.row (X x0) x.val) = NormGrad.scale (X x0 x) := fun x => congrArg _ (funext fun k => NormGrad.row_fin _ x k)
  unfold total
  rw [← sums_gate x0 x1 x2 x3 x4 x5 h0 h1 h2 h3]
  unfold NormGrad.total NormGrad.dn
  simp only [e, NormGrad.row_fin]
  pointwise [val_main_v62, val_main_v61, val_main_v59, val_main_v58, val_main_v33, val_main_v32, val_main_v31, val_main_v28, val_main_v27, val_main_v26, val_main_v25, val_main_v24, val_main_v16, val_main_v15, val_main_v14, val_main_v13, val_main_v23, val_main_v30, val_main_v29, val_main_v18, val_main_v17, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [scale_row]
  by_cases p0 : a.val = 0
  · rw [dif_pos (by omega), if_neg (by omega), if_pos p0]
  rw [dif_neg (by omega)]
  by_cases p1 : a.val = 1
  · rw [dif_pos (by omega), if_neg (by omega), if_neg p0, if_pos p1]
    exact Finset.sum_congr rfl fun x _ => NormGrad.swap1 _ _ _ _
  rw [dif_neg (by omega)]
  by_cases p2 : a.val = 2
  · rw [dif_pos (by omega), if_neg (by omega), if_neg p0, if_neg p1, if_pos p2]
    exact Finset.sum_congr rfl fun x _ => NormGrad.swap2 _ _ _ _
  rw [dif_neg (by omega)]
  by_cases p6 : a.val = 6
  · rw [dif_neg (by omega), dif_pos (by omega), if_pos p6]
  rw [if_neg p6, if_neg p0, if_neg p1, if_neg p2]
  by_cases p3 : a.val < 6
  · rw [dif_pos (by omega)]
  · rw [dif_neg (by omega), dif_neg (by omega)]
end Cert.Reference25Ideal.Body
end
-- ==== Proof.GradAll.lean ====
module

public import proofs.«01_k».proof.Proof.NormGrad

/-!
The gradient of a normalised row for entries of every kind: of a row with an infinite entry the scale is zero, and a
positive real factor distributes over every sum.
-/

@[expose] public section
noncomputable section
namespace NormGrad
open Idealize.ShloMosaic Finset

/-- A nonnegative real factor distributes over a sum of any entries. -/
theorem sum_mul_pos {ι : Type*} (s : Finset ι) (f : ι → EReal) (r : ℝ) (hr : 0 ≤ r) : (∑ i ∈ s, f i) * (r : EReal) = ∑ i ∈ s, f i * r := by
  classical
  induction s using Finset.induction_on with
  | empty => simp
  | insert a s h ih => rw [Finset.sum_insert h, Finset.sum_insert h, EReal.right_distrib_of_nonneg_of_ne_top (by exact_mod_cast hr) (EReal.coe_ne_top r), ih]

/-- An entry added to itself is twice it. -/
theorem double (y : EReal) : y + y = y * ((2 : ℝ) : EReal) := by
  induction y with
  | bot => rw [EReal.bot_mul_coe_of_pos (by norm_num)]; rfl
  | top => rw [EReal.top_mul_coe_of_pos (by norm_num)]; rfl
  | coe a => rw [← EReal.coe_add, ← EReal.coe_mul]; exact congrArg _ (by ring)

/-- Division by the length of a row. -/
theorem div_len (z : EReal) : Ideal.div z len = z * ((1 / 2048 : ℝ) : EReal) := by
  rw [len_eq, Ideal.div, if_neg (by exact_mod_cast (by norm_num : (2048 : ℝ) ≠ 0)), ← EReal.coe_inv, one_div]

/-- A row with an infinite entry has an infinite square and the scale zero. -/
theorem infinite_scale (x : Fin 2048 → EReal) (h : ¬∀ k, IsReal (x k)) : square x = ⊤ ∧ scale x = 0 := by
  have nonneg : ∀ y : EReal, 0 ≤ y * y := fun y => by
    induction y with
    | bot => rw [EReal.bot_mul_bot]; exact le_top
    | top => rw [EReal.top_mul_top]; exact le_top
    | coe a => rw [← EReal.coe_mul]; exact_mod_cast mul_self_nonneg a
  obtain ⟨k, hk⟩ := not_forall.mp h
  have hx : x k * x k = ⊤ := by
    generalize x k = y at hk
    induction y with
    | bot => exact EReal.bot_mul_bot
    | top => exact EReal.top_mul_top
    | coe a => exact absurd ⟨a, rfl⟩ hk
  have hs : ∑ k, x k * x k = ⊤ := top_le_iff.mp (hx ▸ Finset.single_le_sum (f := fun k => x k * x k) (fun i _ => nonneg (x i)) (Finset.mem_univ k))
  have hq : square x = ⊤ := by
    obtain ⟨e, _, ee⟩ := eps_eq
    rw [square, hs, div_len, EReal.top_mul_coe_of_pos (by norm_num), ee, EReal.top_add_coe]
  refine ⟨hq, ?_⟩
  rw [scale, hq]
  rfl

/-- The gradient as the derivative of the formula has it is the kernel's, whatever the entries. -/
theorem grad_all (x d w u : Fin 2048 → EReal) (hu : ∀ k, u k = d k * w k) (j : Fin 2048) : u j * scale x + x j * inner x u + inner x u * x j = grad x d w j := by
  by_cases hx : ∀ k, IsReal (x k)
  · obtain ⟨v, r, hv, hr, es, er⟩ := scale_real x hx
    choose a ha using hx
    have e2 : r / v = r * r * r := by
      rw [div_eq_iff hv.ne']
      linear_combination (-r) * hr
    have rpos : 0 ≤ r := by
      have : 0 ≤ scale x := by
        rw [scale, es, Ideal.rsqrt_coe, if_neg (not_lt.mpr hv.le), if_neg hv.ne']
        exact_mod_cast inv_nonneg.mpr (Real.sqrt_nonneg v)
      rw [er] at this
      exact_mod_cast this
    have e1 : ∑ k, d k * w k * (x k * scale x) = (∑ k, x k * u k) * (r : EReal) := by
      rw [sum_mul_pos _ _ _ rpos]
      exact Finset.sum_congr rfl fun k _ => by rw [hu, er, ← mul_assoc, mul_comm (d k * w k)]
    unfold inner grad
    rw [e1, div_len, div_len, es, er, ha j, half_eq, div_coe _ _ hv.ne', ← hu j]
    generalize ∑ k, x k * u k = S
    rw [sub_eq_add_neg, EReal.left_distrib_of_nonneg_of_ne_top (by exact_mod_cast rpos) (EReal.coe_ne_top r), add_assoc, mul_comm (u j)]
    refine congrArg ((r : EReal) * u j + ·) ?_
    rw [mul_comm _ (a j : EReal), double, ← mul_neg_one ((a j : EReal) * _ * _), e2]
    have n1 : (-1 : EReal) = ((-1 : ℝ) : EReal) := by norm_num
    rw [n1]
    have l : (a j : EReal) * (S * (((-1 / 2 : ℝ) : EReal) * ((r * r * r : ℝ) : EReal)) * ((1 / 2048 : ℝ) : EReal)) * ((2 : ℝ) : EReal)
        = S * (((a j : EReal) * (((-1 / 2 : ℝ) : EReal) * ((r * r * r : ℝ) : EReal) * ((1 / 2048 : ℝ) : EReal))) * ((2 : ℝ) : EReal)) := by ac_rfl
    have q : (r : EReal) * ((a j : EReal) * (r : EReal) * (S * (r : EReal) * ((1 / 2048 : ℝ) : EReal)) * ((-1 : ℝ) : EReal))
        = S * ((r : EReal) * ((a j : EReal) * (r : EReal) * ((r : EReal) * ((1 / 2048 : ℝ) : EReal)) * ((-1 : ℝ) : EReal))) := by ac_rfl
    rw [l, q]
    simp only [← EReal.coe_mul]
    exact congrArg (fun z : ℝ => S * (z : EReal)) (by ring)
  · obtain ⟨es, er⟩ := infinite_scale x hx
    have hd : Ideal.div 0 (⊤ : EReal) = 0 := by rw [Ideal.div, if_neg (by simp), zero_mul]
    unfold inner grad
    rw [es, er, hd, mul_zero, mul_zero, mul_zero, zero_mul, div_len, zero_mul, mul_zero, zero_mul, add_zero, add_zero]
end NormGrad
end
-- ==== Proof.LossHead.lean ====
module

public import proofs.«01_k».proof.Proof.GradAll

/-!
The squared error of the normalised last layer and its gradient over the extended reals: by row, and summed over rows by
tiles of 512 or at once. The kernel scales by a power of two where the derivative of the mean divides.
-/

@[expose] public section
noncomputable section
namespace LossHead
open Idealize.ShloMosaic Finset NormGrad

/-- The constants the programs name: a row's share of the gradient, its half, and the reference's two and a half. -/
abbrev inv : EReal := Ideal.ofBits .f32 0x3A000000#32
abbrev halfInv : EReal := Ideal.ofBits .f32 0x39800000#32
abbrev two : EReal := Ideal.ofBits .f32 0x40000000#32
abbrev hf : EReal := Ideal.ofBits .f32 0x3F000000#32

theorem inv_eq : inv = ((1 / 2048 : ℝ) : EReal) := by
  simp [inv, Ideal.ofBits, Ideal.ieee]
  rw [← EReal.coe_mul]
  norm_num

theorem halfInv_eq : halfInv = ((1 / 4096 : ℝ) : EReal) := by
  simp [halfInv, Ideal.ofBits, Ideal.ieee]
  rw [← EReal.coe_mul]
  norm_num

theorem two_eq : two = ((2 : ℝ) : EReal) := by
  simp [two, Ideal.ofBits, Ideal.ieee]
  rw [← EReal.coe_mul]
  norm_num

theorem hf_eq : hf = ((1 / 2 : ℝ) : EReal) := by
  simp [hf, Ideal.ofBits, Ideal.ieee]
  rw [← EReal.coe_mul]
  norm_num

/-- The derivative of half the mean square, of one entry. -/
theorem share (e : EReal) : Ideal.div hf len * (two * e) = e * inv := by
  rw [hf_eq, two_eq, len_eq, inv_eq, div_coe _ _ (by norm_num), ← mul_assoc, ← EReal.coe_mul, mul_comm]
  norm_num

section
variable (X T F : Fin 8192 → Fin 2048 → EReal) (g : Fin 2048 → EReal)

/-- The error of the normalised row, and the gradient of half its mean square. -/
def err (i : Fin 8192) (k : Fin 2048) : EReal := X i k * scale (X i) * g k - T i k
def out (i : Fin 8192) (k : Fin 2048) : EReal := err X T g i k * inv

/-- The gradient that reaches the row itself. -/
def dx (i : ℕ) (j : Fin 2048) : EReal := grad (row X i) (row (out X T g) i) g j

def sq (j : Fin 2048) (i : ℕ) : EReal := row (err X T g) i j * row (err X T g) i j

/-- What a tile adds to row `r` of the sums: the loss by feature, the norm's weight's gradient and the gate's. -/
def addend (r : ℕ) (j : Fin 2048) (t : ℕ) : EReal :=
  if r = 0 then (∑ x : Fin 512, sq X T g j (512 * t + x.val)) * halfInv
  else if r = 1 then ∑ x : Fin 512, dn X (out X T g) j (512 * t + x.val)
  else if r = 2 then ∑ x : Fin 512, dx X T g (512 * t + x.val) j * row F (512 * t + x.val) j
  else 0

/-- The loss by feature. -/
def lane (j : Fin 2048) : EReal := ∑ i : Fin 8192, sq X T g j i.val * halfInv

/-- The sums over all rows; row 3 is the loss. -/
def total (r : ℕ) (j : Fin 2048) : EReal :=
  if r = 0 then lane X T g j
  else if r = 1 then ∑ i : Fin 8192, dn X (out X T g) j i.val
  else if r = 2 then ∑ i : Fin 8192, dx X T g i.val j * row F i.val j
  else if r = 3 then ∑ k : Fin 2048, lane X T g k
  else 0

theorem row_err (i : ℕ) (h : i < 8192) (j : Fin 2048) : row (err X T g) i j = row X i j * scale (row X i) * g j - row T i j := by
  have e : row X i = X ⟨i, h⟩ := funext fun k => row_fin X ⟨i, h⟩ k
  rw [e]
  exact (row_fin (err X T g) ⟨i, h⟩ j).trans (congrArg (X ⟨i, h⟩ j * scale (X ⟨i, h⟩) * g j - ·) (row_fin T ⟨i, h⟩ j).symm)

theorem row_out (i : ℕ) (h : i < 8192) (j : Fin 2048) : row (out X T g) i j = row (err X T g) i j * inv :=
  (row_fin (out X T g) ⟨i, h⟩ j).trans (congrArg (· * inv) (row_fin (err X T g) ⟨i, h⟩ j).symm)

theorem total_eq (r : ℕ) (h3 : ¬r = 3) (j : Fin 2048) :
    ∑ t ∈ range 16, addend X T F g r j t = total X T F g r j := by
  unfold addend total
  split_ifs
  · refine (Finset.sum_congr rfl fun t _ => ?_).trans (Blocks.sum_fin (fun i => sq X T g j i * halfInv) 512 16 8192 rfl)
    rw [halfInv_eq]
    exact sum_mul_pos _ _ _ (by norm_num)
  · exact Blocks.sum_fin (fun i => dn X (out X T g) j i) 512 16 8192 rfl
  · exact Blocks.sum_fin (fun i => dx X T g i j * row F i j) 512 16 8192 rfl
  · simp

theorem total_loss (b : Fin 2048) : total X T F g 3 b = ∑ k : Fin 2048, total X T F g 0 k := by
  unfold total
  rw [if_neg (by norm_num), if_neg (by norm_num), if_neg (by norm_num), if_pos rfl]
  simp only [if_pos]

/-- Half of a sum over the row's length, term by term. -/
theorem half_sum {ι : Type*} (s : Finset ι) (f : ι → EReal) : hf * ∑ i ∈ s, Ideal.div (f i) len = ∑ i ∈ s, f i * halfInv := by
  rw [hf_eq, mul_comm, sum_mul_pos _ _ _ (by norm_num), halfInv_eq]
  refine Finset.sum_congr rfl fun i _ => ?_
  rw [div_len, mul_assoc, ← EReal.coe_mul]
  norm_num

theorem lane_eq (j : Fin 2048) : hf * ∑ i : Fin 8192, Ideal.div (err X T g i j * err X T g i j) len = lane X T g j := by
  rw [half_sum]
  unfold lane sq
  simp only [row_fin]

/-- Half the sum over rows of the mean squares is the sum of the loss over the features. -/
theorem loss_eq : hf * ∑ i : Fin 8192, Ideal.div (∑ j, err X T g i j * err X T g i j) len = ∑ j, lane X T g j := by
  rw [half_sum]
  unfold lane sq
  simp only [row_fin]
  rw [Finset.sum_comm]
  refine Finset.sum_congr rfl fun i _ => ?_
  rw [halfInv_eq]
  exact sum_mul_pos _ _ _ (by norm_num)
end
end LossHead
end
-- ==== Proof.ModLoss.lean ====
module

public import proofs.«01_k».proof.Proof.LossHead
public import proofs.«01_k».proof.Proof.RowSums
public import proofs.«01_k».proof.Proof.Gen.Kernel26Ideal.Value
public import Idealize.ShloMosaic.Lib.Pointwise
public import Idealize.ShloMosaic.Lib.Pipeline.ValueKit

/-!
The loss and its gradient: a block of rows at each grid point, the sums over rows point by point, and the loss of all
features at the last point.
-/

@[expose] public section
noncomputable section
namespace Cert.Kernel26Ideal.Body
open Cert.Kernel26Ideal Cert.Kernel26Ideal.Gen Idealize.ShloMosaic Idealize.ShloMosaic.TcCoe Idealize.SL.Sem Idealize.ShloMosaic.Tactic RowSums
variable (m : (ℓ : Loc nD τ sig) → Buf (Elt Ideal) ℓ) (c : Dev nD)

/-- The residual, the target, the last norm's weight, the branch and its gate. -/
abbrev argX : S8192x2048.Idx → EReal := m ((c : Thread nD τ).loc main_arg0)
abbrev argT : S8192x2048.Idx → EReal := m ((c : Thread nD τ).loc main_arg1)
abbrev argG : S1x2048.Idx → EReal := m ((c : Thread nD τ).loc main_arg2)
abbrev argF : S8192x2048.Idx → EReal := m ((c : Thread nD τ).loc main_arg3)
abbrev argW : S1x2048.Idx → EReal := m ((c : Thread nD τ).loc main_arg4)
abbrev F : Fin 8192 → Fin 2048 → EReal := fun i k => argF m c (ix2 i k)
abbrev T : Fin 8192 → Fin 2048 → EReal := fun i k => argT m c (ix2 i k)
abbrev X : Fin 8192 → Fin 2048 → EReal := fun i k => argX m c (ix2 i k) + argW m c (ix2 0 k) * argF m c (ix2 i k)
abbrev g : Fin 2048 → EReal := fun k => argG m c (ix2 0 k)
abbrev w : Fin 2048 → EReal := fun k => argW m c (ix2 0 k)
abbrev blkX (t : Fin cfg0.N) : S512x2048.Idx → EReal := iblk m c 0 t
abbrev blkT (t : Fin cfg0.N) : S512x2048.Idx → EReal := iblk m c 1 t
abbrev blkG (t : Fin cfg0.N) : S1x2048.Idx → EReal := iblk m c 2 t
abbrev blkF (t : Fin cfg0.N) : S512x2048.Idx → EReal := iblk m c 3 t
abbrev blkW (t : Fin cfg0.N) : S1x2048.Idx → EReal := iblk m c 4 t

theorem point_lt (t : Fin cfg0.N) : t.val < 16 := lt_of_lt_of_eq t.isLt N_0

/-! The arguments by block. -/

theorem blockX (t : Fin cfg0.N) (a : Fin 512) (k : Fin 2048) : blkX m c t (ix2 a k) = NormGrad.row (fun i k => argX m c (ix2 i k)) (512 * t.val + a.val) k := by
  have e : ∀ t : Fin cfg0.N, win0_0.index t = ![t.val, 0] := (by decide +kernel : ∀ t : Fin grid0.N, _)
  have ht := point_lt t
  unfold NormGrad.row
  rw [Blocks.at2_of_lt _ (by omega) k.isLt]
  blk_simp [iblk]
  rw [V_main_arg0]
  refine congrArg (argX m c) ?_
  blk_ext [e]

theorem blockT (t : Fin cfg0.N) (a : Fin 512) (k : Fin 2048) : blkT m c t (ix2 a k) = NormGrad.row (T m c) (512 * t.val + a.val) k := by
  have e : ∀ t : Fin cfg0.N, win0_1.index t = ![t.val, 0] := (by decide +kernel : ∀ t : Fin grid0.N, _)
  have ht := point_lt t
  unfold NormGrad.row
  rw [Blocks.at2_of_lt _ (by omega) k.isLt]
  blk_simp [iblk]
  rw [V_main_arg1]
  refine congrArg (argT m c) ?_
  blk_ext [e]

theorem blockG (t : Fin cfg0.N) (k : Fin 2048) : blkG m c t (ix2 0 k) = g m c k := by
  have e : ∀ t : Fin cfg0.N, win0_2.index t = ![0, 0] := (by decide +kernel : ∀ t : Fin grid0.N, _)
  blk_simp [iblk]
  rw [V_main_arg2]
  refine congrArg (argG m c) ?_
  blk_ext [e]

theorem blockF (t : Fin cfg0.N) (a : Fin 512) (k : Fin 2048) : blkF m c t (ix2 a k) = NormGrad.row (F m c) (512 * t.val + a.val) k := by
  have e : ∀ t : Fin cfg0.N, win0_3.index t = ![t.val, 0] := (by decide +kernel : ∀ t : Fin grid0.N, _)
  have ht := point_lt t
  unfold NormGrad.row
  rw [Blocks.at2_of_lt _ (by omega) k.isLt]
  blk_simp [iblk]
  rw [V_main_arg3]
  refine congrArg (argF m c) ?_
  blk_ext [e]

theorem blockW (t : Fin cfg0.N) (k : Fin 2048) : blkW m c t (ix2 0 k) = w m c k := by
  have e : ∀ t : Fin cfg0.N, win0_4.index t = ![0, 0] := (by decide +kernel : ∀ t : Fin grid0.N, _)
  blk_simp [iblk]
  rw [V_main_arg4]
  refine congrArg (argW m c) ?_
  blk_ext [e]

/-! The body's results of blocks. -/

section
variable (x0 x1 : Vec Ideal S512x2048 .f32) (x2 x4 : Vec Ideal S1x2048 .f32) (x3 : Vec Ideal S512x2048 .bf16)

theorem pay_res (a : Fin 512) (b : Fin 2048) : k0_pay3 (F := Ideal) x0 x4 x3 (ix2 a b) = x0 (ix2 a b) + x4 (ix2 0 b) * x3 (ix2 a b) := by
  pointwise [k0_pay3]

theorem pay_scale (a : Fin 512) : k0_pay4 (F := Ideal) x0 x4 x3 (ix2 a 0) = NormGrad.scale (fun k => k0_pay3 (F := Ideal) x0 x4 x3 (ix2 a k)) := by
  pointwise [k0_pay4]
  rfl

theorem pay_norm (a : Fin 512) (b : Fin 2048) : k0_pay5 (F := Ideal) x0 x4 x3 (ix2 a b)
    = k0_pay3 (F := Ideal) x0 x4 x3 (ix2 a b) * NormGrad.scale (fun k => k0_pay3 (F := Ideal) x0 x4 x3 (ix2 a k)) := by
  pointwise [k0_pay5]
  rw [pay_scale]

theorem pay_err (a : Fin 512) (b : Fin 2048) : k0_pay6 (F := Ideal) x0 x4 x3 x2 x1 (ix2 a b)
    = k0_pay5 (F := Ideal) x0 x4 x3 (ix2 a b) * x2 (ix2 0 b) - x1 (ix2 a b) := by
  pointwise [k0_pay6]

theorem pay_out (v24 : Vec Ideal S512x2048 .f32) (a : Fin 512) (b : Fin 2048) : k0_pay9 (F := Ideal) v24 k0_pay8 (ix2 a b) = v24 (ix2 a b) * LossHead.inv := by
  pointwise [k0_pay9, k0_pay8]

theorem pay_lane (v25 : Vec Ideal S1x2048 .f32) (b : Fin 2048) : k0_pay7 (F := Ideal) x0 x4 x3 x2 x1 v25 (ix2 0 b)
    = v25 (ix2 0 b) + (∑ a : Fin 512, k0_pay6 (F := Ideal) x0 x4 x3 x2 x1 (ix2 a b) * k0_pay6 (F := Ideal) x0 x4 x3 x2 x1 (ix2 a b)) * LossHead.halfInv := by
  pointwise [k0_pay7]

theorem pay_weight (v19 v24 v34 : Vec Ideal S512x2048 .f32) (v36 : Vec Ideal S1x2048 .f32) (b : Fin 2048) : k0_pay10 (F := Ideal) v19 v24 v34 v36 (ix2 0 b)
    = v36 (ix2 0 b) + ∑ a : Fin 512, k0_pay9 (F := Ideal) v24 v34 (ix2 a b) * v19 (ix2 a b) := by
  pointwise [k0_pay10]

theorem pay_dx (v17 : Vec Ideal S512x1 .f32) (v19 v24 v34 : Vec Ideal S512x2048 .f32) (a : Fin 512) (b : Fin 2048) : k0_pay11 (F := Ideal) v17 v19 x2 v24 v34 (ix2 a b)
    = v17 (ix2 a 0) * (k0_pay9 (F := Ideal) v24 v34 (ix2 a b) * x2 (ix2 0 b)
      - v19 (ix2 a b) * Ideal.div (∑ k : Fin 2048, k0_pay9 (F := Ideal) v24 v34 (ix2 a k) * x2 (ix2 0 k) * v19 (ix2 a k)) NormGrad.len) := by
  pointwise [k0_pay11]

theorem pay_gate (v17 : Vec Ideal S512x1 .f32) (v19 v24 v34 : Vec Ideal S512x2048 .f32) (v56 : Vec Ideal S1x2048 .f32) (b : Fin 2048) : k0_pay12 (F := Ideal) v17 v19 x2 v24 v34 v56 x3 (ix2 0 b)
    = v56 (ix2 0 b) + ∑ a : Fin 512, k0_pay11 (F := Ideal) v17 v19 x2 v24 v34 (ix2 a b) * x3 (ix2 a b) := by
  pointwise [k0_pay12]

theorem pay_df (v17 : Vec Ideal S512x1 .f32) (v19 v24 v34 : Vec Ideal S512x2048 .f32) (a : Fin 512) (b : Fin 2048) : k0_pay13 (F := Ideal) v17 v19 x2 v24 v34 x4 (ix2 a b)
    = k0_pay11 (F := Ideal) v17 v19 x2 v24 v34 (ix2 a b) * x4 (ix2 0 b) := by
  pointwise [k0_pay13]

theorem pay_zero (y : S8x2048.Idx) : k0_pay2 (F := Ideal) y = 0 := by
  pointwise [k0_pay2]

theorem pay_loss (v : Vec Ideal S1x2048 .f32) (b : Fin 2048) : k0_pay1 (F := Ideal) v (ix2 0 b) = ∑ k : Fin 2048, v (ix2 0 k) := by
  pointwise [k0_pay1]
  rw [Finset.univ_unique, Finset.sum_singleton]
end

/-! The same of the blocks of a point. -/

section
variable (t : Fin cfg0.N)

abbrev eN : FVec Ideal S512x2048 .f32 := k0_pay5 (F := Ideal) (blkX m c t) (blkW m c t) (blkF m c t)
abbrev eS : FVec Ideal S512x1 .f32 := k0_pay4 (F := Ideal) (blkX m c t) (blkW m c t) (blkF m c t)
abbrev eE : FVec Ideal S512x2048 .f32 := k0_pay6 (F := Ideal) (blkX m c t) (blkW m c t) (blkF m c t) (blkG m c t) (blkT m c t)

theorem in_rows (a : Fin 512) : 512 * t.val + a.val < 8192 := by
  have := point_lt t
  omega

theorem block_res (a : Fin 512) (k : Fin 2048) : k0_pay3 (F := Ideal) (blkX m c t) (blkW m c t) (blkF m c t) (ix2 a k) = NormGrad.row (X m c) (512 * t.val + a.val) k := by
  rw [pay_res, blockX, blockW, blockF]
  have h := in_rows t a
  unfold NormGrad.row
  rw [Blocks.at2_of_lt _ h k.isLt, Blocks.at2_of_lt _ h k.isLt, Blocks.at2_of_lt _ h k.isLt]

theorem block_scale (a : Fin 512) : eS m c t (ix2 a 0) = NormGrad.scale (NormGrad.row (X m c) (512 * t.val + a.val)) :=
  (pay_scale _ _ _ a).trans (congrArg NormGrad.scale (funext (block_res m c t a)))

theorem block_norm (a : Fin 512) (b : Fin 2048) : eN m c t (ix2 a b)
    = NormGrad.row (X m c) (512 * t.val + a.val) b * NormGrad.scale (NormGrad.row (X m c) (512 * t.val + a.val)) :=
  (pay_norm _ _ _ a b).trans (congrArg₂ (· * ·) (block_res m c t a b) (congrArg NormGrad.scale (funext (block_res m c t a))))

theorem block_err (a : Fin 512) (b : Fin 2048) : eE m c t (ix2 a b) = NormGrad.row (LossHead.err (X m c) (T m c) (g m c)) (512 * t.val + a.val) b := by
  rw [LossHead.row_err _ _ _ _ (in_rows t a)]
  refine (pay_err _ _ _ _ _ a b).trans ?_
  rw [blockG, blockT]
  exact congrArg (· * g m c b - NormGrad.row (T m c) (512 * t.val + a.val) b) (block_norm m c t a b)

theorem block_out (a : Fin 512) (b : Fin 2048) : k0_pay9 (F := Ideal) (eE m c t) k0_pay8 (ix2 a b) = NormGrad.row (LossHead.out (X m c) (T m c) (g m c)) (512 * t.val + a.val) b := by
  rw [LossHead.row_out _ _ _ _ (in_rows t a), pay_out, block_err]

theorem block_dx (a : Fin 512) (b : Fin 2048) : k0_pay11 (F := Ideal) (eS m c t) (eN m c t) (blkG m c t) (eE m c t) k0_pay8 (ix2 a b)
    = LossHead.dx (X m c) (T m c) (g m c) (512 * t.val + a.val) b := by
  rw [pay_dx]
  simp only [block_out, block_norm, block_scale, blockG]
  rfl

abbrev addend (r : ℕ) (b : Fin 2048) (t : ℕ) : EReal := LossHead.addend (X m c) (T m c) (F m c) (g m c) r b t

theorem row_lane (v : Vec Ideal S1x2048 .f32) (b : Fin 2048) : k0_pay7 (F := Ideal) (blkX m c t) (blkW m c t) (blkF m c t) (blkG m c t) (blkT m c t) v (ix2 0 b)
    = v (ix2 0 b) + addend m c 0 b t.val := by
  rw [pay_lane]
  simp only [block_err]
  rfl

theorem row_weight (v : Vec Ideal S1x2048 .f32) (b : Fin 2048) : k0_pay10 (F := Ideal) (eN m c t) (eE m c t) k0_pay8 v (ix2 0 b)
    = v (ix2 0 b) + addend m c 1 b t.val := by
  rw [pay_weight]
  simp only [block_out, block_norm]
  rfl

theorem row_gate (v : Vec Ideal S1x2048 .f32) (b : Fin 2048) : k0_pay12 (F := Ideal) (eS m c t) (eN m c t) (blkG m c t) (eE m c t) k0_pay8 v (blkF m c t) (ix2 0 b)
    = v (ix2 0 b) + addend m c 2 b t.val := by
  rw [pay_gate]
  simp only [block_dx, blockF]
  rfl
end

theorem no_addend (r : ℕ) (h0 : ¬r = 0) (h1 : ¬r = 1) (h2 : ¬r = 2) (b : Fin 2048) (t : ℕ) : addend m c r b t = 0 := by
  unfold addend LossHead.addend
  rw [if_neg h0, if_neg h1, if_neg h2]

abbrev acc (n : ℕ) (h : n < cfg0.N) : S8x2048.Idx → EReal := (outsAt0 m c n h).2.2

theorem acc_A (t : Fin cfg0.N) (h : t.val % 16 = 0) (a : Fin 8) (b : Fin 2048) : acc m c t.val t.isLt (ix2 a b) = 0 + addend m c a.val b t.val := by
  unfold acc
  rw [outsAt0_A m c t h (by omega)]
  frame_out
  rw [canon_row 8 2 (by omega), canon_row 8 1 (by omega), canon_row 8 0 (by omega)]
  by_cases h2 : a.val = 2
  · rw [if_pos h2, row_gate, load_row 8 _ _ 2 (by omega), canon_row 8 1 (by omega), canon_row 8 0 (by omega), if_neg (by norm_num), if_neg (by norm_num), canon_all, pay_zero, h2]
  rw [if_neg h2]
  by_cases h1 : a.val = 1
  · rw [if_pos h1, row_weight, load_row 8 _ _ 1 (by omega), canon_row 8 0 (by omega), if_neg (by norm_num), canon_all, pay_zero, h1]
  rw [if_neg h1]
  by_cases h0 : a.val = 0
  · rw [if_pos h0, row_lane, load_row 8 _ _ 0 (by omega), canon_all, pay_zero, h0]
  rw [if_neg h0, canon_all, pay_zero, no_addend m c _ h0 h1 h2, add_zero]

/-- Rows 0 to 2, stored over what the sums held. -/
theorem steps (t : Fin cfg0.N) {κ : _} {sp : _} (v : View sig κ sp S8x2048 .f32) (f : v.ty.Contents (Elt Ideal)) (P : S8x2048.Idx → EReal) (hf : v.read (Elt Ideal) f = P) (i0 i1 i2) (a : Fin 8) (b : Fin 2048) :
    v.read (Elt Ideal) (v.writes (Elt Ideal) f [
      ⟨Rect.unit ![2, 0] ![1, 2048] i2, k0_pay12 (F := Ideal) (eS m c t) (eN m c t) (blkG m c t) (eE m c t) k0_pay8 (View.ld (Val := Elt Ideal) (e' := .f32) P (Rect.unit (s := S8x2048) ![2, 0] ![1, 2048] i2)) (blkF m c t)⟩,
      ⟨Rect.unit ![1, 0] ![1, 2048] i1, k0_pay10 (F := Ideal) (eN m c t) (eE m c t) k0_pay8 (View.ld (Val := Elt Ideal) (e' := .f32) P (Rect.unit (s := S8x2048) ![1, 0] ![1, 2048] i1))⟩,
      ⟨Rect.unit ![0, 0] ![1, 2048] i0, k0_pay7 (F := Ideal) (blkX m c t) (blkW m c t) (blkF m c t) (blkG m c t) (blkT m c t) (View.ld (Val := Elt Ideal) (e' := .f32) P (Rect.unit (s := S8x2048) ![0, 0] ![1, 2048] i0))⟩]) (ix2 a b)
    = P (ix2 a b) + addend m c a.val b t.val := by
  rw [read_row 8 _ _ 2 (by omega), read_row 8 _ _ 1 (by omega), read_row 8 _ _ 0 (by omega), View.writes_nil]
  by_cases h2 : a.val = 2
  · rw [if_pos h2, row_gate, ld_row 8 _ 2 (by omega), show a = ⟨2, by omega⟩ from Fin.ext h2]
  rw [if_neg h2]
  by_cases h1 : a.val = 1
  · rw [if_pos h1, row_weight, ld_row 8 _ 1 (by omega), show a = ⟨1, by omega⟩ from Fin.ext h1]
  rw [if_neg h1]
  by_cases h0 : a.val = 0
  · rw [if_pos h0, row_lane, ld_row 8 _ 0 (by omega), show a = ⟨0, by omega⟩ from Fin.ext h0]
  rw [if_neg h0, no_addend m c _ h0 h1 h2, add_zero, hf]

theorem acc_B (t : Fin cfg0.N) (h : ¬t.val % 16 = 0) (a : Fin 8) (h3 : ¬a.val = 3) (b : Fin 2048) : acc m c t.val t.isLt (ix2 a b)
    = acc m c (t.val - 1) (by omega) (ix2 a b) + addend m c a.val b t.val := by
  unfold acc
  by_cases h15 : t.val % 16 = 15
  · rw [outsAt0_C m c t h h15]
    frame_out
    rw [read_row 8 _ _ 3 (by omega), if_neg h3]
    exact steps m c t _ _ _ (Memref.IsWhole.read_unread _ _) _ _ _ a b
  · rw [outsAt0_B m c t h h15]
    frame_out
    exact steps m c t _ _ _ (Memref.IsWhole.read_unread _ _) _ _ _ a b

/-- At the last point row 3 takes the sum of row 0. -/
theorem acc_C (t : Fin cfg0.N) (h : t.val % 16 = 15) (b : Fin 2048) : acc m c t.val t.isLt (ix2 (3 : Fin 8) b)
    = ∑ k : Fin 2048, acc m c t.val t.isLt (ix2 (0 : Fin 8) k) := by
  unfold acc
  rw [outsAt0_C m c t (by omega) h]
  frame_out
  rw [read_row 8 _ _ 3 (by omega), if_pos (show (3 : Fin 8).val = 3 from rfl), pay_loss]
  refine Finset.sum_congr rfl fun k _ => ?_
  rw [load_row 8 _ _ 0 (by omega), canon_row 8 2 (by omega), canon_row 8 1 (by omega), canon_row 8 0 (by omega), if_neg (by norm_num), if_neg (by norm_num), if_pos rfl,
    read_row 8 _ _ 3 (by omega), read_row 8 _ _ 2 (by omega), read_row 8 _ _ 1 (by omega), read_row 8 _ _ 0 (by omega), if_neg (by norm_num), if_neg (by norm_num), if_neg (by norm_num), if_pos (show (0 : Fin 8).val = 0 from rfl)]

theorem dx (t : Fin cfg0.N) (a : Fin 512) (b : Fin 2048) : ((outsAt0 m c t.val t.isLt).1 : S512x2048.Idx → EReal) (ix2 a b)
    = LossHead.dx (X m c) (T m c) (g m c) (512 * t.val + a.val) b := by
  by_cases h : t.val % 16 = 0
  · rw [outsAt0_A m c t h (by omega)]
    frame_out
    exact block_dx m c t a b
  by_cases h15 : t.val % 16 = 15
  · rw [outsAt0_C m c t h h15]
    frame_out
    exact block_dx m c t a b
  · rw [outsAt0_B m c t h h15]
    frame_out
    exact block_dx m c t a b

theorem df (t : Fin cfg0.N) (a : Fin 512) (b : Fin 2048) : ((outsAt0 m c t.val t.isLt).2.1 : S512x2048.Idx → EReal) (ix2 a b)
    = LossHead.dx (X m c) (T m c) (g m c) (512 * t.val + a.val) b * w m c b := by
  have e : k0_pay13 (F := Ideal) (eS m c t) (eN m c t) (blkG m c t) (eE m c t) k0_pay8 (blkW m c t) (ix2 a b)
      = LossHead.dx (X m c) (T m c) (g m c) (512 * t.val + a.val) b * w m c b :=
    (pay_df _ _ _ _ _ _ a b).trans (congrArg₂ (· * ·) (block_dx m c t a b) (blockW m c t b))
  by_cases h : t.val % 16 = 0
  · rw [outsAt0_A m c t h (by omega)]
    frame_out
    exact e
  by_cases h15 : t.val % 16 = 15
  · rw [outsAt0_C m c t h h15]
    frame_out
    exact e
  · rw [outsAt0_B m c t h h15]
    frame_out
    exact e

/-- The sums after a point are those of the tiles so far, in every row but the loss's. -/
theorem partial_sum (t : Fin cfg0.N) (a : Fin 8) (h3 : ¬a.val = 3) (b : Fin 2048) :
    acc m c t.val t.isLt (ix2 a b) = 0 + ∑ k ∈ Finset.range (t.val % 16 + 1), addend m c a.val b k := by
  refine Pipeline.eq_sum_of_reset_step_apply_divmod (M := EReal) (fun n h b => acc m c n h (ix2 a b)) 16 (fun _ => 0)
    (fun _ k b => addend m c a.val b k) (fun t h b => ?_) (fun t h b => ?_) t b
  · have e : t.val % 16 = t.val := Nat.mod_eq_of_lt (point_lt t)
    exact (acc_A m c t h a b).trans (congrArg (fun k => 0 + addend m c a.val b k) e.symm)
  · have e : t.val % 16 = t.val := Nat.mod_eq_of_lt (point_lt t)
    exact (acc_B m c t h a h3 b).trans (congrArg (fun k => acc m c (t.val - 1) (by omega) (ix2 a b) + addend m c a.val b k) e.symm)

theorem final_dx : (dats m 0 c).arrAt 5 cfg0.N = (fun i : S8192x2048.Idx => LossHead.dx (X m c) (T m c) (g m c) (i 0).val (i 1)) := by
  refine (dats m 0 c).arrAt_eq_of_covers 5 _ (by decide +kernel) fun t hf y => ?_
  obtain ⟨a, b, rfl⟩ : ∃ a b, y = ix2 a b := ⟨y 0, y 1, eq_ix2 y⟩
  have e : ∀ t : Fin cfg0.N, win0_5.index t = ![t.val, 0] := (by decide +kernel : ∀ t : Fin grid0.N, _)
  blk_simp
  rw [after0_5, dx]
  have q0 : win0_5.index t 0 = t.val := congrFun (e t) 0
  have q1 : win0_5.index t 1 = 0 := congrFun (e t) 1
  have f : (win0_5.blk t).view.emb (ix2 a b) 1 = b := Fin.ext (by blk_simp; omega)
  rw [f, q0, Nat.mul_comm t.val 512]

theorem final_df : (dats m 0 c).arrAt 6 cfg0.N = (fun i : S8192x2048.Idx => LossHead.dx (X m c) (T m c) (g m c) (i 0).val (i 1) * w m c (i 1)) := by
  refine (dats m 0 c).arrAt_eq_of_covers 6 _ (by decide +kernel) fun t hf y => ?_
  obtain ⟨a, b, rfl⟩ : ∃ a b, y = ix2 a b := ⟨y 0, y 1, eq_ix2 y⟩
  have e : ∀ t : Fin cfg0.N, win0_6.index t = ![t.val, 0] := (by decide +kernel : ∀ t : Fin grid0.N, _)
  blk_simp
  rw [after0_6, df]
  have q0 : win0_6.index t 0 = t.val := congrFun (e t) 0
  have q1 : win0_6.index t 1 = 0 := congrFun (e t) 1
  have f : (win0_6.blk t).view.emb (ix2 a b) 1 = b := Fin.ext (by blk_simp; omega)
  rw [f, q0, Nat.mul_comm t.val 512]

theorem last
    (t : Fin cfg0.N) (h15 : t.val % 16 = 15) (a : Fin 8) (b : Fin 2048) :
    acc m c t.val t.isLt (ix2 a b) = LossHead.total (X m c) (T m c) (F m c) (g m c) a.val b := by
  have others : ∀ (a : Fin 8) (h3 : ¬a.val = 3) (b : Fin 2048), acc m c t.val t.isLt (ix2 a b) = LossHead.total (X m c) (T m c) (F m c) (g m c) a.val b := fun a h3 b => by
    rw [partial_sum m c t a h3 b, h15, zero_add]
    exact LossHead.total_eq _ _ _ _ a.val h3 b
  by_cases h3 : a.val = 3
  · rw [show a = (3 : Fin 8) from Fin.ext h3, acc_C m c t h15 b]
    exact (Finset.sum_congr rfl fun k _ => others 0 (by norm_num) k).trans (LossHead.total_loss _ _ _ _ b).symm
  · exact others a h3 b

theorem final_sums :
    (dats m 0 c).arrAt 7 cfg0.N = (fun i : S8x2048.Idx => LossHead.total (X m c) (T m c) (F m c) (g m c) (i 0).val (i 1)) := by
  refine (dats m 0 c).arrAt_eq_of_covers 7 _ (by decide +kernel) fun t hf y => ?_
  obtain ⟨a, b, rfl⟩ : ∃ a b, y = ix2 a b := ⟨y 0, y 1, eq_ix2 y⟩
  have e : ∀ t : Fin cfg0.N, win0_7.index t = ![0, 0] := (by decide +kernel : ∀ t : Fin grid0.N, _)
  have h15 := (flush0_7 t).mp hf
  blk_simp
  rw [after0_7]
  have q0 : win0_7.index t 0 = 0 := congrFun (e t) 0
  have f : (win0_7.blk t).view.emb (ix2 a b) 1 = b := Fin.ext (by have q1 : win0_7.index t 1 = 0 := congrFun (e t) 1; blk_simp; omega)
  rw [f, q0, Nat.zero_mul, Nat.zero_add]
  exact last m c t h15 a b
end Cert.Kernel26Ideal.Body
end
-- ==== Proof.Ref26.lean ====
module

public import proofs.«01_k».proof.Proof.LossHead
public import proofs.«01_k».proof.Proof.Gen.Reference26Ideal.Read
public import Idealize.ShloMosaic.Lib.Pointwise

/-!
The loss and its gradient, from the formula of the loss.
-/

@[expose] public section
noncomputable section
namespace Cert.Reference26Ideal.Body
open Cert.Reference26Ideal Cert.Reference26Ideal.Read Idealize.ShloMosaic Idealize.ShloMosaic.TcCoe Idealize.SL.Sem Idealize.ShloMosaic.Tactic
variable (x0 x1 : (⟨S8192x2048, .f32⟩ : BufTy).Contents (Elt Ideal)) (x2 : (⟨S1x2048, .f32⟩ : BufTy).Contents (Elt Ideal))
  (x3 : (⟨S8192x2048, .bf16⟩ : BufTy).Contents (Elt Ideal)) (x4 : (⟨S1x2048, .f32⟩ : BufTy).Contents (Elt Ideal))

/-- The gated residual, the target, the branch and the norm's weight. -/
abbrev X : Fin 8192 → Fin 2048 → EReal := fun i k => x0 (ix2 i k) + x4 (ix2 0 k) * x3 (ix2 i k)
abbrev T : Fin 8192 → Fin 2048 → EReal := fun i k => x1 (ix2 i k)
abbrev F : Fin 8192 → Fin 2048 → EReal := fun i k => x3 (ix2 i k)
abbrev g : Fin 2048 → EReal := fun k => x2 (ix2 0 k)

theorem res_row (a : Fin 8192) (b : Fin 2048) : val_main_v3 (F := Ideal) x0 x3 x4 (ix2 a b) = X x0 x3 x4 a b := by
  pointwise [val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]

theorem square_row (a : Fin 8192) : val_main_v10 (F := Ideal) x0 x3 x4 (ix2 a 0) = NormGrad.square (X x0 x3 x4 a) := by
  pointwise [val_main_v4, val_main_v5, val_main_v6, val_main_v7, val_main_v8, val_main_v9, val_main_v10, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  simp only [res_row]
  rfl

theorem scale_row (a : Fin 8192) : val_main_v11 (F := Ideal) x0 x3 x4 (ix2 a 0) = NormGrad.scale (X x0 x3 x4 a) := by
  pointwise [val_main_v11, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [square_row]
  rfl

theorem norm_row (a : Fin 8192) (b : Fin 2048) : val_main_v16 (F := Ideal) x0 x3 x4 (ix2 a b) = X x0 x3 x4 a b * NormGrad.scale (X x0 x3 x4 a) := by
  pointwise [val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [res_row, scale_row]

theorem err_row (a : Fin 8192) (b : Fin 2048) : val_main_v19 (F := Ideal) x0 x1 x2 x3 x4 (ix2 a b) = LossHead.err (X x0 x3 x4) (T x1) (g x2) a b := by
  pointwise [val_main_v17, val_main_v18, val_main_v19, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [norm_row]
  rfl

/-- The formula's second writing of the error. -/
theorem again : val_main_v73 (F := Ideal) x0 x1 x2 x3 x4 = val_main_v19 (F := Ideal) x0 x1 x2 x3 x4 := rfl

theorem out_row (a : Fin 8192) (b : Fin 2048) : val_main_v33 (F := Ideal) x0 x1 x2 x3 x4 (ix2 a b) = LossHead.out (X x0 x3 x4) (T x1) (g x2) a b := by
  pointwise [val_main_v33, val_main_v32, val_main_v31, val_main_v30, val_main_v29, val_main_v28, val_main_v22, val_main_v21, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [err_row]
  exact LossHead.share _

theorem u_row (a : Fin 8192) (b : Fin 2048) : val_main_v38 (F := Ideal) x0 x1 x2 x3 x4 (ix2 a b) = LossHead.out (X x0 x3 x4) (T x1) (g x2) a b * g x2 b := by
  pointwise [val_main_v37, val_main_v38, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [out_row]

theorem inner_row (a : Fin 8192) : val_main_v47 (F := Ideal) x0 x1 x2 x3 x4 (ix1 a) = NormGrad.inner (X x0 x3 x4 a) (fun k => val_main_v38 (F := Ideal) x0 x1 x2 x3 x4 (ix2 a k)) := by
  pointwise [val_main_v39, val_main_v40, val_main_v41, val_main_v44, val_main_v45, val_main_v46, val_main_v47, val_main_v12, val_main_v13, val_main_v14, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [Finset.univ_unique, Finset.sum_singleton]
  have q : (default : Fin 1) = 0 := rfl
  simp only [q, scale_row, square_row, res_row]
  rfl

theorem whole_dx :
    val_main_v52 (F := Ideal) x0 x1 x2 x3 x4 = fun i => LossHead.dx (X x0 x3 x4) (T x1) (g x2) (i 0).val (i 1) := by
  funext i
  obtain ⟨a, b, rfl⟩ : ∃ a b, i = ix2 a b := ⟨i 0, i 1, eq_ix2 i⟩
  show _ = LossHead.dx (X x0 x3 x4) (T x1) (g x2) a.val b
  pointwise [val_main_v42, val_main_v43, val_main_v48, val_main_v49, val_main_v50, val_main_v51, val_main_v52, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [scale_row, inner_row, res_row]
  have e0 : NormGrad.row (X x0 x3 x4) a.val = X x0 x3 x4 a := funext fun k => NormGrad.row_fin _ a k
  have e1 : NormGrad.row (LossHead.out (X x0 x3 x4) (T x1) (g x2)) a.val = LossHead.out (X x0 x3 x4) (T x1) (g x2) a := funext fun k => NormGrad.row_fin _ a k
  unfold LossHead.dx
  rw [e0, e1]
  exact NormGrad.grad_all (X x0 x3 x4 a) (LossHead.out (X x0 x3 x4) (T x1) (g x2) a) (g x2) _ (fun k => u_row x0 x1 x2 x3 x4 a k) b

theorem whole_df :
    val_main_v81 (F := Ideal) x0 x1 x2 x3 x4 = fun i => LossHead.dx (X x0 x3 x4) (T x1) (g x2) (i 0).val (i 1) * x4 (ix2 0 (i 1)) := by
  funext i
  obtain ⟨a, b, rfl⟩ : ∃ a b, i = ix2 a b := ⟨i 0, i 1, eq_ix2 i⟩
  show _ = LossHead.dx (X x0 x3 x4) (T x1) (g x2) a.val b * x4 (ix2 0 b)
  pointwise [val_main_v81, val_main_v54, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [whole_dx x0 x1 x2 x3 x4, mul_comm]
  rfl

theorem sums_gate (b : Fin 2048) :
    val_main_v57 (F := Ideal) x0 x1 x2 x3 x4 (ix2 0 b) = ∑ i : Fin 8192, LossHead.dx (X x0 x3 x4) (T x1) (g x2) i.val b * NormGrad.row (F x3) i.val b := by
  pointwise [val_main_v57, val_main_v56, val_main_v55, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  refine Finset.sum_congr rfl fun i _ => ?_
  rw [whole_dx x0 x1 x2 x3 x4, NormGrad.row_fin]
  rfl

theorem sums_weight (b : Fin 2048) :
    val_main_v36 (F := Ideal) x0 x1 x2 x3 x4 (ix2 0 b) = ∑ i : Fin 8192, NormGrad.dn (X x0 x3 x4) (LossHead.out (X x0 x3 x4) (T x1) (g x2)) b i.val := by
  pointwise [val_main_v36, val_main_v35, val_main_v34, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  refine Finset.sum_congr rfl fun i _ => ?_
  have e : NormGrad.scale (NormGrad.row (X x0 x3 x4) i.val) = NormGrad.scale (X x0 x3 x4 i) := congrArg _ (funext fun k => NormGrad.row_fin _ i k)
  unfold NormGrad.dn
  rw [norm_row, out_row, e, NormGrad.row_fin, NormGrad.row_fin, mul_comm]

theorem sums_lane (b : Fin 2048) :
    val_main_v80 (F := Ideal) x0 x1 x2 x3 x4 (ix2 0 b) = LossHead.lane (X x0 x3 x4) (T x1) (g x2) b := by
  pointwise [val_main_v80, val_main_v79, val_main_v78, val_main_v77, val_main_v76, val_main_v75, val_main_v74, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  simp only [again, err_row]
  exact LossHead.lane_eq (X x0 x3 x4) (T x1) (g x2) b

theorem sums_loss (b : Fin 2048) :
    val_main_v82 (F := Ideal) x0 x1 x2 x3 x4 (ix2 0 b) = ∑ k : Fin 2048, LossHead.lane (X x0 x3 x4) (T x1) (g x2) k := by
  pointwise [val_main_v82, val_main_v27, val_main_v26, val_main_v25, val_main_v24, val_main_v23, val_main_v20, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  simp only [err_row]
  exact LossHead.loss_eq (X x0 x3 x4) (T x1) (g x2)

theorem whole_sums :
    val_main_v84 (F := Ideal) x0 x1 x2 x3 x4 = fun i => LossHead.total (X x0 x3 x4) (T x1) (F x3) (g x2) (i 0).val (i 1) := by
  funext i
  obtain ⟨a, b, rfl⟩ : ∃ a b, i = ix2 a b := ⟨i 0, i 1, eq_ix2 i⟩
  show _ = LossHead.total (X x0 x3 x4) (T x1) (F x3) (g x2) a.val b
  unfold LossHead.total
  rw [← sums_gate x0 x1 x2 x3 x4, ← sums_weight, ← sums_lane x0 x1 x2 x3 x4, ← sums_loss x0 x1 x2 x3 x4 b]
  pointwise [val_main_v84, val_main_v83, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  have only : ∀ (f : S1x2048.Idx → EReal) (q : Fin 1), f (ix2 q b) = f (ix2 0 b) := fun f q => by rw [Subsingleton.elim q 0]
  by_cases p0 : a.val = 0
  · rw [dif_pos (by omega), if_pos p0]
    exact only _ _
  rw [dif_neg (by omega), if_neg p0]
  by_cases p1 : a.val = 1
  · rw [dif_pos (by omega), if_pos p1]
    exact only _ _
  rw [dif_neg (by omega), if_neg p1]
  by_cases p2 : a.val = 2
  · rw [dif_pos (by omega), if_pos p2]
    exact only _ _
  rw [dif_neg (by omega), if_neg p2]
  by_cases p3 : a.val = 3
  · rw [dif_pos (by omega), if_pos p3]
    exact only _ _
  rw [dif_neg (by omega), if_neg p3]
end Cert.Reference26Ideal.Body
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Pre_finite_mod
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Pre_finite_mix
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Pre_finite_ffn
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.CtxKernel
public import proofs.«01_k».proof.Proof.CtxReference
public import proofs.«01_k».proof.Proof.GateDown
public import proofs.«01_k».proof.Proof.Ref3
public import proofs.«01_k».proof.Proof.GwDown
public import proofs.«01_k».proof.Proof.Ref4
public import proofs.«01_k».proof.Proof.DOut
public import proofs.«01_k».proof.Proof.Ref5
public import proofs.«01_k».proof.Proof.GwOut
public import proofs.«01_k».proof.Proof.Ref6
public import proofs.«01_k».proof.Proof.GwIn
public import proofs.«01_k».proof.Proof.Ref7
public import proofs.«01_k».proof.Proof.Down
public import proofs.«01_k».proof.Proof.Ref8
public import proofs.«01_k».proof.Proof.Out
public import proofs.«01_k».proof.Proof.Ref9
public import proofs.«01_k».proof.Proof.GwGateUp
public import proofs.«01_k».proof.Proof.Ref10
public import proofs.«01_k».proof.Proof.DGateUp
public import proofs.«01_k».proof.Proof.Ref11
public import proofs.«01_k».proof.Proof.GateUp
public import proofs.«01_k».proof.Proof.Ref12
public import proofs.«01_k».proof.Proof.DIn
public import proofs.«01_k».proof.Proof.Ref13
public import proofs.«01_k».proof.Proof.In
public import proofs.«01_k».proof.Proof.Ref14
public import proofs.«01_k».proof.Proof.AdamWIn
public import proofs.«01_k».proof.Proof.Ref15
public import proofs.«01_k».proof.Proof.AdamWOut
public import proofs.«01_k».proof.Proof.Ref16
public import proofs.«01_k».proof.Proof.AdamWGate
public import proofs.«01_k».proof.Proof.Ref17
public import proofs.«01_k».proof.Proof.AdamWUp
public import proofs.«01_k».proof.Proof.Ref18
public import proofs.«01_k».proof.Proof.AdamWDown
public import proofs.«01_k».proof.Proof.Ref19
public import proofs.«01_k».proof.Proof.AdamBMod
public import proofs.«01_k».proof.Proof.Ref20
public import proofs.«01_k».proof.Proof.ModBwd
public import proofs.«01_k».proof.Proof.Ref21
public import proofs.«01_k».proof.Proof.AdamWMod
public import proofs.«01_k».proof.Proof.Ref22
public import proofs.«01_k».proof.Proof.AdamSmall
public import proofs.«01_k».proof.Proof.Ref23
public import proofs.«01_k».proof.Proof.NormGrad
public import proofs.«01_k».proof.Proof.ModMix
public import proofs.«01_k».proof.Proof.Ref24
public import proofs.«01_k».proof.Proof.Swish
public import proofs.«01_k».proof.Proof.ModFfn
public import proofs.«01_k».proof.Proof.Ref25
public import proofs.«01_k».proof.Proof.Swish
public import proofs.«01_k».proof.Proof.GradAll
public import proofs.«01_k».proof.Proof.LossHead
public import proofs.«01_k».proof.Proof.ModLoss
public import proofs.«01_k».proof.Proof.Ref26

/-!
The claims, five for each call. Kernel and reference of a call end with the same formulas over the arguments.
-/

@[expose] public section

noncomputable section

namespace Cert.Proof

open Idealize.ShloMosaic Idealize.ShloMosaic.TcCoe Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩) (Cert.ReferenceIdeal.Value.run (F := Ideal) m ρ)

/-- The context's gradients of keys, values and decays. -/
theorem context_gradient : Cert.algebraic_KernelIdeal_ReferenceIdeal (hKernelIdeal := Cert.KernelIdeal.Gen.facts) (hReferenceIdeal := Cert.ReferenceIdeal.Gen.facts) := by
  intro m ρ m' ρ' _ hag
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m ρ,
    (θ_run Cert.ReferenceIdeal.defs _ _).mono (fun r h c => ?_) (Cert.ReferenceIdeal.Value.run (F := Ideal) m' ρ')⟩
  obtain ⟨h0, h1, h2, h3⟩ := h c
  obtain ⟨e0, e1, e2, e3, e4⟩ := hag c
  rw [Cert.ReferenceIdeal.Read.val_main_v107_eq, e0, e1, e2, e3] at h0
  rw [Cert.ReferenceIdeal.Read.val_main_v108_eq, e0, e1, e2, e3] at h1
  rw [Cert.ReferenceIdeal.Read.val_main_v110_eq, e0, e1, e2, e3, e4] at h2
  refine ⟨h0.trans ?_, h1.trans ?_, h2.trans ?_, h3⟩
  · exact (Cert.ReferenceIdeal.Body.whole_key _ _ _ _).trans (Cert.KernelIdeal.Body.final6 m c).symm
  · exact (Cert.ReferenceIdeal.Body.whole_value _ _ _ _).trans (Cert.KernelIdeal.Body.final7 m c).symm
  · exact (Cert.ReferenceIdeal.Body.whole_decay _ _ _ _ _).trans (Cert.KernelIdeal.Body.final8 m c).symm

theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩) (Cert.Reference3Ideal.Value.run (F := Ideal) m ρ)

/-- The gradient through the down projection and the gate, of finite factors. -/
theorem gate_gradient : Cert.algebraic_Kernel3Ideal_Reference3Ideal_pre_finite (hKernel3Ideal := Cert.Kernel3Ideal.Gen.facts) (hReference3Ideal := Cert.Reference3Ideal.Gen.facts) (hPre_finite := Cert.Pre_finite.Gen.facts) := by
  intro m ρ m' ρ' hp hag
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N, Cert.Kernel3Ideal.Value.run_blocks m ρ,
    (θ_run Cert.Reference3Ideal.defs _ _).mono (fun r h c => ?_) (Cert.Reference3Ideal.Value.run (F := Ideal) m' ρ')⟩
  obtain ⟨h0, h1, kept⟩ := h c
  obtain ⟨e0, e1, e2, e3⟩ := hag c
  obtain ⟨p1, p2, p3⟩ := hp c
  rw [Cert.Reference3Ideal.Read.val_main_v9_eq, e0, e1, e2, e3] at h0
  rw [Cert.Reference3Ideal.Read.val_main_v10_eq, e0, e2, e3] at h1
  exact ⟨h0.trans ((Cert.Reference3Ideal.Body.whole_gate _ _ _ _ (fun a b => Swish.real_of_bound _ (congrFun p1 (ix2 a b)))
      (fun a b => Swish.real_of_bound _ (congrFun p2 (ix2 a b))) (fun a b => Swish.real_of_bound _ (congrFun p3 (ix2 a b)))).trans (Cert.Kernel3Ideal.Body.final_gate m c).symm),
    h1.trans ((Cert.Reference3Ideal.Body.whole_up _ _ _).trans (Cert.Kernel3Ideal.Body.final_up m c).symm), kept⟩

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run (F := Ideal) m ρ)

/-- The gradient of the down projection's weight. -/
theorem down_weight_gradient : Cert.algebraic_Kernel4Ideal_Reference4Ideal (hKernel4Ideal := Cert.Kernel4Ideal.Gen.facts) (hReference4Ideal := Cert.Reference4Ideal.Gen.facts) := by
  intro m ρ m' ρ' _ hag
  refine ⟨fun c => (Cert.Kernel4Ideal.Gen.dats m 0 c).arrAt 2 Cert.Kernel4Ideal.cfg0.N, Cert.Kernel4Ideal.Value.run_blocks m ρ,
    (θ_run Cert.Reference4Ideal.defs _ _).mono (fun r h c => ?_) (Cert.Reference4Ideal.Value.run (F := Ideal) m' ρ')⟩
  obtain ⟨h0, kept⟩ := h c
  obtain ⟨e0, e1⟩ := hag c
  rw [Cert.Reference4Ideal.Read.val_main_v6_eq, e0, e1] at h0
  exact ⟨h0.trans ((Cert.Reference4Ideal.Body.whole _ _).trans (Cert.Kernel4Ideal.Body.final m c).symm), kept⟩

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)

/-- The gradient through the output projection. -/
theorem output_gradient : Cert.algebraic_Kernel5Ideal_Reference5Ideal (hKernel5Ideal := Cert.Kernel5Ideal.Gen.facts) (hReference5Ideal := Cert.Reference5Ideal.Gen.facts) := by
  intro m ρ m' ρ' _ hag
  refine ⟨fun c => (Cert.Kernel5Ideal.Gen.dats m 0 c).arrAt 2 Cert.Kernel5Ideal.cfg0.N, Cert.Kernel5Ideal.Value.run_blocks m ρ,
    (θ_run Cert.Reference5Ideal.defs _ _).mono (fun r h c => ?_) (Cert.Reference5Ideal.Value.run (F := Ideal) m' ρ')⟩
  obtain ⟨h0, kept⟩ := h c
  obtain ⟨e0, e1⟩ := hag c
  rw [Cert.Reference5Ideal.Read.val_main_v9_eq, e0, e1] at h0
  exact ⟨h0.trans ((Cert.Reference5Ideal.Body.whole _ _).trans (Cert.Kernel5Ideal.Body.final m c).symm), kept⟩

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run (F := Ideal) m ρ)

/-- The gradient of the output projection's weight. -/
theorem output_weight_gradient : Cert.algebraic_Kernel6Ideal_Reference6Ideal (hKernel6Ideal := Cert.Kernel6Ideal.Gen.facts) (hReference6Ideal := Cert.Reference6Ideal.Gen.facts) := by
  intro m ρ m' ρ' _ hag
  refine ⟨fun c => (Cert.Kernel6Ideal.Gen.dats m 0 c).arrAt 2 Cert.Kernel6Ideal.cfg0.N, Cert.Kernel6Ideal.Value.run_blocks m ρ,
    (θ_run Cert.Reference6Ideal.defs _ _).mono (fun r h c => ?_) (Cert.Reference6Ideal.Value.run (F := Ideal) m' ρ')⟩
  obtain ⟨h0, kept⟩ := h c
  obtain ⟨e0, e1⟩ := hag c
  rw [Cert.Reference6Ideal.Read.val_main_v6_eq, e0, e1] at h0
  exact ⟨h0.trans ((Cert.Reference6Ideal.Body.whole _ _).trans (Cert.Kernel6Ideal.Body.final m c).symm), kept⟩

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run (F := Ideal) m ρ)

/-- The gradient of the input projection's weight, over latent and context tokens. -/
theorem input_weight_gradient : Cert.algebraic_Kernel7Ideal_Reference7Ideal (hKernel7Ideal := Cert.Kernel7Ideal.Gen.facts) (hReference7Ideal := Cert.Reference7Ideal.Gen.facts) := by
  intro m ρ m' ρ' _ hag
  refine ⟨fun c => (Cert.Kernel7Ideal.Gen.dats m 0 c).arrAt 2 Cert.Kernel7Ideal.cfg0.N, Cert.Kernel7Ideal.Value.run_blocks m ρ,
    (θ_run Cert.Reference7Ideal.defs _ _).mono (fun r h c => ?_) (Cert.Reference7Ideal.Value.run (F := Ideal) m' ρ')⟩
  obtain ⟨h0, kept⟩ := h c
  obtain ⟨e0, e1⟩ := hag c
  rw [Cert.Reference7Ideal.Read.val_main_v15_eq, e0, e1] at h0
  exact ⟨h0.trans ((Cert.Reference7Ideal.Body.whole _ _).trans (Cert.Kernel7Ideal.Body.final m c).symm), kept⟩

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run (F := Ideal) m ρ)

/-- The down projection. -/
theorem down_projection : Cert.algebraic_Kernel8Ideal_Reference8Ideal (hKernel8Ideal := Cert.Kernel8Ideal.Gen.facts) (hReference8Ideal := Cert.Reference8Ideal.Gen.facts) := by
  intro m ρ m' ρ' _ hag
  refine ⟨fun c => (Cert.Kernel8Ideal.Gen.dats m 0 c).arrAt 2 Cert.Kernel8Ideal.cfg0.N, Cert.Kernel8Ideal.Value.run_blocks m ρ,
    (θ_run Cert.Reference8Ideal.defs _ _).mono (fun r h c => ?_) (Cert.Reference8Ideal.Value.run (F := Ideal) m' ρ')⟩
  obtain ⟨h0, kept⟩ := h c
  obtain ⟨e0, e1⟩ := hag c
  rw [Cert.Reference8Ideal.Read.val_main_v3_eq, e0, e1] at h0
  exact ⟨h0.trans ((Cert.Reference8Ideal.Body.whole _ _).trans (Cert.Kernel8Ideal.Body.final m c).symm), kept⟩

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run (F := Ideal) m ρ)

/-- The output projection. -/
theorem output_projection : Cert.algebraic_Kernel9Ideal_Reference9Ideal (hKernel9Ideal := Cert.Kernel9Ideal.Gen.facts) (hReference9Ideal := Cert.Reference9Ideal.Gen.facts) := by
  intro m ρ m' ρ' _ hag
  refine ⟨fun c => (Cert.Kernel9Ideal.Gen.dats m 0 c).arrAt 2 Cert.Kernel9Ideal.cfg0.N, Cert.Kernel9Ideal.Value.run_blocks m ρ,
    (θ_run Cert.Reference9Ideal.defs _ _).mono (fun r h c => ?_) (Cert.Reference9Ideal.Value.run (F := Ideal) m' ρ')⟩
  obtain ⟨h0, kept⟩ := h c
  obtain ⟨e0, e1⟩ := hag c
  rw [Cert.Reference9Ideal.Read.val_main_v7_eq, e0, e1] at h0
  exact ⟨h0.trans ((Cert.Reference9Ideal.Body.whole _ _).trans (Cert.Kernel9Ideal.Body.final m c).symm), kept⟩

theorem frame_reference10 : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩) (Cert.Reference10Ideal.Value.run (F := Ideal) m ρ)

/-- The gradients of the gate's and up projection's weights. -/
theorem gate_up_weight_gradients : Cert.algebraic_Kernel10Ideal_Reference10Ideal (hKernel10Ideal := Cert.Kernel10Ideal.Gen.facts) (hReference10Ideal := Cert.Reference10Ideal.Gen.facts) := by
  intro m ρ m' ρ' _ hag
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N, Cert.Kernel10Ideal.Value.run_blocks m ρ,
    (θ_run Cert.Reference10Ideal.defs _ _).mono (fun r h c => ?_) (Cert.Reference10Ideal.Value.run (F := Ideal) m' ρ')⟩
  obtain ⟨h0, h1, kept⟩ := h c
  obtain ⟨e0, e1, e2⟩ := hag c
  rw [Cert.Reference10Ideal.Read.val_main_v12_eq, e0, e1] at h0
  rw [Cert.Reference10Ideal.Read.val_main_v14_eq, e0, e2] at h1
  exact ⟨h0.trans ((Cert.Reference10Ideal.Body.whole_gate _ _).trans (Cert.Kernel10Ideal.Body.final_gate m c).symm), h1.trans ((Cert.Reference10Ideal.Body.whole_up _ _).trans (Cert.Kernel10Ideal.Body.final_up m c).symm), kept⟩

theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩) (Cert.Reference11Ideal.Value.run (F := Ideal) m ρ)

/-- The gradient through the gate's and up projection's products. -/
theorem gate_up_gradient : Cert.algebraic_Kernel11Ideal_Reference11Ideal (hKernel11Ideal := Cert.Kernel11Ideal.Gen.facts) (hReference11Ideal := Cert.Reference11Ideal.Gen.facts) := by
  intro m ρ m' ρ' _ hag
  refine ⟨fun c => (Cert.Kernel11Ideal.Gen.dats m 0 c).arrAt 4 Cert.Kernel11Ideal.cfg0.N, Cert.Kernel11Ideal.Value.run_blocks m ρ,
    (θ_run Cert.Reference11Ideal.defs _ _).mono (fun r h c => ?_) (Cert.Reference11Ideal.Value.run (F := Ideal) m' ρ')⟩
  obtain ⟨h0, kept⟩ := h c
  obtain ⟨e0, e1, e2, e3⟩ := hag c
  rw [Cert.Reference11Ideal.Read.val_main_v10_eq, e0, e1, e2, e3] at h0
  exact ⟨h0.trans ((Cert.Reference11Ideal.Body.whole _ _ _ _).trans (Cert.Kernel11Ideal.Body.final m c).symm), kept⟩

theorem frame_reference12 : Cert.quiescent_Reference12Ideal (hReference12Ideal := Cert.Reference12Ideal.Gen.facts) := fun m ρ _ =>
  (θ_run Cert.Reference12Ideal.defs _ _).mono (fun r h => ⟨fun c => (h c).2.2.2, sem_eq_zero_of_no_sems (by decide) r.2⟩) (Cert.Reference12Ideal.Value.run (F := Ideal) m ρ)

/-- The products into the feed-forward block and the gate of them. -/
theorem gated_products : Cert.algebraic_Kernel12Ideal_Reference12Ideal (hKernel12Ideal := Cert.Kernel12Ideal.Gen.facts) (hReference12Ideal := Cert.Reference12Ideal.Gen.facts) := by
  intro m ρ m' ρ' _ hag
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N, fun c => (Cert.Kernel12Ideal.Gen.dats m 0 c).arrAt 6 Cert.Kernel12Ideal.cfg0.N, Cert.Kernel12Ideal.Value.run_blocks m ρ,
    (θ_run Cert.Reference12Ideal.defs _ _).mono (fun r h c => ?_) (Cert.Reference12Ideal.Value.run (F := Ideal) m' ρ')⟩
  obtain ⟨h0, h1, h2, kept⟩ := h c
  obtain ⟨e0, e1, e2⟩ := hag c
  rw [Cert.Reference12Ideal.Read.val_main_v25_eq, e0, e1] at h0
  rw [Cert.Reference12Ideal.Read.val_main_v27_eq, e0, e1, e2] at h1
  rw [Cert.Reference12Ideal.Read.val_main_v30_eq, e0, e1, e2] at h2
  exact ⟨h0.trans ((Cert.Reference12Ideal.Body.whole_act _ _).trans (Cert.Kernel12Ideal.Body.final_act m c).symm), h1.trans ((Cert.Reference12Ideal.Body.whole_slope _ _ _).trans (Cert.Kernel12Ideal.Body.final_slope m c).symm), h2.trans ((Cert.Reference12Ideal.Body.whole_hidden _ _ _).trans (Cert.Kernel12Ideal.Body.final_hidden m c).symm), kept⟩

theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩) (Cert.Reference13Ideal.Value.run (F := Ideal) m ρ)

/-- The gradient through the input projection. -/
theorem input_gradient : Cert.algebraic_Kernel13Ideal_Reference13Ideal (hKernel13Ideal := Cert.Kernel13Ideal.Gen.facts) (hReference13Ideal := Cert.Reference13Ideal.Gen.facts) := by
  intro m ρ m' ρ' _ hag
  refine ⟨fun c => (Cert.Kernel13Ideal.Gen.dats m 0 c).arrAt 2 Cert.Kernel13Ideal.cfg0.N, Cert.Kernel13Ideal.Value.run_blocks m ρ,
    (θ_run Cert.Reference13Ideal.defs _ _).mono (fun r h c => ?_) (Cert.Reference13Ideal.Value.run (F := Ideal) m' ρ')⟩
  obtain ⟨h0, kept⟩ := h c
  obtain ⟨e0, e1⟩ := hag c
  rw [Cert.Reference13Ideal.Read.val_main_v12_eq, e0, e1] at h0
  exact ⟨h0.trans ((Cert.Reference13Ideal.Body.whole _ _).trans (Cert.Kernel13Ideal.Body.final m c).symm), kept⟩

theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩) (Cert.Reference14Ideal.Value.run (F := Ideal) m ρ)

/-- The input projection. -/
theorem input_projection : Cert.algebraic_Kernel14Ideal_Reference14Ideal (hKernel14Ideal := Cert.Kernel14Ideal.Gen.facts) (hReference14Ideal := Cert.Reference14Ideal.Gen.facts) := by
  intro m ρ m' ρ' _ hag
  refine ⟨fun c => (Cert.Kernel14Ideal.Gen.dats m 0 c).arrAt 2 Cert.Kernel14Ideal.cfg0.N, Cert.Kernel14Ideal.Value.run_blocks m ρ,
    (θ_run Cert.Reference14Ideal.defs _ _).mono (fun r h c => ?_) (Cert.Reference14Ideal.Value.run (F := Ideal) m' ρ')⟩
  obtain ⟨h0, kept⟩ := h c
  obtain ⟨e0, e1⟩ := hag c
  rw [Cert.Reference14Ideal.Read.val_main_v7_eq, e0, e1] at h0
  exact ⟨h0.trans ((Cert.Reference14Ideal.Body.whole _ _).trans (Cert.Kernel14Ideal.Body.final m c).symm), kept⟩

theorem frame_reference15 : Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩) (Cert.Reference15Ideal.Value.run (F := Ideal) m ρ)

/-- The AdamW step of the input projection. -/
theorem adam_WIn : Cert.algebraic_Kernel15Ideal_Reference15Ideal (hKernel15Ideal := Cert.Kernel15Ideal.Gen.facts) (hReference15Ideal := Cert.Reference15Ideal.Gen.facts) := by
  intro m ρ m' ρ' _ hag
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N, fun c => (Cert.Kernel15Ideal.Gen.dats m 0 c).arrAt 6 Cert.Kernel15Ideal.cfg0.N, fun c => (Cert.Kernel15Ideal.Gen.dats m 0 c).arrAt 7 Cert.Kernel15Ideal.cfg0.N, Cert.Kernel15Ideal.Value.run_blocks m ρ,
    (θ_run Cert.Reference15Ideal.defs _ _).mono (fun r h c => ?_) (Cert.Reference15Ideal.Value.run (F := Ideal) m' ρ')⟩
  obtain ⟨h0, h1, h2, h3, kept⟩ := h c
  obtain ⟨e0, e1, e2, e3⟩ := hag c
  rw [Cert.Reference15Ideal.Read.val_main_v29_eq, e3] at h0
  rw [Cert.Reference15Ideal.Read.val_main_v31_eq, e0, e1, e2, e3] at h1
  rw [Cert.Reference15Ideal.Read.val_main_v33_eq, e1, e3] at h2
  rw [Cert.Reference15Ideal.Read.val_main_v35_eq, e2, e3] at h3
  exact ⟨h0.trans ((Cert.Reference15Ideal.Body.whole_grad _).trans (Cert.Kernel15Ideal.Body.final_grad m c).symm), h1.trans ((Cert.Reference15Ideal.Body.whole_delta _ _ _ _).trans (Cert.Kernel15Ideal.Body.final_delta m c).symm), h2.trans ((Cert.Reference15Ideal.Body.whole_moment1 _ _).trans (Cert.Kernel15Ideal.Body.final_moment1 m c).symm), h3.trans ((Cert.Reference15Ideal.Body.whole_moment2 _ _).trans (Cert.Kernel15Ideal.Body.final_moment2 m c).symm), kept⟩

theorem frame_reference16 : Cert.quiescent_Reference16Ideal (hReference16Ideal := Cert.Reference16Ideal.Gen.facts) := fun m ρ _ =>
  (θ_run Cert.Reference16Ideal.defs _ _).mono (fun r h => ⟨fun c => (h c).2.2.2.2, sem_eq_zero_of_no_sems (by decide) r.2⟩) (Cert.Reference16Ideal.Value.run (F := Ideal) m ρ)

/-- The AdamW step of the output projection. -/
theorem adam_WOut : Cert.algebraic_Kernel16Ideal_Reference16Ideal (hKernel16Ideal := Cert.Kernel16Ideal.Gen.facts) (hReference16Ideal := Cert.Reference16Ideal.Gen.facts) := by
  intro m ρ m' ρ' _ hag
  refine ⟨fun c => (Cert.Kernel16Ideal.Gen.dats m 0 c).arrAt 4 Cert.Kernel16Ideal.cfg0.N, fun c => (Cert.Kernel16Ideal.Gen.dats m 0 c).arrAt 5 Cert.Kernel16Ideal.cfg0.N, fun c => (Cert.Kernel16Ideal.Gen.dats m 0 c).arrAt 6 Cert.Kernel16Ideal.cfg0.N, fun c => (Cert.Kernel16Ideal.Gen.dats m 0 c).arrAt 7 Cert.Kernel16Ideal.cfg0.N, Cert.Kernel16Ideal.Value.run_blocks m ρ,
    (θ_run Cert.Reference16Ideal.defs _ _).mono (fun r h c => ?_) (Cert.Reference16Ideal.Value.run (F := Ideal) m' ρ')⟩
  obtain ⟨h0, h1, h2, h3, kept⟩ := h c
  obtain ⟨e0, e1, e2, e3⟩ := hag c
  rw [Cert.Reference16Ideal.Read.val_main_v27_eq, e3] at h0
  rw [Cert.Reference16Ideal.Read.val_main_v28_eq, e0, e1, e2, e3] at h1
  rw [Cert.Reference16Ideal.Read.val_main_v29_eq, e1, e3] at h2
  rw [Cert.Reference16Ideal.Read.val_main_v30_eq, e2, e3] at h3
  exact ⟨h0.trans ((Cert.Reference16Ideal.Body.whole_grad _).trans (Cert.Kernel16Ideal.Body.final_grad m c).symm), h1.trans ((Cert.Reference16Ideal.Body.whole_delta _ _ _ _).trans (Cert.Kernel16Ideal.Body.final_delta m c).symm), h2.trans ((Cert.Reference16Ideal.Body.whole_moment1 _ _).trans (Cert.Kernel16Ideal.Body.final_moment1 m c).symm), h3.trans ((Cert.Reference16Ideal.Body.whole_moment2 _ _).trans (Cert.Kernel16Ideal.Body.final_moment2 m c).symm), kept⟩

theorem frame_reference17 : Cert.quiescent_Reference17Ideal (hReference17Ideal := Cert.Reference17Ideal.Gen.facts) := fun m ρ _ =>
  (θ_run Cert.Reference17Ideal.defs _ _).mono (fun r h => ⟨fun c => (h c).2.2.2.2, sem_eq_zero_of_no_sems (by decide) r.2⟩) (Cert.Reference17Ideal.Value.run (F := Ideal) m ρ)

/-- The AdamW step of the gate. -/
theorem adam_WGate : Cert.algebraic_Kernel17Ideal_Reference17Ideal (hKernel17Ideal := Cert.Kernel17Ideal.Gen.facts) (hReference17Ideal := Cert.Reference17Ideal.Gen.facts) := by
  intro m ρ m' ρ' _ hag
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N, fun c => (Cert.Kernel17Ideal.Gen.dats m 0 c).arrAt 6 Cert.Kernel17Ideal.cfg0.N, fun c => (Cert.Kernel17Ideal.Gen.dats m 0 c).arrAt 7 Cert.Kernel17Ideal.cfg0.N, Cert.Kernel17Ideal.Value.run_blocks m ρ,
    (θ_run Cert.Reference17Ideal.defs _ _).mono (fun r h c => ?_) (Cert.Reference17Ideal.Value.run (F := Ideal) m' ρ')⟩
  obtain ⟨h0, h1, h2, h3, kept⟩ := h c
  obtain ⟨e0, e1, e2, e3⟩ := hag c
  rw [Cert.Reference17Ideal.Read.val_main_v29_eq, e3] at h0
  rw [Cert.Reference17Ideal.Read.val_main_v31_eq, e0, e1, e2, e3] at h1
  rw [Cert.Reference17Ideal.Read.val_main_v33_eq, e1, e3] at h2
  rw [Cert.Reference17Ideal.Read.val_main_v35_eq, e2, e3] at h3
  exact ⟨h0.trans ((Cert.Reference17Ideal.Body.whole_grad _).trans (Cert.Kernel17Ideal.Body.final_grad m c).symm), h1.trans ((Cert.Reference17Ideal.Body.whole_delta _ _ _ _).trans (Cert.Kernel17Ideal.Body.final_delta m c).symm), h2.trans ((Cert.Reference17Ideal.Body.whole_moment1 _ _).trans (Cert.Kernel17Ideal.Body.final_moment1 m c).symm), h3.trans ((Cert.Reference17Ideal.Body.whole_moment2 _ _).trans (Cert.Kernel17Ideal.Body.final_moment2 m c).symm), kept⟩

theorem frame_reference18 : Cert.quiescent_Reference18Ideal (hReference18Ideal := Cert.Reference18Ideal.Gen.facts) := fun m ρ _ =>
  (θ_run Cert.Reference18Ideal.defs _ _).mono (fun r h => ⟨fun c => (h c).2.2.2.2, sem_eq_zero_of_no_sems (by decide) r.2⟩) (Cert.Reference18Ideal.Value.run (F := Ideal) m ρ)

/-- The AdamW step of the up projection. -/
theorem adam_WUp : Cert.algebraic_Kernel18Ideal_Reference18Ideal (hKernel18Ideal := Cert.Kernel18Ideal.Gen.facts) (hReference18Ideal := Cert.Reference18Ideal.Gen.facts) := by
  intro m ρ m' ρ' _ hag
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N, fun c => (Cert.Kernel18Ideal.Gen.dats m 0 c).arrAt 6 Cert.Kernel18Ideal.cfg0.N, fun c => (Cert.Kernel18Ideal.Gen.dats m 0 c).arrAt 7 Cert.Kernel18Ideal.cfg0.N, Cert.Kernel18Ideal.Value.run_blocks m ρ,
    (θ_run Cert.Reference18Ideal.defs _ _).mono (fun r h c => ?_) (Cert.Reference18Ideal.Value.run (F := Ideal) m' ρ')⟩
  obtain ⟨h0, h1, h2, h3, kept⟩ := h c
  obtain ⟨e0, e1, e2, e3⟩ := hag c
  rw [Cert.Reference18Ideal.Read.val_main_v29_eq, e3] at h0
  rw [Cert.Reference18Ideal.Read.val_main_v31_eq, e0, e1, e2, e3] at h1
  rw [Cert.Reference18Ideal.Read.val_main_v33_eq, e1, e3] at h2
  rw [Cert.Reference18Ideal.Read.val_main_v35_eq, e2, e3] at h3
  exact ⟨h0.trans ((Cert.Reference18Ideal.Body.whole_grad _).trans (Cert.Kernel18Ideal.Body.final_grad m c).symm), h1.trans ((Cert.Reference18Ideal.Body.whole_delta _ _ _ _).trans (Cert.Kernel18Ideal.Body.final_delta m c).symm), h2.trans ((Cert.Reference18Ideal.Body.whole_moment1 _ _).trans (Cert.Kernel18Ideal.Body.final_moment1 m c).symm), h3.trans ((Cert.Reference18Ideal.Body.whole_moment2 _ _).trans (Cert.Kernel18Ideal.Body.final_moment2 m c).symm), kept⟩

theorem frame_reference19 : Cert.quiescent_Reference19Ideal (hReference19Ideal := Cert.Reference19Ideal.Gen.facts) := fun m ρ _ =>
  (θ_run Cert.Reference19Ideal.defs _ _).mono (fun r h => ⟨fun c => (h c).2.2.2.2, sem_eq_zero_of_no_sems (by decide) r.2⟩) (Cert.Reference19Ideal.Value.run (F := Ideal) m ρ)

/-- The AdamW step of the down projection. -/
theorem adam_WDown : Cert.algebraic_Kernel19Ideal_Reference19Ideal (hKernel19Ideal := Cert.Kernel19Ideal.Gen.facts) (hReference19Ideal := Cert.Reference19Ideal.Gen.facts) := by
  intro m ρ m' ρ' _ hag
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N, Cert.Kernel19Ideal.Value.run_blocks m ρ,
    (θ_run Cert.Reference19Ideal.defs _ _).mono (fun r h c => ?_) (Cert.Reference19Ideal.Value.run (F := Ideal) m' ρ')⟩
  obtain ⟨h0, h1, h2, h3, kept⟩ := h c
  obtain ⟨e0, e1, e2, e3⟩ := hag c
  rw [Cert.Reference19Ideal.Read.val_main_v27_eq, e3] at h0
  rw [Cert.Reference19Ideal.Read.val_main_v28_eq, e0, e1, e2, e3] at h1
  rw [Cert.Reference19Ideal.Read.val_main_v29_eq, e1, e3] at h2
  rw [Cert.Reference19Ideal.Read.val_main_v30_eq, e2, e3] at h3
  exact ⟨h0.trans ((Cert.Reference19Ideal.Body.whole_grad _).trans (Cert.Kernel19Ideal.Body.final_grad m c).symm), h1.trans ((Cert.Reference19Ideal.Body.whole_delta _ _ _ _).trans (Cert.Kernel19Ideal.Body.final_delta m c).symm), h2.trans ((Cert.Reference19Ideal.Body.whole_moment1 _ _).trans (Cert.Kernel19Ideal.Body.final_moment1 m c).symm), h3.trans ((Cert.Reference19Ideal.Body.whole_moment2 _ _).trans (Cert.Kernel19Ideal.Body.final_moment2 m c).symm), kept⟩

theorem frame_reference20 : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩) (Cert.Reference20Ideal.Value.run (F := Ideal) m ρ)

/-- The AdamW step of the modulation biases. -/
theorem adam_b_mod : Cert.algebraic_Kernel20Ideal_Reference20Ideal (hKernel20Ideal := Cert.Kernel20Ideal.Gen.facts) (hReference20Ideal := Cert.Reference20Ideal.Gen.facts) := by
  intro m ρ m' ρ' _ hag
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N, Cert.Kernel20Ideal.Value.run_blocks m ρ,
    (θ_run Cert.Reference20Ideal.defs _ _).mono (fun r h c => ?_) (Cert.Reference20Ideal.Value.run (F := Ideal) m' ρ')⟩
  obtain ⟨h0, h1, h2, h3, kept⟩ := h c
  obtain ⟨e0, e1, e2, e3⟩ := hag c
  rw [Cert.Reference20Ideal.Read.val_main_v2_eq, e3] at h0
  rw [Cert.Reference20Ideal.Read.val_main_v26_eq, e0, e1, e2, e3] at h1
  rw [Cert.Reference20Ideal.Read.val_main_v7_eq, e1, e3] at h2
  rw [Cert.Reference20Ideal.Read.val_main_v13_eq, e2, e3] at h3
  exact ⟨h0.trans ((Cert.Reference20Ideal.Body.whole_grad _).trans (Cert.Kernel20Ideal.Body.final_grad m c).symm), h1.trans ((Cert.Reference20Ideal.Body.whole_delta _ _ _ _).trans (Cert.Kernel20Ideal.Body.final_delta m c).symm), h2.trans ((Cert.Reference20Ideal.Body.whole_moment1 _ _).trans (Cert.Kernel20Ideal.Body.final_moment1 m c).symm), h3.trans ((Cert.Reference20Ideal.Body.whole_moment2 _ _).trans (Cert.Kernel20Ideal.Body.final_moment2 m c).symm), kept⟩

theorem frame_reference21 : Cert.quiescent_Reference21Ideal (hReference21Ideal := Cert.Reference21Ideal.Gen.facts) := fun m ρ _ =>
  (θ_run Cert.Reference21Ideal.defs _ _).mono (fun r h => ⟨fun c => (h c).2.2, sem_eq_zero_of_no_sems (by decide) r.2⟩) (Cert.Reference21Ideal.Value.run (F := Ideal) m ρ)

/-- The gradient of the modulation's weight and of the context's conditioning. -/
theorem modulation_gradient : Cert.algebraic_Kernel21Ideal_Reference21Ideal_pre_finite_mod (hKernel21Ideal := Cert.Kernel21Ideal.Gen.facts) (hReference21Ideal := Cert.Reference21Ideal.Gen.facts) (hPre_finite_mod := Cert.Pre_finite_mod.Gen.facts) := by
  intro m ρ m' ρ' hp hag
  refine ⟨fun c => (Cert.Kernel21Ideal.Gen.dats m 0 c).arrAt 3 Cert.Kernel21Ideal.cfg0.N, fun c => (Cert.Kernel21Ideal.Gen.dats m 0 c).arrAt 4 Cert.Kernel21Ideal.cfg0.N, Cert.Kernel21Ideal.Value.run_blocks m ρ,
    (θ_run Cert.Reference21Ideal.defs _ _).mono (fun r h c => ?_) (Cert.Reference21Ideal.Value.run (F := Ideal) m' ρ')⟩
  obtain ⟨h0, h1, kept⟩ := h c
  obtain ⟨e0, e1, e2, e3⟩ := hag c
  obtain ⟨p1, p2⟩ := hp c
  rw [Cert.Reference21Ideal.Read.val_main_v22_eq, e0, e1, e3] at h0
  rw [Cert.Reference21Ideal.Read.val_main_v24_eq, e1, e2, e3] at h1
  exact ⟨h0.trans ((Cert.Reference21Ideal.Body.whole_gradW _ _ _).trans (Cert.Kernel21Ideal.Body.final_gradW m c).symm),
    h1.trans ((Cert.Reference21Ideal.Body.whole_gradX _ _ _ (fun a b => Swish.real_of_bound _ (congrFun p1 (ix3 0 a b)))
      (fun a b => Swish.real_of_bound _ (congrFun p2 (ix2 a b)))).trans (Cert.Kernel21Ideal.Body.final_gradX m c).symm), kept⟩

theorem frame_reference22 : Cert.quiescent_Reference22Ideal (hReference22Ideal := Cert.Reference22Ideal.Gen.facts) := fun m ρ _ =>
  (θ_run Cert.Reference22Ideal.defs _ _).mono (fun r h => ⟨fun c => (h c).2.2.2.2, sem_eq_zero_of_no_sems (by decide) r.2⟩) (Cert.Reference22Ideal.Value.run (F := Ideal) m ρ)

/-- The AdamW step of the modulation's weight. -/
theorem adam_w_mod : Cert.algebraic_Kernel22Ideal_Reference22Ideal (hKernel22Ideal := Cert.Kernel22Ideal.Gen.facts) (hReference22Ideal := Cert.Reference22Ideal.Gen.facts) := by
  intro m ρ m' ρ' _ hag
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N, fun c => (Cert.Kernel22Ideal.Gen.dats m 0 c).arrAt 6 Cert.Kernel22Ideal.cfg0.N, fun c => (Cert.Kernel22Ideal.Gen.dats m 0 c).arrAt 7 Cert.Kernel22Ideal.cfg0.N, Cert.Kernel22Ideal.Value.run_blocks m ρ,
    (θ_run Cert.Reference22Ideal.defs _ _).mono (fun r h c => ?_) (Cert.Reference22Ideal.Value.run (F := Ideal) m' ρ')⟩
  obtain ⟨h0, h1, h2, h3, kept⟩ := h c
  obtain ⟨e0, e1, e2, e3⟩ := hag c
  rw [Cert.Reference22Ideal.Read.val_main_v26_eq, e3] at h0
  rw [Cert.Reference22Ideal.Read.val_main_v27_eq, e0, e1, e2, e3] at h1
  rw [Cert.Reference22Ideal.Read.val_main_v28_eq, e1, e3] at h2
  rw [Cert.Reference22Ideal.Read.val_main_v29_eq, e2, e3] at h3
  exact ⟨h0.trans ((Cert.Reference22Ideal.Body.whole_grad _).trans (Cert.Kernel22Ideal.Body.final_grad m c).symm), h1.trans ((Cert.Reference22Ideal.Body.whole_delta _ _ _ _).trans (Cert.Kernel22Ideal.Body.final_delta m c).symm), h2.trans ((Cert.Reference22Ideal.Body.whole_moment1 _ _).trans (Cert.Kernel22Ideal.Body.final_moment1 m c).symm), h3.trans ((Cert.Reference22Ideal.Body.whole_moment2 _ _).trans (Cert.Kernel22Ideal.Body.final_moment2 m c).symm), kept⟩

theorem frame_reference23 : Cert.quiescent_Reference23Ideal (hReference23Ideal := Cert.Reference23Ideal.Gen.facts) := fun m ρ _ =>
  (θ_run Cert.Reference23Ideal.defs _ _).mono (fun r h => ⟨fun c => (h c).2.2.2.2, sem_eq_zero_of_no_sems (by decide) r.2⟩) (Cert.Reference23Ideal.Value.run (F := Ideal) m ρ)

set_option maxHeartbeats 4000000 in
/-- The AdamW step of the small weights. -/
theorem adam_small : Cert.algebraic_Kernel23Ideal_Reference23Ideal (hKernel23Ideal := Cert.Kernel23Ideal.Gen.facts) (hReference23Ideal := Cert.Reference23Ideal.Gen.facts) := by
  intro m ρ m' ρ' _ hag
  refine ⟨fun c => (Cert.Kernel23Ideal.Gen.dats m 0 c).arrAt 4 Cert.Kernel23Ideal.cfg0.N, fun c => (Cert.Kernel23Ideal.Gen.dats m 0 c).arrAt 5 Cert.Kernel23Ideal.cfg0.N, fun c => (Cert.Kernel23Ideal.Gen.dats m 0 c).arrAt 6 Cert.Kernel23Ideal.cfg0.N, fun c => (Cert.Kernel23Ideal.Gen.dats m 0 c).arrAt 7 Cert.Kernel23Ideal.cfg0.N, Cert.Kernel23Ideal.Value.run_blocks m ρ,
    (θ_run Cert.Reference23Ideal.defs _ _).mono (fun r h c => ?_) (Cert.Reference23Ideal.Value.run (F := Ideal) m' ρ')⟩
  obtain ⟨h0, h1, h2, h3, kept⟩ := h c
  obtain ⟨e0, e1, e2, e3, e4, e5, e6, e7, e8, e9, e10, e11, e12, e13, e14, e15, e16, e17, e18, e19, e20, e21, e22, e23, e24⟩ := hag c
  replace h0 : _ = Cert.Reference23Ideal.Read.val_main_v188 (F := Ideal) (m' (c.tc.loc Cert.Reference23Ideal.main_arg18)) (m' (c.tc.loc Cert.Reference23Ideal.main_arg19)) (m' (c.tc.loc Cert.Reference23Ideal.main_arg20)) (m' (c.tc.loc Cert.Reference23Ideal.main_arg21)) (m' (c.tc.loc Cert.Reference23Ideal.main_arg22)) (m' (c.tc.loc Cert.Reference23Ideal.main_arg23)) (m' (c.tc.loc Cert.Reference23Ideal.main_arg24)) := h0.trans (Cert.Reference23Ideal.Read.val_main_v188_eq _)
  rw [e18, e19, e20, e21, e22, e23, e24] at h0
  replace h1 : _ = Cert.Reference23Ideal.Read.val_main_v197 (F := Ideal) (m' (c.tc.loc Cert.Reference23Ideal.main_arg0)) (m' (c.tc.loc Cert.Reference23Ideal.main_arg1)) (m' (c.tc.loc Cert.Reference23Ideal.main_arg2)) (m' (c.tc.loc Cert.Reference23Ideal.main_arg3)) (m' (c.tc.loc Cert.Reference23Ideal.main_arg4)) (m' (c.tc.loc Cert.Reference23Ideal.main_arg5)) (m' (c.tc.loc Cert.Reference23Ideal.main_arg6)) (m' (c.tc.loc Cert.Reference23Ideal.main_arg7)) (m' (c.tc.loc Cert.Reference23Ideal.main_arg8)) (m' (c.tc.loc Cert.Reference23Ideal.main_arg9)) (m' (c.tc.loc Cert.Reference23Ideal.main_arg10)) (m' (c.tc.loc Cert.Reference23Ideal.main_arg11)) (m' (c.tc.loc Cert.Reference23Ideal.main_arg12)) (m' (c.tc.loc Cert.Reference23Ideal.main_arg13)) (m' (c.tc.loc Cert.Reference23Ideal.main_arg14)) (m' (c.tc.loc Cert.Reference23Ideal.main_arg15)) (m' (c.tc.loc Cert.Reference23Ideal.main_arg16)) (m' (c.tc.loc Cert.Reference23Ideal.main_arg17)) (m' (c.tc.loc Cert.Reference23Ideal.main_arg18)) (m' (c.tc.loc Cert.Reference23Ideal.main_arg19)) (m' (c.tc.loc Cert.Reference23Ideal.main_arg20)) (m' (c.tc.loc Cert.Reference23Ideal.main_arg21)) (m' (c.tc.loc Cert.Reference23Ideal.main_arg22)) (m' (c.tc.loc Cert.Reference23Ideal.main_arg23)) (m' (c.tc.loc Cert.Reference23Ideal.main_arg24)) := h1.trans (Cert.Reference23Ideal.Read.val_main_v197_eq _)
  rw [e0, e1, e2, e3, e4, e5, e6, e7, e8, e9, e10, e11, e12, e13, e14, e15, e16, e17, e18, e19, e20, e21, e22, e23, e24] at h1
  replace h2 : _ = Cert.Reference23Ideal.Read.val_main_v206 (F := Ideal) (m' (c.tc.loc Cert.Reference23Ideal.main_arg6)) (m' (c.tc.loc Cert.Reference23Ideal.main_arg7)) (m' (c.tc.loc Cert.Reference23Ideal.main_arg8)) (m' (c.tc.loc Cert.Reference23Ideal.main_arg9)) (m' (c.tc.loc Cert.Reference23Ideal.main_arg10)) (m' (c.tc.loc Cert.Reference23Ideal.main_arg11)) (m' (c.tc.loc Cert.Reference23Ideal.main_arg18)) (m' (c.tc.loc Cert.Reference23Ideal.main_arg19)) (m' (c.tc.loc Cert.Reference23Ideal.main_arg20)) (m' (c.tc.loc Cert.Reference23Ideal.main_arg21)) (m' (c.tc.loc Cert.Reference23Ideal.main_arg22)) (m' (c.tc.loc Cert.Reference23Ideal.main_arg23)) (m' (c.tc.loc Cert.Reference23Ideal.main_arg24)) := h2.trans (Cert.Reference23Ideal.Read.val_main_v206_eq _)
  rw [e6, e7, e8, e9, e10, e11, e18, e19, e20, e21, e22, e23, e24] at h2
  replace h3 : _ = Cert.Reference23Ideal.Read.val_main_v215 (F := Ideal) (m' (c.tc.loc Cert.Reference23Ideal.main_arg12)) (m' (c.tc.loc Cert.Reference23Ideal.main_arg13)) (m' (c.tc.loc Cert.Reference23Ideal.main_arg14)) (m' (c.tc.loc Cert.Reference23Ideal.main_arg15)) (m' (c.tc.loc Cert.Reference23Ideal.main_arg16)) (m' (c.tc.loc Cert.Reference23Ideal.main_arg17)) (m' (c.tc.loc Cert.Reference23Ideal.main_arg18)) (m' (c.tc.loc Cert.Reference23Ideal.main_arg19)) (m' (c.tc.loc Cert.Reference23Ideal.main_arg20)) (m' (c.tc.loc Cert.Reference23Ideal.main_arg21)) (m' (c.tc.loc Cert.Reference23Ideal.main_arg22)) (m' (c.tc.loc Cert.Reference23Ideal.main_arg23)) (m' (c.tc.loc Cert.Reference23Ideal.main_arg24)) := h3.trans (Cert.Reference23Ideal.Read.val_main_v215_eq _)
  rw [e12, e13, e14, e15, e16, e17, e18, e19, e20, e21, e22, e23, e24] at h3
  exact ⟨h0.trans ((Cert.Reference23Ideal.Body.whole_grad _ _ _ _ _ _ _).trans (Cert.Kernel23Ideal.Body.final_grad m c).symm), h1.trans ((Cert.Reference23Ideal.Body.whole_delta _ _ _ _ _ _ _ _ _ _ _ _ _ _ _ _ _ _ _ _ _ _ _ _ _).trans (Cert.Kernel23Ideal.Body.final_delta m c).symm), h2.trans ((Cert.Reference23Ideal.Body.whole_moment1 _ _ _ _ _ _ _ _ _ _ _ _ _).trans (Cert.Kernel23Ideal.Body.final_moment1 m c).symm), h3.trans ((Cert.Reference23Ideal.Body.whole_moment2 _ _ _ _ _ _ _ _ _ _ _ _ _).trans (Cert.Kernel23Ideal.Body.final_moment2 m c).symm), kept⟩

theorem frame_reference24 : Cert.quiescent_Reference24Ideal (hReference24Ideal := Cert.Reference24Ideal.Gen.facts) := fun m ρ _ =>
  (θ_run Cert.Reference24Ideal.defs _ _).mono (fun r h => ⟨fun c => (h c).2.2, sem_eq_zero_of_no_sems (by decide) r.2⟩) (Cert.Reference24Ideal.Value.run (F := Ideal) m ρ)

/-- The gradient of the first modulated norm, of finite factors. -/
theorem norm_gradient : Cert.algebraic_Kernel24Ideal_Reference24Ideal_pre_finite_mix (hKernel24Ideal := Cert.Kernel24Ideal.Gen.facts) (hReference24Ideal := Cert.Reference24Ideal.Gen.facts) (hPre_finite_mix := Cert.Pre_finite_mix.Gen.facts) := by
  intro m ρ m' ρ' hp hag
  refine ⟨fun c => (Cert.Kernel24Ideal.Gen.dats m 0 c).arrAt 5 Cert.Kernel24Ideal.cfg0.N, fun c => (Cert.Kernel24Ideal.Gen.dats m 0 c).arrAt 6 Cert.Kernel24Ideal.cfg0.N, Cert.Kernel24Ideal.Value.run_blocks m ρ,
    (θ_run Cert.Reference24Ideal.defs _ _).mono (fun r h c => ?_) (Cert.Reference24Ideal.Value.run (F := Ideal) m' ρ')⟩
  obtain ⟨h0, h1, kept⟩ := h c
  obtain ⟨e0, e1, e2, e3, e4⟩ := hag c
  obtain ⟨p1, p2, p3, p4⟩ := hp c
  rw [Cert.Reference24Ideal.Read.val_main_v50_eq, e0, e1, e2, e3, e4] at h0
  rw [Cert.Reference24Ideal.Read.val_main_v52_eq, e0, e1, e2, e3] at h1
  have rX : ∀ a b, NormGrad.IsReal (Cert.Kernel24Ideal.Body.X m c a b) := fun a b => Swish.real_of_bound _ (congrFun p1 (ix2 a b))
  have rD : ∀ a b, NormGrad.IsReal (Cert.Kernel24Ideal.Body.D m c a b) := fun a b => Swish.real_of_bound _ (congrFun p2 (ix2 a b))
  have rg : ∀ b, NormGrad.IsReal (Cert.Kernel24Ideal.Body.g m c b) := fun b => Swish.real_of_bound _ (congrFun p3 (ix2 0 b))
  have rs : ∀ b, NormGrad.IsReal (Cert.Kernel24Ideal.Body.s m c b) := fun b => Swish.real_of_bound _ (congrFun p4 (ix2 1 b))
  exact ⟨h0.trans ((Cert.Reference24Ideal.Body.whole_dx _ _ _ _ _ rX rD rg rs).trans (Cert.Kernel24Ideal.Body.final_dx m c).symm),
    h1.trans ((Cert.Reference24Ideal.Body.whole_sums _ _ _ _).trans (Cert.Kernel24Ideal.Body.final_sums m c rX rD rg rs).symm), kept⟩

theorem frame_reference25 : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩) (Cert.Reference25Ideal.Value.run (F := Ideal) m ρ)

/-- The gradient of the second modulated norm and of the gated residual, of finite factors. -/
theorem residual_gradient : Cert.algebraic_Kernel25Ideal_Reference25Ideal_pre_finite_ffn (hKernel25Ideal := Cert.Kernel25Ideal.Gen.facts) (hReference25Ideal := Cert.Reference25Ideal.Gen.facts) (hPre_finite_ffn := Cert.Pre_finite_ffn.Gen.facts) := by
  intro m ρ m' ρ' hp hag
  refine ⟨fun c => (Cert.Kernel25Ideal.Gen.dats m 0 c).arrAt 7 Cert.Kernel25Ideal.cfg0.N, fun c => (Cert.Kernel25Ideal.Gen.dats m 0 c).arrAt 8 Cert.Kernel25Ideal.cfg0.N, fun c => (Cert.Kernel25Ideal.Gen.dats m 0 c).arrAt 9 Cert.Kernel25Ideal.cfg0.N, Cert.Kernel25Ideal.Value.run_blocks m ρ,
    (θ_run Cert.Reference25Ideal.defs _ _).mono (fun r h c => ?_) (Cert.Reference25Ideal.Value.run (F := Ideal) m' ρ')⟩
  obtain ⟨h0, h1, h2, kept⟩ := h c
  obtain ⟨e0, e1, e2, e3, e4, e5, e6⟩ := hag c
  obtain ⟨p1, p2, p3, p4⟩ := hp c
  rw [Cert.Reference25Ideal.Read.val_main_v50_eq, e0, e1, e2, e3, e4] at h0
  rw [Cert.Reference25Ideal.Read.val_main_v60_eq, e0, e1, e2, e3, e4, e6] at h1
  rw [Cert.Reference25Ideal.Read.val_main_v62_eq, e0, e1, e2, e3, e4, e5] at h2
  have rX : ∀ a b, NormGrad.IsReal (Cert.Kernel25Ideal.Body.X m c a b) := fun a b => Swish.real_of_bound _ (congrFun p1 (ix2 a b))
  have rD : ∀ a b, NormGrad.IsReal (Cert.Kernel25Ideal.Body.D m c a b) := fun a b => Swish.real_of_bound _ (congrFun p2 (ix2 a b))
  have rg : ∀ b, NormGrad.IsReal (Cert.Kernel25Ideal.Body.g m c b) := fun b => Swish.real_of_bound _ (congrFun p3 (ix2 0 b))
  have rs : ∀ b, NormGrad.IsReal (Cert.Kernel25Ideal.Body.s m c b) := fun b => Swish.real_of_bound _ (congrFun p4 (ix2 1 b))
  exact ⟨h0.trans ((Cert.Reference25Ideal.Body.whole_dx _ _ _ _ _ rX rD rg rs).trans (Cert.Kernel25Ideal.Body.final_dx m c).symm),
    h1.trans ((Cert.Reference25Ideal.Body.whole_df _ _ _ _ _ _ rX rD rg rs).trans (Cert.Kernel25Ideal.Body.final_df m c).symm),
    h2.trans ((Cert.Reference25Ideal.Body.whole_sums _ _ _ _ _ _ rX rD rg rs).trans (Cert.Kernel25Ideal.Body.final_sums m c rX rD rg rs).symm), kept⟩

theorem frame_reference26 : Cert.quiescent_Reference26Ideal (hReference26Ideal := Cert.Reference26Ideal.Gen.facts) := fun m ρ _ =>
  (θ_run Cert.Reference26Ideal.defs _ _).mono (fun r h => ⟨fun c => (h c).2.2.2, sem_eq_zero_of_no_sems (by decide) r.2⟩) (Cert.Reference26Ideal.Value.run (F := Ideal) m ρ)

/-- The loss and its gradient. -/
theorem loss_gradient : Cert.algebraic_Kernel26Ideal_Reference26Ideal (hKernel26Ideal := Cert.Kernel26Ideal.Gen.facts) (hReference26Ideal := Cert.Reference26Ideal.Gen.facts) := by
  intro m ρ m' ρ' _ hag
  refine ⟨fun c => (Cert.Kernel26Ideal.Gen.dats m 0 c).arrAt 5 Cert.Kernel26Ideal.cfg0.N, fun c => (Cert.Kernel26Ideal.Gen.dats m 0 c).arrAt 6 Cert.Kernel26Ideal.cfg0.N,
    fun c => (Cert.Kernel26Ideal.Gen.dats m 0 c).arrAt 7 Cert.Kernel26Ideal.cfg0.N, Cert.Kernel26Ideal.Value.run_blocks m ρ,
    (θ_run Cert.Reference26Ideal.defs _ _).mono (fun r h c => ?_) (Cert.Reference26Ideal.Value.run (F := Ideal) m' ρ')⟩
  obtain ⟨h0, h1, h2, kept⟩ := h c
  obtain ⟨e0, e1, e2, e3, e4⟩ := hag c
  rw [Cert.Reference26Ideal.Read.val_main_v52_eq, e0, e1, e2, e3, e4] at h0
  rw [Cert.Reference26Ideal.Read.val_main_v81_eq, e0, e1, e2, e3, e4] at h1
  rw [Cert.Reference26Ideal.Read.val_main_v84_eq, e0, e1, e2, e3, e4] at h2
  exact ⟨h0.trans ((Cert.Reference26Ideal.Body.whole_dx _ _ _ _ _).trans (Cert.Kernel26Ideal.Body.final_dx m c).symm),
    h1.trans ((Cert.Reference26Ideal.Body.whole_df _ _ _ _ _).trans (Cert.Kernel26Ideal.Body.final_df m c).symm),
    h2.trans ((Cert.Reference26Ideal.Body.whole_sums _ _ _ _ _).trans (Cert.Kernel26Ideal.Body.final_sums m c).symm), kept⟩

theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Pre_finite.Gen.facts, Cert.Pre_finite_mod.Gen.facts, Cert.Pre_finite_mix.Gen.facts, Cert.Pre_finite_ffn.Gen.facts,
  fun m ρ _ => Cert.Kernel.Gen.frame m ρ,
  fun m ρ _ => Cert.KernelIdeal.Gen.frame m ρ,
  frame_reference,
  fun m ρ _ => Cert.Kernel3.Gen.frame m ρ,
  fun m ρ _ => Cert.Kernel3Ideal.Gen.frame m ρ,
  fun m ρ _ => Cert.Kernel3Ideal.Gen.frame m ρ,
  frame_reference3,
  fun m ρ _ => frame_reference3 m ρ trivial,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  fun m ρ _ => Cert.Kernel21Ideal.Gen.frame m ρ,
  frame_reference21,
  fun m ρ _ => frame_reference21 m ρ trivial,
  fun m ρ _ => Cert.Kernel22.Gen.frame m ρ,
  fun m ρ _ => Cert.Kernel22Ideal.Gen.frame m ρ,
  frame_reference22,
  fun m ρ _ => Cert.Kernel23.Gen.frame m ρ,
  fun m ρ _ => Cert.Kernel23Ideal.Gen.frame m ρ,
  frame_reference23,
  fun m ρ _ => Cert.Kernel24.Gen.frame m ρ,
  fun m ρ _ => Cert.Kernel24Ideal.Gen.frame m ρ,
  fun m ρ _ => Cert.Kernel24Ideal.Gen.frame m ρ,
  frame_reference24,
  fun m ρ _ => frame_reference24 m ρ trivial,
  fun m ρ _ => Cert.Kernel25.Gen.frame m ρ,
  fun m ρ _ => Cert.Kernel25Ideal.Gen.frame m ρ,
  fun m ρ _ => Cert.Kernel25Ideal.Gen.frame m ρ,
  frame_reference25,
  fun m ρ _ => frame_reference25 m ρ trivial,
  fun m ρ _ => Cert.Kernel26.Gen.frame m ρ,
  fun m ρ _ => Cert.Kernel26Ideal.Gen.frame m ρ,
  frame_reference26,
  trivial,
  context_gradient,
  trivial,
  gate_gradient,
  trivial,
  down_weight_gradient,
  trivial,
  output_gradient,
  trivial,
  output_weight_gradient,
  trivial,
  input_weight_gradient,
  trivial,
  down_projection,
  trivial,
  output_projection,
  trivial,
  gate_up_weight_gradients,
  trivial,
  gate_up_gradient,
  trivial,
  gated_products,
  trivial,
  input_gradient,
  trivial,
  input_projection,
  trivial,
  adam_WIn,
  trivial,
  adam_WOut,
  trivial,
  adam_WGate,
  trivial,
  adam_WUp,
  trivial,
  adam_WDown,
  trivial,
  adam_b_mod,
  trivial,
  modulation_gradient,
  trivial,
  adam_w_mod,
  trivial,
  adam_small,
  trivial,
  norm_gradient,
  trivial,
  residual_gradient,
  trivial,
  loss_gradient⟩

end Cert.Proof

end
